-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v105_0)) (v1 : (c : Dev Cert.Kernel3Ideal.nD) → Buf (Elt Ideal) ((c.tc : Thread Cert.Kernel3Ideal.nD Cert.Kernel3Ideal.τ).loc Cert.Kernel3Ideal.main_v105_1)) (v2 : (c : Dev Cert.Kernel3Ideal.nD) → Buf (Elt Ideal) ((c.tc : Thread Cert.Kernel3Ideal.nD Cert.Kernel3Ideal.τ).loc Cert.Kernel3Ideal.main_v105_2)) (v3 : (c : Dev Cert.Kernel3Ideal.nD) → Buf (Elt Ideal) ((c.tc : Thread Cert.Kernel3Ideal.nD Cert.Kernel3Ideal.τ).loc Cert.Kernel3Ideal.main_v105_3)) (v4 : (c : Dev Cert.Kernel3Ideal.nD) → Buf (Elt Ideal) ((c.tc : Thread Cert.Kernel3Ideal.nD Cert.Kernel3Ideal.τ).loc Cert.Kernel3Ideal.main_v105_8)) (v5 : (c : Dev Cert.Kernel3Ideal.nD) → Buf (Elt Ideal) ((c.tc : Thread Cert.Kernel3Ideal.nD Cert.Kernel3Ideal.τ).loc Cert.Kernel3Ideal.main_v105_9)) (v6 : (c : Dev Cert.Kernel3Ideal.nD) → Buf (Elt Ideal) ((c.tc : Thread Cert.Kernel3Ideal.nD Cert.Kernel3Ideal.τ).loc Cert.Kernel3Ideal.main_v105_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v105_0) = v0 c
          ∧ r.2.mem ((c.tc : Thread Cert.Kernel3Ideal.nD Cert.Kernel3Ideal.τ).loc Cert.Kernel3Ideal.main_v105_1) = v1 c
          ∧ r.2.mem ((c.tc : Thread Cert.Kernel3Ideal.nD Cert.Kernel3Ideal.τ).loc Cert.Kernel3Ideal.main_v105_2) = v2 c
          ∧ r.2.mem ((c.tc : Thread Cert.Kernel3Ideal.nD Cert.Kernel3Ideal.τ).loc Cert.Kernel3Ideal.main_v105_3) = v3 c
          ∧ r.2.mem ((c.tc : Thread Cert.Kernel3Ideal.nD Cert.Kernel3Ideal.τ).loc Cert.Kernel3Ideal.main_v105_8) = v4 c
          ∧ r.2.mem ((c.tc : Thread Cert.Kernel3Ideal.nD Cert.Kernel3Ideal.τ).loc Cert.Kernel3Ideal.main_v105_9) = v5 c
          ∧ r.2.mem ((c.tc : Thread Cert.Kernel3Ideal.nD Cert.Kernel3Ideal.τ).loc Cert.Kernel3Ideal.main_v105_10) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_v87) = v1 c
          ∧ r.2.mem ((c.tc : Thread Cert.Reference3Ideal.nD Cert.Reference3Ideal.τ).loc Cert.Reference3Ideal.main_v90) = v2 c
          ∧ r.2.mem ((c.tc : Thread Cert.Reference3Ideal.nD Cert.Reference3Ideal.τ).loc Cert.Reference3Ideal.main_v93) = v3 c
          ∧ r.2.mem ((c.tc : Thread Cert.Reference3Ideal.nD Cert.Reference3Ideal.τ).loc Cert.Reference3Ideal.main_v96) = v4 c
          ∧ r.2.mem ((c.tc : Thread Cert.Reference3Ideal.nD Cert.Reference3Ideal.τ).loc Cert.Reference3Ideal.main_v99) = v5 c
          ∧ r.2.mem ((c.tc : Thread Cert.Reference3Ideal.nD Cert.Reference3Ideal.τ).loc Cert.Reference3Ideal.main_v103) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S16384x512 : Shape := ⟨2, ![16384, 512]⟩
abbrev S16384x128 : Shape := ⟨2, ![16384, 128]⟩
abbrev S_ : Shape := ⟨0, ![]⟩

class Facts : Prop where
  bcast_S_S16384x512 : S_.BroadcastsInDim S16384x512 (![] : Fin 0 → Fin S16384x512.rank)
  bcast_S_S16384x128 : S_.BroadcastsInDim S16384x128 (![] : Fin 0 → Fin S16384x128.rank)

variable [Facts]

def fn {F : FTy → Type} [FloatOps F] (main_arg0 : FVec F S16384x512 .f32) (main_arg1 : FVec F S16384x128 .f32) (main_arg2 : FVec F S16384x128 .f32) : IVec S16384x512 1 × IVec S16384x128 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  (main_v2, main_v5)
-- ==== Pre_finite3.lean ====
abbrev S16384x1024 : Shape := ⟨2, ![16384, 1024]⟩
abbrev S1024 : Shape := ⟨1, ![1024]⟩
abbrev S1024x2848 : Shape := ⟨2, ![1024, 2848]⟩
abbrev S32 : Shape := ⟨1, ![32]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x2848 : S_.BroadcastsInDim S1024x2848 (![] : Fin 0 → Fin S1024x2848.rank)

variable [Facts]

def fn {F : FTy → Type} [FloatOps F] (main_arg0 : FVec F S16384x1024 .f32) (main_arg1 : FVec F S1024 .f32) (main_arg2 : FVec F S1024x2848 .f32) (main_arg3 : FVec F S32 .f32) (main_arg4 : FVec F S64 .f32) (main_arg5 : FVec F S64 .f32) : IVec S1024 1 × IVec S1024x2848 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2848 .f32 := Host.absf main_arg2
  let main_cst_0 : FVec F S_ .f32 := constant S_ .f32 0x7F800000#32
  let main_v4 : FVec F S1024x2848 .f32 := broadcastInDim S1024x2848 ![] bcast_S_S1024x2848 main_cst_0
  let main_v5 : IVec S1024x2848 1 := cmpf .olt main_v3 main_v4
  (main_v2, main_v5)
-- ==== Kernel.lean ====
abbrev S16384x512 : Shape := ⟨2, ![16384, 512]⟩
abbrev S16384x128 : Shape := ⟨2, ![16384, 128]⟩
abbrev S32x512x8x64 : Shape := ⟨4, ![32, 512, 8, 64]⟩
abbrev S8x32x64x512 : Shape := ⟨4, ![8, 32, 64, 512]⟩
abbrev S32x512x2x64 : Shape := ⟨4, ![32, 512, 2, 64]⟩
abbrev S2x32x512x64 : Shape := ⟨4, ![2, 32, 512, 64]⟩
abbrev S2x32x64x512 : Shape := ⟨4, ![2, 32, 64, 512]⟩
abbrev S4x1x64x512 : Shape := ⟨4, ![4, 1, 64, 512]⟩
abbrev S1x32x512x64 : Shape := ⟨4, ![1, 32, 512, 64]⟩
abbrev S1x32x64x512 : Shape := ⟨4, ![1, 32, 64, 512]⟩
abbrev S512x256 : Shape := ⟨2, ![512, 256]⟩
abbrev S4x1x512 : Shape := ⟨3, ![4, 1, 512]⟩
abbrev S4x80x512 : Shape := ⟨3, ![4, 80, 512]⟩
abbrev S8x512x256 : Shape := ⟨3, ![8, 512, 256]⟩
abbrev S8x1x256 : Shape := ⟨3, ![8, 1, 256]⟩
abbrev S16x512 : Shape := ⟨2, ![16, 512]⟩
abbrev S1x1x512x64 : Shape := ⟨4, ![1, 1, 512, 64]⟩
abbrev S512x64 : Shape := ⟨2, ![512, 64]⟩
abbrev S1x1x64x256 : Shape := ⟨4, ![1, 1, 64, 256]⟩
abbrev S64x256 : Shape := ⟨2, ![64, 256]⟩
abbrev S1x512x256 : Shape := ⟨3, ![1, 512, 256]⟩
abbrev S256 : Shape := ⟨1, ![256]⟩
abbrev S1x256 : Shape := ⟨2, ![1, 256]⟩
abbrev S1x1x256 : Shape := ⟨3, ![1, 1, 256]⟩
abbrev S1x1x64x512 : Shape := ⟨4, ![1, 1, 64, 512]⟩
abbrev S64x512 : Shape := ⟨2, ![64, 512]⟩
abbrev S80x512 : Shape := ⟨2, ![80, 512]⟩
abbrev S1x80x256 : Shape := ⟨3, ![1, 80, 256]⟩
abbrev S80x256 : Shape := ⟨2, ![80, 256]⟩
abbrev S1x64x512 : Shape := ⟨3, ![1, 64, 512]⟩
abbrev S1x1x512 : Shape := ⟨3, ![1, 1, 512]⟩
abbrev S1x512 : Shape := ⟨2, ![1, 512]⟩
abbrev S128x512 : Shape := ⟨2, ![128, 512]⟩
abbrev S512x128 : Shape := ⟨2, ![512, 128]⟩

abbrev nBuf : Space → Nat
  | .hbm => 12
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S32x512x8x64, .f32⟩
  | .hbm, ⟨4, _⟩ => ⟨S8x32x64x512, .f32⟩
  | .hbm, ⟨5, _⟩ => ⟨S32x512x2x64, .f32⟩
  | .hbm, ⟨6, _⟩ => ⟨S2x32x512x64, .f32⟩
  | .hbm, ⟨7, _⟩ => ⟨S2x32x512x64, .bf16⟩
  | .hbm, ⟨8, _⟩ => ⟨S32x512x2x64, .f32⟩
  | .hbm, ⟨9, _⟩ => ⟨S2x32x64x512, .f32⟩
  | .hbm, ⟨10, _⟩ => ⟨S2x32x64x512, .bf16⟩
  | .hbm, ⟨11, _⟩ => ⟨S16384x512, .bf16⟩
  | .local _ .vmem, ⟨0, _⟩ => ⟨S4x1x64x512, .f32⟩
  | .local _ .vmem, ⟨1, _⟩ => ⟨S4x1x64x512, .f32⟩
  | .local _ .vmem, ⟨2, _⟩ => ⟨S1x32x512x64, .bf16⟩
  | .local _ .vmem, ⟨3, _⟩ => ⟨S1x32x512x64, .bf16⟩
  | .local _ .vmem, ⟨4, _⟩ => ⟨S1x32x64x512, .bf16⟩
  | .local _ .vmem, ⟨5, _⟩ => ⟨S1x32x64x512, .bf16⟩
  | .local _ .vmem, ⟨6, _⟩ => ⟨S512x256, .bf16⟩
  | .local _ .vmem, ⟨7, _⟩ => ⟨S512x256, .bf16⟩
  | .local _ .vmem, ⟨8, _⟩ => ⟨S4x1x512, .f32⟩
  | .local _ .vmem, ⟨9, _⟩ => ⟨S4x80x512, .f32⟩
  | .local _ .vmem, ⟨10, _⟩ => ⟨S8x512x256, .f32⟩
  | .local _ .vmem, ⟨11, _⟩ => ⟨S8x512x256, .f32⟩
  | .local _ .vmem, ⟨12, _⟩ => ⟨S8x1x256, .f32⟩
  | .local _ .vmem, ⟨13, _⟩ => ⟨S8x1x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 32], ![false, false, false]⟩

@[reducible] def k0_t1_loop (i : grid0.Coords) : Scf.Loop 32 :=
  let c0_i32_108 : BitVec 32 := 0#32
  let c15_i32 : BitVec 32 := 15#32
  let arg2 : BitVec 32 := BitVec.ofNat 32 (i 2).val
  let c0_i32 : BitVec 32 := 0#32
  let v123 : BitVec 32 := Scalar.minsi arg2 c0_i32
  let v124 : BitVec 32 := Scalar.addi c15_i32 v123
  let v125 : BitVec 32 := Scalar.subi v124 c0_i32_108
  let c1_i32 : BitVec 32 := 1#32
  let v127 : BitVec 32 := Scalar.divsi v125 c1_i32
  let v128 : BitVec 32 := Scalar.muli v127 c1_i32
  let v129 : BitVec 32 := Scalar.addi c0_i32_108 v128
  let c1_i32_109 : BitVec 32 := 1#32
  ⟨c0_i32_108, v129, c1_i32_109⟩
def k0_off1 (i : grid0.Coords) (k0_t1 : Fin (k0_t1_loop i).trips) (c1_i32_555 : BitVec 32) : Fin 4 → Nat :=
  let c0_556 : Index := 0#32
  let c2_i32 : BitVec 32 := 2#32
  let c0_i32_108 : BitVec 32 := 0#32
  let c1_i32_109 : BitVec 32 := 1#32
  let arg13 : BitVec 32 := Scf.iv c0_i32_108 c1_i32_109 k0_t1
  let v682 : BitVec 32 := Scalar.muli c2_i32 arg13
  let v683 : BitVec 32 := Scalar.addi v682 c1_i32_555
  let v684 : Index := Scalar.indexCast v683
  let c0_557 : Index := 0#32
  let c0_558 : Index := 0#32
  ![0, v684.toNat, 0, 0]
def k0_off2 (i : grid0.Coords) (k0_t1 : Fin (k0_t1_loop i).trips) : Fin 4 → Nat :=
  let c0_559 : Index := 0#32
  let c2_i32 : BitVec 32 := 2#32
  let c0_i32_108 : BitVec 32 := 0#32
  let c1_i32_109 : BitVec 32 := 1#32
  let arg13 : BitVec 32 := Scf.iv c0_i32_108 c1_i32_109 k0_t1
  let v682 : BitVec 32 := Scalar.muli c2_i32 arg13
  let v687 : Index := Scalar.indexCast v682
  let c0_560 : Index := 0#32
  let c0_561 : Index := 0#32
  ![0, v687.toNat, 0, 0]
def k0_off3 (i : grid0.Coords) (k0_t1 : Fin (k0_t1_loop i).trips) : Fin 4 → Nat :=
  let c0_823 : Index := 0#32
  let c2_i32 : BitVec 32 := 2#32
  let c0_i32_108 : BitVec 32 := 0#32
  let c1_i32_109 : BitVec 32 := 1#32
  let arg13 : BitVec 32 := Scf.iv c0_i32_108 c1_i32_109 k0_t1
  let v682 : BitVec 32 := Scalar.muli c2_i32 arg13
  let c1_i32_818 : BitVec 32 := 1#32
  let v1003 : BitVec 32 := Scalar.addi v682 c1_i32_818
  let v1008 : Index := Scalar.indexCast v1003
  let c0_824 : Index := 0#32
  let c0_825 : Index := 0#32
  ![0, v1008.toNat, 0, 0]
@[reducible] def k0_t2_loop (i : grid0.Coords) : Scf.Loop 32 :=
  let c0_i32_108 : BitVec 32 := 0#32
  let c15_i32 : BitVec 32 := 15#32
  let arg2 : BitVec 32 := BitVec.ofNat 32 (i 2).val
  let c0_i32 : BitVec 32 := 0#32
  let v123 : BitVec 32 := Scalar.minsi arg2 c0_i32
  let v124 : BitVec 32 := Scalar.addi c15_i32 v123
  let v125 : BitVec 32 := Scalar.subi v124 c0_i32_108
  let c1_i32 : BitVec 32 := 1#32
  let v127 : BitVec 32 := Scalar.divsi v125 c1_i32
  let v128 : BitVec 32 := Scalar.muli v127 c1_i32
  let v129 : BitVec 32 := Scalar.addi c0_i32_108 v128
  let v126 : BitVec 32 := Scalar.addi c0_i32_108 v125
  let c1_i32_110 : BitVec 32 := 1#32
  ⟨v129, v126, c1_i32_110⟩
def k0_off4 (i : grid0.Coords) (k0_t2 : Fin (k0_t2_loop i).trips) (c1_i32_555 : BitVec 32) : Fin 4 → Nat :=
  let c0_556 : Index := 0#32
  let c2_i32 : BitVec 32 := 2#32
  let c0_i32_108 : BitVec 32 := 0#32
  let c15_i32 : BitVec 32 := 15#32
  let arg2 : BitVec 32 := BitVec.ofNat 32 (i 2).val
  let c0_i32 : BitVec 32 := 0#32
  let v123 : BitVec 32 := Scalar.minsi arg2 c0_i32
  let v124 : BitVec 32 := Scalar.addi c15_i32 v123
  let v125 : BitVec 32 := Scalar.subi v124 c0_i32_108
  let c1_i32 : BitVec 32 := 1#32
  let v127 : BitVec 32 := Scalar.divsi v125 c1_i32
  let v128 : BitVec 32 := Scalar.muli v127 c1_i32
  let v129 : BitVec 32 := Scalar.addi c0_i32_108 v128
  let c1_i32_110 : BitVec 32 := 1#32
  let arg13 : BitVec 32 := Scf.iv v129 c1_i32_110 k0_t2
  let v682 : BitVec 32 := Scalar.muli c2_i32 arg13
  let v683 : BitVec 32 := Scalar.addi v682 c1_i32_555
  let v684 : Index := Scalar.indexCast v683
  let c0_557 : Index := 0#32
  let c0_558 : Index := 0#32
  ![0, v684.toNat, 0, 0]
def k0_off5 (i : grid0.Coords) (k0_t2 : Fin (k0_t2_loop i).trips) : Fin 4 → Nat :=
  let c0_559 : Index := 0#32
  let c2_i32 : BitVec 32 := 2#32
  let c0_i32_108 : BitVec 32 := 0#32
  let c15_i32 : BitVec 32 := 15#32
  let arg2 : BitVec 32 := BitVec.ofNat 32 (i 2).val
  let c0_i32 : BitVec 32 := 0#32
  let v123 : BitVec 32 := Scalar.minsi arg2 c0_i32
  let v124 : BitVec 32 := Scalar.addi c15_i32 v123
  let v125 : BitVec 32 := Scalar.subi v124 c0_i32_108
  let c1_i32 : BitVec 32 := 1#32
  let v127 : BitVec 32 := Scalar.divsi v125 c1_i32
  let v128 : BitVec 32 := Scalar.muli v127 c1_i32
  let v129 : BitVec 32 := Scalar.addi c0_i32_108 v128
  let c1_i32_110 : BitVec 32 := 1#32
  let arg13 : BitVec 32 := Scf.iv v129 c1_i32_110 k0_t2
  let v682 : BitVec 32 := Scalar.muli c2_i32 arg13
  let v687 : Index := Scalar.indexCast v682
  let c0_560 : Index := 0#32
  let c0_561 : Index := 0#32
  ![0, v687.toNat, 0, 0]
def k0_off6 (i : grid0.Coords) (k0_t2 : Fin (k0_t2_loop i).trips) : Fin 4 → Nat :=
  let c0_823 : Index := 0#32
  let c2_i32 : BitVec 32 := 2#32
  let c0_i32_108 : BitVec 32 := 0#32
  let c15_i32 : BitVec 32 := 15#32
  let arg2 : BitVec 32 := BitVec.ofNat 32 (i 2).val
  let c0_i32 : BitVec 32 := 0#32
  let v123 : BitVec 32 := Scalar.minsi arg2 c0_i32
  let v124 : BitVec 32 := Scalar.addi c15_i32 v123
  let v125 : BitVec 32 := Scalar.subi v124 c0_i32_108
  let c1_i32 : BitVec 32 := 1#32
  let v127 : BitVec 32 := Scalar.divsi v125 c1_i32
  let v128 : BitVec 32 := Scalar.muli v127 c1_i32
  let v129 : BitVec 32 := Scalar.addi c0_i32_108 v128
  let c1_i32_110 : BitVec 32 := 1#32
  let arg13 : BitVec 32 := Scf.iv v129 c1_i32_110 k0_t2
  let v682 : BitVec 32 := Scalar.muli c2_i32 arg13
  let c1_i32_818 : BitVec 32 := 1#32
  let v1003 : BitVec 32 := Scalar.addi v682 c1_i32_818
  let v1008 : Index := Scalar.indexCast v1003
  let c0_824 : Index := 0#32
  let c0_825 : Index := 0#32
  ![0, v1008.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S4x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "qscale" => some (((8 * (Real.log 2))⁻¹ : ℝ) : EReal)
  | _ => none
-- ==== ReferenceIdeal.lean ====
abbrev S16384x512 : Shape := ⟨2, ![16384, 512]⟩
abbrev S16384x128 : Shape := ⟨2, ![16384, 128]⟩
abbrev S16384x2x4x64 : Shape := ⟨4, ![16384, 2, 4, 64]⟩
abbrev S16384x2x64 : Shape := ⟨3, ![16384, 2, 64]⟩
abbrev S2x16384x16384x4 : Shape := ⟨4, ![2, 16384, 16384, 4]⟩
abbrev S2x4x16384x16384 : Shape := ⟨4, ![2, 4, 16384, 16384]⟩
abbrev S_ : Shape := ⟨0, ![]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩

abbrev nBuf : Space → Nat
  | .hbm => 29
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S16384x2x4x64, .f32⟩
  | .hbm, ⟨4, _⟩ => ⟨S16384x2x64, .f32⟩
  | .hbm, ⟨5, _⟩ => ⟨S16384x2x64, .f32⟩
  | .hbm, ⟨6, _⟩ => ⟨S2x16384x16384x4, .f32⟩
  | .hbm, ⟨7, _⟩ => ⟨S2x4x16384x16384, .f32⟩
  | .hbm, ⟨8, _⟩ => ⟨S_, .f32⟩
  | .hbm, ⟨9, _⟩ => ⟨S2x4x16384x16384, .f32⟩
  | .hbm, ⟨10, _⟩ => ⟨S2x4x16384x16384, .f32⟩
  | .hbm, ⟨11, _⟩ => ⟨S_, .f32⟩
  | .hbm, ⟨12, _⟩ => ⟨S2x4x16384, .f32⟩
  | .hbm, ⟨13, _⟩ => ⟨S_, .f32⟩
  | .hbm, ⟨14, _⟩ => ⟨S2x4x16384, .f32⟩
  | .hbm, ⟨15, _⟩ => ⟨S2x4x16384, .f32⟩
  | .hbm, ⟨16, _⟩ => ⟨S2x4x16384x1, .f32⟩
  | .hbm, ⟨17, _⟩ => ⟨S2x4x16384x16384, .f32⟩
  | .hbm, ⟨18, _⟩ => ⟨S2x4x16384x16384, .f32⟩
  | .hbm, ⟨19, _⟩ => ⟨S2x4x16384x16384, .f32⟩
  | .hbm, ⟨20, _⟩ => ⟨S_, .f32⟩
  | .hbm, ⟨21, _⟩ => ⟨S2x4x16384, .f32⟩
  | .hbm, ⟨22, _⟩ => ⟨S2x4x16384x1, .f32⟩
  | .hbm, ⟨23, _⟩ => ⟨S2x4x16384x16384, .f32⟩
  | .hbm, ⟨24, _⟩ => ⟨S2x4x16384x16384, .f32⟩
  | .hbm, ⟨25, _⟩ => ⟨S2x64x4x16384, .f32⟩
  | .hbm, ⟨26, _⟩ => ⟨S16384x2x4x64, .f32⟩
  | .hbm, ⟨27, _⟩ => ⟨S16384x512, .f32⟩
  | .hbm, ⟨28, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S512x1024 : Shape := ⟨2, ![512, 1024]⟩
abbrev S1x1024 : Shape := ⟨2, ![1, 1024]⟩
abbrev S1x5632 : Shape := ⟨2, ![1, 5632]⟩
abbrev S16x1024 : Shape := ⟨2, ![16, 1024]⟩
abbrev S16x512 : Shape := ⟨2, ![16, 512]⟩
abbrev S512x512 : Shape := ⟨2, ![512, 512]⟩
abbrev S544x1024 : Shape := ⟨2, ![544, 1024]⟩
abbrev S544x512 : Shape := ⟨2, ![544, 512]⟩
abbrev S544 : Shape := ⟨1, ![544]⟩
abbrev S544x1 : Shape := ⟨2, ![544, 1]⟩
abbrev S1024x256 : Shape := ⟨2, ![1024, 256]⟩
abbrev S544x256 : Shape := ⟨2, ![544, 256]⟩
abbrev S3x256 : Shape := ⟨2, ![3, 256]⟩
abbrev S3x512 : Shape := ⟨2, ![3, 512]⟩
abbrev S1x256 : Shape := ⟨2, ![1, 256]⟩
abbrev S1x512 : Shape := ⟨2, ![1, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 20
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1x1024, .f32⟩
  | .hbm, ⟨15, _⟩ => ⟨S1024x5632, .bf16⟩
  | .hbm, ⟨16, _⟩ => ⟨S1x5632, .f32⟩
  | .hbm, ⟨17, _⟩ => ⟨S2816x1024, .bf16⟩
  | .hbm, ⟨18, _⟩ => ⟨S1x1024, .f32⟩
  | .hbm, ⟨19, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S16x512, .bf16⟩
  | .local _ .vmem, ⟨7, _⟩ => ⟨S16x512, .bf16⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S512x512, .bf16⟩
  | .local _ .vmem, ⟨15, _⟩ => ⟨S512x512, .bf16⟩
  | .local _ .vmem, ⟨16, _⟩ => ⟨S16x512, .bf16⟩
  | .local _ .vmem, ⟨17, _⟩ => ⟨S16x512, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1024x5632, .bf16⟩
  | .local _ .vmem, ⟨22, _⟩ => ⟨S3x5632, .f32⟩
  | .local _ .vmem, ⟨23, _⟩ => ⟨S1x5632, .f32⟩
  | .local _ .vmem, ⟨24, _⟩ => ⟨S2816x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S544x1024, .bf16⟩
  | .local _ .vmem, ⟨29, _⟩ => ⟨S512x1024, .f32⟩
  | .local _ .vmem, ⟨30, _⟩ => ⟨S544x512, .f32⟩
  | .local _ .vmem, ⟨31, _⟩ => ⟨S544x512, .f32⟩
  | .local _ .vmem, ⟨32, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_52 : BitVec 32 := 0#32
  let c5_i32 : BitVec 32 := 5#32
  let v84 : BitVec 32 := Scalar.addi c0_i32_52 c5_i32
  let c1_i32_53 : BitVec 32 := 1#32
  ⟨c0_i32_52, v84, c1_i32_53⟩
def k0_mult1 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c1_i32_85 : BitVec 32 := 1#32
  let v146 : BitVec 32 := Scalar.addi v145 c1_i32_85
  let c256_i32 : BitVec 32 := 256#32
  let v148 : BitVec 32 := Scalar.muli v146 c256_i32
  v148
def k0_off1 (k0_t1 : Fin k0_t1_loop.trips) (c1_i32_85 : BitVec 32) : Fin 2 → Nat :=
  let c0_88 : Index := 0#32
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let v146 : BitVec 32 := Scalar.addi v145 c1_i32_85
  let c256_i32 : BitVec 32 := 256#32
  let v148 : BitVec 32 := Scalar.muli v146 c256_i32
  let v149 : BitVec 32 := v148
  let v150 : Index := Scalar.indexCast v149
  ![0, v150.toNat]
def k0_off2 (k0_t1 : Fin k0_t1_loop.trips) (c1_i32_85 : BitVec 32) : Fin 2 → Nat :=
  let c0_89 : Index := 0#32
  let c2816_i32 : BitVec 32 := 2816#32
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let v146 : BitVec 32 := Scalar.addi v145 c1_i32_85
  let c256_i32 : BitVec 32 := 256#32
  let v148 : BitVec 32 := Scalar.muli v146 c256_i32
  let v149 : BitVec 32 := v148
  let v153 : BitVec 32 := Scalar.addi c2816_i32 v149
  let v154 : Index := Scalar.indexCast v153
  ![0, v154.toNat]
def k0_mult2 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c256_i32_96 : BitVec 32 := 256#32
  let v165 : BitVec 32 := Scalar.muli v145 c256_i32_96
  v165
def k0_off3 (k0_t1 : Fin k0_t1_loop.trips) : Fin 2 → Nat :=
  let c0_97 : Index := 0#32
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c256_i32_96 : BitVec 32 := 256#32
  let v165 : BitVec 32 := Scalar.muli v145 c256_i32_96
  let v166 : BitVec 32 := v165
  let v167 : Index := Scalar.indexCast v166
  ![0, v167.toNat]
def k0_off4 (k0_t1 : Fin k0_t1_loop.trips) : Fin 2 → Nat :=
  let c0_99 : Index := 0#32
  let c2816_i32_98 : BitVec 32 := 2816#32
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c256_i32_96 : BitVec 32 := 256#32
  let v165 : BitVec 32 := Scalar.muli v145 c256_i32_96
  let v166 : BitVec 32 := v165
  let v169 : BitVec 32 := Scalar.addi c2816_i32_98 v166
  let v170 : Index := Scalar.indexCast v169
  ![0, v170.toNat]
def k0_mult3 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c256_i32_100 : BitVec 32 := 256#32
  let v173 : BitVec 32 := Scalar.muli v145 c256_i32_100
  v173
def k0_off5 (k0_t1 : Fin k0_t1_loop.trips) : Fin 2 → Nat :=
  let c0_101 : Index := 0#32
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c256_i32_100 : BitVec 32 := 256#32
  let v173 : BitVec 32 := Scalar.muli v145 c256_i32_100
  let v174 : BitVec 32 := v173
  let v175 : Index := Scalar.indexCast v174
  ![0, v175.toNat]
def k0_off6 (k0_t1 : Fin k0_t1_loop.trips) : Fin 2 → Nat :=
  let c0_103 : Index := 0#32
  let c2816_i32_102 : BitVec 32 := 2816#32
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c256_i32_100 : BitVec 32 := 256#32
  let v173 : BitVec 32 := Scalar.muli v145 c256_i32_100
  let v174 : BitVec 32 := v173
  let v178 : BitVec 32 := Scalar.addi c2816_i32_102 v174
  let v179 : Index := Scalar.indexCast v178
  ![0, v179.toNat]
def k0_mult4 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c256_i32_112 : BitVec 32 := 256#32
  let v208 : BitVec 32 := Scalar.muli v145 c256_i32_112
  v208
def k0_off7 (k0_t1 : Fin k0_t1_loop.trips) : Fin 2 → Nat :=
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c256_i32_112 : BitVec 32 := 256#32
  let v208 : BitVec 32 := Scalar.muli v145 c256_i32_112
  let v209 : BitVec 32 := v208
  let v212 : Index := Scalar.indexCast v209
  let c0_115 : Index := 0#32
  ![v212.toNat, 0]
def k0_mult5 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c2_i32_119 : BitVec 32 := 2#32
  let v220 : BitVec 32 := Scalar.addi v145 c2_i32_119
  let c256_i32_122 : BitVec 32 := 256#32
  let v222 : BitVec 32 := Scalar.muli v220 c256_i32_122
  v222
def k0_mult6 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c1_i32_132 : BitVec 32 := 1#32
  let v239 : BitVec 32 := Scalar.addi v145 c1_i32_132
  let c256_i32_133 : BitVec 32 := 256#32
  let v240 : BitVec 32 := Scalar.muli v239 c256_i32_133
  v240
def k0_off8 (k0_t1 : Fin k0_t1_loop.trips) : Fin 2 → Nat :=
  let c0_134 : Index := 0#32
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c1_i32_132 : BitVec 32 := 1#32
  let v239 : BitVec 32 := Scalar.addi v145 c1_i32_132
  let c256_i32_133 : BitVec 32 := 256#32
  let v240 : BitVec 32 := Scalar.muli v239 c256_i32_133
  let v241 : BitVec 32 := v240
  let v242 : Index := Scalar.indexCast v241
  ![0, v242.toNat]
def k0_off9 (k0_t1 : Fin k0_t1_loop.trips) : Fin 2 → Nat :=
  let c0_136 : Index := 0#32
  let c2816_i32_135 : BitVec 32 := 2816#32
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c1_i32_132 : BitVec 32 := 1#32
  let v239 : BitVec 32 := Scalar.addi v145 c1_i32_132
  let c256_i32_133 : BitVec 32 := 256#32
  let v240 : BitVec 32 := Scalar.muli v239 c256_i32_133
  let v241 : BitVec 32 := v240
  let v244 : BitVec 32 := Scalar.addi c2816_i32_135 v241
  let v245 : Index := Scalar.indexCast v244
  ![0, v245.toNat]
def k0_mult7 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c1_i32_132 : BitVec 32 := 1#32
  let v239 : BitVec 32 := Scalar.addi v145 c1_i32_132
  let c256_i32_137 : BitVec 32 := 256#32
  let v248 : BitVec 32 := Scalar.muli v239 c256_i32_137
  v248
def k0_off10 (k0_t1 : Fin k0_t1_loop.trips) : Fin 2 → Nat :=
  let c0_138 : Index := 0#32
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c1_i32_132 : BitVec 32 := 1#32
  let v239 : BitVec 32 := Scalar.addi v145 c1_i32_132
  let c256_i32_137 : BitVec 32 := 256#32
  let v248 : BitVec 32 := Scalar.muli v239 c256_i32_137
  let v249 : BitVec 32 := v248
  let v250 : Index := Scalar.indexCast v249
  ![0, v250.toNat]
def k0_off11 (k0_t1 : Fin k0_t1_loop.trips) : Fin 2 → Nat :=
  let c0_140 : Index := 0#32
  let c2816_i32_139 : BitVec 32 := 2816#32
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c1_i32_132 : BitVec 32 := 1#32
  let v239 : BitVec 32 := Scalar.addi v145 c1_i32_132
  let c256_i32_137 : BitVec 32 := 256#32
  let v248 : BitVec 32 := Scalar.muli v239 c256_i32_137
  let v249 : BitVec 32 := v248
  let v253 : BitVec 32 := Scalar.addi c2816_i32_139 v249
  let v254 : Index := Scalar.indexCast v253
  ![0, v254.toNat]
def k0_mult8 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c1_i32_132 : BitVec 32 := 1#32
  let v239 : BitVec 32 := Scalar.addi v145 c1_i32_132
  let c256_i32_149 : BitVec 32 := 256#32
  let v283 : BitVec 32 := Scalar.muli v239 c256_i32_149
  v283
def k0_off12 (k0_t1 : Fin k0_t1_loop.trips) : Fin 2 → Nat :=
  let c2_i32 : BitVec 32 := 2#32
  let c0_i32_52 : BitVec 32 := 0#32
  let c1_i32_53 : BitVec 32 := 1#32
  let arg24 : BitVec 32 := Scf.iv c0_i32_52 c1_i32_53 k0_t1
  let v145 : BitVec 32 := Scalar.muli c2_i32 arg24
  let c1_i32_132 : BitVec 32 := 1#32
  let v239 : BitVec 32 := Scalar.addi v145 c1_i32_132
  let c256_i32_149 : BitVec 32 := 256#32
  let v283 : BitVec 32 := Scalar.muli v239 c256_i32_149
  let v284 : BitVec 32 := v283
  let v287 : Index := Scalar.indexCast v284
  let c0_152 : Index := 0#32
  ![v287.toNat, 0]
def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16386x5632 : Shape := ⟨2, ![16386, 5632]⟩
abbrev S1x5632 : Shape := ⟨2, ![1, 5632]⟩
abbrev S16384x2816 : Shape := ⟨2, ![16384, 2816]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S16384x1024, .bf16⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x5632, .f32⟩
  | .hbm, ⟨31, _⟩ => ⟨S_, .i32⟩
  | .hbm, ⟨32, _⟩ => ⟨S_, .f32⟩
  | .hbm, ⟨33, _⟩ => ⟨S16386x5632, .f32⟩
  | .hbm, ⟨34, _⟩ => ⟨S16384x5632, .f32⟩
  | .hbm, ⟨35, _⟩ => ⟨S1x5632, .f32⟩
  | .hbm, ⟨36, _⟩ => ⟨S5632, .f32⟩
  | .hbm, ⟨37, _⟩ => ⟨S1x5632, .f32⟩
  | .hbm, ⟨38, _⟩ => ⟨S16384x5632, .f32⟩
  | .hbm, ⟨39, _⟩ => ⟨S16384x5632, .f32⟩
  | .hbm, ⟨40, _⟩ => ⟨S16384x5632, .f32⟩
  | .hbm, ⟨41, _⟩ => ⟨S1x5632, .f32⟩
  | .hbm, ⟨42, _⟩ => ⟨S5632, .f32⟩
  | .hbm, ⟨43, _⟩ => ⟨S1x5632, .f32⟩
  | .hbm, ⟨44, _⟩ => ⟨S16384x5632, .f32⟩
  | .hbm, ⟨45, _⟩ => ⟨S16384x5632, .f32⟩
  | .hbm, ⟨46, _⟩ => ⟨S16384x5632, .f32⟩
  | .hbm, ⟨47, _⟩ => ⟨S16384x5632, .f32⟩
  | .hbm, ⟨48, _⟩ => ⟨S1x5632, .f32⟩
  | .hbm, ⟨49, _⟩ => ⟨S5632, .f32⟩
  | .hbm, ⟨50, _⟩ => ⟨S1x5632, .f32⟩
  | .hbm, ⟨51, _⟩ => ⟨S16384x5632, .f32⟩
  | .hbm, ⟨52, _⟩ => ⟨S16384x5632, .f32⟩
  | .hbm, ⟨53, _⟩ => ⟨S16384x5632, .f32⟩
  | .hbm, ⟨54, _⟩ => ⟨S1x5632, .f32⟩
  | .hbm, ⟨55, _⟩ => ⟨S16384x5632, .f32⟩
  | .hbm, ⟨56, _⟩ => ⟨S16384x5632, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S_, .f32⟩
  | .hbm, ⟨62, _⟩ => ⟨S16384x2816, .f32⟩
  | .hbm, ⟨63, _⟩ => ⟨S16384x2816, .f32⟩
  | .hbm, ⟨64, _⟩ => ⟨S_, .f32⟩
  | .hbm, ⟨65, _⟩ => ⟨S16384x2816, .f32⟩
  | .hbm, ⟨66, _⟩ => ⟨S16384x2816, .f32⟩
  | .hbm, ⟨67, _⟩ => ⟨S16384x2816, .f32⟩
  | .hbm, ⟨68, _⟩ => ⟨S16384x2816, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_2 : Ref sig .tc := ⟨.hbm, 72, rfl⟩
abbrev main_v49 : Ref sig .tc := ⟨.hbm, 73, rfl⟩
abbrev main_v50 : Ref sig .tc := ⟨.hbm, 74, rfl⟩
abbrev main_cst_3 : Ref sig .tc := ⟨.hbm, 75, rfl⟩
abbrev main_v51 : Ref sig .tc := ⟨.hbm, 76, rfl⟩
abbrev main_v52 : Ref sig .tc := ⟨.hbm, 77, rfl⟩
abbrev main_cst_4 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x2048x512 : Shape := ⟨3, ![16, 2048, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S32768x512 : Shape := ⟨2, ![32768, 512]⟩
abbrev S512x1024 : Shape := ⟨2, ![512, 1024]⟩
abbrev S1x1024 : Shape := ⟨2, ![1, 1024]⟩
abbrev S1x5632 : Shape := ⟨2, ![1, 5632]⟩
abbrev S16x1024 : Shape := ⟨2, ![16, 1024]⟩
abbrev S16x512 : Shape := ⟨2, ![16, 512]⟩
abbrev S512x512 : Shape := ⟨2, ![512, 512]⟩
abbrev S544x1024 : Shape := ⟨2, ![544, 1024]⟩
abbrev S544x512 : Shape := ⟨2, ![544, 512]⟩
abbrev S544 : Shape := ⟨1, ![544]⟩
abbrev S544x1 : Shape := ⟨2, ![544, 1]⟩
abbrev S1024x256 : Shape := ⟨2, ![1024, 256]⟩
abbrev S544x256 : Shape := ⟨2, ![544, 256]⟩
abbrev S3x256 : Shape := ⟨2, ![3, 256]⟩
abbrev S3x512 : Shape := ⟨2, ![3, 512]⟩
abbrev S1x256 : Shape := ⟨2, ![1, 256]⟩
abbrev S1x512 : Shape := ⟨2, ![1, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 23
  | .vmem => 33
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S32768x1024, .f32⟩
  | .hbm, ⟨11, _⟩ => ⟨S32768x512, .bf16⟩
  | .hbm, ⟨12, _⟩ => ⟨S32768x512, .bf16⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1x1024, .f32⟩
  | .hbm, ⟨18, _⟩ => ⟨S1024x5632, .bf16⟩
  | .hbm, ⟨19, _⟩ => ⟨S1x5632, .f32⟩
  | .hbm, ⟨20, _⟩ => ⟨S2816x1024, .bf16⟩
  | .hbm, ⟨21, _⟩ => ⟨S1x1024, .f32⟩
  | .hbm, ⟨22, _⟩ => ⟨S32768x1024, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S16x512, .bf16⟩
  | .local _ .vmem, ⟨7, _⟩ => ⟨S16x512, .bf16⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S512x512, .bf16⟩
  | .local _ .vmem, ⟨15, _⟩ => ⟨S512x512, .bf16⟩
  | .local _ .vmem, ⟨16, _⟩ => ⟨S16x512, .bf16⟩
  | .local _ .vmem, ⟨17, _⟩ => ⟨S16x512, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1024x5632, .bf16⟩
  | .local _ .vmem, ⟨22, _⟩ => ⟨S3x5632, .f32⟩
  | .local _ .vmem, ⟨23, _⟩ => ⟨S1x5632, .f32⟩
  | .local _ .vmem, ⟨24, _⟩ => ⟨S2816x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S544x1024, .bf16⟩
  | .local _ .vmem, ⟨29, _⟩ => ⟨S512x1024, .f32⟩
  | .local _ .vmem, ⟨30, _⟩ => ⟨S544x512, .f32⟩
  | .local _ .vmem, ⟨31, _⟩ => ⟨S544x512, .f32⟩
  | .local _ .vmem, ⟨32, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_52 : BitVec 32 := 0#32
  let c5_i32 : BitVec 32 := 5#32
  let v93 : BitVec 32 := Scalar.addi c0_i32_52 c5_i32
  let c1_i32_53 : BitVec 32 := 1#32
  ⟨c0_i32_52, v93, c1_i32_53⟩
def k0_mult1 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c1_i32_85 : BitVec 32 := 1#32
  let v155 : BitVec 32 := Scalar.addi v154 c1_i32_85
  let c256_i32 : BitVec 32 := 256#32
  let v157 : BitVec 32 := Scalar.muli v155 c256_i32
  v157
def k0_off1 (k0_t1 : Fin k0_t1_loop.trips) (c1_i32_85 : BitVec 32) : Fin 2 → Nat :=
  let c0_88 : Index := 0#32
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let v155 : BitVec 32 := Scalar.addi v154 c1_i32_85
  let c256_i32 : BitVec 32 := 256#32
  let v157 : BitVec 32 := Scalar.muli v155 c256_i32
  let v158 : BitVec 32 := v157
  let v159 : Index := Scalar.indexCast v158
  ![0, v159.toNat]
def k0_off2 (k0_t1 : Fin k0_t1_loop.trips) (c1_i32_85 : BitVec 32) : Fin 2 → Nat :=
  let c0_89 : Index := 0#32
  let c2816_i32 : BitVec 32 := 2816#32
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let v155 : BitVec 32 := Scalar.addi v154 c1_i32_85
  let c256_i32 : BitVec 32 := 256#32
  let v157 : BitVec 32 := Scalar.muli v155 c256_i32
  let v158 : BitVec 32 := v157
  let v162 : BitVec 32 := Scalar.addi c2816_i32 v158
  let v163 : Index := Scalar.indexCast v162
  ![0, v163.toNat]
def k0_mult2 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c256_i32_96 : BitVec 32 := 256#32
  let v174 : BitVec 32 := Scalar.muli v154 c256_i32_96
  v174
def k0_off3 (k0_t1 : Fin k0_t1_loop.trips) : Fin 2 → Nat :=
  let c0_97 : Index := 0#32
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c256_i32_96 : BitVec 32 := 256#32
  let v174 : BitVec 32 := Scalar.muli v154 c256_i32_96
  let v175 : BitVec 32 := v174
  let v176 : Index := Scalar.indexCast v175
  ![0, v176.toNat]
def k0_off4 (k0_t1 : Fin k0_t1_loop.trips) : Fin 2 → Nat :=
  let c0_99 : Index := 0#32
  let c2816_i32_98 : BitVec 32 := 2816#32
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c256_i32_96 : BitVec 32 := 256#32
  let v174 : BitVec 32 := Scalar.muli v154 c256_i32_96
  let v175 : BitVec 32 := v174
  let v178 : BitVec 32 := Scalar.addi c2816_i32_98 v175
  let v179 : Index := Scalar.indexCast v178
  ![0, v179.toNat]
def k0_mult3 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c256_i32_100 : BitVec 32 := 256#32
  let v182 : BitVec 32 := Scalar.muli v154 c256_i32_100
  v182
def k0_off5 (k0_t1 : Fin k0_t1_loop.trips) : Fin 2 → Nat :=
  let c0_101 : Index := 0#32
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c256_i32_100 : BitVec 32 := 256#32
  let v182 : BitVec 32 := Scalar.muli v154 c256_i32_100
  let v183 : BitVec 32 := v182
  let v184 : Index := Scalar.indexCast v183
  ![0, v184.toNat]
def k0_off6 (k0_t1 : Fin k0_t1_loop.trips) : Fin 2 → Nat :=
  let c0_103 : Index := 0#32
  let c2816_i32_102 : BitVec 32 := 2816#32
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c256_i32_100 : BitVec 32 := 256#32
  let v182 : BitVec 32 := Scalar.muli v154 c256_i32_100
  let v183 : BitVec 32 := v182
  let v187 : BitVec 32 := Scalar.addi c2816_i32_102 v183
  let v188 : Index := Scalar.indexCast v187
  ![0, v188.toNat]
def k0_mult4 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c256_i32_112 : BitVec 32 := 256#32
  let v217 : BitVec 32 := Scalar.muli v154 c256_i32_112
  v217
def k0_off7 (k0_t1 : Fin k0_t1_loop.trips) : Fin 2 → Nat :=
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c256_i32_112 : BitVec 32 := 256#32
  let v217 : BitVec 32 := Scalar.muli v154 c256_i32_112
  let v218 : BitVec 32 := v217
  let v221 : Index := Scalar.indexCast v218
  let c0_115 : Index := 0#32
  ![v221.toNat, 0]
def k0_mult5 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c2_i32_119 : BitVec 32 := 2#32
  let v229 : BitVec 32 := Scalar.addi v154 c2_i32_119
  let c256_i32_122 : BitVec 32 := 256#32
  let v231 : BitVec 32 := Scalar.muli v229 c256_i32_122
  v231
def k0_mult6 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c1_i32_132 : BitVec 32 := 1#32
  let v248 : BitVec 32 := Scalar.addi v154 c1_i32_132
  let c256_i32_133 : BitVec 32 := 256#32
  let v249 : BitVec 32 := Scalar.muli v248 c256_i32_133
  v249
def k0_off8 (k0_t1 : Fin k0_t1_loop.trips) : Fin 2 → Nat :=
  let c0_134 : Index := 0#32
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c1_i32_132 : BitVec 32 := 1#32
  let v248 : BitVec 32 := Scalar.addi v154 c1_i32_132
  let c256_i32_133 : BitVec 32 := 256#32
  let v249 : BitVec 32 := Scalar.muli v248 c256_i32_133
  let v250 : BitVec 32 := v249
  let v251 : Index := Scalar.indexCast v250
  ![0, v251.toNat]
def k0_off9 (k0_t1 : Fin k0_t1_loop.trips) : Fin 2 → Nat :=
  let c0_136 : Index := 0#32
  let c2816_i32_135 : BitVec 32 := 2816#32
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c1_i32_132 : BitVec 32 := 1#32
  let v248 : BitVec 32 := Scalar.addi v154 c1_i32_132
  let c256_i32_133 : BitVec 32 := 256#32
  let v249 : BitVec 32 := Scalar.muli v248 c256_i32_133
  let v250 : BitVec 32 := v249
  let v253 : BitVec 32 := Scalar.addi c2816_i32_135 v250
  let v254 : Index := Scalar.indexCast v253
  ![0, v254.toNat]
def k0_mult7 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c1_i32_132 : BitVec 32 := 1#32
  let v248 : BitVec 32 := Scalar.addi v154 c1_i32_132
  let c256_i32_137 : BitVec 32 := 256#32
  let v257 : BitVec 32 := Scalar.muli v248 c256_i32_137
  v257
def k0_off10 (k0_t1 : Fin k0_t1_loop.trips) : Fin 2 → Nat :=
  let c0_138 : Index := 0#32
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c1_i32_132 : BitVec 32 := 1#32
  let v248 : BitVec 32 := Scalar.addi v154 c1_i32_132
  let c256_i32_137 : BitVec 32 := 256#32
  let v257 : BitVec 32 := Scalar.muli v248 c256_i32_137
  let v258 : BitVec 32 := v257
  let v259 : Index := Scalar.indexCast v258
  ![0, v259.toNat]
def k0_off11 (k0_t1 : Fin k0_t1_loop.trips) : Fin 2 → Nat :=
  let c0_140 : Index := 0#32
  let c2816_i32_139 : BitVec 32 := 2816#32
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c1_i32_132 : BitVec 32 := 1#32
  let v248 : BitVec 32 := Scalar.addi v154 c1_i32_132
  let c256_i32_137 : BitVec 32 := 256#32
  let v257 : BitVec 32 := Scalar.muli v248 c256_i32_137
  let v258 : BitVec 32 := v257
  let v262 : BitVec 32 := Scalar.addi c2816_i32_139 v258
  let v263 : Index := Scalar.indexCast v262
  ![0, v263.toNat]
def k0_mult8 (k0_t1 : Fin k0_t1_loop.trips) : BitVec 32 :=
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c1_i32_132 : BitVec 32 := 1#32
  let v248 : BitVec 32 := Scalar.addi v154 c1_i32_132
  let c256_i32_149 : BitVec 32 := 256#32
  let v292 : BitVec 32 := Scalar.muli v248 c256_i32_149
  v292
def k0_off12 (k0_t1 : Fin k0_t1_loop.trips) : Fin 2 → Nat :=
  let c2_i32 : BitVec 32 := 2#32
  let c0_i32_52 : BitVec 32 := 0#32
  let c1_i32_53 : BitVec 32 := 1#32
  let arg24 : BitVec 32 := Scf.iv c0_i32_52 c1_i32_53 k0_t1
  let v154 : BitVec 32 := Scalar.muli c2_i32 arg24
  let c1_i32_132 : BitVec 32 := 1#32
  let v248 : BitVec 32 := Scalar.addi v154 c1_i32_132
  let c256_i32_149 : BitVec 32 := 256#32
  let v292 : BitVec 32 := Scalar.muli v248 c256_i32_149
  let v293 : BitVec 32 := v292
  let v296 : Index := Scalar.indexCast v293
  let c0_152 : Index := 0#32
  ![v296.toNat, 0]
def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S16x2048x1024 : Shape := ⟨3, ![16, 2048, 1024]⟩
abbrev S16x2048x512 : Shape := ⟨3, ![16, 2048, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1024 : Shape := ⟨2, ![1, 1024]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩
abbrev S32768x1024 : Shape := ⟨2, ![32768, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S16x2048x1024, .bf16⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S16x2048x5632, .f32⟩
  | .hbm, ⟨32, _⟩ => ⟨S_, .i32⟩
  | .hbm, ⟨33, _⟩ => ⟨S_, .f32⟩
  | .hbm, ⟨34, _⟩ => ⟨S16x2050x5632, .f32⟩
  | .hbm, ⟨35, _⟩ => ⟨S16x2048x5632, .f32⟩
  | .hbm, ⟨36, _⟩ => ⟨S1x5632, .f32⟩
  | .hbm, ⟨37, _⟩ => ⟨S5632, .f32⟩
  | .hbm, ⟨38, _⟩ => ⟨S1x5632, .f32⟩
  | .hbm, ⟨39, _⟩ => ⟨S1x1x5632, .f32⟩
  | .hbm, ⟨40, _⟩ => ⟨S16x2048x5632, .f32⟩
  | .hbm, ⟨41, _⟩ => ⟨S16x2048x5632, .f32⟩
  | .hbm, ⟨42, _⟩ => ⟨S16x2048x5632, .f32⟩
  | .hbm, ⟨43, _⟩ => ⟨S1x5632, .f32⟩
  | .hbm, ⟨44, _⟩ => ⟨S5632, .f32⟩
  | .hbm, ⟨45, _⟩ => ⟨S1x5632, .f32⟩
  | .hbm, ⟨46, _⟩ => ⟨S1x1x5632, .f32⟩
  | .hbm, ⟨47, _⟩ => ⟨S16x2048x5632, .f32⟩
  | .hbm, ⟨48, _⟩ => ⟨S16x2048x5632, .f32⟩
  | .hbm, ⟨49, _⟩ => ⟨S16x2048x5632, .f32⟩
  | .hbm, ⟨50, _⟩ => ⟨S16x2048x5632, .f32⟩
  | .hbm, ⟨51, _⟩ => ⟨S1x5632, .f32⟩
  | .hbm, ⟨52, _⟩ => ⟨S5632, .f32⟩
  | .hbm, ⟨53, _⟩ => ⟨S1x5632, .f32⟩
  | .hbm, ⟨54, _⟩ => ⟨S1x1x5632, .f32⟩
  | .hbm, ⟨55, _⟩ => ⟨S16x2048x5632, .f32⟩
  | .hbm, ⟨56, _⟩ => ⟨S16x2048x5632, .f32⟩
  | .hbm, ⟨57, _⟩ => ⟨S16x2048x5632, .f32⟩
  | .hbm, ⟨58, _⟩ => ⟨S1x5632, .f32⟩
  | .hbm, ⟨59, _⟩ => ⟨S1x1x5632, .f32⟩
  | .hbm, ⟨60, _⟩ => ⟨S16x2048x5632, .f32⟩
  | .hbm, ⟨61, _⟩ => ⟨S16x2048x5632, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S_, .f32⟩
  | .hbm, ⟨67, _⟩ => ⟨S16x2048x2816, .f32⟩
  | .hbm, ⟨68, _⟩ => ⟨S16x2048x2816, .f32⟩
  | .hbm, ⟨69, _⟩ => ⟨S_, .f32⟩
  | .hbm, ⟨70, _⟩ => ⟨S16x2048x2816, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S16x2048x1024, .f32⟩
  | .hbm, ⟨75, _⟩ => ⟨S16x2048x1024, .f32⟩
  | .hbm, ⟨76, _⟩ => ⟨S16x2048x1024, .f32⟩
  | .hbm, ⟨77, _⟩ => ⟨S_, .f32⟩
  | .hbm, ⟨78, _⟩ => ⟨S16x2048, .f32⟩
  | .hbm, ⟨79, _⟩ => ⟨S16x2048x1, .f32⟩
  | .hbm, ⟨80, _⟩ => ⟨S_, .f32⟩
  | .hbm, ⟨81, _⟩ => ⟨S16x2048x1, .f32⟩
  | .hbm, ⟨82, _⟩ => ⟨S16x2048x1, .f32⟩
  | .hbm, ⟨83, _⟩ => ⟨S_, .f32⟩
  | .hbm, ⟨84, _⟩ => ⟨S16x2048x1, .f32⟩
  | .hbm, ⟨85, _⟩ => ⟨S16x2048x1, .f32⟩
  | .hbm, ⟨86, _⟩ => ⟨S16x2048x1, .f32⟩
  | .hbm, ⟨87, _⟩ => ⟨S16x2048x1024, .f32⟩
  | .hbm, ⟨88, _⟩ => ⟨S16x2048x1024, .f32⟩
  | .hbm, ⟨89, _⟩ => ⟨S1x1024, .f32⟩
  | .hbm, ⟨90, _⟩ => ⟨S1x1x1024, .f32⟩
  | .hbm, ⟨91, _⟩ => ⟨S16x2048x1024, .f32⟩
  | .hbm, ⟨92, _⟩ => ⟨S16x2048x1024, .f32⟩
  | .hbm, ⟨93, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_2 : Ref sig .tc := ⟨.hbm, 77, rfl⟩
abbrev main_v54 : Ref sig .tc := ⟨.hbm, 78, rfl⟩
abbrev main_v55 : Ref sig .tc := ⟨.hbm, 79, rfl⟩
abbrev main_cst_3 : Ref sig .tc := ⟨.hbm, 80, rfl⟩
abbrev main_v56 : Ref sig .tc := ⟨.hbm, 81, rfl⟩
abbrev main_v57 : Ref sig .tc := ⟨.hbm, 82, rfl⟩
abbrev main_cst_4 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2848 : Shape := ⟨2, ![1024, 2848]⟩
abbrev S32 : Shape := ⟨1, ![32]⟩
abbrev S64 : Shape := ⟨1, ![64]⟩
abbrev S1024x2048 : Shape := ⟨2, ![1024, 2048]⟩
abbrev S1024x32 : Shape := ⟨2, ![1024, 32]⟩
abbrev S_ : Shape := ⟨0, ![]⟩
abbrev S1024x128 : Shape := ⟨2, ![1024, 128]⟩
abbrev S1024x768 : Shape := ⟨2, ![1024, 768]⟩
abbrev S128 : Shape := ⟨1, ![128]⟩
abbrev S1x128 : Shape := ⟨2, ![1, 128]⟩
abbrev S16 : Shape := ⟨1, ![16]⟩
abbrev S1x32 : Shape := ⟨2, ![1, 32]⟩
abbrev S256 : Shape := ⟨1, ![256]⟩
abbrev S256x1 : Shape := ⟨2, ![256, 1]⟩
abbrev S1x16 : Shape := ⟨2, ![1, 16]⟩
abbrev S256x16 : Shape := ⟨2, ![256, 16]⟩
abbrev S256x32 : Shape := ⟨2, ![256, 32]⟩
abbrev S256x64 : Shape := ⟨2, ![256, 64]⟩
abbrev S256x128 : Shape := ⟨2, ![256, 128]⟩
abbrev S1x256x128 : Shape := ⟨3, ![1, 256, 128]⟩
abbrev S3x256x128 : Shape := ⟨3, ![3, 256, 128]⟩
abbrev S3x32x8x128 : Shape := ⟨4, ![3, 32, 8, 128]⟩
abbrev S32x3x8x128 : Shape := ⟨4, ![32, 3, 8, 128]⟩
abbrev S64x1 : Shape := ⟨2, ![64, 1]⟩
abbrev S64x16 : Shape := ⟨2, ![64, 16]⟩
abbrev S64x32 : Shape := ⟨2, ![64, 32]⟩
abbrev S64x64 : Shape := ⟨2, ![64, 64]⟩
abbrev S64x128 : Shape := ⟨2, ![64, 128]⟩
abbrev S1x64x128 : Shape := ⟨3, ![1, 64, 128]⟩
abbrev S3x64x128 : Shape := ⟨3, ![3, 64, 128]⟩
abbrev S1x3x1x64x1x128 : Shape := ⟨6, ![1, 3, 1, 64, 1, 128]⟩
abbrev S1x3x8x64x1x128 : Shape := ⟨6, ![1, 3, 8, 64, 1, 128]⟩
abbrev S3x512x128 : Shape := ⟨3, ![3, 512, 128]⟩
abbrev S2 : Shape := ⟨1, ![2]⟩
abbrev S2x1 : Shape := ⟨2, ![2, 1]⟩
abbrev S2x64 : Shape := ⟨2, ![2, 64]⟩
abbrev S128x1 : Shape := ⟨2, ![128, 1]⟩
abbrev S128x128 : Shape := ⟨2, ![128, 128]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S1x1024 : Shape := ⟨2, ![1, 1024]⟩
abbrev S1x64 : Shape := ⟨2, ![1, 64]⟩
abbrev S8x32x64x512 : Shape := ⟨4, ![8, 32, 64, 512]⟩
abbrev S32x512x512 : Shape := ⟨3, ![32, 512, 512]⟩
abbrev S16384x128 : Shape := ⟨2, ![16384, 128]⟩
abbrev S64x8x128 : Shape := ⟨3, ![64, 8, 128]⟩
abbrev S2x32x512x64 : Shape := ⟨4, ![2, 32, 512, 64]⟩
abbrev S2x32x64x512 : Shape := ⟨4, ![2, 32, 64, 512]⟩
abbrev S512x1024 : Shape := ⟨2, ![512, 1024]⟩
abbrev S1x3x8x128 : Shape := ⟨4, ![1, 3, 8, 128]⟩
abbrev S8x1x64x512 : Shape := ⟨4, ![8, 1, 64, 512]⟩
abbrev S1x512x512 : Shape := ⟨3, ![1, 512, 512]⟩
abbrev S512x128 : Shape := ⟨2, ![512, 128]⟩
abbrev S2x8x128 : Shape := ⟨3, ![2, 8, 128]⟩
abbrev S2x1x512x64 : Shape := ⟨4, ![2, 1, 512, 64]⟩
abbrev S2x1x64x512 : Shape := ⟨4, ![2, 1, 64, 512]⟩
abbrev S6x128 : Shape := ⟨2, ![6, 128]⟩
abbrev S8x128 : Shape := ⟨2, ![8, 128]⟩
abbrev S1x8x128 : Shape := ⟨3, ![1, 8, 128]⟩
abbrev S512x768 : Shape := ⟨2, ![512, 768]⟩
abbrev S3x8x128 : Shape := ⟨3, ![3, 8, 128]⟩
abbrev S8x1x128 : Shape := ⟨3, ![8, 1, 128]⟩
abbrev S8x64x128 : Shape := ⟨3, ![8, 64, 128]⟩
abbrev S1x512x128 : Shape := ⟨3, ![1, 512, 128]⟩
abbrev S128x512 : Shape := ⟨2, ![128, 512]⟩
abbrev S64x512 : Shape := ⟨2, ![64, 512]⟩
abbrev S1x1x64x512 : Shape := ⟨4, ![1, 1, 64, 512]⟩
abbrev S512x64 : Shape := ⟨2, ![512, 64]⟩
abbrev S1x1x512x64 : Shape := ⟨4, ![1, 1, 512, 64]⟩
abbrev S512x2048 : Shape := ⟨2, ![512, 2048]⟩

abbrev nBuf : Space → Nat
  | .hbm => 167
  | .vmem => 36
  | .smem => 0
  | _ => 0

abbrev hbmTy0_0 (i : Nat) : BufTy := match i % 128 with
  | 0 => ⟨S16384x1024, .f32⟩
  | 1 => ⟨S1024, .f32⟩
  | 2 => ⟨S1024x2848, .f32⟩
  | 3 => ⟨S32, .f32⟩
  | 4 => ⟨S64, .f32⟩
  | 5 => ⟨S64, .f32⟩
  | 6 => ⟨S1024x2048, .f32⟩
  | 7 => ⟨S1024x2048, .bf16⟩
  | 8 => ⟨S1024x32, .f32⟩
  | 9 => ⟨S_, .i32⟩
  | 10 => ⟨S_, .f32⟩
  | 11 => ⟨S1024x128, .f32⟩
  | 12 => ⟨S1024x128, .bf16⟩
  | 13 => ⟨S1024x768, .f32⟩
  | 14 => ⟨S1024x768, .bf16⟩
  | 15 => ⟨S_, .i32⟩
  | 16 => ⟨S_, .f32⟩
  | 17 => ⟨S128, .f32⟩
  | 18 => ⟨S1x128, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S1x32, .f32⟩
  | 29 => ⟨S256, .f32⟩
  | 30 => ⟨S256x1, .f32⟩
  | 31 => ⟨S1x16, .f32⟩
  | 32 => ⟨S256x16, .f32⟩
  | 33 => ⟨S256x16, .f32⟩
  | 34 => ⟨S256x16, .f32⟩
  | 35 => ⟨S256x16, .f32⟩
  | 36 => ⟨S256x16, .f32⟩
  | 37 => ⟨S256x32, .f32⟩
  | 38 => ⟨S256x64, .f32⟩
  | 39 => ⟨S256x16, .f32⟩
  | 40 => ⟨S_, .f32⟩
  | 41 => ⟨S256x16, .f32⟩
  | 42 => ⟨S256x16, .f32⟩
  | 43 => ⟨S256x64, .f32⟩
  | 44 => ⟨S_, .f32⟩
  | 45 => ⟨S256x16, .f32⟩
  | 46 => ⟨S256x16, .f32⟩
  | 47 => ⟨S256x64, .f32⟩
  | 48 => ⟨S256x128, .f32⟩
  | 49 => ⟨S256x128, .f32⟩
  | 50 => ⟨S256x128, .f32⟩
  | 51 => ⟨S1x256x128, .f32⟩
  | 52 => ⟨S1x256x128, .f32⟩
  | 53 => ⟨S1x256x128, .f32⟩
  | 54 => ⟨S3x256x128, .f32⟩
  | 55 => ⟨S3x32x8x128, .f32⟩
  | 56 => ⟨S32x3x8x128, .f32⟩
  | 57 => ⟨S64, .f32⟩
  | 58 => ⟨S64x1, .f32⟩
  | 59 => ⟨S1x16, .f32⟩
  | 60 => ⟨S64x16, .f32⟩
  | 61 => ⟨S64x16, .f32⟩
  | 62 => ⟨S64x16, .f32⟩
  | 63 => ⟨S64x16, .f32⟩
  | 64 => ⟨S64x16, .f32⟩
  | 65 => ⟨S64x32, .f32⟩
  | 66 => ⟨S64x64, .f32⟩
  | 67 => ⟨S64x16, .f32⟩
  | 68 => ⟨S_, .f32⟩
  | 69 => ⟨S64x16, .f32⟩
  | 70 => ⟨S64x16, .f32⟩
  | 71 => ⟨S64x64, .f32⟩
  | 72 => ⟨S_, .f32⟩
  | 73 => ⟨S64x16, .f32⟩
  | 74 => ⟨S64x16, .f32⟩
  | 75 => ⟨S64x64, .f32⟩
  | 76 => ⟨S64x128, .f32⟩
  | 77 => ⟨S64x128, .f32⟩
  | 78 => ⟨S64x128, .f32⟩
  | 79 => ⟨S1x64x128, .f32⟩
  | 80 => ⟨S1x64x128, .f32⟩
  | 81 => ⟨S1x64x128, .f32⟩
  | 82 => ⟨S3x64x128, .f32⟩
  | 83 => ⟨S1x3x1x64x1x128, .f32⟩
  | 84 => ⟨S1x3x8x64x1x128, .f32⟩
  | 85 => ⟨S3x512x128, .f32⟩
  | 86 => ⟨S2, .i32⟩
  | 87 => ⟨S2x1, .i32⟩
  | 88 => ⟨S2x64, .i32⟩
  | 89 => ⟨S128, .i32⟩
  | 90 => ⟨S128x1, .i32⟩
  | 91 => ⟨S1x128, .i32⟩
  | 92 => ⟨S128x128, .i32⟩
  | 93 => ⟨S128x128, .i32⟩
  | 94 => ⟨S128x128, .i1⟩
  | 95 => ⟨S128x128, .f32⟩
  | 96 => ⟨S128x128, .bf16⟩
  | 97 => ⟨S512, .i32⟩
  | 98 => ⟨S1x512, .i32⟩
  | 99 => ⟨S512x1, .i32⟩
  | 100 => ⟨S512x512, .i32⟩
  | 101 => ⟨S512x512, .i32⟩
  | 102 => ⟨S512x512, .i1⟩
  | 103 => ⟨S1x512, .i32⟩
  | 104 => ⟨S_, .i32⟩
  | 105 => ⟨S_, .i32⟩
  | 106 => ⟨S1x512, .i32⟩
  | 107 => ⟨S1x512, .i32⟩
  | 108 => ⟨S1x512, .i32⟩
  | 109 => ⟨S_, .i32⟩
  | 110 => ⟨S1x512, .i32⟩
  | 111 => ⟨S1x512, .i1⟩
  | 112 => ⟨S1x512, .i32⟩
  | 113 => ⟨S1x512, .i32⟩
  | 114 => ⟨S_, .i32⟩
  | 115 => ⟨S1x512, .i32⟩
  | 116 => ⟨S1x512, .i1⟩
  | 117 => ⟨S1x512, .i1⟩
  | 118 => ⟨S_, .i32⟩
  | 119 => ⟨S1x512, .i32⟩
  | 120 => ⟨S1x512, .i32⟩
  | 121 => ⟨S1x512, .i32⟩
  | 122 => ⟨S512x1, .i32⟩
  | 123 => ⟨S_, .i32⟩
  | 124 => ⟨S_, .i32⟩
  | 125 => ⟨S512x1, .i32⟩
  | 126 => ⟨S512x1, .i32⟩
  | 127 => ⟨S512x1, .i32⟩
  | _ => ⟨S16384x1024, .f32⟩

abbrev hbmTy0_1 (i : Nat) : BufTy := match i % 128 with
  | 0 => ⟨S_, .i32⟩
  | 1 => ⟨S512x1, .i32⟩
  | 2 => ⟨S512x1, .i1⟩
  | 3 => ⟨S512x1, .i32⟩
  | 4 => ⟨S512x1, .i32⟩
  | 5 => ⟨S_, .i32⟩
  | 6 => ⟨S512x1, .i32⟩
  | 7 => ⟨S512x1, .i1⟩
  | 8 => ⟨S512x1, .i1⟩
  | 9 => ⟨S_, .i32⟩
  | 10 => ⟨S512x1, .i32⟩
  | 11 => ⟨S512x1, .i32⟩
  | 12 => ⟨S512x1, .i32⟩
  | 13 => ⟨S512x512, .i32⟩
  | 14 => ⟨S512x512, .i32⟩
  | 15 => ⟨S512x512, .i1⟩
  | 16 => ⟨S512x512, .i1⟩
  | 17 => ⟨S512x512, .f32⟩
  | 18 => ⟨S512x512, .bf16⟩
  | 19 => ⟨S1x1024, .f32⟩
  | 20 => ⟨S1x64, .f32⟩
  | 21 => ⟨S2x64, .f32⟩
  | 22 => ⟨S128, .f32⟩
  | 23 => ⟨S1x128, .f32⟩
  | 24 => ⟨S1x64, .f32⟩
  | 25 => ⟨S2x64, .f32⟩
  | 26 => ⟨S128, .f32⟩
  | 27 => ⟨S1x128, .f32⟩
  | 28 => ⟨S8x32x64x512, .bf16⟩
  | 29 => ⟨S32x512x512, .bf16⟩
  | 30 => ⟨S8x32x64x512, .bf16⟩
  | 31 => ⟨S8x32x64x512, .bf16⟩
  | 32 => ⟨S16384x128, .f32⟩
  | 33 => ⟨S16384x128, .f32⟩
  | 34 => ⟨S16384x128, .f32⟩
  | 35 => ⟨S64x8x128, .f32⟩
  | 36 => ⟨S8x32x64x512, .bf16⟩
  | 37 => ⟨S2x32x512x64, .bf16⟩
  | 38 => ⟨S2x32x64x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S1024x768, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x3x8x128, .f32⟩
  | .local _ .vmem, ⟨10, _⟩ => ⟨S1x3x8x128, .f32⟩
  | .local _ .vmem, ⟨11, _⟩ => ⟨S3x512x128, .f32⟩
  | .local _ .vmem, ⟨12, _⟩ => ⟨S128x128, .bf16⟩
  | .local _ .vmem, ⟨13, _⟩ => ⟨S512x512, .bf16⟩
  | .local _ .vmem, ⟨14, _⟩ => ⟨S8x1x64x512, .bf16⟩
  | .local _ .vmem, ⟨15, _⟩ => ⟨S8x1x64x512, .bf16⟩
  | .local _ .vmem, ⟨16, _⟩ => ⟨S1x512x512, .bf16⟩
  | .local _ .vmem, ⟨17, _⟩ => ⟨S1x512x512, .bf16⟩
  | .local _ .vmem, ⟨18, _⟩ => ⟨S8x1x64x512, .bf16⟩
  | .local _ .vmem, ⟨19, _⟩ => ⟨S8x1x64x512, .bf16⟩
  | .local _ .vmem, ⟨20, _⟩ => ⟨S8x1x64x512, .bf16⟩
  | .local _ .vmem, ⟨21, _⟩ => ⟨S8x1x64x512, .bf16⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S2x8x128, .f32⟩
  | .local _ .vmem, ⟨29, _⟩ => ⟨S2x8x128, .f32⟩
  | .local _ .vmem, ⟨30, _⟩ => ⟨S8x1x64x512, .bf16⟩
  | .local _ .vmem, ⟨31, _⟩ => ⟨S8x1x64x512, .bf16⟩
  | .local _ .vmem, ⟨32, _⟩ => ⟨S2x1x512x64, .bf16⟩
  | .local _ .vmem, ⟨33, _⟩ => ⟨S2x1x512x64, .bf16⟩
  | .local _ .vmem, ⟨34, _⟩ => ⟨S2x1x64x512, .bf16⟩
  | .local _ .vmem, ⟨35, _⟩ => ⟨S2x1x64x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_c_7 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_c : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_c_0 : Ref sig .tc := ⟨.hbm, 118, rfl⟩
abbrev main_call2_v12 : Ref sig .tc := ⟨.hbm, 119, rfl⟩
abbrev main_call2_v13 : Ref sig .tc := ⟨.hbm, 120, rfl⟩
abbrev main_v87 : Ref sig .tc := ⟨.hbm, 121, rfl⟩
abbrev main_v88 : Ref sig .tc := ⟨.hbm, 122, rfl⟩
abbrev main_c_8 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_c : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_0 : Ref sig .tc := ⟨.hbm, 137, rfl⟩
abbrev main_call3_v12 : Ref sig .tc := ⟨.hbm, 138, rfl⟩
abbrev main_call3_v13 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105_0 : Ref sig .tc := ⟨.hbm, 156, rfl⟩
abbrev main_v105_1 : Ref sig .tc := ⟨.hbm, 157, rfl⟩
abbrev main_v105_2 : Ref sig .tc := ⟨.hbm, 158, rfl⟩
abbrev main_v105_3 : Ref sig .tc := ⟨.hbm, 159, rfl⟩
abbrev main_v105_4 : Ref sig .tc := ⟨.hbm, 160, rfl⟩
abbrev main_v105_5 : Ref sig .tc := ⟨.hbm, 161, rfl⟩
abbrev main_v105_6 : Ref sig .tc := ⟨.hbm, 162, rfl⟩
abbrev main_v105_7 : Ref sig .tc := ⟨.hbm, 163, rfl⟩
abbrev main_v105_8 : Ref sig .tc := ⟨.hbm, 164, rfl⟩
abbrev main_v105_9 : Ref sig .tc := ⟨.hbm, 165, rfl⟩
abbrev main_v105_10 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  let c0_i32_6 : BitVec 32 := 0#32
  ![v9.toNat, c0_i32_3.toNat, c0_i32_4.toNat, c0_i32_5.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_21 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x3x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x1x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1x64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1x64x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x8x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x1x64x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x1x512x64 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2x1x64x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference3Ideal.lean ====
abbrev S16384x1024 : Shape := ⟨2, ![16384, 1024]⟩
abbrev S1024 : Shape := ⟨1, ![1024]⟩
abbrev S1024x2848 : Shape := ⟨2, ![1024, 2848]⟩
abbrev S32 : Shape := ⟨1, ![32]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2848 : Shape := ⟨2, ![16384, 2848]⟩
abbrev S16384x512 : Shape := ⟨2, ![16384, 512]⟩
abbrev S8x64 : Shape := ⟨2, ![8, 64]⟩
abbrev S2x64 : Shape := ⟨2, ![2, 64]⟩
abbrev S10x64 : Shape := ⟨2, ![10, 64]⟩
abbrev S16384x640 : Shape := ⟨2, ![16384, 640]⟩
abbrev S16384x10x64 : Shape := ⟨3, ![16384, 10, 64]⟩
abbrev S16384x10 : Shape := ⟨2, ![16384, 10]⟩
abbrev S16384x10x1 : Shape := ⟨3, ![16384, 10, 1]⟩
abbrev S1x10x64 : Shape := ⟨3, ![1, 10, 64]⟩
abbrev S16 : Shape := ⟨1, ![16]⟩
abbrev S256 : Shape := ⟨1, ![256]⟩
abbrev S256x1 : Shape := ⟨2, ![256, 1]⟩
abbrev S1x16 : Shape := ⟨2, ![1, 16]⟩
abbrev S256x16 : Shape := ⟨2, ![256, 16]⟩
abbrev S64x1 : Shape := ⟨2, ![64, 1]⟩
abbrev S64x16 : Shape := ⟨2, ![64, 16]⟩
abbrev S256x1x16 : Shape := ⟨3, ![256, 1, 16]⟩
abbrev S256x64x16 : Shape := ⟨3, ![256, 64, 16]⟩
abbrev S16384x16 : Shape := ⟨2, ![16384, 16]⟩
abbrev S1x64x16 : Shape := ⟨3, ![1, 64, 16]⟩
abbrev S16384x64 : Shape := ⟨2, ![16384, 64]⟩
abbrev S16384x10x16 : Shape := ⟨3, ![16384, 10, 16]⟩
abbrev S16384x1x64 : Shape := ⟨3, ![16384, 1, 64]⟩
abbrev S16384x8x64 : Shape := ⟨3, ![16384, 8, 64]⟩
abbrev S16384x2x64 : Shape := ⟨3, ![16384, 2, 64]⟩
abbrev S32x512x8x64 : Shape := ⟨4, ![32, 512, 8, 64]⟩
abbrev S8x32x64x512 : Shape := ⟨4, ![8, 32, 64, 512]⟩
abbrev S32x512x512 : Shape := ⟨3, ![32, 512, 512]⟩
abbrev S32x512x2x64 : Shape := ⟨4, ![32, 512, 2, 64]⟩
abbrev S2x32x512x64 : Shape := ⟨4, ![2, 32, 512, 64]⟩
abbrev S16384x128 : Shape := ⟨2, ![16384, 128]⟩
abbrev S2x32x64x512 : Shape := ⟨4, ![2, 32, 64, 512]⟩

abbrev nBuf : Space → Nat
  | .hbm => 120
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2848, .f32⟩
  | .hbm, ⟨3, _⟩ => ⟨S32, .f32⟩
  | .hbm, ⟨4, _⟩ => ⟨S64, .f32⟩
  | .hbm, ⟨5, _⟩ => ⟨S64, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2848, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S8x64, .f32⟩
  | .hbm, ⟨28, _⟩ => ⟨S2x64, .f32⟩
  | .hbm, ⟨29, _⟩ => ⟨S10x64, .f32⟩
  | .hbm, ⟨30, _⟩ => ⟨S16384x640, .f32⟩
  | .hbm, ⟨31, _⟩ => ⟨S16384x10x64, .f32⟩
  | .hbm, ⟨32, _⟩ => ⟨S16384x10x64, .f32⟩
  | .hbm, ⟨33, _⟩ => ⟨S_, .f32⟩
  | .hbm, ⟨34, _⟩ => ⟨S16384x10, .f32⟩
  | .hbm, ⟨35, _⟩ => ⟨S16384x10x1, .f32⟩
  | .hbm, ⟨36, _⟩ => ⟨S_, .f32⟩
  | .hbm, ⟨37, _⟩ => ⟨S16384x10x1, .f32⟩
  | .hbm, ⟨38, _⟩ => ⟨S16384x10x1, .f32⟩
  | .hbm, ⟨39, _⟩ => ⟨S_, .f32⟩
  | .hbm, ⟨40, _⟩ => ⟨S16384x10x1, .f32⟩
  | .hbm, ⟨41, _⟩ => ⟨S16384x10x1, .f32⟩
  | .hbm, ⟨42, _⟩ => ⟨S16384x10x1, .f32⟩
  | .hbm, ⟨43, _⟩ => ⟨S16384x10x64, .f32⟩
  | .hbm, ⟨44, _⟩ => ⟨S16384x10x64, .f32⟩
  | .hbm, ⟨45, _⟩ => ⟨S1x10x64, .f32⟩
  | .hbm, ⟨46, _⟩ => ⟨S16384x10x64, .f32⟩
  | .hbm, ⟨47, _⟩ => ⟨S16384x10x64, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S256, .f32⟩
  | .hbm, ⟨57, _⟩ => ⟨S256x1, .f32⟩
  | .hbm, ⟨58, _⟩ => ⟨S1x16, .f32⟩
  | .hbm, ⟨59, _⟩ => ⟨S256x16, .f32⟩
  | .hbm, ⟨60, _⟩ => ⟨S256x16, .f32⟩
  | .hbm, ⟨61, _⟩ => ⟨S256x16, .f32⟩
  | .hbm, ⟨62, _⟩ => ⟨S64, .f32⟩
  | .hbm, ⟨63, _⟩ => ⟨S64x1, .f32⟩
  | .hbm, ⟨64, _⟩ => ⟨S1x16, .f32⟩
  | .hbm, ⟨65, _⟩ => ⟨S64x16, .f32⟩
  | .hbm, ⟨66, _⟩ => ⟨S64x16, .f32⟩
  | .hbm, ⟨67, _⟩ => ⟨S64x16, .f32⟩
  | .hbm, ⟨68, _⟩ => ⟨S256x1x16, .f32⟩
  | .hbm, ⟨69, _⟩ => ⟨S256x64x16, .f32⟩
  | .hbm, ⟨70, _⟩ => ⟨S16384x16, .f32⟩
  | .hbm, ⟨71, _⟩ => ⟨S1x64x16, .f32⟩
  | .hbm, ⟨72, _⟩ => ⟨S256x64x16, .f32⟩
  | .hbm, ⟨73, _⟩ => ⟨S16384x16, .f32⟩
  | .hbm, ⟨74, _⟩ => ⟨S16384x64, .f32⟩
  | .hbm, ⟨75, _⟩ => ⟨S16384x10x16, .f32⟩
  | .hbm, ⟨76, _⟩ => ⟨S16384x10x16, .f32⟩
  | .hbm, ⟨77, _⟩ => ⟨S16384x10x16, .f32⟩
  | .hbm, ⟨78, _⟩ => ⟨S16384x10x16, .f32⟩
  | .hbm, ⟨79, _⟩ => ⟨S16384x10x16, .f32⟩
  | .hbm, ⟨80, _⟩ => ⟨S16384x10x16, .f32⟩
  | .hbm, ⟨81, _⟩ => ⟨S16384x10x64, .f32⟩
  | .hbm, ⟨82, _⟩ => ⟨S16384x64, .f32⟩
  | .hbm, ⟨83, _⟩ => ⟨S16384x1x64, .f32⟩
  | .hbm, ⟨84, _⟩ => ⟨S16384x10x64, .f32⟩
  | .hbm, ⟨85, _⟩ => ⟨S16384x10x64, .f32⟩
  | .hbm, ⟨86, _⟩ => ⟨S16384x64, .f32⟩
  | .hbm, ⟨87, _⟩ => ⟨S16384x1x64, .f32⟩
  | .hbm, ⟨88, _⟩ => ⟨S16384x10x64, .f32⟩
  | .hbm, ⟨89, _⟩ => ⟨S16384x10x64, .f32⟩
  | .hbm, ⟨90, _⟩ => ⟨S16384x10x64, .f32⟩
  | .hbm, ⟨91, _⟩ => ⟨S16384x8x64, .f32⟩
  | .hbm, ⟨92, _⟩ => ⟨S_, .f32⟩
  | .hbm, ⟨93, _⟩ => ⟨S16384x8x64, .f32⟩
  | .hbm, ⟨94, _⟩ => ⟨S16384x8x64, .f32⟩
  | .hbm, ⟨95, _⟩ => ⟨S16384x2x64, .f32⟩
  | .hbm, ⟨96, _⟩ => ⟨S32x512x8x64, .f32⟩
  | .hbm, ⟨97, _⟩ => ⟨S8x32x64x512, .f32⟩
  | .hbm, ⟨98, _⟩ => ⟨S8x32x64x512, .bf16⟩
  | .hbm, ⟨99, _⟩ => ⟨S_, .f32⟩
  | .hbm, ⟨100, _⟩ => ⟨S16384x512, .f32⟩
  | .hbm, ⟨101, _⟩ => ⟨S16384x512, .f32⟩
  | .hbm, ⟨102, _⟩ => ⟨S32x512x512, .f32⟩
  | .hbm, ⟨103, _⟩ => ⟨S32x512x512, .bf16⟩
  | .hbm, ⟨104, _⟩ => ⟨S32x512x8x64, .f32⟩
  | .hbm, ⟨105, _⟩ => ⟨S8x32x64x512, .f32⟩
  | .hbm, ⟨106, _⟩ => ⟨S8x32x64x512, .bf16⟩
  | .hbm, ⟨107, _⟩ => ⟨S32x512x8x64, .f32⟩
  | .hbm, ⟨108, _⟩ => ⟨S8x32x64x512, .f32⟩
  | .hbm, ⟨109, _⟩ => ⟨S8x32x64x512, .bf16⟩
  | .hbm, ⟨110, _⟩ => ⟨S32x512x8x64, .f32⟩
  | .hbm, ⟨111, _⟩ => ⟨S8x32x64x512, .f32⟩
  | .hbm, ⟨112, _⟩ => ⟨S8x32x64x512, .bf16⟩
  | .hbm, ⟨113, _⟩ => ⟨S32x512x2x64, .f32⟩
  | .hbm, ⟨114, _⟩ => ⟨S2x32x512x64, .f32⟩
  | .hbm, ⟨115, _⟩ => ⟨S2x32x512x64, .bf16⟩
  | .hbm, ⟨116, _⟩ => ⟨S16384x128, .f32⟩
  | .hbm, ⟨117, _⟩ => ⟨S32x512x2x64, .f32⟩
  | .hbm, ⟨118, _⟩ => ⟨S2x32x64x512, .f32⟩
  | .hbm, ⟨119, _⟩ => ⟨S2x32x64x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_7 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_8 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩

abbrev nD : Nat := 1
abbrev τ : Topo := Topo.v7x

variable {F : FTy → Type} [FloatOps F]
-- ==== Proof.Program.lean ====
/-
  The body of the attention kernel, written once more as it was meant: a unit is one query head's half of a query
  block, and a stage goes through the eight units, each first taking the scores of the next key block and then
  folding the current block's scores into the running maximum and the accumulator. `body_eq` says that the printed
  body is this program.
-/
module

public import proofs.«01_k».proof.KernelIdeal

@[expose] public section

set_option maxRecDepth 65536

noncomputable section

namespace Cert.KernelIdeal.Attn

open Idealize.ShloMosaic Idealize.ShloMosaic.TcCoe Idealize.SL.Sem
open Facts₀ Facts

variable {F : FTy → Type} [FloatOps F] [Named F] [Facts]

/-! ## The arithmetic of a unit -/

/-- A unit's queries: scaled, and cast. -/
def qBlk (x : Vec F S1x1x64x256 .f32) : FVec F S64x256 .bf16 :=
  truncf .bf16 (mulf (shapeCast S64x256 x shapeCasts_S1x1x64x256_S64x256)
    (broadcast S64x256 (Named.named κ "qscale" 0x3E38AA3B#32))) bitsLt_bf16_f32

/-- A block of keys. -/
def kBlk (x : Vec F S1x1x512x64 .bf16) : FVec F S512x64 .bf16 := shapeCast S512x64 x shapeCasts_S1x1x512x64_S512x64

/-- A block of values with sixteen rows of ones below. -/
def vBlk (x : Vec F S1x1x64x512 .bf16) : FVec F S80x512 .bf16 :=
  concatenate S80x512 0 [⟨S64x512, shapeCast S64x512 x shapeCasts_S1x1x64x512_S64x512⟩,
    ⟨S16x512, broadcast S16x512 (Scalar.ofBits .bf16 0x3F80#16)⟩] concatenates_S64x512_S16x512_S80x512_d0

/-- The scores of a key block, a column per query. -/
def scores (k : FVec F S512x64 .bf16) (q : FVec F S64x256 .bf16) : FVec F S512x256 .f32 :=
  matmul dot_S512x64_S64x256_S512x256_1_0_0_1_n_n none k q (constant S512x256 .f32 0x00000000#32)

/-- The greatest score of each query. -/
def colMax (s : FVec F S512x256 .f32) : FVec F S1x256 .f32 :=
  shapeCast S1x256 (multiReduction .maximumf [0] S256 s 0xFF800000#32 reduces_S512x256_S256 (.inl rfl) rfl)
    shapeCasts_S256_S1x256

/-- The accumulator after a block: what was there at the new maximum, and the block's weighted values. -/
def accNew (vt : FVec F S80x512 .bf16) (s : FVec F S512x256 .f32) (m m' : FVec F S1x256 .f32)
    (a : FVec F S80x256 .f32) : FVec F S80x256 .f32 :=
  addf (mulf (broadcastTo S80x256 (exp2 (subf m m')) broadcasts_S1x256_S80x256) a)
    (matmul dot_S80x512_S512x256_S80x256_1_0_0_1_n_n none vt
      (truncf .bf16 (exp2 (subf s (broadcastTo S512x256 m' broadcasts_S1x256_S512x256))) bitsLt_bf16_f32)
      (constant S80x256 .f32 0x00000000#32))

def toS (s : FVec F S512x256 .f32) : FVec F S1x512x256 .f32 := shapeCast S1x512x256 s shapeCasts_S512x256_S1x512x256
def ofS (s : Vec F S1x512x256 .f32) : FVec F S512x256 .f32 := shapeCast S512x256 s shapeCasts_S1x512x256_S512x256
def toX (x : FVec F S1x256 .f32) : FVec F S1x1x256 .f32 := shapeCast S1x1x256 x shapeCasts_S1x256_S1x1x256
def ofX (x : Vec F S1x1x256 .f32) : FVec F S1x256 .f32 := shapeCast S1x256 x shapeCasts_S1x1x256_S1x256
def toA (a : FVec F S80x256 .f32) : FVec F S1x80x256 .f32 := shapeCast S1x80x256 a shapeCasts_S80x256_S1x80x256
def ofA (a : Vec F S1x80x256 .f32) : FVec F S80x256 .f32 := shapeCast S80x256 a shapeCasts_S1x80x256_S80x256

/-- The quotient of a head's accumulator rows and its row of weights. -/
def headOut (a : Vec F S1x64x512 .f32) (l : Vec F S1x1x512 .f32) : FVec F S64x512 .f32 :=
  divf (shapeCast S64x512 a shapeCasts_S1x64x512_S64x512)
    (broadcastTo S64x512 (shapeCast S1x512 l shapeCasts_S1x1x512_S1x512) broadcasts_S1x512_S64x512)

/-- Two heads' outputs, a row per query. -/
def pairOut (x y : FVec F S64x512 .f32) : FVec F S512x128 .bf16 :=
  truncf .bf16 (transpose S512x128 [1, 0] (concatenate S128x512 0 [⟨S64x512, x⟩, ⟨S64x512, y⟩]
    concatenates_S64x512_S64x512_S128x512_d0) transposes_S128x512_p1_0_S512x128) bitsLt_bf16_f32

/-! ## The buffers and the units -/

/-- The buffers of the body. -/
structure Refs where
  q : Memref sig .tc .vmem S4x1x64x512 .f32
  k : Memref sig .tc .vmem S1x32x512x64 .bf16
  v : Memref sig .tc .vmem S1x32x64x512 .bf16
  o : Memref sig .tc .vmem S512x256 .bf16
  m : Memref sig .tc .vmem S4x1x512 .f32
  acc : Memref sig .tc .vmem S4x80x512 .f32
  sC : Memref sig .tc .vmem S8x512x256 .f32
  sN : Memref sig .tc .vmem S8x512x256 .f32
  xC : Memref sig .tc .vmem S8x1x256 .f32
  xN : Memref sig .tc .vmem S8x1x256 .f32
  ho : o.IsWhole

/-- The same with the current block's scores and the next one's exchanged. -/
def Refs.swap (R : Refs) : Refs := { R with sC := R.sN, sN := R.sC, xC := R.xN, xN := R.xC }

/-- A unit: its number, its head and its first column. -/
structure Col where
  u : ℕ
  j : ℕ
  c : ℕ
  hu : u < 8
  hj : j < 4
  hc : c + 256 ≤ 512

namespace Col
variable (w : Col)

abbrev oQ : Fin 4 → ℕ := ![w.j, 0, 0, w.c]
abbrev oM : Fin 3 → ℕ := ![w.j, 0, w.c]
abbrev oU : Fin 3 → ℕ := ![w.u, 0, 0]

theorem inbQ : ∀ a, w.oQ a + S1x1x64x256.size a ≤ S4x1x64x512.size a := by
  have := w.hj; have := w.hc
  intro a; match a with
  | 0 => show w.j + 1 ≤ 4; omega
  | 1 => exact Nat.le_refl _
  | 2 => exact Nat.le_refl _
  | 3 => exact w.hc
theorem inbM : ∀ a, w.oM a + S1x1x256.size a ≤ S4x1x512.size a := by
  intro a; match a with
  | 0 => exact w.hj
  | 1 => exact Nat.le_refl _
  | 2 => exact w.hc
theorem inbA : ∀ a, w.oM a + S1x80x256.size a ≤ S4x80x512.size a := by
  intro a; match a with
  | 0 => exact w.hj
  | 1 => exact Nat.le_refl _
  | 2 => exact w.hc
theorem inbS : ∀ a, w.oU a + S1x512x256.size a ≤ S8x512x256.size a := by
  intro a; match a with
  | 0 => exact w.hu
  | 1 => exact Nat.le_refl _
  | 2 => exact Nat.le_refl _
theorem inbX : ∀ a, w.oU a + S1x1x256.size a ≤ S8x1x256.size a := by
  intro a; match a with
  | 0 => exact w.hu
  | 1 => exact Nat.le_refl _
  | 2 => exact Nat.le_refl _
end Col

/-- The units, in order. -/
def col : Fin 8 → Col
  | 0 => ⟨0, 0, 0, by decide, by decide, by decide⟩
  | 1 => ⟨1, 0, 256, by decide, by decide, by decide⟩
  | 2 => ⟨2, 1, 0, by decide, by decide, by decide⟩
  | 3 => ⟨3, 1, 256, by decide, by decide, by decide⟩
  | 4 => ⟨4, 2, 0, by decide, by decide, by decide⟩
  | 5 => ⟨5, 2, 256, by decide, by decide, by decide⟩
  | 6 => ⟨6, 3, 0, by decide, by decide, by decide⟩
  | 7 => ⟨7, 3, 256, by decide, by decide, by decide⟩

/-! ## The programs -/

/-- The kernel's programs. -/
abbrev P (F : FTy → Type) [FloatOps F] (α : Type) := Prog (TpuEff nD τ sig (Elt F) Λ₀ .tc) α

/-- A unit's queries. -/
def loadQ (R : Refs) (w : Col) : P F (FVec F S64x256 .bf16) := do
  let x : Vec F S1x1x64x256 .f32 ← Prog.lift (.load R.q (Rect.unit (s := S4x1x64x512) w.oQ S1x1x64x256.size w.inbQ).toLoadRect (View.loadsAt_vmem h_S1x1x64x256))
  pure (qBlk x)

/-- The block of keys at an offset. -/
def loadK (R : Refs) (off : Fin 4 → ℕ) (inb : ∀ a, off a + S1x1x512x64.size a ≤ S1x32x512x64.size a) : P F (FVec F S512x64 .bf16) := do
  let x : Vec F S1x1x512x64 .bf16 ← Prog.lift (.load R.k (Rect.unit (s := S1x32x512x64) off S1x1x512x64.size inb).toLoadRect (View.loadsAt_vmem h_S1x1x512x64))
  pure (kBlk x)

/-- The block of values at an offset. -/
def loadV (R : Refs) (off : Fin 4 → ℕ) (inb : ∀ a, off a + S1x1x64x512.size a ≤ S1x32x64x512.size a) : P F (FVec F S80x512 .bf16) := do
  let x : Vec F S1x1x64x512 .bf16 ← Prog.lift (.load R.v (Rect.unit (s := S1x32x64x512) off S1x1x64x512.size inb).toLoadRect (View.loadsAt_vmem h_S1x1x64x512))
  pure (vBlk x)

/-- A unit's scores of the next block and their maxima are stored. -/
def putS (R : Refs) (w : Col) (s : FVec F S512x256 .f32) : P F PUnit := do
  let _ : Vec F S1x512x256 .f32 ← Prog.lift (.load R.sN (Rect.unit (s := S8x512x256) w.oU S1x512x256.size w.inbS).toLoadRect (View.loadsAt_vmem h_S1x512x256))
  Prog.lift (.store R.sN (Rect.unit (s := S8x512x256) w.oU S1x512x256.size w.inbS) (toS s) Finset.univ (View.stores_vmem_bits_univ h_S1x512x256 rfl) (.inl rfl))
  let _ : Vec F S1x1x256 .f32 ← Prog.lift (.load R.xN (Rect.unit (s := S8x1x256) w.oU S1x1x256.size w.inbX).toLoadRect (View.loadsAt_vmem h_S1x1x256))
  Prog.lift (.store R.xN (Rect.unit (s := S8x1x256) w.oU S1x1x256.size w.inbX) (toX (colMax s)) Finset.univ (View.stores_vmem_bits_univ h_S1x1x256 rfl) (.inl rfl))

/-- A unit takes the scores of the next block. -/
def nextU (R : Refs) (k : FVec F S512x64 .bf16) (w : Col) : P F PUnit := do
  let q ← loadQ R w
  putS R w (scores k q)

/-- A unit folds the current block in. -/
def curU (R : Refs) (v : FVec F S80x512 .bf16) (w : Col) : P F PUnit := do
  let s : Vec F S1x512x256 .f32 ← Prog.lift (.load R.sC (Rect.unit (s := S8x512x256) w.oU S1x512x256.size w.inbS).toLoadRect (View.loadsAt_vmem h_S1x512x256))
  let m : Vec F S1x1x256 .f32 ← Prog.lift (.load R.m (Rect.unit (s := S4x1x512) w.oM S1x1x256.size w.inbM).toLoadRect (View.loadsAt_vmem h_S1x1x256))
  let x : Vec F S1x1x256 .f32 ← Prog.lift (.load R.xC (Rect.unit (s := S8x1x256) w.oU S1x1x256.size w.inbX).toLoadRect (View.loadsAt_vmem h_S1x1x256))
  let a : Vec F S1x80x256 .f32 ← Prog.lift (.load R.acc (Rect.unit (s := S4x80x512) w.oM S1x80x256.size w.inbA).toLoadRect (View.loadsAt_vmem h_S1x80x256))
  let _ : Vec F S1x80x256 .f32 ← Prog.lift (.load R.acc (Rect.unit (s := S4x80x512) w.oM S1x80x256.size w.inbA).toLoadRect (View.loadsAt_vmem h_S1x80x256))
  Prog.lift (.store R.acc (Rect.unit (s := S4x80x512) w.oM S1x80x256.size w.inbA)
    (toA (accNew v (ofS s) (ofX m) (maximumf (ofX m) (ofX x)) (ofA a))) Finset.univ (View.stores_vmem_bits_univ h_S1x80x256 rfl) (.inl rfl))
  let _ : Vec F S1x1x256 .f32 ← Prog.lift (.load R.m (Rect.unit (s := S4x1x512) w.oM S1x1x256.size w.inbM).toLoadRect (View.loadsAt_vmem h_S1x1x256))
  Prog.lift (.store R.m (Rect.unit (s := S4x1x512) w.oM S1x1x256.size w.inbM) (toX (maximumf (ofX m) (ofX x))) Finset.univ (View.stores_vmem_bits_univ h_S1x1x256 rfl) (.inl rfl))

/-- All eight units, in order. -/
def units (g : Col → P F PUnit) : P F PUnit := do
  g (col 0); g (col 1); g (col 2); g (col 3); g (col 4); g (col 5); g (col 6); g (col 7)

/-- A unit of a full stage. -/
def bothU (R : Refs) (k : FVec F S512x64 .bf16) (v : FVec F S80x512 .bf16) (w : Col) : P F PUnit := do
  nextU R k w
  curU R v w

/-- A full stage, the next block's keys and the current block's values at the offsets. -/
def stage (R : Refs) (ok : Fin 4 → ℕ) (hk : ∀ a, ok a + S1x1x512x64.size a ≤ S1x32x512x64.size a)
    (ov : Fin 4 → ℕ) (hv : ∀ a, ov a + S1x1x64x512.size a ≤ S1x32x64x512.size a) : P F PUnit := do
  let k ← loadK R ok hk
  let v ← loadV R ov hv
  units (bothU R k v)

/-- Two stages. -/
def trip (R : Refs) (ok : Fin 4 → ℕ) (hk : ∀ a, ok a + S1x1x512x64.size a ≤ S1x32x512x64.size a)
    (ov : Fin 4 → ℕ) (hv : ∀ a, ov a + S1x1x64x512.size a ≤ S1x32x64x512.size a)
    (ok' : Fin 4 → ℕ) (hk' : ∀ a, ok' a + S1x1x512x64.size a ≤ S1x32x512x64.size a)
    (ov' : Fin 4 → ℕ) (hv' : ∀ a, ov' a + S1x1x64x512.size a ≤ S1x32x64x512.size a) : P F PUnit := do
  stage R ok hk ov hv
  stage R.swap ok' hk' ov' hv'

/-- The start: nothing seen, then the first block's scores. -/
def start (R : Refs) : P F PUnit := do
  let _ : Vec F S4x1x512 .f32 ← Prog.lift (.load R.m (Rect.unit (s := S4x1x512) ![0, 0, 0] S4x1x512.size inb_S4x1x512_S4x1x512_0_0_0).toLoadRect (View.loadsAt_vmem h_S4x1x512))
  Prog.lift (.store R.m (Rect.unit (s := S4x1x512) ![0, 0, 0] S4x1x512.size inb_S4x1x512_S4x1x512_0_0_0)
    (shapeCast S4x1x512 (broadcast S4x1x512 (Scalar.ofBits (F := F) .f32 0xFF800000#32)) shapeCasts_S4x1x512_S4x1x512) Finset.univ (View.stores_vmem_bits_univ h_S4x1x512 rfl) (.inl rfl))
  let _ : Vec F S4x80x512 .f32 ← Prog.lift (.load R.acc (Rect.unit (s := S4x80x512) ![0, 0, 0] S4x80x512.size inb_S4x80x512_S4x80x512_0_0_0).toLoadRect (View.loadsAt_vmem h_S4x80x512))
  Prog.lift (.store R.acc (Rect.unit (s := S4x80x512) ![0, 0, 0] S4x80x512.size inb_S4x80x512_S4x80x512_0_0_0)
    (shapeCast S4x80x512 (broadcast S4x80x512 (Scalar.ofBits (F := F) .f32 0x00000000#32)) shapeCasts_S4x80x512_S4x80x512) Finset.univ (View.stores_vmem_bits_univ h_S4x80x512 rfl) (.inl rfl))
  let k ← loadK R ![0, 0, 0, 0] inb_S1x32x512x64_S1x1x512x64_0_0_0_0
  units (nextU R.swap k)

/-- A head's accumulated values and weights, divided. -/
def loadHead (R : Refs) (off off' : Fin 3 → ℕ) (ha : ∀ a, off a + S1x64x512.size a ≤ S4x80x512.size a)
    (hl : ∀ a, off' a + S1x1x512.size a ≤ S4x80x512.size a) : P F (FVec F S64x512 .f32) := do
  let a : Vec F S1x64x512 .f32 ← Prog.lift (.load R.acc (Rect.unit (s := S4x80x512) off S1x64x512.size ha).toLoadRect (View.loadsAt_vmem h_S1x64x512))
  let l : Vec F S1x1x512 .f32 ← Prog.lift (.load R.acc (Rect.unit (s := S4x80x512) off' S1x1x512.size hl).toLoadRect (View.loadsAt_vmem h_S1x1x512))
  pure (headOut a l)

/-- The end: the heads' quotients, in pairs. -/
def finish (R : Refs) : P F PUnit := do
  let x ← loadHead R ![0, 0, 0] ![0, 64, 0] inb_S4x80x512_S1x64x512_0_0_0 inb_S4x80x512_S1x1x512_0_64_0
  let y ← loadHead R ![1, 0, 0] ![1, 64, 0] inb_S4x80x512_S1x64x512_1_0_0 inb_S4x80x512_S1x1x512_1_64_0
  let _ : Vec F S512x128 .bf16 ← Prog.lift (.load R.o (Rect.unit (s := S512x256) ![0, 0] S512x128.size inb_S512x256_S512x128_0_0).toLoadRect (View.loadsAt_vmem h_S512x128))
  Prog.lift (.store R.o (Rect.unit (s := S512x256) ![0, 0] S512x128.size inb_S512x256_S512x128_0_0) (pairOut x y) Finset.univ (View.stores_vmem h_S512x128 (R.ho.storeExact_slice rfl _ packedbf16_S512x256_S512x128_0_0) (fun _ => rfl)) (.inl rfl))
  let x ← loadHead R ![2, 0, 0] ![2, 64, 0] inb_S4x80x512_S1x64x512_2_0_0 inb_S4x80x512_S1x1x512_2_64_0
  let y ← loadHead R ![3, 0, 0] ![3, 64, 0] inb_S4x80x512_S1x64x512_3_0_0 inb_S4x80x512_S1x1x512_3_64_0
  let _ : Vec F S512x128 .bf16 ← Prog.lift (.load R.o (Rect.unit (s := S512x256) ![0, 128] S512x128.size inb_S512x256_S512x128_0_128).toLoadRect (View.loadsAt_vmem h_S512x128))
  Prog.lift (.store R.o (Rect.unit (s := S512x256) ![0, 128] S512x128.size inb_S512x256_S512x128_0_128) (pairOut x y) Finset.univ (View.stores_vmem h_S512x128 (R.ho.storeExact_slice rfl _ packedbf16_S512x256_S512x128_0_128) (fun _ => rfl)) (.inl rfl))

/-- The counted loop of trips. -/
def loop1 (R : Refs) (i : grid0.Coords) : P F PUnit :=
  Scf.Loop.for (k0_t1_loop i) (k0_t1_ok i) (⟨⟩ : PUnit) fun t _ =>
    trip R (k0_off1 i t 1#32) (k0_off1_inb i t 0) (k0_off2 i t) (k0_off2_inb i t)
      (k0_off1 i t 2#32) (k0_off1_inb i t 1) (k0_off3 i t) (k0_off3_inb i t)

/-- The loop of the trips left over, of which there are none. -/
def loop2 (R : Refs) (i : grid0.Coords) : P F PUnit :=
  Scf.Loop.for (k0_t2_loop i) (k0_t2_ok i) (⟨⟩ : PUnit) fun t _ =>
    trip R (k0_off4 i t 1#32) (k0_off4_inb i t 0) (k0_off5 i t) (k0_off5_inb i t)
      (k0_off4 i t 2#32) (k0_off4_inb i t 1) (k0_off6 i t) (k0_off6_inb i t)

/-- The last two stages, and the end. -/
def last (R : Refs) : P F PUnit := do
  stage R ![0, 31, 0, 0] inb_S1x32x512x64_S1x1x512x64_0_31_0_0 ![0, 30, 0, 0] inb_S1x32x64x512_S1x1x64x512_0_30_0_0
  let v ← loadV R ![0, 31, 0, 0] inb_S1x32x64x512_S1x1x64x512_0_31_0_0
  units (curU R.swap v)
  finish R

/-- The whole body. -/
def body (R : Refs) (i : grid0.Coords) : P F PUnit := do
  start R
  loop1 R i
  loop2 R i
  last R

/-- What the last stage has loaded before its first unit's scores. -/
def lastHead (R : Refs) : P F (Σ' (_ : FVec F S512x64 .bf16) (_ : FVec F S80x512 .bf16), FVec F S64x256 .bf16) := do
  let k ← loadK R ![0, 31, 0, 0] inb_S1x32x512x64_S1x1x512x64_0_31_0_0
  let v ← loadV R ![0, 30, 0, 0] inb_S1x32x64x512_S1x1x64x512_0_30_0_0
  let q ← loadQ R (col 0)
  pure ⟨k, v, q⟩

/-- The last stages from there on. -/
def lastTail (R : Refs) (p : Σ' (_ : FVec F S512x64 .bf16) (_ : FVec F S80x512 .bf16), FVec F S64x256 .bf16) : P F PUnit := do
  putS R (col 0) (scores p.1 p.2.2)
  curU R p.2.1 (col 0)
  bothU R p.1 p.2.1 (col 1); bothU R p.1 p.2.1 (col 2); bothU R p.1 p.2.1 (col 3); bothU R p.1 p.2.1 (col 4)
  bothU R p.1 p.2.1 (col 5); bothU R p.1 p.2.1 (col 6); bothU R p.1 p.2.1 (col 7)
  let v ← loadV R ![0, 31, 0, 0] inb_S1x32x64x512_S1x1x64x512_0_31_0_0
  units (curU R.swap v)
  finish R

theorem last_eq (R : Refs) : last (F := F) R = lastHead R >>= lastTail R := rfl

set_option maxHeartbeats 4000000 in
/-- The printed body, cut where it is cut. -/
theorem body_cut (i : grid0.Coords) (a3 : Memref sig .tc .vmem S4x1x64x512 .f32) (h3 : a3.IsWhole)
    (a4 : Memref sig .tc .vmem S1x32x512x64 .bf16) (h4 : a4.IsWhole) (a5 : Memref sig .tc .vmem S1x32x64x512 .bf16) (h5 : a5.IsWhole)
    (a6 : Memref sig .tc .vmem S512x256 .bf16) (h6 : a6.IsWhole) (a7 : Memref sig .tc .vmem S4x1x512 .f32) (h7 : a7.IsWhole)
    (a8 : Memref sig .tc .vmem S4x80x512 .f32) (h8 : a8.IsWhole) (a9 : Memref sig .tc .vmem S8x512x256 .f32) (h9 : a9.IsWhole)
    (a10 : Memref sig .tc .vmem S8x512x256 .f32) (h10 : a10.IsWhole) (a11 : Memref sig .tc .vmem S8x1x256 .f32) (h11 : a11.IsWhole)
    (a12 : Memref sig .tc .vmem S8x1x256 .f32) (h12 : a12.IsWhole) :
    cc0_attn (F := F) i a3 h3 a4 h4 a5 h5 a6 h6 a7 h7 a8 h8 a9 h9 a10 h10 a11 h11 a12 h12
      = (let R : Refs := ⟨a3, a4, a5, a6, a7, a8, a9, a10, a11, a12, h6⟩
        start R >>= fun _ => ((loop1 R i >>= fun _ => loop2 R i >>= fun _ => lastHead R) >>= lastTail R)) := rfl

/-- The printed body is the program above. -/
theorem body_eq (i : grid0.Coords) (a3 : Memref sig .tc .vmem S4x1x64x512 .f32) (h3 : a3.IsWhole)
    (a4 : Memref sig .tc .vmem S1x32x512x64 .bf16) (h4 : a4.IsWhole) (a5 : Memref sig .tc .vmem S1x32x64x512 .bf16) (h5 : a5.IsWhole)
    (a6 : Memref sig .tc .vmem S512x256 .bf16) (h6 : a6.IsWhole) (a7 : Memref sig .tc .vmem S4x1x512 .f32) (h7 : a7.IsWhole)
    (a8 : Memref sig .tc .vmem S4x80x512 .f32) (h8 : a8.IsWhole) (a9 : Memref sig .tc .vmem S8x512x256 .f32) (h9 : a9.IsWhole)
    (a10 : Memref sig .tc .vmem S8x512x256 .f32) (h10 : a10.IsWhole) (a11 : Memref sig .tc .vmem S8x1x256 .f32) (h11 : a11.IsWhole)
    (a12 : Memref sig .tc .vmem S8x1x256 .f32) (h12 : a12.IsWhole) :
    cc0_attn (F := F) i a3 h3 a4 h4 a5 h5 a6 h6 a7 h7 a8 h8 a9 h9 a10 h10 a11 h11 a12 h12
      = body ⟨a3, a4, a5, a6, a7, a8, a9, a10, a11, a12, h6⟩ i := by
  rw [body_cut]
  simp only [body, last_eq, bind_assoc]

end Cert.KernelIdeal.Attn
-- ==== Proof.Rules.lean ====
/-
  Loads and stores through a memref owned at what it reads: a load continues at a window of that, a store leaves that
  with the payload put at the rectangle.
-/
module

public import Idealize.ShloMosaic.Lib.VecWindow
public import Idealize.ShloMosaic.Lib.Memref
public import Idealize.ShloMosaic.Lib.Writes
public import Idealize.ShloMosaic.Lib.Tactic

@[expose] public section

noncomputable section

namespace Cert.Proof.Rules

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels} [Preorder Lvl] {defs : Defs nD τ sig Val Λ}
variable (𝒱 : Variants) (c : Thread nD τ) (bd : Option 𝒱.V) (E : Set Name)
variable {cs : CoreSpace} {s : Shape} {e : EltTy} {α : Type} {Q : α → sProp (MT nD τ sig Ix Val Name U Lvl)}

/-- A load at a unit-stride rectangle continues at the window there of what the memref reads. -/
theorem wp_load_owns {m : Memref sig c.2.kind cs s e} {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α}
    {X : s.Idx → Val e} {q : PosShare TreeShare} :
    owns c m q X ⊢ iprop((owns c m q X -∗ wp frame (wpE defs 𝒱 c bd) E (k (VecWindow.window X off size inb)) Q)
      -∗ wp frame (wpE defs 𝒱 c bd) E (.op (.load m (Rect.unit off size inb).toLoadRect hl) k) Q) := by
  unfold owns
  iintro ⟨%f, %hf, H⟩ HK
  iapply (wp_load 𝒱 c bd E (Q := Q) (m := m) (r := (Rect.unit off size inb).toLoadRect) (hl := hl) (k := k) (q := q) (f := f)
    (S := m.view.set) (View.setOn_subset_set _ _)) $$ H
  iintro H
  rw [View.readAt_unit m.view f inb rfl inb, hf]
  iapply HK
  iexists f
  isplitr
  · ipureintro; exact hf
  · iexact H

/-- An unmasked store at a unit-stride rectangle leaves what the memref read with the payload put there. -/
theorem wp_store_owns {m : Memref sig c.2.kind cs s e} {off size : Fin s.rank → ℕ} {inb : ∀ a, off a + size a ≤ s.size a}
    {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} {X : s.Idx → Val e} :
    owns c m fullShare X ⊢ iprop((owns c m fullShare (VecWindow.put X off size w) -∗ wp frame (wpE defs 𝒱 c bd) E (k ⟨⟩) Q)
      -∗ wp frame (wpE defs 𝒱 c bd) E (.op (.store m (Rect.unit off size inb) w Finset.univ hx hm) k) Q) := by
  unfold owns
  iintro ⟨%f, %hf, H⟩ HK
  iapply (wp_store_writes₀ 𝒱 c bd E (Q := Q) (m := m) (r := Rect.unit off size inb) (w := w) (hx := hx) (hm := hm) (k := k) (f := f)
    (S := m.view.set) (by rw [View.set_slice]; exact View.setOn_subset_set _ _)) $$ H
  iintro H
  iapply HK
  iexists _
  isplitr
  · ipureintro; exact (View.read_writes_cons_put m.view f inb w [] rfl).trans (congrArg (VecWindow.put · off size w) hf)
  · iexact H

end Cert.Proof.Rules
-- ==== Proof.Run.lean ====
/-
  The run of the attention kernel's body: a state is what its buffers read, a triple takes a state to the state after,
  and every program of `Program` is given its triple.
-/
module

public import proofs.«01_k».proof.Proof.Program
public import proofs.«01_k».proof.Proof.Rules
public import proofs.«01_k».proof.Proof.Gen.KernelIdeal.Launch
public import Idealize.ShloMosaic.Lib.LoopRemainder

@[expose] public section

set_option maxRecDepth 65536

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Proof.Rules
open Facts₀ Facts

variable {F : FTy → Type} [FloatOps F] [Named F] [Facts]

/-- What the inputs' blocks read. -/
structure Inp (F : FTy → Type) where
  q : Vec F S4x1x64x512 .f32
  k : Vec F S1x32x512x64 .bf16
  v : Vec F S1x32x64x512 .bf16

/-- What the other buffers read. -/
structure St (F : FTy → Type) where
  o : Vec F S512x256 .bf16
  m : Vec F S4x1x512 .f32
  acc : Vec F S4x80x512 .f32
  sC : Vec F S8x512x256 .f32
  sN : Vec F S8x512x256 .f32
  xC : Vec F S8x1x256 .f32
  xN : Vec F S8x1x256 .f32

def St.swap (σ : St F) : St F := { σ with sC := σ.sN, sN := σ.sC, xC := σ.xN, xN := σ.xC }

/-- The kernel's assertions. -/
abbrev A (F : FTy → Type) [FloatOps F] := sProp (MT nD τ sig Unit (Elt F) ℕ (UR sig nD τ) ℕ)

variable (c : Dev nD) (R : Refs) (X : Inp F)

/-- The buffers read as the inputs and the state say. -/
def Holds (σ : St F) : A F :=
  iprop(owns (c : Thread nD τ) R.q fullShare X.q ∗ owns (c : Thread nD τ) R.k fullShare X.k ∗ owns (c : Thread nD τ) R.v fullShare X.v
    ∗ owns (c : Thread nD τ) R.o fullShare σ.o ∗ owns (c : Thread nD τ) R.m fullShare σ.m ∗ owns (c : Thread nD τ) R.acc fullShare σ.acc
    ∗ owns (c : Thread nD τ) R.sC fullShare σ.sC ∗ owns (c : Thread nD τ) R.sN fullShare σ.sN
    ∗ owns (c : Thread nD τ) R.xC fullShare σ.xC ∗ owns (c : Thread nD τ) R.xN fullShare σ.xN)

/-- The weakest precondition of a program of the kernel. -/
abbrev wpK {α : Type} (p : P F α) (Q : α → A F) : A F :=
  wp frame (wpE (defs₀ (F := F)) Variants.none (c : Thread nD τ) none) Set.univ p Q

/-- From the state `σ` the program ends in `σ'`, returning `r`. -/
def Triple {α : Type} (σ : St F) (p : P F α) (σ' : St F) (r : α) : Prop :=
  ∀ Q : α → A F, Holds c R X σ ⊢ iprop((Holds c R X σ' -∗ Q r) -∗ wpK c p Q)

variable {c R X}

namespace Triple

theorem reach {α : Type} {σ σ' σ'' : St F} {p : P F α} {a : α} (h : Triple c R X σ p σ' a) (e : σ' = σ'') : Triple c R X σ p σ'' a := e ▸ h

theorem pure {α : Type} (σ : St F) (a : α) : Triple c R X σ (Pure.pure a) σ a := fun Q => by
  iintro H HK
  iapply (le_wp_ret frame (wpE (defs₀ (F := F)) Variants.none (c : Thread nD τ) none) Set.univ a Q)
  iapply HK; iexact H

theorem bind {α β : Type} {σ σ' σ'' : St F} {p : P F α} {k : α → P F β} {a : α} {b : β}
    (h : Triple c R X σ p σ' a) (h' : Triple c R X σ' (k a) σ'' b) : Triple c R X σ (p >>= k) σ'' b := fun Q => by
  unfold wpK
  rw [wp_bind]
  iintro H HK
  iapply (h _) $$ H
  iintro H
  iapply (h' Q) $$ H
  iexact HK

theorem swap {α : Type} {σ σ' : St F} {p : P F α} {a : α} (h : Triple c R.swap X σ.swap p σ' a) :
    Triple c R X σ p σ'.swap a := fun Q => by
  have h1 : Holds c R X σ ⊢ Holds c R.swap X σ.swap := by
    unfold Holds Refs.swap St.swap
    iintro ⟨H1, H2, H3, H4, H5, H6, H7, H8, H9, H10⟩
    iframe
  have h2 : Holds c R.swap X σ' ⊢ Holds c R X σ'.swap := by
    unfold Holds Refs.swap St.swap
    iintro ⟨H1, H2, H3, H4, H5, H6, H7, H8, H9, H10⟩
    iframe
  iintro H HK
  ihave H := h1 $$ H
  iapply (h Q) $$ H
  iintro H
  iapply HK
  iapply h2; iexact H

/-- A load through a memref the state owns. -/
theorem load {σ : St F} {s : Shape} {e : EltTy} {m : Memref sig .tc .vmem s e} {off size : Fin s.rank → ℕ}
    {inb : ∀ a, off a + size a ≤ s.size a} {hl : m.view.LoadsAt (Rect.unit off size inb).toLoadRect} {x : s.Idx → Elt F e}
    (h : Holds c R X σ ⊢ iprop(owns (c : Thread nD τ) m fullShare x ∗ (owns (c : Thread nD τ) m fullShare x -∗ Holds c R X σ))) :
    Triple c R X σ (Prog.lift (.load m (Rect.unit off size inb).toLoadRect hl)) σ (VecWindow.window x off size inb) := fun Q => by
  iintro H HK
  ihave ⟨H, HZ⟩ := h $$ H
  iapply (wp_load_owns Variants.none (c : Thread nD τ) none Set.univ (m := m) (off := off) (size := size) (inb := inb) (hl := hl)) $$ H
  iintro H
  iapply (le_wp_ret frame (wpE (defs₀ (F := F)) Variants.none (c : Thread nD τ) none) Set.univ _ Q)
  iapply HK
  iapply HZ; iexact H

/-- A store through a memref the state owns. -/
theorem store {σ : St F} {s : Shape} {e : EltTy} {m : Memref sig .tc .vmem s e} {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {x : s.Idx → Elt F e} {g : (s.Idx → Elt F e) → St F}
    (h : Holds c R X σ ⊢ iprop(owns (c : Thread nD τ) m fullShare x ∗ (∀ y, owns (c : Thread nD τ) m fullShare y -∗ Holds c R X (g y)))) :
    Triple c R X σ (Prog.lift (.store m (Rect.unit off size inb) w Finset.univ hx hm)) (g (VecWindow.put x off size w)) ⟨⟩ := fun Q => by
  iintro H HK
  ihave ⟨H, HZ⟩ := h $$ H
  iapply (wp_store_owns Variants.none (c : Thread nD τ) none Set.univ (m := m) (off := off) (size := size) (inb := inb) (hx := hx) (hm := hm)) $$ H
  iintro H
  iapply (le_wp_ret frame (wpE (defs₀ (F := F)) Variants.none (c : Thread nD τ) none) Set.univ _ Q)
  iapply HK
  iapply HZ; iexact H

end Triple

/-! ## Taking one buffer out of the state, and putting another content back -/

section Take
variable (c R X) (σ : St F)

theorem take_q : Holds c R X σ ⊢ iprop(owns (c : Thread nD τ) R.q fullShare X.q ∗ (owns (c : Thread nD τ) R.q fullShare X.q -∗ Holds c R X σ)) := by
  unfold Holds
  iintro ⟨H1, H2, H3, H4, H5, H6, H7, H8, H9, H10⟩
  isplitl [H1]
  · iexact H1
  · iintro H1; iframe
theorem take_k : Holds c R X σ ⊢ iprop(owns (c : Thread nD τ) R.k fullShare X.k ∗ (owns (c : Thread nD τ) R.k fullShare X.k -∗ Holds c R X σ)) := by
  unfold Holds
  iintro ⟨H1, H2, H3, H4, H5, H6, H7, H8, H9, H10⟩
  isplitl [H2]
  · iexact H2
  · iintro H2; iframe
theorem take_v : Holds c R X σ ⊢ iprop(owns (c : Thread nD τ) R.v fullShare X.v ∗ (owns (c : Thread nD τ) R.v fullShare X.v -∗ Holds c R X σ)) := by
  unfold Holds
  iintro ⟨H1, H2, H3, H4, H5, H6, H7, H8, H9, H10⟩
  isplitl [H3]
  · iexact H3
  · iintro H3; iframe
theorem take_o : Holds c R X σ ⊢ iprop(owns (c : Thread nD τ) R.o fullShare σ.o
    ∗ (∀ y, owns (c : Thread nD τ) R.o fullShare y -∗ Holds c R X { σ with o := y })) := by
  unfold Holds
  iintro ⟨H1, H2, H3, H4, H5, H6, H7, H8, H9, H10⟩
  isplitl [H4]
  · iexact H4
  · iintro %y H4; iframe
theorem take_m : Holds c R X σ ⊢ iprop(owns (c : Thread nD τ) R.m fullShare σ.m
    ∗ (∀ y, owns (c : Thread nD τ) R.m fullShare y -∗ Holds c R X { σ with m := y })) := by
  unfold Holds
  iintro ⟨H1, H2, H3, H4, H5, H6, H7, H8, H9, H10⟩
  isplitl [H5]
  · iexact H5
  · iintro %y H5; iframe
theorem take_acc : Holds c R X σ ⊢ iprop(owns (c : Thread nD τ) R.acc fullShare σ.acc
    ∗ (∀ y, owns (c : Thread nD τ) R.acc fullShare y -∗ Holds c R X { σ with acc := y })) := by
  unfold Holds
  iintro ⟨H1, H2, H3, H4, H5, H6, H7, H8, H9, H10⟩
  isplitl [H6]
  · iexact H6
  · iintro %y H6; iframe
theorem take_sC : Holds c R X σ ⊢ iprop(owns (c : Thread nD τ) R.sC fullShare σ.sC
    ∗ (∀ y, owns (c : Thread nD τ) R.sC fullShare y -∗ Holds c R X { σ with sC := y })) := by
  unfold Holds
  iintro ⟨H1, H2, H3, H4, H5, H6, H7, H8, H9, H10⟩
  isplitl [H7]
  · iexact H7
  · iintro %y H7; iframe
theorem take_sN : Holds c R X σ ⊢ iprop(owns (c : Thread nD τ) R.sN fullShare σ.sN
    ∗ (∀ y, owns (c : Thread nD τ) R.sN fullShare y -∗ Holds c R X { σ with sN := y })) := by
  unfold Holds
  iintro ⟨H1, H2, H3, H4, H5, H6, H7, H8, H9, H10⟩
  isplitl [H8]
  · iexact H8
  · iintro %y H8; iframe
theorem take_xC : Holds c R X σ ⊢ iprop(owns (c : Thread nD τ) R.xC fullShare σ.xC
    ∗ (∀ y, owns (c : Thread nD τ) R.xC fullShare y -∗ Holds c R X { σ with xC := y })) := by
  unfold Holds
  iintro ⟨H1, H2, H3, H4, H5, H6, H7, H8, H9, H10⟩
  isplitl [H9]
  · iexact H9
  · iintro %y H9; iframe
theorem take_xN : Holds c R X σ ⊢ iprop(owns (c : Thread nD τ) R.xN fullShare σ.xN
    ∗ (∀ y, owns (c : Thread nD τ) R.xN fullShare y -∗ Holds c R X { σ with xN := y })) := by
  unfold Holds
  iintro ⟨H1, H2, H3, H4, H5, H6, H7, H8, H9, H10⟩
  isplitl [H10]
  · iexact H10
  · iintro %y H10; iframe

/-- A content put back as it was. -/
theorem same {s : Shape} {e : EltTy} {m : Memref sig .tc .vmem s e} {x : s.Idx → Elt F e} {g : (s.Idx → Elt F e) → St F}
    (h : Holds c R X σ ⊢ iprop(owns (c : Thread nD τ) m fullShare x ∗ (∀ y, owns (c : Thread nD τ) m fullShare y -∗ Holds c R X (g y))))
    (hg : g x = σ) : Holds c R X σ ⊢ iprop(owns (c : Thread nD τ) m fullShare x ∗ (owns (c : Thread nD τ) m fullShare x -∗ Holds c R X σ)) := by
  iintro H
  ihave ⟨H, HZ⟩ := h $$ H
  isplitl [H]
  · iexact H
  · iintro H
    ihave H := HZ $$ H
    rw [hg]
    iexact H

end Take

/-! ## The steps of a unit -/

/-- A unit's queries, as the input's block has them. -/
def qOf (X : Inp F) (w : Col) : FVec F S64x256 .bf16 := qBlk (VecWindow.window X.q w.oQ S1x1x64x256.size w.inbQ)

/-- A unit's scores of a block, stored with their maxima. -/
def St.next (X : Inp F) (k : FVec F S512x64 .bf16) (w : Col) (σ : St F) : St F :=
  { σ with sN := VecWindow.put σ.sN w.oU S1x512x256.size (toS (scores k (qOf X w)))
           xN := VecWindow.put σ.xN w.oU S1x1x256.size (toX (colMax (scores k (qOf X w)))) }

namespace St
variable (σ : St F) (w : Col)
/-- A unit's part of each buffer. -/
def seeS : FVec F S512x256 .f32 := ofS (VecWindow.window σ.sC w.oU S1x512x256.size w.inbS)
def seeX : FVec F S1x256 .f32 := ofX (VecWindow.window σ.xC w.oU S1x1x256.size w.inbX)
def seeS' : FVec F S512x256 .f32 := ofS (VecWindow.window σ.sN w.oU S1x512x256.size w.inbS)
def seeX' : FVec F S1x256 .f32 := ofX (VecWindow.window σ.xN w.oU S1x1x256.size w.inbX)
def seeM : FVec F S1x256 .f32 := ofX (VecWindow.window σ.m w.oM S1x1x256.size w.inbM)
def seeA : FVec F S80x256 .f32 := ofA (VecWindow.window σ.acc w.oM S1x80x256.size w.inbA)
end St

/-- A unit's scores of the current block, folded in. -/
def St.cur (v : FVec F S80x512 .bf16) (w : Col) (σ : St F) : St F :=
  { σ with acc := VecWindow.put σ.acc w.oM S1x80x256.size
             (toA (accNew v (σ.seeS w) (σ.seeM w) (maximumf (σ.seeM w) (σ.seeX w)) (σ.seeA w)))
           m := VecWindow.put σ.m w.oM S1x1x256.size (toX (maximumf (σ.seeM w) (σ.seeX w))) }

theorem triple_nextU (k : FVec F S512x64 .bf16) (w : Col) (σ : St F) :
    Triple c R X σ (nextU R k w) (σ.next X k w) ⟨⟩ :=
  Triple.bind (Triple.bind (Triple.load (take_q c R X σ)) (Triple.pure _ _))
    (Triple.bind (Triple.load (same c R X _ (take_sN c R X _) rfl)) <|
      Triple.bind (Triple.store (take_sN c R X _)) <|
      Triple.bind (Triple.load (same c R X _ (take_xN c R X _) rfl)) <|
      Triple.store (take_xN c R X _))

theorem triple_curU (v : FVec F S80x512 .bf16) (w : Col) (σ : St F) :
    Triple c R X σ (curU R v w) (σ.cur v w) ⟨⟩ := by
  unfold curU
  refine Triple.bind (Triple.load (same c R X _ (take_sC c R X _) rfl)) ?_
  refine Triple.bind (Triple.load (same c R X _ (take_m c R X _) rfl)) ?_
  refine Triple.bind (Triple.load (same c R X _ (take_xC c R X _) rfl)) ?_
  refine Triple.bind (Triple.load (same c R X _ (take_acc c R X _) rfl)) ?_
  refine Triple.bind (Triple.load (same c R X _ (take_acc c R X _) rfl)) ?_
  refine Triple.bind (Triple.store (take_acc c R X _)) ?_
  refine Triple.bind (Triple.load (same c R X _ (take_m c R X _) rfl)) ?_
  refine Triple.reach (Triple.store (take_m c R X _)) ?_
  unfold St.cur St.seeM St.seeX St.seeS St.seeA; rfl

/-! ## The blocks of keys and values, by number -/

theorem inbK (n : ℕ) : ∀ a, (![0, n % 32, 0, 0] : Fin 4 → ℕ) a + S1x1x512x64.size a ≤ S1x32x512x64.size a := by
  have := Nat.mod_lt n (show 0 < 32 by decide)
  intro a; match a with
  | 0 => exact Nat.le_refl _
  | 1 => exact this
  | 2 => exact Nat.le_refl _
  | 3 => exact Nat.le_refl _
theorem inbV (n : ℕ) : ∀ a, (![0, n % 32, 0, 0] : Fin 4 → ℕ) a + S1x1x64x512.size a ≤ S1x32x64x512.size a := by
  have := Nat.mod_lt n (show 0 < 32 by decide)
  intro a; match a with
  | 0 => exact Nat.le_refl _
  | 1 => exact this
  | 2 => exact Nat.le_refl _
  | 3 => exact Nat.le_refl _

/-- The key block numbered `n`. -/
def kAt (X : Inp F) (n : ℕ) : FVec F S512x64 .bf16 := kBlk (VecWindow.window X.k ![0, n % 32, 0, 0] S1x1x512x64.size (inbK n))
/-- The value block numbered `n`, with its rows of ones. -/
def vAt (X : Inp F) (n : ℕ) : FVec F S80x512 .bf16 := vBlk (VecWindow.window X.v ![0, n % 32, 0, 0] S1x1x64x512.size (inbV n))

theorem triple_loadK (σ : St F) (n : ℕ) {off : Fin 4 → ℕ} (e : off = ![0, n % 32, 0, 0]) (inb) :
    Triple c R X σ (loadK R off inb) σ (kAt X n) := by
  subst e
  exact Triple.bind (Triple.load (take_k c R X σ)) (Triple.pure _ _)

theorem triple_loadV (σ : St F) (n : ℕ) {off : Fin 4 → ℕ} (e : off = ![0, n % 32, 0, 0]) (inb) :
    Triple c R X σ (loadV R off inb) σ (vAt X n) := by
  subst e
  exact Triple.bind (Triple.load (take_v c R X σ)) (Triple.pure _ _)

/-! ## The stages -/

/-- The eight units' steps, in order. -/
def St.units (f : Col → St F → St F) (σ : St F) : St F :=
  f (col 7) (f (col 6) (f (col 5) (f (col 4) (f (col 3) (f (col 2) (f (col 1) (f (col 0) σ)))))))

theorem triple_units {g : Col → P F PUnit} {f : Col → St F → St F} (h : ∀ w σ, Triple c R X σ (g w) (f w σ) ⟨⟩) (σ : St F) :
    Triple c R X σ (units g) (σ.units f) ⟨⟩ :=
  Triple.bind (h _ _) <| Triple.bind (h _ _) <| Triple.bind (h _ _) <| Triple.bind (h _ _) <|
  Triple.bind (h _ _) <| Triple.bind (h _ _) <| Triple.bind (h _ _) <| h _ _

/-- A full stage: the scores of key block `nk`, and the current block folded in with value block `nv`. -/
def St.stage (X : Inp F) (nk nv : ℕ) (σ : St F) : St F :=
  σ.units fun w σ => (σ.next X (kAt X nk) w).cur (vAt X nv) w

theorem triple_stage (σ : St F) (nk nv : ℕ) {ok ov : Fin 4 → ℕ} (ek : ok = ![0, nk % 32, 0, 0]) (ev : ov = ![0, nv % 32, 0, 0]) (hk) (hv) :
    Triple c R X σ (stage R ok hk ov hv) (σ.stage X nk nv) ⟨⟩ :=
  Triple.bind (triple_loadK σ nk ek hk) <| Triple.bind (triple_loadV σ nv ev hv) <|
  triple_units (fun w σ => Triple.bind (triple_nextU _ w σ) (triple_curU _ w _)) σ

/-- The two stages of trip `t`. -/
def St.trip (X : Inp F) (t : ℕ) (σ : St F) : St F :=
  (((σ.stage X (2 * t + 1) (2 * t)).swap).stage X (2 * t + 2) (2 * t + 1)).swap

theorem triple_trip (σ : St F) (t : ℕ) {ok ov ok' ov' : Fin 4 → ℕ} (ek : ok = ![0, (2 * t + 1) % 32, 0, 0])
    (ev : ov = ![0, (2 * t) % 32, 0, 0]) (ek' : ok' = ![0, (2 * t + 2) % 32, 0, 0]) (ev' : ov' = ![0, (2 * t + 1) % 32, 0, 0]) (hk) (hv) (hk') (hv') :
    Triple c R X σ (trip R ok hk ov hv ok' hk' ov' hv') (σ.trip X t) ⟨⟩ :=
  Triple.bind (triple_stage σ _ _ ek ev hk hv) <| Triple.swap (triple_stage _ _ _ ek' ev' hk' hv')

/-! ## The loops -/

/-- `n` steps from a state. -/
def St.iter (f : ℕ → St F → St F) (σ : St F) : ℕ → St F
  | 0 => σ
  | n + 1 => f n (St.iter f σ n)

theorem triple_for (l : Scf.Loop 32) (hok : l.OK) (g : Fin l.trips → PUnit → P F PUnit) (f : ℕ → St F → St F)
    (h : ∀ (t : Fin l.trips) σ, Triple c R X σ (g t ⟨⟩) (f t.val σ) ⟨⟩) (σ : St F) :
    Triple c R X σ (l.for hok ⟨⟩ g) (σ.iter f l.trips) ⟨⟩ := fun Q => by
  unfold wpK Scf.Loop.for
  iintro H HK
  iapply (Scf.wp_for frame (wpE (defs₀ (F := F)) Variants.none (c : Thread nD τ) none) Set.univ l.lb l.ub l.st hok ⟨⟩ g
    (fun n _ => Holds c R X (σ.iter f n)) (fun t _ => by
      iintro H
      iapply (h t _ _) $$ H
      iintro H; iexact H))
  isplitl [H]
  · iexact H
  · iintro %_ H
    iapply HK; iexact H

theorem trips1 (i : grid0.Coords) : (k0_t1_loop i).trips = 15 := by
  have h : ∀ n : Fin 32, Scf.trips 0#32 (Scalar.addi 0#32 (Scalar.muli (Scalar.divsi (Scalar.subi (Scalar.addi 15#32
      (Scalar.minsi (BitVec.ofNat 32 n.val) 0#32)) 0#32) 1#32) 1#32)) 1#32 = 15 := by decide +kernel
  exact h (i 2)

theorem trips2 (i : grid0.Coords) : (k0_t2_loop i).trips = 0 := Scf.rem_trips _ _

theorem idx_k (t : ℕ) (ht : t < 15) : (Scalar.indexCast (Scalar.addi (Scalar.muli 2#32 (Scf.iv 0#32 1#32 t)) 1#32)).toNat = (2 * t + 1) % 32
    ∧ (Scalar.indexCast (Scalar.addi (Scalar.muli 2#32 (Scf.iv 0#32 1#32 t)) 2#32)).toNat = (2 * t + 2) % 32
    ∧ (Scalar.indexCast (Scalar.muli 2#32 (Scf.iv 0#32 1#32 t))).toNat = (2 * t) % 32 :=
  (by decide +kernel : ∀ t : Fin 15, (Scalar.indexCast (Scalar.addi (Scalar.muli 2#32 (Scf.iv 0#32 1#32 t.val)) 1#32)).toNat = (2 * t.val + 1) % 32
    ∧ (Scalar.indexCast (Scalar.addi (Scalar.muli 2#32 (Scf.iv 0#32 1#32 t.val)) 2#32)).toNat = (2 * t.val + 2) % 32
    ∧ (Scalar.indexCast (Scalar.muli 2#32 (Scf.iv 0#32 1#32 t.val))).toNat = (2 * t.val) % 32) ⟨t, ht⟩

/-- The offset of a block, from its number. -/
theorem off_of {n m : ℕ} (h : n = m) : (![0, n, 0, 0] : Fin 4 → ℕ) = ![0, m, 0, 0] := h ▸ rfl

theorem triple_loop1 (i : grid0.Coords) (σ : St F) : Triple c R X σ (loop1 R i) (σ.iter (fun t σ => σ.trip X t) 15) ⟨⟩ := by
  have h := triple_for (c := c) (R := R) (X := X) (k0_t1_loop i) (k0_t1_ok i) (fun t _ =>
    trip R (k0_off1 i t 1#32) (k0_off1_inb i t 0) (k0_off2 i t) (k0_off2_inb i t)
      (k0_off1 i t 2#32) (k0_off1_inb i t 1) (k0_off3 i t) (k0_off3_inb i t)) (fun t σ => σ.trip X t) (fun t σ => by
    have ht : t.val < 15 := lt_of_lt_of_eq t.isLt (trips1 i)
    obtain ⟨e1, e2, e0⟩ := idx_k t.val ht
    exact triple_trip σ t.val (off_of e1) (off_of e0) (off_of e2) (off_of e1) _ _ _ _) σ
  exact Triple.reach h (by rw [trips1 i])

theorem triple_loop2 (i : grid0.Coords) (σ : St F) : Triple c R X σ (loop2 R i) σ ⟨⟩ := by
  unfold loop2
  exact Triple.reach (triple_for (k0_t2_loop i) _ _ (fun _ σ => σ) (fun t _ => absurd (lt_of_lt_of_eq t.isLt (trips2 i)) (Nat.not_lt_zero _)) σ)
    (by rw [trips2 i]; rfl)

/-! ## The start and the end -/

/-- Nothing seen, then the first block's scores. -/
def St.start (X : Inp F) (σ : St F) : St F :=
  (({ σ with
      m := VecWindow.put σ.m ![0, 0, 0] S4x1x512.size (shapeCast S4x1x512 (broadcast S4x1x512 (Scalar.ofBits (F := F) .f32 0xFF800000#32)) shapeCasts_S4x1x512_S4x1x512)
      acc := VecWindow.put σ.acc ![0, 0, 0] S4x80x512.size (shapeCast S4x80x512 (broadcast S4x80x512 (Scalar.ofBits (F := F) .f32 0x00000000#32)) shapeCasts_S4x80x512_S4x80x512) } : St F).swap.units
    fun w σ => σ.next X (kAt X 0) w).swap

theorem triple_start (σ : St F) : Triple c R X σ (start R) (σ.start X) ⟨⟩ := by
  unfold start
  refine Triple.bind (Triple.load (same c R X _ (take_m c R X _) rfl)) ?_
  refine Triple.bind (Triple.store (take_m c R X _)) ?_
  refine Triple.bind (Triple.load (same c R X _ (take_acc c R X _) rfl)) ?_
  refine Triple.bind (Triple.store (take_acc c R X _)) ?_
  refine Triple.bind (triple_loadK _ 0 rfl _) ?_
  exact Triple.swap (triple_units (fun w σ => triple_nextU _ w σ) _)

/-- A head's rows over its weights. -/
def headAt (a : Vec F S4x80x512 .f32) (off off' : Fin 3 → ℕ) (ha : ∀ b, off b + S1x64x512.size b ≤ S4x80x512.size b)
    (hl : ∀ b, off' b + S1x1x512.size b ≤ S4x80x512.size b) : FVec F S64x512 .f32 :=
  headOut (VecWindow.window a off S1x64x512.size ha) (VecWindow.window a off' S1x1x512.size hl)

theorem triple_loadHead (σ : St F) (off off' ha hl) : Triple c R X σ (loadHead R off off' ha hl) σ (headAt σ.acc off off' ha hl) :=
  Triple.bind (Triple.load (same c R X _ (take_acc c R X _) rfl)) <|
  Triple.bind (Triple.load (same c R X _ (take_acc c R X _) rfl)) <| Triple.pure _ _

/-- The two pairs of heads, from the accumulator. -/
def pair0 (a : Vec F S4x80x512 .f32) : FVec F S512x128 .bf16 :=
  pairOut (headAt a ![0, 0, 0] ![0, 64, 0] inb_S4x80x512_S1x64x512_0_0_0 inb_S4x80x512_S1x1x512_0_64_0)
    (headAt a ![1, 0, 0] ![1, 64, 0] inb_S4x80x512_S1x64x512_1_0_0 inb_S4x80x512_S1x1x512_1_64_0)
def pair1 (a : Vec F S4x80x512 .f32) : FVec F S512x128 .bf16 :=
  pairOut (headAt a ![2, 0, 0] ![2, 64, 0] inb_S4x80x512_S1x64x512_2_0_0 inb_S4x80x512_S1x1x512_2_64_0)
    (headAt a ![3, 0, 0] ![3, 64, 0] inb_S4x80x512_S1x64x512_3_0_0 inb_S4x80x512_S1x1x512_3_64_0)

/-- The output block, written over what was there. -/
def outOver (o : Vec F S512x256 .bf16) (a : Vec F S4x80x512 .f32) : Vec F S512x256 .bf16 :=
  VecWindow.put (VecWindow.put o ![0, 0] S512x128.size (pair0 a)) ![0, 128] S512x128.size (pair1 a)

theorem triple_finish (σ : St F) : Triple c R X σ (finish R) { σ with o := outOver σ.o σ.acc } ⟨⟩ := by
  unfold finish
  refine Triple.bind (triple_loadHead _ _ _ _ _) ?_
  refine Triple.bind (triple_loadHead _ _ _ _ _) ?_
  refine Triple.bind (Triple.load (same c R X _ (take_o c R X _) rfl)) ?_
  refine Triple.bind (Triple.store (take_o c R X _)) ?_
  refine Triple.bind (triple_loadHead _ _ _ _ _) ?_
  refine Triple.bind (triple_loadHead _ _ _ _ _) ?_
  refine Triple.bind (Triple.load (same c R X _ (take_o c R X _) rfl)) ?_
  refine Triple.reach (Triple.store (take_o c R X _)) ?_
  unfold outOver pair0 pair1
  rfl

/-- The state before the output is written. -/
def St.swept (X : Inp F) (σ : St F) : St F :=
  ((((σ.start X).iter (fun t σ => σ.trip X t) 15).stage X 31 30).swap.units fun w σ => σ.cur (vAt X 31) w).swap

theorem triple_body (i : grid0.Coords) (σ : St F) :
    Triple c R X σ (body R i) { σ.swept X with o := outOver (σ.swept X).o (σ.swept X).acc } ⟨⟩ := by
  unfold body last
  refine Triple.bind (triple_start _) ?_
  refine Triple.bind (triple_loop1 i _) ?_
  refine Triple.bind (triple_loop2 i _) ?_
  refine Triple.bind (triple_stage _ 31 30 rfl rfl _ _) ?_
  refine Triple.bind (triple_loadV _ 31 rfl _) ?_
  refine Triple.bind (Triple.swap (triple_units (fun w σ => triple_curU _ w σ) _)) ?_
  exact triple_finish _

end Cert.KernelIdeal.Attn
-- ==== Proof.Sweep.lean ====
/-
  What a body's sweep over the key blocks leaves: each unit's running maximum and accumulator by recursion over the
  blocks, whatever the scratch buffers read before, and the output block written from them.
-/
module

public import proofs.«01_k».proof.Proof.Run
public import Idealize.ShloMosaic.Lib.ValueLayout

@[expose] public section

set_option maxRecDepth 65536

noncomputable section

namespace Cert.KernelIdeal.Attn

open Idealize.ShloMosaic Idealize.ShloMosaic.TcCoe Idealize.ShloMosaic.ValueIdx
open Facts₀ Facts

variable {F : FTy → Type} [FloatOps F] [Named F] [Facts]

theorem ofS_toS (s : FVec F S512x256 .f32) : ofS (toS s) = s := by unfold ofS toS; exact shapeCast_shapeCast _ _ _
theorem ofX_toX (s : FVec F S1x256 .f32) : ofX (toX s) = s := by unfold ofX toX; exact shapeCast_shapeCast _ _ _
theorem ofA_toA (s : FVec F S80x256 .f32) : ofA (toA s) = s := by unfold ofA toA; exact shapeCast_shapeCast _ _ _
theorem toA_ofA (s : Vec F S1x80x256 .f32) : toA (ofA s) = s := by unfold ofA toA; exact shapeCast_shapeCast _ _ _

/-- Two units lie apart. -/
theorem apart (u u' : Fin 8) (h : u ≠ u') : ((col u).u < (col u').u ∨ (col u').u < (col u).u) ∧
    (((col u).j < (col u').j ∨ (col u').j < (col u).j) ∨ ((col u').c + 256 ≤ (col u).c ∨ (col u).c + 256 ≤ (col u').c)) := by
  revert u u'; decide

section Window
variable {α : Type}

theorem window_U (x : S8x512x256.Idx → α) (u u' : Fin 8) (h : u ≠ u') (w : ((a : Fin 3) → Fin (S1x512x256.size a)) → α) :
    VecWindow.window (VecWindow.put x (col u).oU S1x512x256.size w) (col u').oU S1x512x256.size (col u').inbS
      = VecWindow.window x (col u').oU S1x512x256.size (col u').inbS :=
  VecWindow.window_put_of_disjoint x _ _ _ _ _ w 0 (by
    have := (apart u u' h).1
    show (col u').u + 1 ≤ (col u).u ∨ (col u).u + 1 ≤ (col u').u
    omega)

theorem window_UX (x : S8x1x256.Idx → α) (u u' : Fin 8) (h : u ≠ u') (w : ((a : Fin 3) → Fin (S1x1x256.size a)) → α) :
    VecWindow.window (VecWindow.put x (col u).oU S1x1x256.size w) (col u').oU S1x1x256.size (col u').inbX
      = VecWindow.window x (col u').oU S1x1x256.size (col u').inbX :=
  VecWindow.window_put_of_disjoint x _ _ _ _ _ w 0 (by
    have := (apart u u' h).1
    show (col u').u + 1 ≤ (col u).u ∨ (col u).u + 1 ≤ (col u').u
    omega)

theorem window_M (x : S4x1x512.Idx → α) (u u' : Fin 8) (h : u ≠ u') (w : ((a : Fin 3) → Fin (S1x1x256.size a)) → α) :
    VecWindow.window (VecWindow.put x (col u).oM S1x1x256.size w) (col u').oM S1x1x256.size (col u').inbM
      = VecWindow.window x (col u').oM S1x1x256.size (col u').inbM := by
  rcases (apart u u' h).2 with h | h
  · exact VecWindow.window_put_of_disjoint x _ _ _ _ _ w 0 (by
      show (col u').j + 1 ≤ (col u).j ∨ (col u).j + 1 ≤ (col u').j
      omega)
  · exact VecWindow.window_put_of_disjoint x _ _ _ _ _ w 2 h

theorem window_A (x : S4x80x512.Idx → α) (u u' : Fin 8) (h : u ≠ u') (w : ((a : Fin 3) → Fin (S1x80x256.size a)) → α) :
    VecWindow.window (VecWindow.put x (col u).oM S1x80x256.size w) (col u').oM S1x80x256.size (col u').inbA
      = VecWindow.window x (col u').oM S1x80x256.size (col u').inbA := by
  rcases (apart u u' h).2 with h | h
  · exact VecWindow.window_put_of_disjoint x _ _ _ _ _ w 0 (by
      show (col u').j + 1 ≤ (col u).j ∨ (col u).j + 1 ≤ (col u').j
      omega)
  · exact VecWindow.window_put_of_disjoint x _ _ _ _ _ w 2 h
end Window

/-! ## What a unit sees -/

/-- A unit's part of the scratch buffers. -/
structure See (F : FTy → Type) where
  s : FVec F S512x256 .f32
  x : FVec F S1x256 .f32
  s' : FVec F S512x256 .f32
  x' : FVec F S1x256 .f32
  m : FVec F S1x256 .f32
  a : FVec F S80x256 .f32

def St.see (σ : St F) (w : Col) : See F := ⟨σ.seeS w, σ.seeX w, σ.seeS' w, σ.seeX' w, σ.seeM w, σ.seeA w⟩

variable (X : Inp F)

def See.next (k : FVec F S512x64 .bf16) (w : Col) (e : See F) : See F :=
  { e with s' := scores k (qOf X w), x' := colMax (scores k (qOf X w)) }
def See.cur (v : FVec F S80x512 .bf16) (e : See F) : See F :=
  { e with m := maximumf e.m e.x, a := accNew v e.s e.m (maximumf e.m e.x) e.a }
def See.swap (e : See F) : See F := { e with s := e.s', s' := e.s, x := e.x', x' := e.x }

theorem see_swap (σ : St F) (w : Col) : σ.swap.see w = (σ.see w).swap := rfl

theorem seeA_swap (σ : St F) (w : Col) : σ.swap.seeA w = σ.seeA w := rfl

theorem see_next (k : FVec F S512x64 .bf16) (w : Col) (σ : St F) : (σ.next X k w).see w = (σ.see w).next X k w := by
  unfold St.see St.next See.next St.seeS' St.seeX' St.seeS St.seeX St.seeM St.seeA
  dsimp only
  rw [VecWindow.window_put_same, VecWindow.window_put_same, ofS_toS, ofX_toX]

theorem see_next' (k : FVec F S512x64 .bf16) (u u' : Fin 8) (h : u ≠ u') (σ : St F) :
    (σ.next X k (col u)).see (col u') = σ.see (col u') := by
  unfold St.see St.next St.seeS' St.seeX' St.seeS St.seeX St.seeM St.seeA
  dsimp only
  rw [window_U _ u u' h, window_UX _ u u' h]

theorem see_cur (v : FVec F S80x512 .bf16) (w : Col) (σ : St F) : (σ.cur v w).see w = (σ.see w).cur v := by
  unfold St.see St.cur See.cur St.seeS' St.seeX' St.seeS St.seeX St.seeM St.seeA
  dsimp only
  rw [VecWindow.window_put_same, VecWindow.window_put_same, ofA_toA, ofX_toX]

theorem see_cur' (v : FVec F S80x512 .bf16) (u u' : Fin 8) (h : u ≠ u') (σ : St F) :
    (σ.cur v (col u)).see (col u') = σ.see (col u') := by
  unfold St.see St.cur St.seeS' St.seeX' St.seeS St.seeX St.seeM St.seeA
  dsimp only
  rw [window_M _ u u' h, window_A _ u u' h]

/-- All units' steps: each unit sees its own. -/
theorem see_units {f : Col → St F → St F} {g : Col → See F → See F} (h : ∀ w σ, (f w σ).see w = g w (σ.see w))
    (h' : ∀ u u', u ≠ u' → ∀ σ, (f (col u) σ).see (col u') = σ.see (col u')) (σ : St F) (u : Fin 8) :
    (σ.units f).see (col u) = g (col u) (σ.see (col u)) := by
  unfold St.units
  match u with
  | 0 => rw [h' 7 0 (by decide), h' 6 0 (by decide), h' 5 0 (by decide), h' 4 0 (by decide), h' 3 0 (by decide), h' 2 0 (by decide), h' 1 0 (by decide), h]
  | 1 => rw [h' 7 1 (by decide), h' 6 1 (by decide), h' 5 1 (by decide), h' 4 1 (by decide), h' 3 1 (by decide), h' 2 1 (by decide), h, h' 0 1 (by decide)]
  | 2 => rw [h' 7 2 (by decide), h' 6 2 (by decide), h' 5 2 (by decide), h' 4 2 (by decide), h' 3 2 (by decide), h, h' 1 2 (by decide), h' 0 2 (by decide)]
  | 3 => rw [h' 7 3 (by decide), h' 6 3 (by decide), h' 5 3 (by decide), h' 4 3 (by decide), h, h' 2 3 (by decide), h' 1 3 (by decide), h' 0 3 (by decide)]
  | 4 => rw [h' 7 4 (by decide), h' 6 4 (by decide), h' 5 4 (by decide), h, h' 3 4 (by decide), h' 2 4 (by decide), h' 1 4 (by decide), h' 0 4 (by decide)]
  | 5 => rw [h' 7 5 (by decide), h' 6 5 (by decide), h, h' 4 5 (by decide), h' 3 5 (by decide), h' 2 5 (by decide), h' 1 5 (by decide), h' 0 5 (by decide)]
  | 6 => rw [h' 7 6 (by decide), h, h' 5 6 (by decide), h' 4 6 (by decide), h' 3 6 (by decide), h' 2 6 (by decide), h' 1 6 (by decide), h' 0 6 (by decide)]
  | 7 => rw [h, h' 6 7 (by decide), h' 5 7 (by decide), h' 4 7 (by decide), h' 3 7 (by decide), h' 2 7 (by decide), h' 1 7 (by decide), h' 0 7 (by decide)]

/-! ## The recursion over the blocks -/

/-- The scores of key block `n`. -/
def Sc (w : Col) (n : ℕ) : FVec F S512x256 .f32 := scores (kAt X n) (qOf X w)

/-- The greatest score before key block `n`. -/
def Mx (w : Col) : ℕ → FVec F S1x256 .f32
  | 0 => broadcast S1x256 (Scalar.ofBits (F := F) .f32 0xFF800000#32)
  | n + 1 => maximumf (Mx w n) (colMax (Sc X w n))

/-- The accumulator before key block `n`. -/
def Ac (w : Col) : ℕ → FVec F S80x256 .f32
  | 0 => broadcast S80x256 (Scalar.ofBits (F := F) .f32 0x00000000#32)
  | n + 1 => accNew (vAt X n) (Sc X w n) (Mx X w n) (Mx X w (n + 1)) (Ac w n)

theorem Mx_succ (w : Col) (n : ℕ) : Mx X w (n + 1) = maximumf (Mx X w n) (colMax (Sc X w n)) := rfl
theorem Ac_succ (w : Col) (n : ℕ) : Ac X w (n + 1) = accNew (vAt X n) (Sc X w n) (Mx X w n) (Mx X w (n + 1)) (Ac X w n) := rfl

/-- The current buffers hold block `n`'s scores, and everything before is folded in. -/
def At (n : ℕ) (σ : St F) : Prop :=
  ∀ u, (σ.see (col u)).s = Sc X (col u) n ∧ (σ.see (col u)).x = colMax (Sc X (col u) n)
    ∧ (σ.see (col u)).m = Mx X (col u) n ∧ (σ.see (col u)).a = Ac X (col u) n

theorem at_stage {n : ℕ} {σ : St F} (h : At X n σ) : At X (n + 1) (σ.stage X (n + 1) n).swap := fun u => by
  have e : ((σ.stage X (n + 1) n).swap).see (col u) = ((((σ.see (col u)).next X (kAt X (n + 1)) (col u)).cur (vAt X n))).swap := by
    rw [see_swap]
    exact congrArg See.swap (see_units (f := fun w σ => (σ.next X (kAt X (n + 1)) w).cur (vAt X n) w)
      (g := fun w e => (e.next X (kAt X (n + 1)) w).cur (vAt X n)) (fun w σ => by rw [see_cur, see_next])
      (fun u u' h σ => by rw [see_cur' _ u u' h, see_next' X _ u u' h]) σ u)
  obtain ⟨h1, h2, h3, h4⟩ := h u
  rw [e]
  refine ⟨by dsimp only [See.swap, See.cur, See.next, Sc], by dsimp only [See.swap, See.cur, See.next, Sc], ?_, ?_⟩
  · show maximumf (σ.see (col u)).m (σ.see (col u)).x = _
    rw [h2, h3, Mx_succ]
  · show accNew (vAt X n) (σ.see (col u)).s (σ.see (col u)).m (maximumf (σ.see (col u)).m (σ.see (col u)).x) (σ.see (col u)).a = _
    rw [h1, h2, h3, h4, ← Mx_succ, ← Ac_succ]

theorem at_iter {σ : St F} (h : At X 0 σ) (t : ℕ) : At X (2 * t) (σ.iter (fun t σ => σ.trip X t) t) := by
  induction t with
  | zero => exact h
  | succ t ih => exact at_stage X (at_stage X ih)

/-- A window of a buffer just filled with one value. -/
theorem window_start {s : Shape} {α : Type} (x : s.Idx → α) (w : s.Idx → α) (off off' size : Fin s.rank → ℕ)
    (inb : ∀ a, off' a + size a ≤ s.size a) {a : α} (h0 : off = fun _ => 0) (hw : w = fun _ => a) :
    VecWindow.window (VecWindow.put x off s.size w) off' size inb = fun _ => a := by
  subst h0 hw
  rw [VecWindow.window_put_of_inside _ _ _ _ _ _ _ (fun b => ⟨Nat.zero_le _, (inb b).trans (Nat.le_add_left _ _)⟩)]
  rfl

theorem zero3 : (![0, 0, 0] : Fin 3 → ℕ) = fun _ => 0 := by decide

theorem start_M (x w : Vec F S4x1x512 .f32) {a : F .f32} (hw : w = fun _ => a) (u : Fin 8) :
    ofX (VecWindow.window (VecWindow.put x ![0, 0, 0] S4x1x512.size w) (col u).oM S1x1x256.size (col u).inbM) = fun _ => a := by
  rw [window_start x w _ _ _ (col u).inbM zero3 hw]; rfl

theorem start_A (x w : Vec F S4x80x512 .f32) {a : F .f32} (hw : w = fun _ => a) (u : Fin 8) :
    ofA (VecWindow.window (VecWindow.put x ![0, 0, 0] S4x80x512.size w) (col u).oM S1x80x256.size (col u).inbA) = fun _ => a := by
  rw [window_start x w _ _ _ (col u).inbA zero3 hw]; rfl

theorem at_start (σ : St F) : At X 0 (σ.start X) := fun u => by
  unfold St.start
  rw [see_swap, see_units (f := fun w σ => σ.next X (kAt X 0) w) (g := fun w e => e.next X (kAt X 0) w) (fun w σ => see_next X _ w σ)
    (fun u u' h σ => see_next' X _ u u' h σ)]
  refine ⟨by dsimp only [See.swap, See.next, Sc], by dsimp only [See.swap, See.next, Sc], ?_, ?_⟩
  · exact start_M _ _ rfl u
  · exact start_A _ _ rfl u

/-- The last block folded in. -/
theorem at_last {n : ℕ} {σ : St F} (h : At X n σ) (u : Fin 8) : (σ.units fun w σ => σ.cur (vAt X n) w).seeA (col u) = Ac X (col u) (n + 1) := by
  obtain ⟨h1, h2, h3, h4⟩ := h u
  have e := congrArg See.a (see_units (f := fun w σ => σ.cur (vAt X n) w) (g := fun w e => e.cur (vAt X n)) (fun w σ => see_cur _ w σ)
    (fun u u' h σ => see_cur' _ u u' h σ) σ u)
  refine e.trans ?_
  show accNew (vAt X n) (σ.see (col u)).s (σ.see (col u)).m (maximumf (σ.see (col u)).m (σ.see (col u)).x) (σ.see (col u)).a = _
  rw [h1, h2, h3, h4, ← Mx_succ, ← Ac_succ]

/-- After the sweep every unit's accumulator is the recursion's last. -/
theorem seeA_swept (σ : St F) (u : Fin 8) : (σ.swept X).seeA (col u) = Ac X (col u) 32 := by
  have h : At X 31 (((σ.start X).iter (fun t σ => σ.trip X t) 15).stage X 31 30).swap := at_stage X (at_iter X (at_start X σ) 15)
  unfold St.swept
  rw [seeA_swap]
  exact at_last X h u

/-! ## The output block -/

/-- The unit that has a head's column. -/
def unitOf (j : Fin 4) (r : Fin 512) : Fin 8 := ⟨2 * j.val + r.val / 256, by omega⟩

/-- An accumulator's row at a head's column. -/
def ofAt (a : FVec F S80x256 .f32) (d : Fin 80) (r : Fin 512) : F .f32 :=
  a (ix2 d (⟨r.val % 256, Nat.mod_lt _ (by decide)⟩ : Fin 256))

/-- The accumulator after the sweep. -/
def accAll : Vec F S4x80x512 .f32 := fun y =>
  ofAt (Ac X (col (unitOf (y 0) (y 2))) 32) (y 1) (y 2)

theorem unit_j (j : Fin 4) (r : Fin 512) : (col (unitOf j r)).j = j.val ∧ (col (unitOf j r)).c = 256 * (r.val / 256) := by
  have h : ∀ u : Fin 8, (col u).j = u.val / 2 ∧ (col u).c = 256 * (u.val % 2) := by decide
  have := h (unitOf j r)
  have e : (unitOf j r).val = 2 * j.val + r.val / 256 := rfl
  rw [this.1, this.2, e]
  omega

theorem acc_swept (σ : St F) : (σ.swept X).acc = accAll X := by
  funext y
  have h := seeA_swept X σ (unitOf (y 0) (y 2))
  refine Eq.trans ?_ (congrFun h (ix2 (y 1 : Fin 80) (⟨(y 2).val % 256, Nat.mod_lt _ (by decide)⟩ : Fin 256)))
  unfold St.seeA ofA
  refine Eq.trans ?_ (shapeCast_1ab_ab_apply _ _ _ _).symm
  refine congrArg (σ.swept X).acc (funext fun a => Fin.ext ?_)
  obtain ⟨h0, h2⟩ := unit_j (y 0) (y 2)
  match a with
  | 0 => show (y 0).val = (col (unitOf (y 0) (y 2))).j + 1 * 0; omega
  | 1 => show (y 1).val = 0 + 1 * (y 1).val; omega
  | 2 => show (y 2).val = (col (unitOf (y 0) (y 2))).c + 1 * ((y 2).val % 256); omega

/-- The output block. -/
def outBlk : Vec F S512x256 .bf16 := outOver (fun _ => Scalar.ofBits (F := F) .bf16 0x0000#16) (accAll X)

/-- The output block does not depend on what was there. -/
theorem outOver_eq (o o' : Vec F S512x256 .bf16) (a : Vec F S4x80x512 .f32) : outOver o a = outOver o' a := by
  funext y
  unfold outOver VecWindow.put
  by_cases h1 : ∀ b, (![0, 128] : Fin 2 → ℕ) b ≤ (y b).val ∧ (y b).val < (![0, 128] : Fin 2 → ℕ) b + S512x128.size b
  · rw [dif_pos h1, dif_pos h1]
  · rw [dif_neg h1, dif_neg h1]
    by_cases h0 : ∀ b, (![0, 0] : Fin 2 → ℕ) b ≤ (y b).val ∧ (y b).val < (![0, 0] : Fin 2 → ℕ) b + S512x128.size b
    · rw [dif_pos h0, dif_pos h0]
    · exfalso
      have hy0 : (y 0).val < 512 := (y 0).isLt
      have hy1 : (y 1).val < 256 := (y 1).isLt
      by_cases hc : (y 1).val < 128
      · exact h0 fun b => match b with
          | 0 => ⟨Nat.zero_le _, show (y 0).val < 0 + 512 by omega⟩
          | 1 => ⟨Nat.zero_le _, show (y 1).val < 0 + 128 by omega⟩
      · exact h1 fun b => match b with
          | 0 => ⟨Nat.zero_le _, show (y 0).val < 0 + 512 by omega⟩
          | 1 => ⟨show 128 ≤ (y 1).val by omega, show (y 1).val < 128 + 128 by omega⟩

variable {c : Dev nD} {R : Refs} {X}

/-- The body leaves the output block. -/
theorem triple_whole (i : grid0.Coords) (σ : St F) : Triple c R X σ (body R i) { σ.swept X with o := outBlk X } ⟨⟩ :=
  Triple.reach (triple_body i σ) (by rw [acc_swept, outBlk, outOver_eq _ (fun _ => Scalar.ofBits (F := F) .bf16 0x0000#16)])

end Cert.KernelIdeal.Attn
-- ==== Proof.Frame.lean ====
/-
  The attention kernel's launch: every run of it ends, the output array's blocks at `outBlk` of the inputs' blocks,
  the arguments and every semaphore as they were.
-/
module

public import proofs.«01_k».proof.Proof.Sweep
public import proofs.«01_k».proof.Proof.Gen.KernelIdeal.Frame
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The inputs' blocks at a point. -/
def inp (c : Dev nD) (t : Fin cfg0.N) : Inp F := ⟨iblk m c 0 t, iblk m c 1 t, iblk m c 2 t⟩

/-- The buffers the body is called with at a point. -/
abbrev refs (t : Fin cfg0.N) : Refs :=
  ⟨st0_0 t, st0_1 t, st0_2 t, st0_3 t, Memref.whole cc0_scratch0, Memref.whole cc0_scratch1, Memref.whole cc0_scratch2,
    Memref.whole cc0_scratch3, Memref.whole cc0_scratch4, Memref.whole cc0_scratch5, hstage0_3 ((cfg0.slots t 3).cast nbuf0_3)⟩

/-- The scratch buffers at unnamed contents, taken into a state and back. -/
theorem scratch_eq (c : Dev nD) : (Pipeline.scopedRest (Ix := Unit) (Name := ℕ) (U := UR sig nD τ) (Lvl := ℕ) (Val := Elt F) spec0 c : A F)
    = iprop((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f) ∗ (∃ f, owns (c : Thread nD τ) (Memref.whole cc0_scratch3) fullShare f)
      ∗ (∃ f, owns (c : Thread nD τ) (Memref.whole cc0_scratch4) fullShare f) ∗ (∃ f, owns (c : Thread nD τ) (Memref.whole cc0_scratch5) fullShare f)) := by
  rw [scopedRest0_eq]
  simp only [owns_whole]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (inp m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlk (inp m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : A F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : A F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, body_eq,
    show (dats m 0 c).Φ t.castSucc = Pipeline.ΦA spec0 c from rfl]
  unfold Pipeline.ΦA
  rw [scratch_eq]
  iintro ⟨⟨⟨⟨%f0, S0⟩, ⟨%f1, S1⟩, ⟨%f2, S2⟩, ⟨%f3, S3⟩, ⟨%f4, S4⟩, ⟨%f5, S5⟩⟩, Hr⟩, Ho, ⟨%d0, H0⟩, ⟨%d1, H1⟩, ⟨%d2, H2⟩, ⟨%d3, H3⟩⟩
  iapply (triple_whole (c := c) (R := refs t) (X := inp m c t) (grid0.coords t) ⟨(dats m 0 c).before 3 t d3, f0, f1, f2, f3, f4, f5⟩ _) $$ [S0 S1 S2 S3 S4 S5 H0 H1 H2 H3]
  · unfold Holds refs inp
    iframe
  unfold Holds refs inp
  iintro ⟨H0, H1, H2, H3, S0, S1, S2, S3, S4, S5⟩
  isplitl [S0 S1 S2 S3 S4 S5 Hr]
  · isplitl [S0 S1 S2 S3 S4 S5]
    · isplitl [S0]; · iexists _; iexact S0
      isplitl [S1]; · iexists _; iexact S1
      isplitl [S2]; · iexists _; iexact S2
      isplitl [S3]; · iexists _; iexact S3
      isplitl [S4]; · iexists _; iexact S4
      iexists _; iexact S5
    · iexact Hr
  isplitl [Ho]; · iexact Ho
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end as the proof data say, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged, every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Attn

end
-- ==== Proof.Softmax.lean ====
/-
  The arithmetic of the softmax over the extended reals: a sweep in blocks with a running maximum to base 2, and the
  plain quotient of exponentials, give the same weighted mean when the scores are real. The values may be infinite.
-/
module

public import Idealize.ShloMosaic.PureOps.Ideal.Laws
public import Mathlib.Analysis.SpecialFunctions.Pow.Real

@[expose] public section

noncomputable section

namespace Cert.Softmax

open Idealize.ShloMosaic

variable {ι : Type*}

/-- A real factor that is not negative goes into a sum, whatever the terms are. -/
theorem mul_sum (s : Finset ι) {c : ℝ} (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- A sum of reals is real. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals is real. -/
theorem fold_max_real (s : Finset ι) (hs : s.Nonempty) (f : ι → ℝ) : ∃ b : ℝ, s.fold max ⊥ (fun i => (f i : EReal)) = b := by
  obtain ⟨i, hi⟩ := hs
  have h1 : s.fold max ⊥ (fun i => (f i : EReal)) < ⊤ := (Finset.fold_max_lt _).2 ⟨bot_lt_top, fun x _ => EReal.coe_lt_top _⟩
  have h2 : ⊥ < s.fold max ⊥ (fun i => (f i : EReal)) := (Finset.lt_fold_max _).2 (.inr ⟨i, hi, EReal.bot_lt_coe _⟩)
  exact ⟨_, (EReal.coe_toReal h1.ne h2.ne').symm⟩

/-- The sum over all keys, block by block. -/
theorem sum_blocks (B N : ℕ) (f : ℕ → EReal) : ∑ k ∈ Finset.range (N * B), f k = ∑ n ∈ Finset.range N, ∑ r : Fin B, f (B * n + r) := by
  induction N with
  | zero => simp
  | succ N ih =>
    rw [Nat.succ_mul, Finset.sum_range_add, ih, Finset.sum_range_succ, ← Fin.sum_univ_eq_sum_range (fun r => f (N * B + r)) B,
      Nat.mul_comm N B]

/-- The column of a query head's depth: the key head, the head on it, the depth. -/
def qCol (g : Fin 2) (j : Fin 4) (d : Fin 64) : Fin 512 := ⟨256 * g.val + 64 * j.val + d.val, by omega⟩
/-- The column of a key head's depth. -/
def kCol (g : Fin 2) (d : Fin 64) : Fin 128 := ⟨64 * g.val + d.val, by omega⟩

section Online

variable {B : ℕ} (x : ℕ → Fin B → ℝ) (b : ℕ → ℝ) (M : ℕ → EReal)

/-- The running maximum is real after the first block. -/
theorem max_real (h0 : M 0 = ⊥) (hM : ∀ n, M (n + 1) = max (M n) (b n)) (n : ℕ) : ∃ μ : ℝ, M (n + 1) = μ := by
  induction n with
  | zero => exact ⟨b 0, by rw [hM, h0, max_eq_right bot_le]⟩
  | succ n ih =>
    obtain ⟨μ, h⟩ := ih
    exact ⟨max μ (b (n + 1)), by rw [hM, h]; exact (EReal.coe_strictMono.monotone.map_max).symm⟩

/-- What the accumulator holds after some blocks: the values weighted against the running maximum. -/
theorem online (v : ℕ → Fin B → EReal) (A : ℕ → EReal) (h0 : M 0 = ⊥) (hM : ∀ n, M (n + 1) = max (M n) (b n)) (hA0 : A 0 = 0)
    (hA : ∀ n, A (n + 1) = Ideal.exp2 (M n - M (n + 1)) * A n + ∑ r, v n r * Ideal.exp2 ((x n r : EReal) - M (n + 1)))
    (n : ℕ) {μ : ℝ} (hμ : M (n + 1) = μ) :
    A (n + 1) = ∑ i ∈ Finset.range (n + 1), ∑ r, v i r * (((2 : ℝ) ^ (x i r - μ) : ℝ) : EReal) := by
  induction n generalizing μ with
  | zero =>
    rw [hA, hA0, h0, hμ, mul_zero, zero_add, Finset.sum_range_one]
    exact Finset.sum_congr rfl fun r _ => by rw [← EReal.coe_sub, Ideal.exp2_coe]; rfl
  | succ n ih =>
    obtain ⟨ν, hν⟩ := max_real b M h0 hM n
    rw [hA, ih hν, hν, hμ, Finset.sum_range_succ _ (n + 1), ← EReal.coe_sub, Ideal.exp2_coe]
    have hc : (0 : ℝ) ≤ (2 : ℝ) ^ (ν - μ) := Real.rpow_nonneg (by norm_num) _
    refine congrArg₂ (· + ·) ((mul_sum _ hc _).trans (Finset.sum_congr rfl fun i _ => (mul_sum _ hc _).trans (Finset.sum_congr rfl fun r _ => ?_)))
      (Finset.sum_congr rfl fun r _ => by rw [← EReal.coe_sub, Ideal.exp2_coe]; rfl)
    rw [mul_left_comm, ← EReal.coe_mul, ← Real.rpow_add (by norm_num), show ν - μ + (x i r - ν) = x i r - μ by ring]

end Online

section Quotient

variable [Fintype ι] [Nonempty ι]

/-- The quotient of the weighted values and the weights, whatever is subtracted in the exponents and whichever the base. -/
theorem quotient (y : ι → ℝ) (v : ι → EReal) (μ m : ℝ) :
    Ideal.div (∑ k, v k * (((2 : ℝ) ^ (y k * (8 * Real.log 2)⁻¹ - μ) : ℝ) : EReal)) (∑ k, 1 * (((2 : ℝ) ^ (y k * (8 * Real.log 2)⁻¹ - μ) : ℝ) : EReal))
      = ∑ k, v k * Ideal.div (Ideal.exp ((y k : EReal) * ((1 / 8 : ℝ) : EReal) - m)) (0 + ∑ k, Ideal.exp ((y k : EReal) * ((1 / 8 : ℝ) : EReal) - m)) := by
  have hl : Real.log 2 ≠ 0 := (Real.log_pos (by norm_num)).ne'
  obtain ⟨c, hc, hw⟩ : ∃ c : ℝ, 0 < c ∧ ∀ k, (2 : ℝ) ^ (y k * (8 * Real.log 2)⁻¹ - μ) = c * Real.exp (y k * (1 / 8) - m) :=
    ⟨Real.exp (m - Real.log 2 * μ), Real.exp_pos _, fun k => by
      rw [Real.rpow_def_of_pos (by norm_num), ← Real.exp_add]
      congr 1
      field_simp
      ring⟩
  have hE : ∀ k, Ideal.exp ((y k : EReal) * ((1 / 8 : ℝ) : EReal) - m) = ((Real.exp (y k * (1 / 8) - m) : ℝ) : EReal) := fun k => by
    rw [← EReal.coe_mul, ← EReal.coe_sub, Ideal.exp_coe]
  have hL : (0 : ℝ) < ∑ k, Real.exp (y k * (1 / 8) - m) := Finset.sum_pos (fun k _ => Real.exp_pos _) Finset.univ_nonempty
  simp only [hE, hw, one_mul, zero_add]
  rw [← coe_sum, ← coe_sum, ← Finset.mul_sum, Ideal.div_coe (mul_pos hc hL).ne', mul_comm, mul_sum _ (by positivity)]
  refine Finset.sum_congr rfl fun k _ => ?_
  rw [Ideal.div_coe hL.ne', mul_left_comm, ← EReal.coe_mul, ← EReal.coe_mul]
  congr 2
  field_simp

end Quotient

end Cert.Softmax

end
-- ==== Proof.BlockValue.lean ====
/-
  What the body's output block reads over the extended reals: at a query and a depth, the quotient of the accumulator's
  two rows, and what the sweep leaves in them when the scores are real.
-/
module

public import proofs.«01_k».proof.Proof.Sweep
public import proofs.«01_k».proof.Proof.Softmax
public import Idealize.ShloMosaic.Lib.ValueIdx
public import Idealize.ShloMosaic.Lib.MatmulPlain
public import Idealize.ShloMosaic.Lib.Pipeline.Value

@[expose] public section

set_option maxRecDepth 65536

noncomputable section

namespace Cert.KernelIdeal.Attn

open Idealize.ShloMosaic Idealize.ShloMosaic.TcCoe Idealize.ShloMosaic.ValueIdx
open Facts₀ Facts

theorem ofBits_neg_inf : Ideal.ofBits .f32 0xFF800000#32 = ⊥ := by
  simp [Ideal.ofBits, Ideal.ieee]

theorem ofBits_one_bf16 : Ideal.ofBits .bf16 0x3F80#16 = 1 := by
  simp [Ideal.ofBits, Ideal.ieee]
  rw [← EReal.coe_mul]
  norm_num

theorem qscale : (Named.named (F := Ideal) (φ := .f32) κ "qscale" 0x3E38AA3B#32 : EReal) = (((8 * Real.log 2)⁻¹ : ℝ) : EReal) := rfl

variable [Facts]

theorem qBlk_apply (x : Vec Ideal S1x1x64x256 .f32) (d : Fin 64) (c : Fin 256) :
    (qBlk x (ix2 d c) : EReal) = x (ix4 (0 : Fin 1) (0 : Fin 1) d c) * (((8 * Real.log 2)⁻¹ : ℝ) : EReal) := by
  rw [← qscale]
  exact congrArg (fun z : EReal => z * _) (shapeCast_apply x _ (ix2 d c) (ix4 (0 : Fin 1) (0 : Fin 1) d c) (by
    rw [Shape.rowMajor_val_four, Shape.rowMajor_val_two]
    show ((0 * 1 + 0) * 64 + d.val) * 256 + c.val = d.val * 256 + c.val
    omega))

theorem kBlk_apply (x : Vec Ideal S1x1x512x64 .bf16) (r : Fin 512) (d : Fin 64) :
    kBlk x (ix2 r d) = x (ix4 (0 : Fin 1) (0 : Fin 1) r d) :=
  shapeCast_apply x _ (ix2 r d) (ix4 (0 : Fin 1) (0 : Fin 1) r d) (by
    rw [Shape.rowMajor_val_four, Shape.rowMajor_val_two]
    show ((0 * 1 + 0) * 512 + r.val) * 64 + d.val = r.val * 64 + d.val
    omega)

theorem vBlk_apply (x : Vec Ideal S1x1x64x512 .bf16) (d : Fin 64) (r : Fin 512) :
    vBlk x (ix2 (⟨d.val, by omega⟩ : Fin 80) r) = x (ix4 (0 : Fin 1) (0 : Fin 1) d r) := by
  unfold vBlk
  rw [concatenate_pair_apply_left (t := S80x512) (s₁ := S64x512) (s₂ := S16x512) 0 _ _ _ _ rfl (ix2 d r)
    (fun b => match b with | ⟨0, _⟩ => rfl | ⟨1, _⟩ => rfl)]
  exact shapeCast_apply x _ (ix2 d r) (ix4 (0 : Fin 1) (0 : Fin 1) d r) (by
    rw [Shape.rowMajor_val_four, Shape.rowMajor_val_two]
    show ((0 * 1 + 0) * 64 + d.val) * 512 + r.val = d.val * 512 + r.val
    omega)

theorem vBlk_one (x : Vec Ideal S1x1x64x512 .bf16) (r : Fin 512) : (vBlk x (ix2 (64 : Fin 80) r) : EReal) = 1 := by
  unfold vBlk
  rw [concatenate_pair_apply_right (t := S80x512) (s₁ := S64x512) (s₂ := S16x512) 0 _ _ _ _ rfl rfl (ix2 (0 : Fin 16) r)
    (fun b hb => match b, hb with | ⟨0, _⟩, hb => absurd rfl hb | ⟨1, _⟩, _ => rfl) rfl]
  exact ofBits_one_bf16

theorem scores_apply (k : FVec Ideal S512x64 .bf16) (q : FVec Ideal S64x256 .bf16) (r : Fin 512) (c : Fin 256) :
    (scores k q (ix2 r c) : EReal) = ∑ d : Fin 64, k (ix2 r d) * q (ix2 d c) := by
  refine (Ideal.matmul_plain_apply (M := 512) (K := 64) (N := 256) none k q _ r c).trans ?_
  rw [constant_apply, Ideal.ofBits_zero_f32]
  exact zero_add _

theorem colMax_apply (s : FVec Ideal S512x256 .f32) (c : Fin 256) :
    (colMax s (ix2 (0 : Fin 1) c) : EReal) = (Finset.univ : Finset (Fin 512)).fold max ⊥ (fun r => s (ix2 r c)) := by
  unfold colMax
  refine (shapeCast_a_1a_apply _ _ _ _).trans ((Ideal.multiReduction_maximumf_single _ _ _ _ _ _).trans ?_)
  rw [show (FloatOps.ofBits (F := Ideal) .f32 0xFF800000#32) = (⊥ : EReal) from ofBits_neg_inf]
  congr 1
  funext r
  exact congrArg s (funext fun a => Fin.ext (match a with | ⟨0, _⟩ => rfl | ⟨1, _⟩ => rfl))

theorem accNew_apply (vt : FVec Ideal S80x512 .bf16) (s : FVec Ideal S512x256 .f32) (m m' : FVec Ideal S1x256 .f32)
    (a : FVec Ideal S80x256 .f32) (d : Fin 80) (c : Fin 256) :
    (accNew vt s m m' a (ix2 d c) : EReal) = Ideal.exp2 ((m (ix2 (0 : Fin 1) c) : EReal) - m' (ix2 (0 : Fin 1) c)) * a (ix2 d c)
      + ∑ r : Fin 512, (vt (ix2 d r) : EReal) * Ideal.exp2 ((s (ix2 r c) : EReal) - m' (ix2 (0 : Fin 1) c)) := by
  unfold accNew
  rw [addf_apply, mulf_apply, broadcastTo_1b_ab_apply]
  refine congrArg₂ (fun x y : EReal => x + y) rfl ?_
  refine (Ideal.matmul_plain_apply (M := 80) (K := 512) (N := 256) none vt _ _ d c).trans ?_
  rw [constant_apply, Ideal.ofBits_zero_f32]
  refine (zero_add _).trans (Finset.sum_congr rfl fun r _ => ?_)
  refine congrArg (fun y : EReal => (vt (ix2 d r) : EReal) * Ideal.exp2 ((s (ix2 r c) : EReal) - y)) ?_
  exact broadcastTo_1b_ab_apply m' _ r c

section Block
variable (X : Inp Ideal)

/-- The number of a key block, below the number of blocks. -/
abbrev blk (n : ℕ) : Fin 32 := ⟨n % 32, Nat.mod_lt _ (by decide)⟩
/-- A query's column within its unit. -/
abbrev inUnit (r : Fin 512) : Fin 256 := ⟨r.val % 256, Nat.mod_lt _ (by decide)⟩

theorem kAt_apply (n : ℕ) (r : Fin 512) (d : Fin 64) : kAt X n (ix2 r d) = X.k (ix4 (0 : Fin 1) (blk n) r d) := by
  unfold kAt
  rw [kBlk_apply]
  refine congrArg X.k (funext fun a => Fin.ext ?_)
  match a with
  | ⟨0, _⟩ => rfl
  | ⟨1, _⟩ => show n % 32 + 1 * 0 = n % 32; omega
  | ⟨2, _⟩ => show 0 + 1 * r.val = r.val; omega
  | ⟨3, _⟩ => show 0 + 1 * d.val = d.val; omega

theorem vAt_apply (n : ℕ) (d : Fin 64) (r : Fin 512) :
    vAt X n (ix2 (⟨d.val, by omega⟩ : Fin 80) r) = X.v (ix4 (0 : Fin 1) (blk n) d r) := by
  unfold vAt
  rw [vBlk_apply]
  refine congrArg X.v (funext fun a => Fin.ext ?_)
  match a with
  | ⟨0, _⟩ => rfl
  | ⟨1, _⟩ => show n % 32 + 1 * 0 = n % 32; omega
  | ⟨2, _⟩ => show 0 + 1 * d.val = d.val; omega
  | ⟨3, _⟩ => show 0 + 1 * r.val = r.val; omega

theorem qOf_apply (j : Fin 4) (d : Fin 64) (r : Fin 512) :
    (qOf X (col (unitOf j r)) (ix2 d (inUnit r)) : EReal) = X.q (ix4 j (0 : Fin 1) d r) * (((8 * Real.log 2)⁻¹ : ℝ) : EReal) := by
  unfold qOf
  rw [qBlk_apply]
  refine congrArg (fun z : EReal => z * _) (congrArg X.q (funext fun a => Fin.ext ?_))
  obtain ⟨h0, h2⟩ := unit_j j r
  match a with
  | ⟨0, _⟩ => show (col (unitOf j r)).j + 1 * 0 = j.val; omega
  | ⟨1, _⟩ => rfl
  | ⟨2, _⟩ => show 0 + 1 * d.val = d.val; omega
  | ⟨3, _⟩ => show (col (unitOf j r)).c + 1 * (r.val % 256) = r.val; omega

theorem Sc_apply (j : Fin 4) (r r' : Fin 512) (n : ℕ) :
    (Sc X (col (unitOf j r)) n (ix2 r' (inUnit r)) : EReal)
      = ∑ d : Fin 64, (X.k (ix4 (0 : Fin 1) (blk n) r' d) : EReal) * (X.q (ix4 j (0 : Fin 1) d r) * (((8 * Real.log 2)⁻¹ : ℝ) : EReal)) := by
  unfold Sc
  rw [scores_apply]
  exact Finset.sum_congr rfl fun d _ => by rw [kAt_apply, qOf_apply]

theorem Mx_zero_apply (w : Col) (c : Fin 256) : (Mx X w 0 (ix2 (0 : Fin 1) c) : EReal) = ⊥ := ofBits_neg_inf
theorem Ac_zero_apply (w : Col) (d : Fin 80) (c : Fin 256) : (Ac X w 0 (ix2 d c) : EReal) = 0 := Ideal.ofBits_zero_f32

/-- What a row of the accumulator holds after the sweep. -/
theorem row (w : Col) (c : Fin 256) (d : Fin 80) (x : ℕ → Fin 512 → ℝ) (hx : ∀ n r, (Sc X w n (ix2 r c) : EReal) = x n r)
    {n : ℕ} {μ : ℝ} (hμ : (Mx X w (n + 1) (ix2 (0 : Fin 1) c) : EReal) = μ) :
    (Ac X w (n + 1) (ix2 d c) : EReal)
      = ∑ i ∈ Finset.range (n + 1), ∑ r : Fin 512, (vAt X i (ix2 d r) : EReal) * (((2 : ℝ) ^ (x i r - μ) : ℝ) : EReal) := by
  choose b hb using fun n => Softmax.fold_max_real (Finset.univ : Finset (Fin 512)) Finset.univ_nonempty (x n)
  refine Softmax.online x b (fun n => Mx X w n (ix2 (0 : Fin 1) c)) (fun i r => vAt X i (ix2 d r)) (fun n => Ac X w n (ix2 d c))
    (Mx_zero_apply X w c) (fun n => ?_) (Ac_zero_apply X w d c) (fun n => ?_) n hμ
  · rw [Mx_succ, maximumf_apply, colMax_apply, ← hb n]
    simp only [hx]
  · rw [Ac_succ, accNew_apply]
    simp only [hx]

/-- The running maximum after the sweep is real. -/
theorem top (w : Col) (c : Fin 256) (x : ℕ → Fin 512 → ℝ) (hx : ∀ n r, (Sc X w n (ix2 r c) : EReal) = x n r) (n : ℕ) :
    ∃ μ : ℝ, (Mx X w (n + 1) (ix2 (0 : Fin 1) c) : EReal) = μ := by
  choose b hb using fun n => Softmax.fold_max_real (Finset.univ : Finset (Fin 512)) Finset.univ_nonempty (x n)
  refine Softmax.max_real b (fun n => Mx X w n (ix2 (0 : Fin 1) c)) (Mx_zero_apply X w c) (fun n => ?_) n
  rw [Mx_succ, maximumf_apply, colMax_apply, ← hb n]
  simp only [hx]

/-- A head's output at a depth and a query. -/
theorem headAt_apply (a : Vec Ideal S4x80x512 .f32) (j : Fin 4) (off off' : Fin 3 → ℕ) (e : off = ![j.val, 0, 0]) (e' : off' = ![j.val, 64, 0])
    (ha) (hl) (d : Fin 64) (r : Fin 512) :
    (headAt a off off' ha hl (ix2 d r) : EReal) = Ideal.div (a (ix3 j (⟨d.val, by omega⟩ : Fin 80) r)) (a (ix3 j (64 : Fin 80) r)) := by
  subst e e'
  unfold headAt headOut
  rw [divf_apply, broadcastTo_1b_ab_apply]
  refine congrArg₂ Ideal.div ((shapeCast_1ab_ab_apply _ _ d r).trans (congrArg a (funext fun b => Fin.ext ?_)))
    ((shapeCast_1ab_ab_apply _ _ (0 : Fin 1) r).trans (congrArg a (funext fun b => Fin.ext ?_)))
  · match b with
    | ⟨0, _⟩ => show j.val + 1 * 0 = j.val; omega
    | ⟨1, _⟩ => show 0 + 1 * d.val = d.val; omega
    | ⟨2, _⟩ => show 0 + 1 * r.val = r.val; omega
  · match b with
    | ⟨0, _⟩ => show j.val + 1 * 0 = j.val; omega
    | ⟨1, _⟩ => rfl
    | ⟨2, _⟩ => show 0 + 1 * r.val = r.val; omega

/-- Two heads side by side: the first one's columns. -/
theorem pairOut_left (x y : FVec Ideal S64x512 .f32) (r : Fin 512) (d : Fin 64) :
    (pairOut x y (ix2 r (⟨d.val, by omega⟩ : Fin 128)) : EReal) = x (ix2 d r) := by
  unfold pairOut
  rw [truncf_apply, transpose_ix2_apply]
  exact concatenate_pair_apply_left (t := S128x512) (s₁ := S64x512) (s₂ := S64x512) 0 _ _ _ _ rfl (ix2 d r)
    (fun b => match b with | ⟨0, _⟩ => rfl | ⟨1, _⟩ => rfl)

/-- The second one's. -/
theorem pairOut_right (x y : FVec Ideal S64x512 .f32) (r : Fin 512) (d : Fin 64) :
    (pairOut x y (ix2 r (⟨64 + d.val, by omega⟩ : Fin 128)) : EReal) = y (ix2 d r) := by
  unfold pairOut
  rw [truncf_apply, transpose_ix2_apply]
  exact concatenate_pair_apply_right (t := S128x512) (s₁ := S64x512) (s₂ := S64x512) 0 _ _ _ _ rfl rfl (ix2 d r)
    (fun b hb => match b, hb with | ⟨0, _⟩, hb => absurd rfl hb | ⟨1, _⟩, _ => rfl) (Nat.add_comm _ _)

/-- The first pair's columns of the block. -/
theorem outOver_left (o : Vec Ideal S512x256 .bf16) (a : Vec Ideal S4x80x512 .f32) (r : Fin 512) (c : Fin 128) :
    outOver o a (ix2 r (⟨c.val, by omega⟩ : Fin 256)) = pair0 a (ix2 r c) := by
  unfold outOver VecWindow.put
  rw [dif_neg (fun h => by have := (h 1).1; change 128 ≤ c.val at this; omega),
    dif_pos (fun b => match b with
      | ⟨0, _⟩ => ⟨Nat.zero_le _, show r.val < 0 + 512 by omega⟩
      | ⟨1, _⟩ => ⟨Nat.zero_le _, show c.val < 0 + 128 by omega⟩)]
  exact congrArg (pair0 a) (funext fun b => Fin.ext (match b with
    | ⟨0, _⟩ => show r.val - 0 = r.val by omega
    | ⟨1, _⟩ => show c.val - 0 = c.val by omega))

/-- The second pair's. -/
theorem outOver_right (o : Vec Ideal S512x256 .bf16) (a : Vec Ideal S4x80x512 .f32) (r : Fin 512) (c : Fin 128) :
    outOver o a (ix2 r (⟨128 + c.val, by omega⟩ : Fin 256)) = pair1 a (ix2 r c) := by
  unfold outOver VecWindow.put
  rw [dif_pos (fun b => match b with
      | ⟨0, _⟩ => ⟨Nat.zero_le _, show r.val < 0 + 512 by omega⟩
      | ⟨1, _⟩ => ⟨show 128 ≤ 128 + c.val by omega, show 128 + c.val < 128 + 128 by omega⟩)]
  exact congrArg (pair1 a) (funext fun b => Fin.ext (match b with
    | ⟨0, _⟩ => show r.val - 0 = r.val by omega
    | ⟨1, _⟩ => show 128 + c.val - 128 = c.val by omega))

/-- The output block at a query, a head and a depth. -/
theorem outOver_apply (o : Vec Ideal S512x256 .bf16) (a : Vec Ideal S4x80x512 .f32) (r : Fin 512) (j : Fin 4) (d : Fin 64) :
    (outOver o a (ix2 r (⟨64 * j.val + d.val, by omega⟩ : Fin 256)) : EReal)
      = Ideal.div (a (ix3 j (⟨d.val, by omega⟩ : Fin 80) r)) (a (ix3 j (64 : Fin 80) r)) := by
  match j with
  | ⟨0, _⟩ =>
    refine Eq.trans ?_ (headAt_apply a 0 _ _ rfl rfl inb_S4x80x512_S1x64x512_0_0_0 inb_S4x80x512_S1x1x512_0_64_0 d r)
    refine Eq.trans ?_ ((outOver_left o a r ⟨d.val, by omega⟩).trans (pairOut_left _ _ r d))
    exact congrArg (fun z => outOver o a (ix2 r z)) (Fin.ext (show 64 * 0 + d.val = d.val by omega))
  | ⟨1, _⟩ =>
    refine Eq.trans ?_ (headAt_apply a 1 _ _ rfl rfl inb_S4x80x512_S1x64x512_1_0_0 inb_S4x80x512_S1x1x512_1_64_0 d r)
    refine Eq.trans ?_ ((outOver_left o a r ⟨64 + d.val, by omega⟩).trans (pairOut_right _ _ r d))
    exact congrArg (fun z => outOver o a (ix2 r z)) (Fin.ext (show 64 * 1 + d.val = 64 + d.val by omega))
  | ⟨2, _⟩ =>
    refine Eq.trans ?_ (headAt_apply a 2 _ _ rfl rfl inb_S4x80x512_S1x64x512_2_0_0 inb_S4x80x512_S1x1x512_2_64_0 d r)
    refine Eq.trans ?_ ((outOver_right o a r ⟨d.val, by omega⟩).trans (pairOut_left _ _ r d))
    exact congrArg (fun z => outOver o a (ix2 r z)) (Fin.ext (show 64 * 2 + d.val = 128 + d.val by omega))
  | ⟨3, _⟩ =>
    refine Eq.trans ?_ (headAt_apply a 3 _ _ rfl rfl inb_S4x80x512_S1x64x512_3_0_0 inb_S4x80x512_S1x1x512_3_64_0 d r)
    refine Eq.trans ?_ ((outOver_right o a r ⟨64 + d.val, by omega⟩).trans (pairOut_right _ _ r d))
    exact congrArg (fun z => outOver o a (ix2 r z)) (Fin.ext (show 64 * 3 + d.val = 128 + (64 + d.val) by omega))

/-- The output block, when the query's scores are real. -/
theorem outBlk_value (r : Fin 512) (j : Fin 4) (d : Fin 64) (x : ℕ → Fin 512 → ℝ)
    (hx : ∀ n r', (Sc X (col (unitOf j r)) n (ix2 r' (inUnit r)) : EReal) = x n r') :
    ∃ μ : ℝ, (outBlk X (ix2 r (⟨64 * j.val + d.val, by omega⟩ : Fin 256)) : EReal)
      = Ideal.div (∑ i ∈ Finset.range 32, ∑ r' : Fin 512, (X.v (ix4 (0 : Fin 1) (blk i) d r') : EReal) * (((2 : ℝ) ^ (x i r' - μ) : ℝ) : EReal))
          (∑ i ∈ Finset.range 32, ∑ r' : Fin 512, 1 * (((2 : ℝ) ^ (x i r' - μ) : ℝ) : EReal)) := by
  obtain ⟨μ, hμ⟩ := top X (col (unitOf j r)) (inUnit r) x hx 31
  refine ⟨μ, (outOver_apply _ (accAll X) r j d).trans (congrArg₂ Ideal.div ?_ ?_)⟩
  · refine (row X (col (unitOf j r)) (inUnit r) ⟨d.val, by omega⟩ x hx hμ).trans ?_
    exact Finset.sum_congr rfl fun i _ => Finset.sum_congr rfl fun r' _ => by rw [vAt_apply]
  · refine (row X (col (unitOf j r)) (inUnit r) 64 x hx hμ).trans ?_
    exact Finset.sum_congr rfl fun i _ => Finset.sum_congr rfl fun r' _ => by rw [show vAt X i (ix2 (64 : Fin 80) r') = (1 : EReal) from vBlk_one _ r']

end Block

end Cert.KernelIdeal.Attn

end
-- ==== Proof.RefValue.lean ====
/-
  What the reference's result reads over the extended reals: the mean of the values weighted by the softmax of the
  scores, when the scores are real.
-/
module

public import proofs.«01_k».proof.Proof.Softmax
public import proofs.«01_k».proof.Proof.Gen.ReferenceIdeal.Read
public import Idealize.ShloMosaic.Lib.ValueIdx
public import Idealize.ShloMosaic.Lib.KernelVsHost

@[expose] public section

set_option maxRecDepth 65536

noncomputable section

namespace Cert.ReferenceIdeal.Attn

open Cert.ReferenceIdeal Cert.ReferenceIdeal.Gen Cert.ReferenceIdeal.Read Cert.Softmax
open Idealize.ShloMosaic Idealize.ShloMosaic.TcCoe Idealize.ShloMosaic.ValueIdx

variable (x0 : (⟨S16384x512, .f32⟩ : BufTy).Contents (Elt Ideal)) (x1 x2 : (⟨S16384x128, .f32⟩ : BufTy).Contents (Elt Ideal))

theorem eighth : Ideal.ofBits .f32 0x3E000000#32 = ((1 / 8 : ℝ) : EReal) := by
  simp [Ideal.ofBits, Ideal.ieee]
  rw [← EReal.coe_mul]; norm_num

theorem neg_inf : Ideal.ofBits .f32 0xFF800000#32 = ⊥ := by
  simp [Ideal.ofBits, Ideal.ieee]

theorem heads_q (t : Fin 16384) (g : Fin 2) (j : Fin 4) (d : Fin 64) :
    val_main_v0 (F := Ideal) x0 (ix4 t g j d) = x0 (ix2 t (qCol g j d)) := by
  rw [val_main_v0_apply]
  refine congrArg x0 (funext fun a => Fin.ext ?_)
  match a with
  | ⟨0, _⟩ => show (((t.val * 2 + g.val) * 4 + j.val) * 64 + d.val) / 512 = t.val; omega
  | ⟨1, _⟩ => show (((t.val * 2 + g.val) * 4 + j.val) * 64 + d.val) % 512 = 256 * g.val + 64 * j.val + d.val; omega

theorem heads_k (t : Fin 16384) (g : Fin 2) (d : Fin 64) : val_main_v1 (F := Ideal) x1 (ix3 t g d) = x1 (ix2 t (kCol g d)) := by
  rw [val_main_v1_apply]
  refine congrArg x1 (funext fun a => Fin.ext ?_)
  match a with
  | ⟨0, _⟩ => show ((t.val * 2 + g.val) * 64 + d.val) / 128 = t.val; omega
  | ⟨1, _⟩ => show ((t.val * 2 + g.val) * 64 + d.val) % 128 = 64 * g.val + d.val; omega

theorem heads_v (t : Fin 16384) (g : Fin 2) (d : Fin 64) : val_main_v2 (F := Ideal) x2 (ix3 t g d) = x2 (ix2 t (kCol g d)) :=
  heads_k x2 t g d

/-- The products of a query and a key. -/
def dots (t : Fin 16384) (g : Fin 2) (j : Fin 4) (k : Fin 16384) : EReal :=
  ∑ d : Fin 64, (x1 (ix2 k (kCol g d)) : EReal) * x0 (ix2 t (qCol g j d))

theorem score_apply (g : Fin 2) (j : Fin 4) (t k : Fin 16384) :
    (val_main_v6 (F := Ideal) x0 x1 (ix4 g j t k) : EReal) = dots x0 x1 t g j k * ((1 / 8 : ℝ) : EReal) := by
  rw [val_main_v6_apply, val_main_v4_apply, val_main_v3_apply, val_main_v5_apply, val_main_cst_apply]
  refine congrArg₂ (fun x y : EReal => x * y) (Finset.sum_congr rfl fun d _ => ?_) eighth
  refine congrArg₂ (fun x y : EReal => x * y) ((congrArg _ (funext fun a => ?_)).trans (heads_k x1 k g d)) ((congrArg _ (funext fun a => ?_)).trans (heads_q x0 t g j d))
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => rfl

section Row

variable (t : Fin 16384) (g : Fin 2) (j : Fin 4) (y : Fin 16384 → ℝ) (hy : ∀ k, dots x0 x1 t g j k = y k)

include hy in
/-- The greatest score of a query is real. -/
theorem top : ∃ m : ℝ, (val_main_v9 (F := Ideal) x0 x1 (ix3 g j t) : EReal) = m := by
  obtain ⟨m, hm⟩ := fold_max_real (Finset.univ : Finset (Fin 16384)) Finset.univ_nonempty (fun k => y k * (1 / 8))
  refine ⟨m, ?_⟩
  have h7 : (val_main_v7 (F := Ideal) x0 x1 (ix3 g j t) : EReal) = m := by
    unfold val_main_v7 val_main_cst_0
    have hr : S2x4x16384x16384.Reduces [3] S2x4x16384 := by decide
    refine (congrFun (hostReduce_maximumf_eq_multiReduction (F := Ideal) (φ := .f32) (val_main_v6 (F := Ideal) x0 x1) 0xFF800000#32
      reducesTo_S2x4x16384x16384_S2x4x16384_d3 h_S_ hr (.inl rfl) rfl) (ix3 g j t)).trans ?_
    refine (Ideal.multiReduction_maximumf_single _ _ hr _ _ _).trans ?_
    rw [show (FloatOps.ofBits (F := Ideal) .f32 0xFF800000#32) = (⊥ : EReal) from neg_inf, ← hm]
    refine congrArg (fun f : Fin 16384 → EReal => Finset.fold max ⊥ f Finset.univ) (funext fun k => ?_)
    refine Eq.trans (congrArg (val_main_v6 (F := Ideal) x0 x1) (funext fun a => ?_)) ((score_apply x0 x1 g j t k).trans ?_)
    · match a with
      | ⟨0, _⟩ => rfl
      | ⟨1, _⟩ => rfl
      | ⟨2, _⟩ => rfl
      | ⟨3, _⟩ => rfl
    · exact (congrArg (fun x : EReal => x * ((1 / 8 : ℝ) : EReal)) (hy k)).trans (EReal.coe_mul (y k) (1 / 8)).symm
  have h8 : (val_main_v8 (F := Ideal) (ix3 g j t) : EReal) = ⊥ := by
    rw [val_main_v8_apply, val_main_cst_1_apply]; exact neg_inf
  rw [val_main_v9_apply, h7, h8]
  exact max_eq_right bot_le

variable {m : ℝ} (hm : (val_main_v9 (F := Ideal) x0 x1 (ix3 g j t) : EReal) = m)

include hy hm in
theorem weight_apply (k : Fin 16384) :
    (val_main_v13 (F := Ideal) x0 x1 (ix4 g j t k) : EReal) = Ideal.exp ((y k : EReal) * ((1 / 8 : ℝ) : EReal) - m) := by
  have h11 : (val_main_v11 (F := Ideal) x0 x1 (ix4 g j t k) : EReal) = m := by
    rw [val_main_v11_apply, val_main_v10_apply, ← hm]
    refine congrArg (val_main_v9 (F := Ideal) x0 x1) (funext fun a => ?_)
    match a with
    | ⟨0, _⟩ => rfl
    | ⟨1, _⟩ => rfl
    | ⟨2, _⟩ => rfl
  rw [val_main_v13_apply, val_main_v12_apply, h11, score_apply, hy]
  rfl

include hy hm in
theorem sum_apply (k : Fin 16384) :
    (val_main_v16 (F := Ideal) x0 x1 (ix4 g j t k) : EReal) = 0 + ∑ k, Ideal.exp ((y k : EReal) * ((1 / 8 : ℝ) : EReal) - m) := by
  rw [val_main_v16_apply, val_main_v15_apply, val_main_v14_apply, val_main_cst_2_apply]
  refine congrArg₂ (fun x y : EReal => x + y) Ideal.ofBits_zero_f32 (Finset.sum_congr rfl fun k _ => ?_)
  refine Eq.trans (congrArg (val_main_v13 (F := Ideal) x0 x1) (funext fun a => ?_)) (weight_apply x0 x1 t g j y hy hm k)
  match a with
  | ⟨0, _⟩ => rfl
  | ⟨1, _⟩ => rfl
  | ⟨2, _⟩ => rfl
  | ⟨3, _⟩ => rfl

include hy hm in
/-- The reference's result at a query, a head and a depth. -/
theorem result_apply (d : Fin 64) : (val_main_v21 (F := Ideal) x0 x1 x2 (ix2 t (qCol g j d)) : EReal)
    = ∑ k, (x2 (ix2 k (kCol g d)) : EReal)
        * Ideal.div (Ideal.exp ((y k : EReal) * ((1 / 8 : ℝ) : EReal) - m)) (0 + ∑ k, Ideal.exp ((y k : EReal) * ((1 / 8 : ℝ) : EReal) - m)) := by
  have h20 : (val_main_v20 (F := Ideal) x0 x1 x2 (ix2 t (qCol g j d)) : EReal) = val_main_v18 (F := Ideal) x0 x1 x2 (ix4 g d j t) := by
    rw [val_main_v20_apply, val_main_v19_apply]
    refine congrArg (val_main_v18 (F := Ideal) x0 x1 x2) (funext fun a => Fin.ext ?_)
    match a with
    | ⟨0, _⟩ => show (t.val * 512 + (256 * g.val + 64 * j.val + d.val)) / 256 % 2 = g.val; omega
    | ⟨1, _⟩ => show (t.val * 512 + (256 * g.val + 64 * j.val + d.val)) % 64 = d.val; omega
    | ⟨2, _⟩ => show (t.val * 512 + (256 * g.val + 64 * j.val + d.val)) / 64 % 4 = j.val; omega
    | ⟨3, _⟩ => show (t.val * 512 + (256 * g.val + 64 * j.val + d.val)) / 512 = t.val; omega
  refine Eq.trans (show (val_main_v21 (F := Ideal) x0 x1 x2 (ix2 t (qCol g j d)) : EReal) = val_main_v20 (F := Ideal) x0 x1 x2 (ix2 t (qCol g j d)) from rfl) (h20.trans ?_)
  rw [val_main_v18_apply]
  refine Finset.sum_congr rfl fun k _ => ?_
  refine congrArg₂ (fun x y : EReal => x * y) (Eq.trans (congrArg _ (funext fun a => ?_)) (heads_v x2 k g d))
    (Eq.trans (congrArg (val_main_v17 (F := Ideal) x0 x1) (a₂ := ix4 g j t k) (funext fun a => ?_)) ?_)
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => rfl
  · rw [val_main_v17_apply, weight_apply x0 x1 t g j y hy hm, sum_apply x0 x1 t g j y hy hm]
    rfl

end Row

end Cert.ReferenceIdeal.Attn

end
-- ==== Proof.ArrayValue.lean ====
/-
  The attention kernel's result array over the extended reals: what the blocks of the queries, keys and values read,
  and the reference's mean at every element the launch writes.
-/
module

public import proofs.«01_k».proof.Proof.Frame
public import proofs.«01_k».proof.Proof.BlockValue
public import proofs.«01_k».proof.Proof.RefValue
public import Idealize.ShloMosaic.Lib.Pipeline.ValueKit.Geometry

@[expose] public section

set_option maxRecDepth 65536

noncomputable section

namespace Cert.KernelIdeal.Attn

open Cert.KernelIdeal Cert.KernelIdeal.Gen Cert.Softmax
open Idealize.ShloMosaic Idealize.ShloMosaic.TcCoe Idealize.ShloMosaic.ValueIdx Idealize.ShloMosaic.Tactic

variable (m : (ℓ : Loc nD τ sig) → Buf (Elt Ideal) ℓ) (c : Dev nD) (t : Fin cfg0.N)

/-- The arguments as launched. -/
abbrev qArg : (⟨S16384x512, .f32⟩ : BufTy).Contents (Elt Ideal) := m ((c : Thread nD τ).loc main_arg0)
abbrev kArg : (⟨S16384x128, .f32⟩ : BufTy).Contents (Elt Ideal) := m ((c : Thread nD τ).loc main_arg1)
abbrev vArg : (⟨S16384x128, .f32⟩ : BufTy).Contents (Elt Ideal) := m ((c : Thread nD τ).loc main_arg2)

/-- The windows' block indices at a point: 32 blocks of queries for each of two key heads. -/
theorem index0 : ∀ t : Fin cfg0.N, win0_0.index t (0 : Fin 4) = t.val / 32 ∧ win0_0.index t (1 : Fin 4) = t.val % 32
    ∧ win0_0.index t (2 : Fin 4) = 0 ∧ win0_0.index t (3 : Fin 4) = 0 := (by decide +kernel : ∀ t : Fin grid0.N, _)
theorem index1 : ∀ t : Fin cfg0.N, win0_1.index t (0 : Fin 4) = t.val / 32 ∧ win0_1.index t (1 : Fin 4) = 0
    ∧ win0_1.index t (2 : Fin 4) = 0 ∧ win0_1.index t (3 : Fin 4) = 0 := (by decide +kernel : ∀ t : Fin grid0.N, _)
theorem index2 : ∀ t : Fin cfg0.N, win0_2.index t (0 : Fin 4) = t.val / 32 ∧ win0_2.index t (1 : Fin 4) = 0
    ∧ win0_2.index t (2 : Fin 4) = 0 ∧ win0_2.index t (3 : Fin 4) = 0 := (by decide +kernel : ∀ t : Fin grid0.N, _)
theorem index3 : ∀ t : Fin cfg0.N, win0_3.index t (0 : Fin 2) = t.val % 32 ∧ win0_3.index t (1 : Fin 2) = t.val / 32 :=
  (by decide +kernel : ∀ t : Fin grid0.N, _)

theorem point_lt : t.val < 64 := t.isLt

/-- The key head of a point, and the query of a row of its block. -/
def keyHead : Fin 2 := ⟨t.val / 32, by have := point_lt t; omega⟩
def query (r : Fin 512) : Fin 16384 := ⟨512 * (t.val % 32) + r.val, by omega⟩
/-- The key of a row of a block of keys. -/
def key (n : Fin 32) (r : Fin 512) : Fin 16384 := ⟨512 * n.val + r.val, by omega⟩

theorem V_q : V m c main_v1 = transpose S8x32x64x512 [2, 0, 3, 1] (shapeCast S32x512x8x64 (qArg m c) shapeCasts_S16384x512_S32x512x8x64)
    transposes_S32x512x8x64_S8x32x64x512_2_0_3_1 := by after_results <;> rfl
theorem V_k : V m c main_v4 = truncf (F := Ideal) .bf16 (transpose S2x32x512x64 [2, 0, 1, 3] (shapeCast S32x512x2x64 (kArg m c) shapeCasts_S16384x128_S32x512x2x64)
    transposes_S32x512x2x64_S2x32x512x64_2_0_1_3) bitsLt_bf16_f32 := by after_results <;> rfl
theorem V_v : V m c main_v7 = truncf (F := Ideal) .bf16 (transpose S2x32x64x512 [2, 0, 3, 1] (shapeCast S32x512x2x64 (vArg m c) shapeCasts_S16384x128_S32x512x2x64)
    transposes_S32x512x2x64_S2x32x64x512_2_0_3_1) bitsLt_bf16_f32 := by after_results <;> rfl

theorem q_apply (j : Fin 4) (d : Fin 64) (r : Fin 512) :
    (inp m c t).q (ix4 j 0 d r) = qArg m c (ix2 (query t r) (qCol (keyHead t) j d)) := by
  obtain ⟨e0, e1, e2, e3⟩ := index0 t
  have ht := point_lt t
  have he : ((cfg0.win 0).blk t).view.emb (ix4 j (0 : Fin 1) d r)
      = ix4 (⟨4 * (t.val / 32) + j.val, by omega⟩ : Fin 8) (⟨t.val % 32, by omega⟩ : Fin 32) d r := by
    funext a; apply Fin.ext
    match a with
    | ⟨0, _⟩ => show win0_0.index t (0 : Fin 4) * 4 + 1 * j.val = 4 * (t.val / 32) + j.val; omega
    | ⟨1, _⟩ => show win0_0.index t (1 : Fin 4) * 1 + 1 * 0 = t.val % 32; omega
    | ⟨2, _⟩ => show win0_0.index t (2 : Fin 4) * 64 + 1 * d.val = d.val; omega
    | ⟨3, _⟩ => show win0_0.index t (3 : Fin 4) * 512 + 1 * r.val = r.val; omega
  show V m c main_v1 (((cfg0.win 0).blk t).view.emb (ix4 j (0 : Fin 1) d r)) = _
  rw [he, V_q]
  refine (transpose_apply _ _ _ _ (ix4 (⟨t.val % 32, by omega⟩ : Fin 32) r (⟨4 * (t.val / 32) + j.val, by omega⟩ : Fin 8) d)
    (fun b => match b with | ⟨0, _⟩ => rfl | ⟨1, _⟩ => rfl | ⟨2, _⟩ => rfl | ⟨3, _⟩ => rfl)).trans ?_
  refine shapeCast_apply _ _ _ _ ?_
  rw [Shape.rowMajor_val_two, Shape.rowMajor_val_four]
  show (512 * (t.val % 32) + r.val) * 512 + (256 * (t.val / 32) + 64 * j.val + d.val)
    = ((t.val % 32 * 512 + r.val) * 8 + (4 * (t.val / 32) + j.val)) * 64 + d.val
  omega

theorem k_apply (n : Fin 32) (r : Fin 512) (d : Fin 64) :
    ((inp m c t).k (ix4 0 n r d) : EReal) = kArg m c (ix2 (key n r) (kCol (keyHead t) d)) := by
  obtain ⟨e0, e1, e2, e3⟩ := index1 t
  have ht := point_lt t
  have he : ((cfg0.win 1).blk t).view.emb (ix4 (0 : Fin 1) n r d) = ix4 (keyHead t) n r d := by
    funext a; apply Fin.ext
    match a with
    | ⟨0, _⟩ => show win0_1.index t (0 : Fin 4) * 1 + 1 * 0 = t.val / 32; omega
    | ⟨1, _⟩ => show win0_1.index t (1 : Fin 4) * 32 + 1 * n.val = n.val; omega
    | ⟨2, _⟩ => show win0_1.index t (2 : Fin 4) * 512 + 1 * r.val = r.val; omega
    | ⟨3, _⟩ => show win0_1.index t (3 : Fin 4) * 64 + 1 * d.val = d.val; omega
  show (V m c main_v4 (((cfg0.win 1).blk t).view.emb (ix4 (0 : Fin 1) n r d)) : EReal) = _
  rw [he, V_k]
  show (transpose S2x32x512x64 [2, 0, 1, 3] (shapeCast S32x512x2x64 (kArg m c) shapeCasts_S16384x128_S32x512x2x64)
    transposes_S32x512x2x64_S2x32x512x64_2_0_1_3 (ix4 (keyHead t) n r d) : EReal) = _
  refine (transpose_apply _ _ _ _ (ix4 n r (keyHead t) d)
    (fun b => match b with | ⟨0, _⟩ => rfl | ⟨1, _⟩ => rfl | ⟨2, _⟩ => rfl | ⟨3, _⟩ => rfl)).trans ?_
  refine shapeCast_apply _ _ _ _ ?_
  rw [Shape.rowMajor_val_two, Shape.rowMajor_val_four]
  show (512 * n.val + r.val) * 128 + (64 * (t.val / 32) + d.val) = ((n.val * 512 + r.val) * 2 + t.val / 32) * 64 + d.val
  omega

theorem v_apply (n : Fin 32) (d : Fin 64) (r : Fin 512) :
    ((inp m c t).v (ix4 0 n d r) : EReal) = vArg m c (ix2 (key n r) (kCol (keyHead t) d)) := by
  obtain ⟨e0, e1, e2, e3⟩ := index2 t
  have ht := point_lt t
  have he : ((cfg0.win 2).blk t).view.emb (ix4 (0 : Fin 1) n d r) = ix4 (keyHead t) n d r := by
    funext a; apply Fin.ext
    match a with
    | ⟨0, _⟩ => show win0_2.index t (0 : Fin 4) * 1 + 1 * 0 = t.val / 32; omega
    | ⟨1, _⟩ => show win0_2.index t (1 : Fin 4) * 32 + 1 * n.val = n.val; omega
    | ⟨2, _⟩ => show win0_2.index t (2 : Fin 4) * 64 + 1 * d.val = d.val; omega
    | ⟨3, _⟩ => show win0_2.index t (3 : Fin 4) * 512 + 1 * r.val = r.val; omega
  show (V m c main_v7 (((cfg0.win 2).blk t).view.emb (ix4 (0 : Fin 1) n d r)) : EReal) = _
  rw [he, V_v]
  show (transpose S2x32x64x512 [2, 0, 3, 1] (shapeCast S32x512x2x64 (vArg m c) shapeCasts_S16384x128_S32x512x2x64)
    transposes_S32x512x2x64_S2x32x64x512_2_0_3_1 (ix4 (keyHead t) n d r) : EReal) = _
  refine (transpose_apply _ _ _ _ (ix4 n r (keyHead t) d)
    (fun b => match b with | ⟨0, _⟩ => rfl | ⟨1, _⟩ => rfl | ⟨2, _⟩ => rfl | ⟨3, _⟩ => rfl)).trans ?_
  refine shapeCast_apply _ _ _ _ ?_
  rw [Shape.rowMajor_val_two, Shape.rowMajor_val_four]
  show (512 * n.val + r.val) * 128 + (64 * (t.val / 32) + d.val) = ((n.val * 512 + r.val) * 2 + t.val / 32) * 64 + d.val
  omega

/-- A sum over the keys, block after block. -/
theorem sum_keys (f : Fin 16384 → EReal) :
    ∑ k, f k = ∑ i ∈ Finset.range 32, ∑ r : Fin 512, f (key (blk i) r) := by
  have h := sum_blocks 512 32 (fun k => if hk : k < 16384 then f ⟨k, hk⟩ else 0)
  rw [← Fin.sum_univ_eq_sum_range (n := 32 * 512)] at h
  refine Eq.trans (Finset.sum_congr rfl fun k _ => ?_) (h.trans (Finset.sum_congr rfl fun i hi => Finset.sum_congr rfl fun r _ => ?_))
  · exact (dif_pos (t := fun hk : k.val < 16384 => f ⟨k.val, hk⟩) (e := fun _ => 0) k.isLt).symm
  · have hi' := Finset.mem_range.mp hi
    rw [dif_pos (by omega : 512 * i + r.val < 16384)]
    refine congrArg f (Fin.ext ?_)
    show 512 * i + r.val = 512 * (blk i).val + r.val
    have : (blk i).val = i := by simp [blk]; omega
    rw [this]

/-- What the kernel writes at a query, a head and a depth is what the reference reads there, when every product of the
    query with a key is a real number. -/
theorem block_value (r : Fin 512) (j : Fin 4) (d : Fin 64)
    (hq : ∀ i, ∃ x : ℝ, (qArg m c i : EReal) = x) (hk : ∀ i, ∃ x : ℝ, (kArg m c i : EReal) = x) :
    (outBlk (inp m c t) (ix2 r ⟨64 * j.val + d.val, by omega⟩) : EReal)
      = Cert.ReferenceIdeal.Read.val_main_v21 (F := Ideal) (qArg m c) (kArg m c) (vArg m c) (ix2 (query t r) (qCol (keyHead t) j d)) := by
  choose qr hqr using hq
  choose kr hkr using hk
  have hy : ∀ k, Cert.ReferenceIdeal.Attn.dots (qArg m c) (kArg m c) (query t r) (keyHead t) j k
      = ((∑ d : Fin 64, kr (ix2 k (kCol (keyHead t) d)) * qr (ix2 (query t r) (qCol (keyHead t) j d)) : ℝ) : EReal) := fun k => by
    unfold Cert.ReferenceIdeal.Attn.dots
    rw [coe_sum]
    refine Finset.sum_congr rfl fun d _ => ?_
    rw [EReal.coe_mul, ← hqr, ← hkr]
  generalize hyd : (fun k => (∑ d : Fin 64, kr (ix2 k (kCol (keyHead t) d)) * qr (ix2 (query t r) (qCol (keyHead t) j d)) : ℝ)) = y at hy
  have hy : ∀ k, Cert.ReferenceIdeal.Attn.dots (qArg m c) (kArg m c) (query t r) (keyHead t) j k = y k := fun k => (hy k).trans (by rw [← hyd])
  have hx : ∀ n r', (Sc (inp m c t) (col (unitOf j r)) n (ix2 r' (inUnit r)) : EReal) = ((y (key (blk n) r') * (8 * Real.log 2)⁻¹ : ℝ) : EReal) := fun n r' => by
    rw [Sc_apply, ← hyd]
    dsimp only
    rw [Finset.sum_mul, coe_sum]
    refine Finset.sum_congr rfl fun d' _ => ?_
    rw [k_apply, q_apply, hqr, hkr, ← EReal.coe_mul, ← EReal.coe_mul, mul_assoc]
  obtain ⟨μ, hμ⟩ := outBlk_value (inp m c t) r j d _ hx
  obtain ⟨mx, hmx⟩ := Cert.ReferenceIdeal.Attn.top (qArg m c) (kArg m c) (query t r) (keyHead t) j y hy
  refine hμ.trans (Eq.trans ?_ (Cert.ReferenceIdeal.Attn.result_apply (qArg m c) (kArg m c) (vArg m c) (query t r) (keyHead t) j y hy hmx d).symm)
  refine Eq.trans ?_ (quotient y (fun k => (vArg m c (ix2 k (kCol (keyHead t) d)) : EReal)) μ mx)
  rw [sum_keys (fun k => (vArg m c (ix2 k (kCol (keyHead t) d)) : EReal) * _), sum_keys]
  refine congrArg₂ Ideal.div (Finset.sum_congr rfl fun i _ => Finset.sum_congr rfl fun r' _ => ?_) rfl
  rw [v_apply]

/-- The array the launch leaves. -/
theorem array_value (hq : ∀ i, ∃ x : ℝ, (qArg m c i : EReal) = x) (hk : ∀ i, ∃ x : ℝ, (kArg m c i : EReal) = x) :
    (dats m 0 c).arrAt 3 cfg0.N = Cert.ReferenceIdeal.Read.val_main_v21 (F := Ideal) (qArg m c) (kArg m c) (vArg m c) := by
  refine (dats m 0 c).arrAt_eq_of_covers 3 _ (by decide +kernel) fun t _ y => ?_
  obtain ⟨e0, e1⟩ := index3 t
  have hd : y = ix2 (y 0) (⟨64 * ((y 1).val / 64) + (y 1).val % 64, by have : (y 1).val < 256 := (y 1).isLt; omega⟩ : Fin 256) := by
    funext a; apply Fin.ext
    match a with
    | ⟨0, _⟩ => rfl
    | ⟨1, _⟩ => show (y 1).val = 64 * ((y 1).val / 64) + (y 1).val % 64; omega
  have hy1 : (y 1).val < 256 := (y 1).isLt
  refine Eq.trans (show _ = outBlk (inp m c t) y from ?_) ((congrArg (outBlk (inp m c t)) hd).trans
    ((block_value m c t (y 0) ⟨(y 1).val / 64, by omega⟩ ⟨(y 1).val % 64, by omega⟩ hq hk).trans (congrArg _ ?_)))
  · show (dats m 0 c).after 3 t _ = _
    rw [after0_3]
  · funext a; apply Fin.ext
    match a with
    | ⟨0, _⟩ => show 512 * (t.val % 32) + (y 0).val = win0_3.index t (0 : Fin 2) * 512 + 1 * (y 0).val; omega
    | ⟨1, _⟩ => show 256 * (t.val / 32) + 64 * ((y 1).val / 64) + (y 1).val % 64 = win0_3.index t (1 : Fin 2) * 256 + 1 * (y 1).val; omega

end Cert.KernelIdeal.Attn

end
-- ==== Proof.Transfer.lean ====
module

public import proofs.«01_k».proof.Defs
public import proofs.«01_k».proof.Proof.Gen.Kernel.Launch
public import proofs.«01_k».proof.Proof.Gen.KernelIdeal.Launch

@[expose] public section

set_option maxRecDepth 16384

noncomputable section

/-! # The two prints of the attention kernel

`KernelIdeal` differs from `Kernel` in one constant, which has a name there. Read on bit patterns a named constant is the
pattern it was printed from, and then the two programs are the same: what is shown of `KernelIdeal` over any floats holds
of `Kernel`. -/

namespace Cert.Proof

open Idealize.ShloMosaic

/-- Bit patterns read a named constant as the pattern printed beside the name. -/
@[reducible] def namedBits : Named Bits where
  named _ _ {φ} b := Scalar.ofBits φ b

variable [h : Cert.Kernel.Facts] [h' : Cert.KernelIdeal.Facts]

/-- The host programs are the same. -/
theorem main_same : @Cert.Kernel.main Bits _ h = @Cert.KernelIdeal.main Bits _ h' := rfl

set_option maxHeartbeats 4000000 in
/-- The kernel functions are the same. -/
theorem attn_same : @Cert.Kernel.cc0_attn Bits _ h = @Cert.KernelIdeal.cc0_attn Bits _ namedBits h' := rfl

set_option maxHeartbeats 4000000 in
/-- The tables of kernels are the same. -/
theorem bodies_same : @Cert.Kernel.defs₀ Bits _ h = @Cert.KernelIdeal.defs₀ Bits _ namedBits h' := by
  unfold Cert.Kernel.defs₀ Cert.KernelIdeal.defs₀
  refine congrArg Defs.onTc (funext fun l => funext fun x => ?_)
  match l, x with
  | 0, (t, s) => rfl

/-- The tables of everything the host programs call are the same. -/
theorem defs_same : @Cert.Kernel.defs Bits _ h = @Cert.KernelIdeal.defs Bits _ namedBits h' :=
  congrArg (Pipeline.defs Cert.KernelIdeal.pcfgs) bodies_same

end Cert.Proof

end
-- ==== Proof.FfnProgram.lean ====
/-
  The body of the feed-forward kernel, written once more as it was meant: a tile's rows with a halo on each side are
  projected, added and normalised; then the hidden columns are gone through in chunks of 256, a chunk's up-projection
  written to one buffer while the chunk before is convolved, gated and projected down from the other. It is written for
  any buffers, any number of tiles in a sequence and any table of kernels, so that one text serves every length of sequence.
-/
module

public import proofs.«01_k».proof.Kernel2Ideal
public import Idealize.ShloMosaic.Lib.Pipeline.Regions

@[expose] public section

set_option maxRecDepth 65536

noncomputable section

namespace Cert.Kernel2Ideal.Ffn

open Idealize.ShloMosaic Idealize.ShloMosaic.TcCoe Idealize.SL.Sem
open Facts₀ Facts

variable {F : FTy → Type} [FloatOps F] [Facts] {sig : RefSig} {Λ : Labels}

/-! ## The arithmetic -/

/-- The rows of a tile with their halos, after the mixers' outputs are projected and added. -/
def mixed (xp : Vec F S16x1024 .f32) (xm : Vec F S512x1024 .f32) (xn : Vec F S16x1024 .f32)
    (mp : Vec F S16x512 .bf16) (mm : Vec F S512x512 .bf16) (mn : Vec F S16x512 .bf16)
    (ap : Vec F S16x512 .bf16) (am : Vec F S512x512 .bf16) (an : Vec F S16x512 .bf16)
    (wom woa : Vec F S512x1024 .bf16) : FVec F S544x1024 .f32 :=
  addf (addf (concatenate S544x1024 0 [⟨S16x1024, xp⟩, ⟨S512x1024, xm⟩, ⟨S16x1024, xn⟩] concatenates_S16x1024_S512x1024_S16x1024_S544x1024_d0)
      (matmul dot_S544x512_S512x1024_S544x1024_1_0_0_1_n_n none
        (concatenate S544x512 0 [⟨S16x512, mp⟩, ⟨S512x512, mm⟩, ⟨S16x512, mn⟩] concatenates_S16x512_S512x512_S16x512_S544x512_d0)
        (shapeCast S512x1024 wom shapeCasts_S512x1024_S512x1024) (constant S544x1024 .f32 0x00000000#32)))
    (matmul dot_S544x512_S512x1024_S544x1024_1_0_0_1_n_n none
      (concatenate S544x512 0 [⟨S16x512, ap⟩, ⟨S512x512, am⟩, ⟨S16x512, an⟩] concatenates_S16x512_S512x512_S16x512_S544x512_d0)
      (shapeCast S512x1024 woa shapeCasts_S512x1024_S512x1024) (constant S544x1024 .f32 0x00000000#32))

/-- The rows of a tile normalised. -/
def normed (x : FVec F S544x1024 .f32) (w : Vec F S1x1024 .f32) : FVec F S544x1024 .bf16 :=
  truncf .bf16 (mulf (mulf x (broadcastTo S544x1024 (rsqrt (addf (divf (shapeCast S544x1
      (multiReduction .add [1] S544 (mulf x x) 0x00000000#32 reduces_S544x1024_S544 (.inl rfl) rfl) shapeCasts_S544_S544x1)
      (broadcast S544x1 (Scalar.ofBits .f32 0x44800000#32))) (broadcast S544x1 (Scalar.ofBits .f32 0x358637BD#32)))) broadcasts_S544x1_S544x1024))
    (broadcastTo S544x1024 (shapeCast S1x1024 w shapeCasts_S1x1024_S1x1024) broadcasts_S1x1024_S544x1024)) bitsLt_bf16_f32

/-- The tile's own rows. -/
def inner (x : FVec F S544x1024 .f32) : FVec F S512x1024 .f32 :=
  shapeCast S512x1024 (extractStridedSlice S512x1024 ![16, 0] x slices_S544x1024_o16_0_S512x1024) shapeCasts_S512x1024_S512x1024

/-- A tile's number in its sequence, where a sequence has `n` tiles and `i` counts the tiles of all sequences. -/
def tileIn (n i : BitVec 32) : BitVec 32 :=
  let n : BitVec 32 := Scalar.select (Scalar.cmpi .eq n 0#32) 1#32 n
  let r : BitVec 32 := Scalar.remsi i n
  Scalar.select (Scalar.andi (Scalar.xori (Scalar.cmpi .slt r 0#32) (Scalar.cmpi .slt n 0#32)) (Scalar.cmpi .ne r 0#32)) (Scalar.addi r n) r

/-- The halo above, zero at the start of the sequence; the rows; the halo below, zero at the end. The tile's number in its
    sequence and the last tile's are `w`. -/
def lhsTop (w : BitVec 32 × BitVec 32) (h : FVec F S544x1024 .bf16) : FVec F S16x1024 .bf16 :=
  shapeCast S16x1024 (Scalar.select (Scalar.cmpi .eq (w.1) 0#32) (broadcast S16x1024 (Scalar.ofBits .bf16 0x0000#16))
    (extractStridedSlice S16x1024 ![0, 0] h slices_S544x1024_o0_0_S16x1024)) shapeCasts_S16x1024_S16x1024
def lhsMid (h : FVec F S544x1024 .bf16) : FVec F S512x1024 .bf16 :=
  shapeCast S512x1024 (extractStridedSlice S512x1024 ![16, 0] h slices_S544x1024_o16_0_S512x1024) shapeCasts_S512x1024_S512x1024
def lhsBot (w : BitVec 32 × BitVec 32) (h : FVec F S544x1024 .bf16) : FVec F S16x1024 .bf16 :=
  shapeCast S16x1024 (Scalar.select (Scalar.cmpi .eq (w.1) w.2) (broadcast S16x1024 (Scalar.ofBits .bf16 0x0000#16))
    (extractStridedSlice S16x1024 ![528, 0] h slices_S544x1024_o528_0_S16x1024)) shapeCasts_S16x1024_S16x1024

/-- A chunk's up-projection, one half. -/
def upHalf (l : Vec F S544x1024 .bf16) (w : Vec F S1024x256 .bf16) : FVec F S544x256 .f32 :=
  shapeCast S544x256 (matmul dot_S544x1024_S1024x256_S544x256_1_0_0_1_n_n none l (shapeCast S1024x256 w shapeCasts_S1024x256_S1024x256)
    (constant S544x256 .f32 0x00000000#32)) shapeCasts_S544x256_S544x256

/-- The two halves' taps, side by side, and their biases. -/
def tapsOf (wa wg : Vec F S3x256 .f32) : FVec F S3x512 .f32 :=
  concatenate S3x512 1 [⟨S3x256, wa⟩, ⟨S3x256, wg⟩] concatenates_S3x256_S3x256_S3x512_d1
def biasOf (ba bg : Vec F S1x256 .f32) : FVec F S1x512 .f32 :=
  concatenate S1x512 1 [⟨S1x256, shapeCast S1x256 ba shapeCasts_S1x256_S1x256⟩, ⟨S1x256, shapeCast S1x256 bg shapeCasts_S1x256_S1x256⟩] concatenates_S1x256_S1x256_S1x512_d1
/-- The first tap. -/
def tap0 (w : FVec F S3x512 .f32) : FVec F S1x512 .f32 := extractStridedSlice S1x512 ![0, 0] w slices_S3x512_o0_0_S1x512

/-- The convolution of three shifted views. -/
def convOf (w : FVec F S3x512 .f32) (b w0 : FVec F S1x512 .f32) (x0 x1 x2 : Vec F S512x512 .f32) : FVec F S512x512 .f32 :=
  addf (addf (addf (mulf x0 (broadcastTo S512x512 w0 broadcasts_S1x512_S512x512))
      (mulf x1 (broadcastTo S512x512 (extractStridedSlice S1x512 ![1, 0] w slices_S3x512_o1_0_S1x512) broadcasts_S1x512_S512x512)))
      (mulf x2 (broadcastTo S512x512 (extractStridedSlice S1x512 ![2, 0] w slices_S3x512_o2_0_S1x512) broadcasts_S1x512_S512x512)))
    (broadcastTo S512x512 b broadcasts_S1x512_S512x512)

/-- The gated first half. -/
def actOf (v : FVec F S512x512 .f32) : FVec F S512x256 .f32 :=
  let a : FVec F S512x256 .f32 := extractStridedSlice S512x256 ![0, 0] v slices_S512x512_o0_0_S512x256
  let g : FVec F S512x256 .f32 := extractStridedSlice S512x256 ![0, 256] v slices_S512x512_o0_256_S512x256
  mulf (divf g (addf (broadcast S512x256 (Scalar.ofBits .f32 0x3F800000#32)) (exp (subf (broadcast S512x256 (Scalar.ofBits .f32 0x00000000#32)) g)))) a

/-- The accumulator with a chunk's down-projection added. -/
def accOf (acc : Vec F S512x1024 .f32) (act : FVec F S512x256 .f32) (w : Vec F S256x1024 .bf16) : FVec F S512x1024 .f32 :=
  shapeCast S512x1024 (addf acc (matmul dot_S512x256_S256x1024_S512x1024_1_0_0_1_n_n none (truncf .bf16 act bitsLt_bf16_f32)
    (shapeCast S256x1024 w shapeCasts_S256x1024_S256x1024) (constant S512x1024 .f32 0x00000000#32))) shapeCasts_S512x1024_S512x1024

/-- The result's rows: the sum, normalised. -/
def outOf (x1 acc : Vec F S512x1024 .f32) (w : Vec F S1x1024 .f32) : FVec F S512x1024 .f32 :=
  let x : FVec F S512x1024 .f32 := addf x1 acc
  mulf (mulf x (broadcastTo S512x1024 (rsqrt (addf (divf (shapeCast S512x1
      (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 w shapeCasts_S1x1024_S1x1024) broadcasts_S1x1024_S512x1024)

/-! ## The program -/

/-- The buffers the body works on. -/
structure Refs (sig : RefSig) where
  xp : Memref sig .tc .vmem S16x1024 .f32
  xm : Memref sig .tc .vmem S512x1024 .f32
  xn : Memref sig .tc .vmem S16x1024 .f32
  mp : Memref sig .tc .vmem S16x512 .bf16
  mm : Memref sig .tc .vmem S512x512 .bf16
  mn : Memref sig .tc .vmem S16x512 .bf16
  ap : Memref sig .tc .vmem S16x512 .bf16
  am : Memref sig .tc .vmem S512x512 .bf16
  an : Memref sig .tc .vmem S16x512 .bf16
  wom : Memref sig .tc .vmem S512x1024 .bf16
  woa : Memref sig .tc .vmem S512x1024 .bf16
  n2 : Memref sig .tc .vmem S1x1024 .f32
  wup : Memref sig .tc .vmem S1024x5632 .bf16
  cw : Memref sig .tc .vmem S3x5632 .f32
  cb : Memref sig .tc .vmem S1x5632 .f32
  wdn : Memref sig .tc .vmem S2816x1024 .bf16
  fw : Memref sig .tc .vmem S1x1024 .f32
  y : Memref sig .tc .vmem S512x1024 .f32
  lhs : Memref sig .tc .vmem S544x1024 .bf16
  x1 : Memref sig .tc .vmem S512x1024 .f32
  uC : Memref sig .tc .vmem S544x512 .f32
  uN : Memref sig .tc .vmem S544x512 .f32
  acc : Memref sig .tc .vmem S512x1024 .f32
  hl : lhs.IsWhole

/-- The same with the buffers of the current chunk and the next one exchanged. -/
def Refs.swap (R : Refs sig) : Refs sig := { R with uC := R.uN, uN := R.uC }

/-- A program of the kernel, on any buffers and among any labels. -/
abbrev P (sig : RefSig) (Λ : Labels) (F : FTy → Type) [FloatOps F] (α : Type) := Prog (TpuEff nD τ sig (Elt F) Λ .tc) α

/-- How the rows are put together from their parts. -/
abbrev Mix (F : FTy → Type) [FloatOps F] := Vec F S16x1024 .f32 → Vec F S512x1024 .f32 → Vec F S16x1024 .f32 → Vec F S16x512 .bf16 → Vec F S512x512 .bf16
  → Vec F S16x512 .bf16 → Vec F S16x512 .bf16 → Vec F S512x512 .bf16 → Vec F S16x512 .bf16 → Vec F S512x1024 .bf16 → Vec F S512x1024 .bf16 → FVec F S544x1024 .f32

/-- The rows projected and normalised, written with the halos; the accumulator cleared. -/
def headOf (mix : Mix F) (R : Refs sig) (w : BitVec 32 × BitVec 32) : P sig Λ F PUnit := do
  let xp : Vec F S16x1024 .f32 ← Prog.lift (.load R.xp (Rect.unit (s := S16x1024) ![0, 0] S16x1024.size inb_S16x1024_S16x1024_0_0).toLoadRect (View.loadsAt_vmem h_S16x1024))
  let xm : Vec F S512x1024 .f32 ← Prog.lift (.load R.xm (Rect.unit (s := S512x1024) ![0, 0] S512x1024.size inb_S512x1024_S512x1024_0_0).toLoadRect (View.loadsAt_vmem h_S512x1024))
  let xn : Vec F S16x1024 .f32 ← Prog.lift (.load R.xn (Rect.unit (s := S16x1024) ![0, 0] S16x1024.size inb_S16x1024_S16x1024_0_0).toLoadRect (View.loadsAt_vmem h_S16x1024))
  let mp : Vec F S16x512 .bf16 ← Prog.lift (.load R.mp (Rect.unit (s := S16x512) ![0, 0] S16x512.size inb_S16x512_S16x512_0_0).toLoadRect (View.loadsAt_vmem h_S16x512))
  let mm : Vec F S512x512 .bf16 ← Prog.lift (.load R.mm (Rect.unit (s := S512x512) ![0, 0] S512x512.size inb_S512x512_S512x512_0_0).toLoadRect (View.loadsAt_vmem h_S512x512))
  let mn : Vec F S16x512 .bf16 ← Prog.lift (.load R.mn (Rect.unit (s := S16x512) ![0, 0] S16x512.size inb_S16x512_S16x512_0_0).toLoadRect (View.loadsAt_vmem h_S16x512))
  let ap : Vec F S16x512 .bf16 ← Prog.lift (.load R.ap (Rect.unit (s := S16x512) ![0, 0] S16x512.size inb_S16x512_S16x512_0_0).toLoadRect (View.loadsAt_vmem h_S16x512))
  let am : Vec F S512x512 .bf16 ← Prog.lift (.load R.am (Rect.unit (s := S512x512) ![0, 0] S512x512.size inb_S512x512_S512x512_0_0).toLoadRect (View.loadsAt_vmem h_S512x512))
  let an : Vec F S16x512 .bf16 ← Prog.lift (.load R.an (Rect.unit (s := S16x512) ![0, 0] S16x512.size inb_S16x512_S16x512_0_0).toLoadRect (View.loadsAt_vmem h_S16x512))
  let wom : Vec F S512x1024 .bf16 ← Prog.lift (.load R.wom (Rect.unit (s := S512x1024) ![0, 0] S512x1024.size inb_S512x1024_S512x1024_0_0).toLoadRect (View.loadsAt_vmem h_S512x1024))
  let woa : Vec F S512x1024 .bf16 ← Prog.lift (.load R.woa (Rect.unit (s := S512x1024) ![0, 0] S512x1024.size inb_S512x1024_S512x1024_0_0).toLoadRect (View.loadsAt_vmem h_S512x1024))
  let n2 : Vec F S1x1024 .f32 ← Prog.lift (.load R.n2 (Rect.unit (s := S1x1024) ![0, 0] S1x1024.size inb_S1x1024_S1x1024_0_0).toLoadRect (View.loadsAt_vmem h_S1x1024))
  let _ : Vec F S512x1024 .f32 ← Prog.lift (.load R.x1 (Rect.unit (s := S512x1024) ![0, 0] S512x1024.size inb_S512x1024_S512x1024_0_0).toLoadRect (View.loadsAt_vmem h_S512x1024))
  Prog.lift (.store R.x1 (Rect.unit (s := S512x1024) ![0, 0] S512x1024.size inb_S512x1024_S512x1024_0_0) (inner (mix xp xm xn mp mm mn ap am an wom woa)) Finset.univ (View.stores_vmem_bits_univ h_S512x1024 rfl) (.inl rfl))
  let _ : Vec F S16x1024 .bf16 ← Prog.lift (.load R.lhs (Rect.unit (s := S544x1024) ![0, 0] S16x1024.size inb_S544x1024_S16x1024_0_0).toLoadRect (View.loadsAt_vmem h_S16x1024))
  Prog.lift (.store R.lhs (Rect.unit (s := S544x1024) ![0, 0] S16x1024.size inb_S544x1024_S16x1024_0_0) (lhsTop w (normed (mix xp xm xn mp mm mn ap am an wom woa) n2)) Finset.univ (View.stores_vmem h_S16x1024 (R.hl.storeExact_slice rfl _ packedbf16_S544x1024_S16x1024_0_0) (fun _ => rfl)) (.inl rfl))
  let _ : Vec F S512x1024 .bf16 ← Prog.lift (.load R.lhs (Rect.unit (s := S544x1024) ![16, 0] S512x1024.size inb_S544x1024_S512x1024_16_0).toLoadRect (View.loadsAt_vmem h_S512x1024))
  Prog.lift (.store R.lhs (Rect.unit (s := S544x1024) ![16, 0] S512x1024.size inb_S544x1024_S512x1024_16_0) (lhsMid (normed (mix xp xm xn mp mm mn ap am an wom woa) n2)) Finset.univ (View.stores_vmem h_S512x1024 (R.hl.storeExact_slice rfl _ packedbf16_S544x1024_S512x1024_16_0) (fun _ => rfl)) (.inl rfl))
  let _ : Vec F S16x1024 .bf16 ← Prog.lift (.load R.lhs (Rect.unit (s := S544x1024) ![528, 0] S16x1024.size inb_S544x1024_S16x1024_528_0).toLoadRect (View.loadsAt_vmem h_S16x1024))
  Prog.lift (.store R.lhs (Rect.unit (s := S544x1024) ![528, 0] S16x1024.size inb_S544x1024_S16x1024_528_0) (lhsBot w (normed (mix xp xm xn mp mm mn ap am an wom woa) n2)) Finset.univ (View.stores_vmem h_S16x1024 (R.hl.storeExact_slice rfl _ packedbf16_S544x1024_S16x1024_528_0) (fun _ => rfl)) (.inl rfl))
  let _ : Vec F S512x1024 .f32 ← Prog.lift (.load R.acc (Rect.unit (s := S512x1024) ![0, 0] S512x1024.size inb_S512x1024_S512x1024_0_0).toLoadRect (View.loadsAt_vmem h_S512x1024))
  Prog.lift (.store R.acc (Rect.unit (s := S512x1024) ![0, 0] S512x1024.size inb_S512x1024_S512x1024_0_0)
    (shapeCast S512x1024 (broadcast S512x1024 (Scalar.ofBits (F := F) .f32 0x00000000#32)) shapeCasts_S512x1024_S512x1024) Finset.univ (View.stores_vmem_bits_univ h_S512x1024 rfl) (.inl rfl))

def head (R : Refs sig) (w : BitVec 32 × BitVec 32) : P sig Λ F PUnit := headOf mixed R w

/-- A chunk's up-projection, written to the next chunk's buffer. -/
def up (R : Refs sig) (oa : Fin 2 → ℕ) (ha : ∀ a, oa a + S1024x256.size a ≤ S1024x5632.size a)
    (og : Fin 2 → ℕ) (hg : ∀ a, og a + S1024x256.size a ≤ S1024x5632.size a) : P sig Λ F PUnit := do
  let l : Vec F S544x1024 .bf16 ← Prog.lift (.load R.lhs (Rect.unit (s := S544x1024) ![0, 0] S544x1024.size inb_S544x1024_S544x1024_0_0).toLoadRect (View.loadsAt_vmem h_S544x1024))
  let wa : Vec F S1024x256 .bf16 ← Prog.lift (.load R.wup (Rect.unit (s := S1024x5632) oa S1024x256.size ha).toLoadRect (View.loadsAt_vmem h_S1024x256))
  let wg : Vec F S1024x256 .bf16 ← Prog.lift (.load R.wup (Rect.unit (s := S1024x5632) og S1024x256.size hg).toLoadRect (View.loadsAt_vmem h_S1024x256))
  let _ : Vec F S544x256 .f32 ← Prog.lift (.load R.uN (Rect.unit (s := S544x512) ![0, 0] S544x256.size inb_S544x512_S544x256_0_0).toLoadRect (View.loadsAt_vmem h_S544x256))
  Prog.lift (.store R.uN (Rect.unit (s := S544x512) ![0, 0] S544x256.size inb_S544x512_S544x256_0_0) (upHalf l wa) Finset.univ (View.stores_vmem_bits_univ h_S544x256 rfl) (.inl rfl))
  let _ : Vec F S544x256 .f32 ← Prog.lift (.load R.uN (Rect.unit (s := S544x512) ![0, 256] S544x256.size inb_S544x512_S544x256_0_256).toLoadRect (View.loadsAt_vmem h_S544x256))
  Prog.lift (.store R.uN (Rect.unit (s := S544x512) ![0, 256] S544x256.size inb_S544x512_S544x256_0_256) (upHalf l wg) Finset.univ (View.stores_vmem_bits_univ h_S544x256 rfl) (.inl rfl))

/-- What a chunk's gate loads first. -/
def gateHead (R : Refs sig) (owa : Fin 2 → ℕ) (hwa : ∀ a, owa a + S3x256.size a ≤ S3x5632.size a)
    (owg : Fin 2 → ℕ) (hwg : ∀ a, owg a + S3x256.size a ≤ S3x5632.size a)
    (oba : Fin 2 → ℕ) (hba : ∀ a, oba a + S1x256.size a ≤ S1x5632.size a)
    (obg : Fin 2 → ℕ) (hbg : ∀ a, obg a + S1x256.size a ≤ S1x5632.size a) :
    P sig Λ F (Σ' (_ : FVec F S3x512 .f32) (_ : FVec F S1x512 .f32) (_ : Vec F S512x512 .f32), FVec F S1x512 .f32) := do
  let wa : Vec F S3x256 .f32 ← Prog.lift (.load R.cw (Rect.unit (s := S3x5632) owa S3x256.size hwa).toLoadRect (View.loadsAt_vmem h_S3x256))
  let wg : Vec F S3x256 .f32 ← Prog.lift (.load R.cw (Rect.unit (s := S3x5632) owg S3x256.size hwg).toLoadRect (View.loadsAt_vmem h_S3x256))
  let ba : Vec F S1x256 .f32 ← Prog.lift (.load R.cb (Rect.unit (s := S1x5632) oba S1x256.size hba).toLoadRect (View.loadsAt_vmem h_S1x256))
  let bg : Vec F S1x256 .f32 ← Prog.lift (.load R.cb (Rect.unit (s := S1x5632) obg S1x256.size hbg).toLoadRect (View.loadsAt_vmem h_S1x256))
  let x0 : Vec F S512x512 .f32 ← Prog.lift (.load R.uC (Rect.unit (s := S544x512) ![15, 0] S512x512.size inb_S544x512_S512x512_15_0).toLoadRect (View.loadsAt_vmem h_S512x512))
  pure ⟨tapsOf wa wg, biasOf ba bg, x0, tap0 (tapsOf wa wg)⟩

/-- The rest of it: the chunk convolved, gated, and projected down into the accumulator. -/
def gateTail (R : Refs sig) (od : Fin 2 → ℕ) (hd : ∀ a, od a + S256x1024.size a ≤ S2816x1024.size a)
    (p : Σ' (_ : FVec F S3x512 .f32) (_ : FVec F S1x512 .f32) (_ : Vec F S512x512 .f32), FVec F S1x512 .f32) : P sig Λ F PUnit := do
  let x1 : Vec F S512x512 .f32 ← Prog.lift (.load R.uC (Rect.unit (s := S544x512) ![16, 0] S512x512.size inb_S544x512_S512x512_16_0).toLoadRect (View.loadsAt_vmem h_S512x512))
  let x2 : Vec F S512x512 .f32 ← Prog.lift (.load R.uC (Rect.unit (s := S544x512) ![17, 0] S512x512.size inb_S544x512_S512x512_17_0).toLoadRect (View.loadsAt_vmem h_S512x512))
  let acc : Vec F S512x1024 .f32 ← Prog.lift (.load R.acc (Rect.unit (s := S512x1024) ![0, 0] S512x1024.size inb_S512x1024_S512x1024_0_0).toLoadRect (View.loadsAt_vmem h_S512x1024))
  let w : Vec F S256x1024 .bf16 ← Prog.lift (.load R.wdn (Rect.unit (s := S2816x1024) od S256x1024.size hd).toLoadRect (View.loadsAt_vmem h_S256x1024))
  let _ : Vec F S512x1024 .f32 ← Prog.lift (.load R.acc (Rect.unit (s := S512x1024) ![0, 0] S512x1024.size inb_S512x1024_S512x1024_0_0).toLoadRect (View.loadsAt_vmem h_S512x1024))
  Prog.lift (.store R.acc (Rect.unit (s := S512x1024) ![0, 0] S512x1024.size inb_S512x1024_S512x1024_0_0) (accOf acc (actOf (convOf p.1 p.2.1 p.2.2.2 p.2.2.1 x1 x2)) w) Finset.univ (View.stores_vmem_bits_univ h_S512x1024 rfl) (.inl rfl))

/-- A trip: two chunks gated, the chunk after each projected up meanwhile. -/
def trip (R : Refs sig) (t : Fin k0_t1_loop.trips) : P sig Λ F PUnit := do
  up R (k0_off1 t 1#32) (k0_off1_inb t 0) (k0_off2 t 1#32) (k0_off2_inb t 0)
  gateHead R (k0_off3 t) (k0_off3_inb t) (k0_off4 t) (k0_off4_inb t) (k0_off5 t) (k0_off5_inb t) (k0_off6 t) (k0_off6_inb t)
    >>= gateTail R (k0_off7 t) (k0_off7_inb t)
  up R.swap (k0_off1 t 2#32) (k0_off1_inb t 1) (k0_off2 t 2#32) (k0_off2_inb t 1)
  gateHead R.swap (k0_off8 t) (k0_off8_inb t) (k0_off9 t) (k0_off9_inb t) (k0_off10 t) (k0_off10_inb t) (k0_off11 t) (k0_off11_inb t)
    >>= gateTail R.swap (k0_off12 t) (k0_off12_inb t)

def loop (R : Refs sig) : P sig Λ F PUnit := Scf.Loop.for k0_t1_loop k0_t1_ok (⟨⟩ : PUnit) fun t _ => trip R t

/-- The first chunk's up-projection. -/
def upFirst (R : Refs sig) : P sig Λ F PUnit :=
  up R.swap ![0, 0] inb_S1024x5632_S1024x256_0_0 ![0, 2816] inb_S1024x5632_S1024x256_0_2816

/-- The last chunk's gate, in its two parts. -/
def lastHead (R : Refs sig) : P sig Λ F (Σ' (_ : FVec F S3x512 .f32) (_ : FVec F S1x512 .f32) (_ : Vec F S512x512 .f32), FVec F S1x512 .f32) :=
  gateHead R ![0, 2560] inb_S3x5632_S3x256_0_2560 ![0, 5376] inb_S3x5632_S3x256_0_5376
    ![0, 2560] inb_S1x5632_S1x256_0_2560 ![0, 5376] inb_S1x5632_S1x256_0_5376
def lastTail (R : Refs sig) (p : Σ' (_ : FVec F S3x512 .f32) (_ : FVec F S1x512 .f32) (_ : Vec F S512x512 .f32), FVec F S1x512 .f32) : P sig Λ F PUnit :=
  gateTail R ![2560, 0] inb_S2816x1024_S256x1024_2560_0 p

/-- The sum normalised and written. -/
def finish (R : Refs sig) : P sig Λ F PUnit := do
  let x1 : Vec F S512x1024 .f32 ← Prog.lift (.load R.x1 (Rect.unit (s := S512x1024) ![0, 0] S512x1024.size inb_S512x1024_S512x1024_0_0).toLoadRect (View.loadsAt_vmem h_S512x1024))
  let acc : Vec F S512x1024 .f32 ← Prog.lift (.load R.acc (Rect.unit (s := S512x1024) ![0, 0] S512x1024.size inb_S512x1024_S512x1024_0_0).toLoadRect (View.loadsAt_vmem h_S512x1024))
  let w : Vec F S1x1024 .f32 ← Prog.lift (.load R.fw (Rect.unit (s := S1x1024) ![0, 0] S1x1024.size inb_S1x1024_S1x1024_0_0).toLoadRect (View.loadsAt_vmem h_S1x1024))
  let _ : Vec F S512x1024 .f32 ← Prog.lift (.load R.y (Rect.unit (s := S512x1024) ![0, 0] S512x1024.size inb_S512x1024_S512x1024_0_0).toLoadRect (View.loadsAt_vmem h_S512x1024))
  Prog.lift (.store R.y (Rect.unit (s := S512x1024) ![0, 0] S512x1024.size inb_S512x1024_S512x1024_0_0) (outOf x1 acc w) Finset.univ (View.stores_vmem_bits_univ h_S512x1024 rfl) (.inl rfl))

/-- The whole body. -/
def body (R : Refs sig) (w : BitVec 32 × BitVec 32) : P sig Λ F PUnit := do
  head R w
  upFirst R
  loop R
  lastHead R >>= lastTail R
  finish R

end Cert.Kernel2Ideal.Ffn

end
-- ==== Proof.FfnRun.lean ====
/-
  The run of the feed-forward kernel's body: a state is what its buffers read, a triple takes a state to the state
  after, and every program of `FfnProgram` is given its triple.
-/
module

public import proofs.«01_k».proof.Proof.FfnProgram
public import proofs.«01_k».proof.Proof.Rules
public import proofs.«01_k».proof.Proof.Gen.Kernel2Ideal.Launch
public import Idealize.ShloMosaic.Lib.ValueLayout

@[expose] public section

set_option maxRecDepth 65536

noncomputable section

namespace Cert.Kernel2Ideal.Ffn

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Proof.Rules
open Facts₀ Facts

variable {F : FTy → Type} [FloatOps F] [Facts] {sig : RefSig} {Λ : Labels}

/-- What the inputs' blocks read. -/
structure Inp (F : FTy → Type) where
  xp : Vec F S16x1024 .f32
  xm : Vec F S512x1024 .f32
  xn : Vec F S16x1024 .f32
  mp : Vec F S16x512 .bf16
  mm : Vec F S512x512 .bf16
  mn : Vec F S16x512 .bf16
  ap : Vec F S16x512 .bf16
  am : Vec F S512x512 .bf16
  an : Vec F S16x512 .bf16
  wom : Vec F S512x1024 .bf16
  woa : Vec F S512x1024 .bf16
  n2 : Vec F S1x1024 .f32
  wup : Vec F S1024x5632 .bf16
  cw : Vec F S3x5632 .f32
  cb : Vec F S1x5632 .f32
  wdn : Vec F S2816x1024 .bf16
  fw : Vec F S1x1024 .f32

/-- What the other buffers read. -/
structure St (F : FTy → Type) where
  y : Vec F S512x1024 .f32
  lhs : Vec F S544x1024 .bf16
  x1 : Vec F S512x1024 .f32
  uC : Vec F S544x512 .f32
  uN : Vec F S544x512 .f32
  acc : Vec F S512x1024 .f32

def St.swap (σ : St F) : St F := { σ with uC := σ.uN, uN := σ.uC }

/-- The kernel's assertions. -/
abbrev A (sig : RefSig) (F : FTy → Type) [FloatOps F] := sProp (MT nD τ sig Unit (Elt F) ℕ (UR sig nD τ) ℕ)

variable (D : Defs nD τ sig (Elt F) Λ) (c : Dev nD) (R : Refs sig) (X : Inp F)

/-- The inputs' buffers read as said. -/
def Ins : A sig F :=
  iprop(owns (c : Thread nD τ) R.xp fullShare X.xp ∗ owns (c : Thread nD τ) R.xm fullShare X.xm ∗ owns (c : Thread nD τ) R.xn fullShare X.xn
    ∗ owns (c : Thread nD τ) R.mp fullShare X.mp ∗ owns (c : Thread nD τ) R.mm fullShare X.mm ∗ owns (c : Thread nD τ) R.mn fullShare X.mn
    ∗ owns (c : Thread nD τ) R.ap fullShare X.ap ∗ owns (c : Thread nD τ) R.am fullShare X.am ∗ owns (c : Thread nD τ) R.an fullShare X.an
    ∗ owns (c : Thread nD τ) R.wom fullShare X.wom ∗ owns (c : Thread nD τ) R.woa fullShare X.woa ∗ owns (c : Thread nD τ) R.n2 fullShare X.n2
    ∗ owns (c : Thread nD τ) R.wup fullShare X.wup ∗ owns (c : Thread nD τ) R.cw fullShare X.cw ∗ owns (c : Thread nD τ) R.cb fullShare X.cb
    ∗ owns (c : Thread nD τ) R.wdn fullShare X.wdn ∗ owns (c : Thread nD τ) R.fw fullShare X.fw)

/-- The buffers read as the inputs and the state say. -/
def Holds (σ : St F) : A sig F :=
  iprop(owns (c : Thread nD τ) R.y fullShare σ.y ∗ owns (c : Thread nD τ) R.lhs fullShare σ.lhs ∗ owns (c : Thread nD τ) R.x1 fullShare σ.x1
    ∗ owns (c : Thread nD τ) R.uC fullShare σ.uC ∗ owns (c : Thread nD τ) R.uN fullShare σ.uN ∗ owns (c : Thread nD τ) R.acc fullShare σ.acc
    ∗ Ins c R X)

/-- The weakest precondition of a program of the kernel. -/
abbrev wpK {α : Type} (p : P sig Λ F α) (Q : α → A sig F) : A sig F :=
  wp frame (wpE D Variants.none (c : Thread nD τ) none) Set.univ p Q

/-- From the state `σ` the program ends in `σ'`, returning `r`. -/
def Triple {α : Type} (σ : St F) (p : P sig Λ F α) (σ' : St F) (r : α) : Prop :=
  ∀ Q : α → A sig F, Holds c R X σ ⊢ iprop((Holds c R X σ' -∗ Q r) -∗ wpK D c p Q)

variable {D c R X}

namespace Triple

theorem reach {α : Type} {σ σ' σ'' : St F} {p : P sig Λ F α} {a b : α} (h : Triple D c R X σ p σ' a) (e : σ' = σ'') (e' : a = b) :
    Triple D c R X σ p σ'' b := e ▸ e' ▸ h

theorem pure {α : Type} (σ : St F) (a : α) : Triple D c R X σ (Pure.pure a) σ a := fun Q => by
  iintro H HK
  iapply (le_wp_ret frame (wpE D Variants.none (c : Thread nD τ) none) Set.univ a Q)
  iapply HK; iexact H

theorem bind {α β : Type} {σ σ' σ'' : St F} {p : P sig Λ F α} {k : α → P sig Λ F β} {a : α} {b : β}
    (h : Triple D c R X σ p σ' a) (h' : Triple D c R X σ' (k a) σ'' b) : Triple D c R X σ (p >>= k) σ'' b := fun Q => by
  unfold wpK
  rw [wp_bind]
  iintro H HK
  iapply (h _) $$ H
  iintro H
  iapply (h' Q) $$ H
  iexact HK

theorem swap {α : Type} {σ σ' : St F} {p : P sig Λ F α} {a : α} (h : Triple D c R.swap X σ.swap p σ' a) :
    Triple D c R X σ p σ'.swap a := fun Q => by
  have h1 : Holds c R X σ ⊢ Holds c R.swap X σ.swap := by
    unfold Holds Ins Refs.swap St.swap
    iintro ⟨H1, H2, H3, H4, H5, H6, H7⟩
    iframe
  have h2 : Holds c R.swap X σ' ⊢ Holds c R X σ'.swap := by
    unfold Holds Ins Refs.swap St.swap
    iintro ⟨H1, H2, H3, H4, H5, H6, H7⟩
    iframe
  iintro H HK
  ihave H := h1 $$ H
  iapply (h Q) $$ H
  iintro H
  iapply HK
  iapply h2; iexact H

/-- A load through a memref the state owns. -/
theorem load {σ : St F} {s : Shape} {e : EltTy} {m : Memref sig .tc .vmem s e} {off size : Fin s.rank → ℕ}
    {inb : ∀ a, off a + size a ≤ s.size a} {hl : m.view.LoadsAt (Rect.unit off size inb).toLoadRect} {x : s.Idx → Elt F e}
    (h : Holds c R X σ ⊢ iprop(owns (c : Thread nD τ) m fullShare x ∗ (owns (c : Thread nD τ) m fullShare x -∗ Holds c R X σ))) :
    Triple D c R X σ (Prog.lift (.load m (Rect.unit off size inb).toLoadRect hl)) σ (VecWindow.window x off size inb) := fun Q => by
  iintro H HK
  ihave ⟨H, HZ⟩ := h $$ H
  iapply (wp_load_owns Variants.none (c : Thread nD τ) none Set.univ (m := m) (off := off) (size := size) (inb := inb) (hl := hl)) $$ H
  iintro H
  iapply (le_wp_ret frame (wpE D Variants.none (c : Thread nD τ) none) Set.univ _ Q)
  iapply HK
  iapply HZ; iexact H

/-- A store through a memref the state owns. -/
theorem store {σ : St F} {s : Shape} {e : EltTy} {m : Memref sig .tc .vmem s e} {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {x : s.Idx → Elt F e} {g : (s.Idx → Elt F e) → St F}
    (h : Holds c R X σ ⊢ iprop(owns (c : Thread nD τ) m fullShare x ∗ (∀ y, owns (c : Thread nD τ) m fullShare y -∗ Holds c R X (g y)))) :
    Triple D c R X σ (Prog.lift (.store m (Rect.unit off size inb) w Finset.univ hx hm)) (g (VecWindow.put x off size w)) ⟨⟩ := fun Q => by
  iintro H HK
  ihave ⟨H, HZ⟩ := h $$ H
  iapply (wp_store_owns Variants.none (c : Thread nD τ) none Set.univ (m := m) (off := off) (size := size) (inb := inb) (hx := hx) (hm := hm)) $$ H
  iintro H
  iapply (le_wp_ret frame (wpE D Variants.none (c : Thread nD τ) none) Set.univ _ Q)
  iapply HK
  iapply HZ; iexact H

end Triple

/-! ## Taking one buffer out of the state, and putting its content or another back -/

section Take
variable {T P' B : A sig F}

theorem hd : iprop(T ∗ B) ⊢ iprop(T ∗ (T -∗ T ∗ B)) := by
  iintro ⟨H, HB⟩
  isplitl [H]
  · iexact H
  · iintro H; iframe
theorem tl (h : B ⊢ iprop(T ∗ (T -∗ B))) : iprop(P' ∗ B) ⊢ iprop(T ∗ (T -∗ P' ∗ B)) := by
  iintro ⟨HP, HB⟩
  ihave ⟨H, HZ⟩ := h $$ HB
  isplitl [H]
  · iexact H
  · iintro H
    isplitl [HP]
    · iexact HP
    · iapply HZ; iexact H
theorem end' : T ⊢ iprop(T ∗ (T -∗ T)) := by
  iintro H
  isplitl [H]
  · iexact H
  · iintro H; iexact H
theorem hdS {α : Type} {T : α → A sig F} {x : α} : iprop(T x ∗ B) ⊢ iprop(T x ∗ (∀ y, T y -∗ T y ∗ B)) := by
  iintro ⟨H, HB⟩
  isplitl [H]
  · iexact H
  · iintro %y H; iframe
theorem tlS {α : Type} {T B' : α → A sig F} {x : α} (h : B ⊢ iprop(T x ∗ (∀ y, T y -∗ B' y))) :
    iprop(P' ∗ B) ⊢ iprop(T x ∗ (∀ y, T y -∗ P' ∗ B' y)) := by
  iintro ⟨HP, HB⟩
  ihave ⟨H, HZ⟩ := h $$ HB
  isplitl [H]
  · iexact H
  · iintro %y H
    isplitl [HP]
    · iexact HP
    · iapply HZ; iexact H

variable (c R X) (σ : St F)

/-- One input's buffer can be taken out of the inputs. -/
abbrev TakeI {s : Shape} {e : EltTy} (m : Memref sig .tc .vmem s e) (x : s.Idx → Elt F e) : Prop :=
  Ins c R X ⊢ iprop(owns (c : Thread nD τ) m fullShare x ∗ (owns (c : Thread nD τ) m fullShare x -∗ Ins c R X))

theorem in_xp : TakeI c R X R.xp X.xp := hd
theorem in_xm : TakeI c R X R.xm X.xm := tl hd
theorem in_xn : TakeI c R X R.xn X.xn := tl <| tl hd
theorem in_mp : TakeI c R X R.mp X.mp := tl <| tl <| tl hd
theorem in_mm : TakeI c R X R.mm X.mm := tl <| tl <| tl <| tl hd
theorem in_mn : TakeI c R X R.mn X.mn := tl <| tl <| tl <| tl <| tl hd
theorem in_ap : TakeI c R X R.ap X.ap := tl <| tl <| tl <| tl <| tl <| tl hd
theorem in_am : TakeI c R X R.am X.am := tl <| tl <| tl <| tl <| tl <| tl <| tl hd
theorem in_an : TakeI c R X R.an X.an := tl <| tl <| tl <| tl <| tl <| tl <| tl <| tl hd
theorem in_wom : TakeI c R X R.wom X.wom := tl <| tl <| tl <| tl <| tl <| tl <| tl <| tl <| tl hd
theorem in_woa : TakeI c R X R.woa X.woa := tl <| tl <| tl <| tl <| tl <| tl <| tl <| tl <| tl <| tl hd
theorem in_n2 : TakeI c R X R.n2 X.n2 := tl <| tl <| tl <| tl <| tl <| tl <| tl <| tl <| tl <| tl <| tl hd
theorem in_wup : TakeI c R X R.wup X.wup := tl <| tl <| tl <| tl <| tl <| tl <| tl <| tl <| tl <| tl <| tl <| tl hd
theorem in_cw : TakeI c R X R.cw X.cw := tl <| tl <| tl <| tl <| tl <| tl <| tl <| tl <| tl <| tl <| tl <| tl <| tl hd
theorem in_cb : TakeI c R X R.cb X.cb := tl <| tl <| tl <| tl <| tl <| tl <| tl <| tl <| tl <| tl <| tl <| tl <| tl <| tl hd
theorem in_wdn : TakeI c R X R.wdn X.wdn :=
  tl <| tl <| tl <| tl <| tl <| tl <| tl <| tl <| tl <| tl <| tl <| tl <| tl <| tl <| tl hd
theorem in_fw : TakeI c R X R.fw X.fw :=
  tl <| tl <| tl <| tl <| tl <| tl <| tl <| tl <| tl <| tl <| tl <| tl <| tl <| tl <| tl <| tl end'

variable {c R X} in
/-- An input's buffer, out of the whole. -/
theorem inp_of {s : Shape} {e : EltTy} {m : Memref sig .tc .vmem s e} {x : s.Idx → Elt F e} (h : TakeI c R X m x) :
    Holds c R X σ ⊢ iprop(owns (c : Thread nD τ) m fullShare x ∗ (owns (c : Thread nD τ) m fullShare x -∗ Holds c R X σ)) :=
  tl <| tl <| tl <| tl <| tl <| tl h

theorem take_y : Holds c R X σ ⊢ iprop(owns (c : Thread nD τ) R.y fullShare σ.y
    ∗ (∀ y, owns (c : Thread nD τ) R.y fullShare y -∗ Holds c R X { σ with y := y })) := hdS
theorem take_lhs : Holds c R X σ ⊢ iprop(owns (c : Thread nD τ) R.lhs fullShare σ.lhs
    ∗ (∀ y, owns (c : Thread nD τ) R.lhs fullShare y -∗ Holds c R X { σ with lhs := y })) := tlS hdS
theorem take_x1 : Holds c R X σ ⊢ iprop(owns (c : Thread nD τ) R.x1 fullShare σ.x1
    ∗ (∀ y, owns (c : Thread nD τ) R.x1 fullShare y -∗ Holds c R X { σ with x1 := y })) := tlS <| tlS hdS
theorem take_uC : Holds c R X σ ⊢ iprop(owns (c : Thread nD τ) R.uC fullShare σ.uC
    ∗ (∀ y, owns (c : Thread nD τ) R.uC fullShare y -∗ Holds c R X { σ with uC := y })) := tlS <| tlS <| tlS hdS
theorem take_uN : Holds c R X σ ⊢ iprop(owns (c : Thread nD τ) R.uN fullShare σ.uN
    ∗ (∀ y, owns (c : Thread nD τ) R.uN fullShare y -∗ Holds c R X { σ with uN := y })) := tlS <| tlS <| tlS <| tlS hdS
theorem take_acc : Holds c R X σ ⊢ iprop(owns (c : Thread nD τ) R.acc fullShare σ.acc
    ∗ (∀ y, owns (c : Thread nD τ) R.acc fullShare y -∗ Holds c R X { σ with acc := y })) := tlS <| tlS <| tlS <| tlS <| tlS hdS

/-- A content put back as it was. -/
theorem same {s : Shape} {e : EltTy} {m : Memref sig .tc .vmem s e} {x : s.Idx → Elt F e} {g : (s.Idx → Elt F e) → St F}
    (h : Holds c R X σ ⊢ iprop(owns (c : Thread nD τ) m fullShare x ∗ (∀ y, owns (c : Thread nD τ) m fullShare y -∗ Holds c R X (g y))))
    (hg : g x = σ) : Holds c R X σ ⊢ iprop(owns (c : Thread nD τ) m fullShare x ∗ (owns (c : Thread nD τ) m fullShare x -∗ Holds c R X σ)) := by
  iintro H
  ihave ⟨H, HZ⟩ := h $$ H
  isplitl [H]
  · iexact H
  · iintro H
    ihave H := HZ $$ H
    rw [hg]
    iexact H

end Take

/-! ## Whole windows -/

section Whole

theorem zero2 : ∀ a : Fin 2, (![0, 0] : Fin 2 → ℕ) a = 0
  | 0 => rfl
  | 1 => rfl

theorem window_full {α : Type} {s : Shape} (x : s.Idx → α) {off : Fin s.rank → ℕ} (h0 : ∀ a, off a = 0) (inb) :
    VecWindow.window x off s.size inb = x := by
  funext y
  exact congrArg x (funext fun a => Fin.ext (by
    show off a + 1 * (y a).val = (y a).val
    rw [h0]; omega))

theorem put_full {α : Type} {s : Shape} (x w : s.Idx → α) {off : Fin s.rank → ℕ} (h0 : ∀ a, off a = 0) :
    VecWindow.put x off s.size w = w := by
  funext y
  have h : ∀ a, off a ≤ (y a).val ∧ (y a).val < off a + s.size a := fun a => by
    rw [h0]; exact ⟨Nat.zero_le _, lt_of_lt_of_eq (y a).isLt (Nat.zero_add _).symm⟩
  unfold VecWindow.put
  rw [dif_pos h]
  exact congrArg w (funext fun a => Fin.ext (by
    show (y a).val - off a = (y a).val
    rw [h0]; rfl))

/-- A load of a whole buffer. -/
theorem Triple.loadAll {σ : St F} {s : Shape} {e : EltTy} {m : Memref sig .tc .vmem s e} {off : Fin s.rank → ℕ}
    {inb : ∀ a, off a + s.size a ≤ s.size a} {hl : m.view.LoadsAt (Rect.unit off s.size inb).toLoadRect} {x : s.Idx → Elt F e}
    (h0 : ∀ a, off a = 0)
    (h : Holds c R X σ ⊢ iprop(owns (c : Thread nD τ) m fullShare x ∗ (owns (c : Thread nD τ) m fullShare x -∗ Holds c R X σ))) :
    Triple D c R X σ (Prog.lift (.load m (Rect.unit off s.size inb).toLoadRect hl)) σ x :=
  (Triple.load h).reach rfl (window_full x h0 inb)

/-- A store to a whole buffer. -/
theorem Triple.storeAll {σ : St F} {s : Shape} {e : EltTy} {m : Memref sig .tc .vmem s e} {off : Fin s.rank → ℕ}
    {inb : ∀ a, off a + s.size a ≤ s.size a} {w : s.Idx → Elt F e}
    {hx : (m.access (Rect.unit off s.size inb)).Stores Finset.univ} {hm : Finset.univ = Finset.univ ∨ ∀ a, (Rect.unit off s.size inb).stride a = 1}
    {x : s.Idx → Elt F e} {g : (s.Idx → Elt F e) → St F} (h0 : ∀ a, off a = 0)
    (h : Holds c R X σ ⊢ iprop(owns (c : Thread nD τ) m fullShare x ∗ (∀ y, owns (c : Thread nD τ) m fullShare y -∗ Holds c R X (g y)))) :
    Triple D c R X σ (Prog.lift (.store m (Rect.unit off s.size inb) w Finset.univ hx hm)) (g w) ⟨⟩ :=
  (Triple.store h).reach (congrArg g (put_full x w h0)) rfl

end Whole

end Cert.Kernel2Ideal.Ffn

end
-- ==== Proof.FfnSteps.lean ====
/-
  The triples of the feed-forward kernel's programs, and what the whole body leaves: the result's rows are a function of
  the inputs' blocks alone.
-/
module

public import proofs.«01_k».proof.Proof.FfnRun

@[expose] public section

set_option maxRecDepth 65536

noncomputable section

namespace Cert.Kernel2Ideal.Ffn

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts] {sig : RefSig} {Λ : Labels}

/-! ## What is written, whole -/

/-- Two halves side by side. -/
def beside (a b : Vec F S544x256 .f32) : Vec F S544x512 .f32 := fun i =>
  if h : (i 1).val < 256 then a (ix2 (i 0) ⟨(i 1).val, h⟩)
  else b (ix2 (i 0) ⟨(i 1).val - 256, (by have : (i 1).val < 512 := (i 1).isLt; omega)⟩)

theorem put_beside (u : Vec F S544x512 .f32) (a b : Vec F S544x256 .f32) :
    VecWindow.put (VecWindow.put u ![0, 0] S544x256.size a) ![0, 256] S544x256.size b = beside a b := by
  funext i
  have hi0 : (i 0).val < 544 := (i 0).isLt
  have hi1 : (i 1).val < 512 := (i 1).isLt
  unfold beside
  by_cases h : (i 1).val < 256
  · rw [dif_pos h]
    unfold VecWindow.put
    rw [dif_neg (fun H => by have h1 : 256 ≤ (i 1).val := (H 1).1; omega)]
    have H : ∀ k, (![0, 0] : Fin 2 → ℕ) k ≤ (i k).val ∧ (i k).val < (![0, 0] : Fin 2 → ℕ) k + S544x256.size k := fun k =>
      match k with
      | 0 => ⟨Nat.zero_le _, by show (i 0).val < 0 + 544; omega⟩
      | 1 => ⟨Nat.zero_le _, by show (i 1).val < 0 + 256; omega⟩
    rw [dif_pos H]
    exact congrArg a (funext fun k => Fin.ext (match k with | 0 => Nat.sub_zero _ | 1 => Nat.sub_zero _))
  · rw [dif_neg h]
    unfold VecWindow.put
    have H : ∀ k, (![0, 256] : Fin 2 → ℕ) k ≤ (i k).val ∧ (i k).val < (![0, 256] : Fin 2 → ℕ) k + S544x256.size k := fun k =>
      match k with
      | 0 => ⟨Nat.zero_le _, by show (i 0).val < 0 + 544; omega⟩
      | 1 => ⟨by show 256 ≤ (i 1).val; omega, by show (i 1).val < 256 + 256; omega⟩
    rw [dif_pos H]
    exact congrArg b (funext fun k => Fin.ext (match k with | 0 => Nat.sub_zero _ | 1 => rfl))

/-- The rows with the halos above and below. -/
def stacked (top : Vec F S16x1024 .bf16) (mid : Vec F S512x1024 .bf16) (bot : Vec F S16x1024 .bf16) : Vec F S544x1024 .bf16 := fun i =>
  if h : (i 0).val < 16 then top (ix2 ⟨(i 0).val, h⟩ (i 1))
  else if h' : (i 0).val < 528 then mid (ix2 ⟨(i 0).val - 16, (by omega)⟩ (i 1))
  else bot (ix2 ⟨(i 0).val - 528, (by have : (i 0).val < 544 := (i 0).isLt; omega)⟩ (i 1))

theorem put_stacked (l : Vec F S544x1024 .bf16) (top : Vec F S16x1024 .bf16) (mid : Vec F S512x1024 .bf16) (bot : Vec F S16x1024 .bf16) :
    VecWindow.put (VecWindow.put (VecWindow.put l ![0, 0] S16x1024.size top) ![16, 0] S512x1024.size mid) ![528, 0] S16x1024.size bot
      = stacked top mid bot := by
  funext i
  have hi0 : (i 0).val < 544 := (i 0).isLt
  have hi1 : (i 1).val < 1024 := (i 1).isLt
  unfold stacked VecWindow.put
  by_cases h : (i 0).val < 16
  · rw [dif_pos h, dif_neg (fun H => by have h1 : 528 ≤ (i 0).val := (H 0).1; omega), dif_neg (fun H => by have h1 : 16 ≤ (i 0).val := (H 0).1; omega)]
    have H : ∀ k, (![0, 0] : Fin 2 → ℕ) k ≤ (i k).val ∧ (i k).val < (![0, 0] : Fin 2 → ℕ) k + S16x1024.size k := fun k =>
      match k with
      | 0 => ⟨Nat.zero_le _, by show (i 0).val < 0 + 16; omega⟩
      | 1 => ⟨Nat.zero_le _, by show (i 1).val < 0 + 1024; omega⟩
    rw [dif_pos H]
    exact congrArg top (funext fun k => Fin.ext (match k with | 0 => Nat.sub_zero _ | 1 => Nat.sub_zero _))
  · rw [dif_neg h]
    by_cases h' : (i 0).val < 528
    · rw [dif_pos h', dif_neg (fun H => by have h1 : 528 ≤ (i 0).val := (H 0).1; omega)]
      have H : ∀ k, (![16, 0] : Fin 2 → ℕ) k ≤ (i k).val ∧ (i k).val < (![16, 0] : Fin 2 → ℕ) k + S512x1024.size k := fun k =>
        match k with
        | 0 => ⟨by show 16 ≤ (i 0).val; omega, by show (i 0).val < 16 + 512; omega⟩
        | 1 => ⟨Nat.zero_le _, by show (i 1).val < 0 + 1024; omega⟩
      rw [dif_pos H]
      exact congrArg mid (funext fun k => Fin.ext (match k with | 0 => rfl | 1 => Nat.sub_zero _))
    · rw [dif_neg h']
      have H : ∀ k, (![528, 0] : Fin 2 → ℕ) k ≤ (i k).val ∧ (i k).val < (![528, 0] : Fin 2 → ℕ) k + S16x1024.size k := fun k =>
        match k with
        | 0 => ⟨by show 528 ≤ (i 0).val; omega, by show (i 0).val < 528 + 16; omega⟩
        | 1 => ⟨Nat.zero_le _, by show (i 1).val < 0 + 1024; omega⟩
      rw [dif_pos H]
      exact congrArg bot (funext fun k => Fin.ext (match k with | 0 => rfl | 1 => Nat.sub_zero _))

/-! ## The chunks' weights -/

theorem col_inb {r : ℕ} (n : ℕ) (o : ℕ) (ho : o ≤ 2816) :
    ∀ a, (![0, o + 256 * (n % 11)] : Fin 2 → ℕ) a + (⟨2, ![r, 256]⟩ : Shape).size a ≤ (⟨2, ![r, 5632]⟩ : Shape).size a := by
  have := Nat.mod_lt n (show 0 < 11 by decide)
  intro a
  match a with
  | 0 => show 0 + r ≤ r; omega
  | 1 => show o + 256 * (n % 11) + 256 ≤ 5632; omega
theorem row_inb (n : ℕ) : ∀ a, (![256 * (n % 11), 0] : Fin 2 → ℕ) a + S256x1024.size a ≤ S2816x1024.size a := by
  have := Nat.mod_lt n (show 0 < 11 by decide)
  intro a
  match a with
  | 0 => show 256 * (n % 11) + 256 ≤ 2816; omega
  | 1 => show 0 + 1024 ≤ 1024; omega

/-- A chunk's 256 columns of a width of 5632, in the first half (`o = 0`) or the second (`o = 2816`). -/
def colsAt {α : Type} {r : ℕ} (x : (⟨2, ![r, 5632]⟩ : Shape).Idx → α) (o : ℕ) (ho : o ≤ 2816) (n : ℕ) : (⟨2, ![r, 256]⟩ : Shape).Idx → α :=
  VecWindow.window x ![0, o + 256 * (n % 11)] (⟨2, ![r, 256]⟩ : Shape).size (col_inb n o ho)
def rowsAt (x : Vec F S2816x1024 .bf16) (n : ℕ) : Vec F S256x1024 .bf16 :=
  VecWindow.window x ![256 * (n % 11), 0] S256x1024.size (row_inb n)

theorem window_at {α : Type} {s : Shape} (x : s.Idx → α) {off off' size : Fin s.rank → ℕ} (inb : ∀ a, off a + size a ≤ s.size a)
    (inb' : ∀ a, off' a + size a ≤ s.size a) (h : off = off') : VecWindow.window x off size inb = VecWindow.window x off' size inb' := by
  subst h; rfl

variable (X : Inp F)

/-- A chunk's up-projection of the rows. -/
def upBuf (l : Vec F S544x1024 .bf16) (n : ℕ) : Vec F S544x512 .f32 :=
  beside (upHalf l (colsAt X.wup 0 (by decide) n)) (upHalf l (colsAt X.wup 2816 (by decide) n))

def tapsAt (n : ℕ) : FVec F S3x512 .f32 := tapsOf (colsAt X.cw 0 (by decide) n) (colsAt X.cw 2816 (by decide) n)
def biasAt (n : ℕ) : FVec F S1x512 .f32 := biasOf (colsAt X.cb 0 (by decide) n) (colsAt X.cb 2816 (by decide) n)
/-- The rows moved by one up, in place, and by one down. -/
def shiftOf (o : ℕ) (ho : ∀ a, (![o, 0] : Fin 2 → ℕ) a + S512x512.size a ≤ S544x512.size a) (u : Vec F S544x512 .f32) : Vec F S512x512 .f32 :=
  VecWindow.window u ![o, 0] S512x512.size ho
def convAt (u : Vec F S544x512 .f32) (n : ℕ) : FVec F S512x512 .f32 :=
  convOf (tapsAt X n) (biasAt X n) (tap0 (tapsAt X n)) (shiftOf 15 inb_S544x512_S512x512_15_0 u)
    (shiftOf 16 inb_S544x512_S512x512_16_0 u) (shiftOf 17 inb_S544x512_S512x512_17_0 u)

/-- The rows with halos, as the inputs give them. -/
def mixedOf : FVec F S544x1024 .f32 := mixed X.xp X.xm X.xn X.mp X.mm X.mn X.ap X.am X.an X.wom X.woa
def lhsOf (w : BitVec 32 × BitVec 32) : Vec F S544x1024 .bf16 :=
  stacked (lhsTop w (normed (mixedOf X) X.n2)) (lhsMid (normed (mixedOf X) X.n2)) (lhsBot w (normed (mixedOf X) X.n2))
def zeroAcc : FVec F S512x1024 .f32 :=
  shapeCast S512x1024 (broadcast S512x1024 (Scalar.ofBits (F := F) .f32 0x00000000#32)) shapeCasts_S512x1024_S512x1024

/-! ## The steps -/

namespace St

def head (w : BitVec 32 × BitVec 32) (σ : St F) : St F := { σ with x1 := inner (mixedOf X), lhs := lhsOf X w, acc := zeroAcc }
def up (n : ℕ) (σ : St F) : St F := { σ with uN := upBuf X σ.lhs n }
def gate (n : ℕ) (σ : St F) : St F := { σ with acc := accOf σ.acc (actOf (convAt X σ.uC n)) (rowsAt X.wdn n) }
def trip (t : ℕ) (σ : St F) : St F := ((((σ.up X (2 * t + 1)).gate X (2 * t)).swap.up X (2 * t + 2)).gate X (2 * t + 1)).swap
def finish (σ : St F) : St F := { σ with y := outOf σ.x1 σ.acc X.fw }
def iter (f : ℕ → St F → St F) (σ : St F) : ℕ → St F
  | 0 => σ
  | n + 1 => f n (iter f σ n)

end St

variable {X} {D : Defs nD τ sig (Elt F) Λ} {c : Dev nD} {R : Refs sig}

open Triple in
theorem triple_head (w : BitVec 32 × BitVec 32) (σ : St F) : Triple D c R X σ (head R w) (σ.head X w) ⟨⟩ := by
  unfold head headOf
  refine (loadAll zero2 (inp_of σ (in_xp c R X))).bind ?_
  refine (loadAll zero2 (inp_of σ (in_xm c R X))).bind ?_
  refine (loadAll zero2 (inp_of σ (in_xn c R X))).bind ?_
  refine (loadAll zero2 (inp_of σ (in_mp c R X))).bind ?_
  refine (loadAll zero2 (inp_of σ (in_mm c R X))).bind ?_
  refine (loadAll zero2 (inp_of σ (in_mn c R X))).bind ?_
  refine (loadAll zero2 (inp_of σ (in_ap c R X))).bind ?_
  refine (loadAll zero2 (inp_of σ (in_am c R X))).bind ?_
  refine (loadAll zero2 (inp_of σ (in_an c R X))).bind ?_
  refine (loadAll zero2 (inp_of σ (in_wom c R X))).bind ?_
  refine (loadAll zero2 (inp_of σ (in_woa c R X))).bind ?_
  refine (loadAll zero2 (inp_of σ (in_n2 c R X))).bind ?_
  refine (loadAll zero2 (same c R X σ (take_x1 c R X σ) rfl)).bind ?_
  refine (storeAll zero2 (take_x1 c R X σ)).bind ?_
  refine (load (same c R X _ (take_lhs c R X _) rfl)).bind ?_
  refine (store (take_lhs c R X _)).bind ?_
  refine (load (same c R X _ (take_lhs c R X _) rfl)).bind ?_
  refine (store (take_lhs c R X _)).bind ?_
  refine (load (same c R X _ (take_lhs c R X _) rfl)).bind ?_
  refine (store (take_lhs c R X _)).bind ?_
  refine (loadAll zero2 (same c R X _ (take_acc c R X _) rfl)).bind ?_
  refine Triple.reach (storeAll zero2 (take_acc c R X _)) ?_ rfl
  exact congrArg (fun l : Vec F S544x1024 .bf16 => ({ σ with x1 := inner (mixedOf X), lhs := l, acc := zeroAcc } : St F)) (put_stacked σ.lhs _ _ _)

open Triple in
theorem triple_up (n : ℕ) {oa og : Fin 2 → ℕ} (ha) (hg) (ea : oa = ![0, 0 + 256 * (n % 11)]) (eg : og = ![0, 2816 + 256 * (n % 11)]) (σ : St F) :
    Triple D c R X σ (up R oa ha og hg) (σ.up X n) ⟨⟩ := by
  subst ea eg
  unfold up
  refine (loadAll zero2 (same c R X σ (take_lhs c R X σ) rfl)).bind ?_
  refine (load (inp_of σ (in_wup c R X))).bind ?_
  refine (load (inp_of σ (in_wup c R X))).bind ?_
  refine (load (same c R X σ (take_uN c R X σ) rfl)).bind ?_
  refine (store (take_uN c R X σ)).bind ?_
  refine (load (same c R X _ (take_uN c R X _) rfl)).bind ?_
  refine Triple.reach (store (take_uN c R X _)) ?_ rfl
  exact congrArg (fun u : Vec F S544x512 .f32 => ({ σ with uN := u } : St F)) (put_beside σ.uN _ _)

open Triple in
theorem triple_gate (n : ℕ) {owa owg oba obg od : Fin 2 → ℕ} (hwa) (hwg) (hba) (hbg) (hd) (ewa : owa = ![0, 0 + 256 * (n % 11)])
    (ewg : owg = ![0, 2816 + 256 * (n % 11)]) (eba : oba = ![0, 0 + 256 * (n % 11)]) (ebg : obg = ![0, 2816 + 256 * (n % 11)])
    (ed : od = ![256 * (n % 11), 0]) (σ : St F) :
    Triple D c R X σ (gateHead R owa hwa owg hwg oba hba obg hbg >>= gateTail R od hd) (σ.gate X n) ⟨⟩ := by
  subst ewa ewg eba ebg ed
  unfold gateHead gateTail
  refine Triple.bind (σ' := σ) (a := ⟨tapsAt X n, biasAt X n, shiftOf 15 inb_S544x512_S512x512_15_0 σ.uC, tap0 (tapsAt X n)⟩) ?_ ?_
  · refine (load (inp_of σ (in_cw c R X))).bind ?_
    refine (load (inp_of σ (in_cw c R X))).bind ?_
    refine (load (inp_of σ (in_cb c R X))).bind ?_
    refine (load (inp_of σ (in_cb c R X))).bind ?_
    refine (load (same c R X σ (take_uC c R X σ) rfl)).bind ?_
    exact Triple.pure σ _
  · refine (load (same c R X σ (take_uC c R X σ) rfl)).bind ?_
    refine (load (same c R X σ (take_uC c R X σ) rfl)).bind ?_
    refine (loadAll zero2 (same c R X σ (take_acc c R X σ) rfl)).bind ?_
    refine (load (inp_of σ (in_wdn c R X))).bind ?_
    refine (loadAll zero2 (same c R X σ (take_acc c R X σ) rfl)).bind ?_
    refine Triple.reach (storeAll zero2 (take_acc c R X σ)) ?_ rfl
    rfl

open Triple in
theorem triple_finish (σ : St F) : Triple D c R X σ (finish R) (σ.finish X) ⟨⟩ := by
  unfold finish
  refine (loadAll zero2 (same c R X σ (take_x1 c R X σ) rfl)).bind ?_
  refine (loadAll zero2 (same c R X σ (take_acc c R X σ) rfl)).bind ?_
  refine (loadAll zero2 (inp_of σ (in_fw c R X))).bind ?_
  refine (loadAll zero2 (same c R X σ (take_y c R X σ) rfl)).bind ?_
  refine Triple.reach (storeAll zero2 (take_y c R X σ)) ?_ rfl
  rfl

end Cert.Kernel2Ideal.Ffn

end
-- ==== Proof.FfnBody.lean ====
/-
  The whole body of the feed-forward kernel: the loop by its trips, and the rows it leaves.
-/
module

public import proofs.«01_k».proof.Proof.FfnSteps

@[expose] public section

set_option maxRecDepth 65536

noncomputable section

namespace Cert.Kernel2Ideal.Ffn

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts] {sig : RefSig} {Λ : Labels}
variable {D : Defs nD τ sig (Elt F) Λ} {c : Dev nD} {R : Refs sig} {X : Inp F}

theorem triple_for (l : Scf.Loop 32) (hok : l.OK) (g : Fin l.trips → PUnit → P sig Λ F PUnit) (f : ℕ → St F → St F)
    (h : ∀ (t : Fin l.trips) σ, Triple D c R X σ (g t ⟨⟩) (f t.val σ) ⟨⟩) (σ : St F) :
    Triple D c R X σ (l.for hok ⟨⟩ g) (σ.iter f l.trips) ⟨⟩ := fun Q => by
  unfold wpK Scf.Loop.for
  iintro H HK
  iapply (Scf.wp_for frame (wpE D Variants.none (c : Thread nD τ) none) Set.univ l.lb l.ub l.st hok ⟨⟩ g
    (fun n _ => Holds c R X (σ.iter f n)) (fun t _ => by
      iintro H
      iapply (h t _ _) $$ H
      iintro H; iexact H))
  isplitl [H]
  · iexact H
  · iintro %_ H
    iapply HK; iexact H

theorem trips : k0_t1_loop.trips = 5 := by decide +kernel

theorem off1_1 : ∀ t : Fin k0_t1_loop.trips, k0_off1 t 1#32 = ![0, 0 + 256 * ((2 * t.val + 1) % 11)] := by decide +kernel
theorem off2_1 : ∀ t : Fin k0_t1_loop.trips, k0_off2 t 1#32 = ![0, 2816 + 256 * ((2 * t.val + 1) % 11)] := by decide +kernel
theorem off1_2 : ∀ t : Fin k0_t1_loop.trips, k0_off1 t 2#32 = ![0, 0 + 256 * ((2 * t.val + 2) % 11)] := by decide +kernel
theorem off2_2 : ∀ t : Fin k0_t1_loop.trips, k0_off2 t 2#32 = ![0, 2816 + 256 * ((2 * t.val + 2) % 11)] := by decide +kernel
theorem off3 : ∀ t : Fin k0_t1_loop.trips, k0_off3 t = ![0, 0 + 256 * ((2 * t.val) % 11)] := by decide +kernel
theorem off4 : ∀ t : Fin k0_t1_loop.trips, k0_off4 t = ![0, 2816 + 256 * ((2 * t.val) % 11)] := by decide +kernel
theorem off5 : ∀ t : Fin k0_t1_loop.trips, k0_off5 t = ![0, 0 + 256 * ((2 * t.val) % 11)] := by decide +kernel
theorem off6 : ∀ t : Fin k0_t1_loop.trips, k0_off6 t = ![0, 2816 + 256 * ((2 * t.val) % 11)] := by decide +kernel
theorem off7 : ∀ t : Fin k0_t1_loop.trips, k0_off7 t = ![256 * ((2 * t.val) % 11), 0] := by decide +kernel
theorem off8 : ∀ t : Fin k0_t1_loop.trips, k0_off8 t = ![0, 0 + 256 * ((2 * t.val + 1) % 11)] := by decide +kernel
theorem off9 : ∀ t : Fin k0_t1_loop.trips, k0_off9 t = ![0, 2816 + 256 * ((2 * t.val + 1) % 11)] := by decide +kernel
theorem off10 : ∀ t : Fin k0_t1_loop.trips, k0_off10 t = ![0, 0 + 256 * ((2 * t.val + 1) % 11)] := by decide +kernel
theorem off11 : ∀ t : Fin k0_t1_loop.trips, k0_off11 t = ![0, 2816 + 256 * ((2 * t.val + 1) % 11)] := by decide +kernel
theorem off12 : ∀ t : Fin k0_t1_loop.trips, k0_off12 t = ![256 * ((2 * t.val + 1) % 11), 0] := by decide +kernel

theorem triple_trip (t : Fin k0_t1_loop.trips) (σ : St F) : Triple D c R X σ (trip R t) (σ.trip X t.val) ⟨⟩ := by
  unfold trip
  refine (triple_up (2 * t.val + 1) _ _ (off1_1 t) (off2_1 t) σ).bind ?_
  refine (triple_gate (2 * t.val) _ _ _ _ _ (off3 t) (off4 t) (off5 t) (off6 t) (off7 t) _).bind ?_
  refine (Triple.swap (triple_up (2 * t.val + 2) _ _ (off1_2 t) (off2_2 t) _)).bind ?_
  exact Triple.swap (triple_gate (2 * t.val + 1) _ _ _ _ _ (off8 t) (off9 t) (off10 t) (off11 t) (off12 t) _)

theorem triple_loop (σ : St F) : Triple D c R X σ (loop R) (σ.iter (fun t σ => σ.trip X t) 5) ⟨⟩ := by
  have h := triple_for (D := D) (c := c) (R := R) (X := X) k0_t1_loop k0_t1_ok (fun t _ => trip R t) (fun t σ => σ.trip X t)
    (fun t σ => triple_trip t σ) σ
  exact Triple.reach h (by rw [trips]) rfl

variable (X)

/-- The state after the body. -/
def St.after (w : BitVec 32 × BitVec 32) (σ : St F) : St F :=
  (((((σ.head X w).swap.up X 0).swap.iter (fun t σ => σ.trip X t) 5).gate X 10).finish X)

variable {X} in
theorem triple_body (w : BitVec 32 × BitVec 32) (σ : St F) : Triple D c R X σ (body R w) (σ.after X w) ⟨⟩ := by
  unfold body
  refine (triple_head w σ).bind ?_
  refine (Triple.swap (triple_up 0 _ _ (by decide +kernel) (by decide +kernel) _)).bind ?_
  refine (triple_loop _).bind ?_
  refine (triple_gate 10 _ _ _ _ _ (by decide +kernel) (by decide +kernel) (by decide +kernel) (by decide +kernel) (by decide +kernel) _).bind ?_
  exact triple_finish _

/-! ## What it leaves -/

/-- The accumulator after `n` chunks. -/
def accAt (l : Vec F S544x1024 .bf16) : ℕ → FVec F S512x1024 .f32
  | 0 => zeroAcc
  | n + 1 => accOf (accAt l n) (actOf (convAt X (upBuf X l n) n)) (rowsAt X.wdn n)

/-- A tile's rows of the result. -/
def outBlk (w : BitVec 32 × BitVec 32) : FVec F S512x1024 .f32 := outOf (inner (mixedOf X)) (accAt X (lhsOf X w) 11) X.fw

theorem trip_spec (l : Vec F S544x1024 .bf16) (t : ℕ) (σ : St F) (hl : σ.lhs = l) (ha : σ.acc = accAt X l (2 * t)) (hu : σ.uC = upBuf X l (2 * t)) :
    (σ.trip X t).lhs = l ∧ (σ.trip X t).x1 = σ.x1 ∧ (σ.trip X t).acc = accAt X l (2 * (t + 1)) ∧ (σ.trip X t).uC = upBuf X l (2 * (t + 1)) := by
  subst hl
  refine ⟨rfl, rfl, ?_, rfl⟩
  show accOf (accOf σ.acc (actOf (convAt X σ.uC (2 * t))) (rowsAt X.wdn (2 * t)))
      (actOf (convAt X (upBuf X σ.lhs (2 * t + 1)) (2 * t + 1))) (rowsAt X.wdn (2 * t + 1)) = _
  rw [ha, hu]
  rfl

theorem iter_spec (l : Vec F S544x1024 .bf16) (σ : St F) (hl : σ.lhs = l) (ha : σ.acc = zeroAcc) (hu : σ.uC = upBuf X l 0) (n : ℕ) :
    (σ.iter (fun t σ => σ.trip X t) n).lhs = l ∧ (σ.iter (fun t σ => σ.trip X t) n).x1 = σ.x1
      ∧ (σ.iter (fun t σ => σ.trip X t) n).acc = accAt X l (2 * n) ∧ (σ.iter (fun t σ => σ.trip X t) n).uC = upBuf X l (2 * n) := by
  induction n with
  | zero => exact ⟨hl, rfl, ha, hu⟩
  | succ n ih =>
    obtain ⟨h1, h2, h3, h4⟩ := ih
    have h := trip_spec X l n _ h1 h3 h4
    exact ⟨h.1, h.2.1.trans h2, h.2.2.1, h.2.2.2⟩

theorem after_y (w : BitVec 32 × BitVec 32) (σ : St F) : (σ.after X w).y = outBlk X w := by
  obtain ⟨-, h2, h3, h4⟩ := iter_spec X (lhsOf X w) ((σ.head X w).swap.up X 0).swap rfl rfl rfl 5
  unfold St.after St.finish St.gate outBlk
  show outOf (St.x1 _) (accOf (St.acc _) (actOf (convAt X (St.uC _) 10)) (rowsAt X.wdn 10)) X.fw = _
  rw [h2, h3, h4]
  rfl

/-- The buffers that are only the kernel's, at unnamed contents. -/
def anyScratch (c : Dev nD) (R : Refs sig) : A sig F :=
  iprop((∃ f, owns (c : Thread nD τ) R.lhs fullShare f) ∗ (∃ f, owns (c : Thread nD τ) R.x1 fullShare f)
    ∗ (∃ f, owns (c : Thread nD τ) R.uC fullShare f) ∗ (∃ f, owns (c : Thread nD τ) R.uN fullShare f)
    ∗ (∃ f, owns (c : Thread nD τ) R.acc fullShare f))

/-- The whole body, from unnamed contents of everything but the inputs. -/
theorem run_body (w : BitVec 32 × BitVec 32) {y : Vec F S512x1024 .f32} (Q : PUnit → A sig F) :
    iprop(anyScratch c R ∗ owns (c : Thread nD τ) R.y fullShare y ∗ Ins c R X)
      ⊢ iprop((anyScratch c R ∗ owns (c : Thread nD τ) R.y fullShare (outBlk X w) ∗ Ins c R X -∗ Q ⟨⟩) -∗ wpK D c (body R w) Q) := by
  unfold anyScratch
  iintro ⟨⟨⟨%f0, S0⟩, ⟨%f1, S1⟩, ⟨%f2, S2⟩, ⟨%f3, S3⟩, ⟨%f4, S4⟩⟩, Hy, HI⟩ HK
  iapply (triple_body (D := D) (c := c) (R := R) (X := X) w ⟨y, f0, f1, f2, f3, f4⟩ _) $$ [S0 S1 S2 S3 S4 Hy HI]
  · unfold Holds
    iframe
  unfold Holds
  rw [after_y]
  iintro ⟨Hy, S0, S1, S2, S3, S4, HI⟩
  iapply HK
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  iframe

end Cert.Kernel2Ideal.Ffn

end
-- ==== Proof.FfnSequence.lean ====
/-
  The feed-forward block of one sequence, of any length, as a function of its rows: the mixers' outputs projected and
  added, the rows normalised, projected up, convolved with their neighbours, gated, projected down, added and normalised.
-/
module

public import proofs.«01_k».proof.Proof.Softmax

@[expose] public section

noncomputable section

/-- A row divided by the root of its mean square, an element of it weighted. -/
def Cert.Softmax.rms (x : Fin 1024 → EReal) (w : EReal) (c : Fin 1024) : EReal :=
  x c * Idealize.ShloMosaic.Ideal.rsqrt (Idealize.ShloMosaic.Ideal.div (∑ k, x k * x k) (Idealize.ShloMosaic.Ideal.ofBits .f32 0x44800000#32)
    + Idealize.ShloMosaic.Ideal.ofBits .f32 0x358637BD#32) * w

/-- A gate: a number times the logistic function of it. -/
def Cert.Softmax.silu (g : EReal) : EReal := Idealize.ShloMosaic.Ideal.div g (1 + Idealize.ShloMosaic.Ideal.exp (0 - g))

namespace Cert.Ffn

open Cert.Softmax

variable {T : ℕ}

/-- A sequence's rows and mixers' outputs, and the block's weights. -/
structure Seq (T : ℕ) where
  x : Fin T → Fin 1024 → EReal
  m : Fin T → Fin 512 → EReal
  a : Fin T → Fin 512 → EReal
  wo : Fin 1024 → Fin 1024 → EReal
  n2 : Fin 1024 → EReal
  wup : Fin 1024 → Fin 5632 → EReal
  cw : Fin 3 → Fin 5632 → EReal
  cb : Fin 5632 → EReal
  wdn : Fin 2816 → Fin 1024 → EReal
  fw : Fin 1024 → EReal

namespace Seq

variable (S : Seq T)

def mixed (r : Fin T) (c : Fin 1024) : EReal :=
  (S.x r c + ∑ k : Fin 512, S.m r k * S.wo ⟨k.val, by omega⟩ c) + ∑ k : Fin 512, S.a r k * S.wo ⟨512 + k.val, by omega⟩ c

def normed (r : Fin T) (c : Fin 1024) : EReal := rms (S.mixed r) (S.n2 c) c

def up (r : Fin T) (c : Fin 5632) : EReal := ∑ k, S.normed r k * S.wup k c

/-- The rows projected up, a row of zeros before the first and one after the last. -/
def pad (p : ℕ) (c : Fin 5632) : EReal := if h : 1 ≤ p ∧ p ≤ T then S.up ⟨p - 1, by omega⟩ c else 0

def conv (r : Fin T) (c : Fin 5632) : EReal :=
  ((S.pad r.val c * S.cw 0 c + S.pad (r.val + 1) c * S.cw 1 c) + S.pad (r.val + 2) c * S.cw 2 c) + S.cb c

def act (r : Fin T) (f : Fin 2816) : EReal := silu (S.conv r ⟨2816 + f.val, by omega⟩) * S.conv r ⟨f.val, by omega⟩

def down (r : Fin T) (c : Fin 1024) : EReal := ∑ f, S.act r f * S.wdn f c

def out (r : Fin T) (c : Fin 1024) : EReal := rms (fun k => S.mixed r k + S.down r k) (S.fw c) c

theorem pad_inside (r : Fin T) (c : Fin 5632) : S.pad (r.val + 1) c = S.up r c := by
  unfold pad
  rw [dif_pos (by have := r.isLt; omega)]
  rfl

theorem pad_outside (p : ℕ) (h : p = 0 ∨ p = T + 1) (c : Fin 5632) : S.pad p c = 0 := by
  unfold pad
  rw [dif_neg (by omega)]

/-- Arrays that satisfy the block's equations, one after another. -/
structure Reads (mixed normed : Fin T → Fin 1024 → EReal) (up : Fin T → Fin 5632 → EReal) (pad : Fin (T + 2) → Fin 5632 → EReal)
    (conv : Fin T → Fin 5632 → EReal) (act : Fin T → Fin 2816 → EReal) (down out : Fin T → Fin 1024 → EReal) : Prop where
  mixed_at : ∀ r c, mixed r c = S.mixed r c
  normed_at : ∀ r c, normed r c = rms (fun k => mixed r k) (S.n2 c) c
  up_at : ∀ r c, up r c = ∑ k, normed r k * S.wup k c
  pad_in : ∀ (r : Fin T) c, pad ⟨r.val + 1, by omega⟩ c = up r c
  pad_out : ∀ (p : Fin (T + 2)), p.val = 0 ∨ p.val = T + 1 → ∀ c, pad p c = 0
  conv_at : ∀ (r : Fin T) c, conv r c = ((pad ⟨r.val, by omega⟩ c * S.cw 0 c + pad ⟨r.val + 1, by omega⟩ c * S.cw 1 c)
    + pad ⟨r.val + 2, by omega⟩ c * S.cw 2 c) + S.cb c
  act_at : ∀ r (f : Fin 2816), act r f = silu (conv r ⟨2816 + f.val, by omega⟩) * conv r ⟨f.val, by omega⟩
  down_at : ∀ r c, down r c = ∑ f, act r f * S.wdn f c
  out_at : ∀ r c, out r c = rms (fun k => mixed r k + down r k) (S.fw c) c

/-- Their last is the block's result. -/
theorem Reads.out_eq {S : Seq T} {mixed normed : Fin T → Fin 1024 → EReal} {up : Fin T → Fin 5632 → EReal} {pad : Fin (T + 2) → Fin 5632 → EReal}
    {conv : Fin T → Fin 5632 → EReal} {act : Fin T → Fin 2816 → EReal} {down out : Fin T → Fin 1024 → EReal}
    (h : S.Reads mixed normed up pad conv act down out) (r : Fin T) (c : Fin 1024) : out r c = S.out r c := by
  have hm : mixed = S.mixed := funext fun r => funext fun c => h.mixed_at r c
  have hn : normed = S.normed := funext fun r => funext fun c => by rw [h.normed_at, hm]; rfl
  have hu : up = S.up := funext fun r => funext fun c => by rw [h.up_at, hn]; rfl
  have hp : ∀ p c, pad p c = S.pad p.val c := fun p c => by
    by_cases hp : p.val = 0 ∨ p.val = T + 1
    · rw [h.pad_out p hp, S.pad_outside _ hp]
    · have hlt := p.isLt
      obtain ⟨r, hr⟩ : ∃ r : Fin T, p = ⟨r.val + 1, by omega⟩ := ⟨⟨p.val - 1, by omega⟩, Fin.ext (by show p.val = p.val - 1 + 1; omega)⟩
      rw [hr, h.pad_in, hu]
      exact (S.pad_inside r c).symm
  have hc : conv = S.conv := funext fun r => funext fun c => by rw [h.conv_at, hp, hp, hp]; rfl
  have ha : act = S.act := funext fun r => funext fun f => by rw [h.act_at, hc]; rfl
  have hd : down = S.down := funext fun r => funext fun c => by rw [h.down_at, ha]; rfl
  rw [h.out_at, hm, hd]
  rfl

end Seq

end Cert.Ffn

end
-- ==== Proof.FfnRefValue.lean ====
/-
  What the feed-forward reference's result reads over the extended reals, operation by operation: the rows with the
  mixers' outputs added, the normalised rows, the up-projection with a row of zeros at each end, the convolution, the
  gate, the down-projection, and the result.
-/
module

public import proofs.«01_k».proof.Proof.FfnSequence
public import proofs.«01_k».proof.Proof.Gen.Reference2Ideal.Read
public import Idealize.ShloMosaic.Lib.ValueIdx
public import Idealize.ShloMosaic.Lib.KernelVsHost

@[expose] public section

set_option maxRecDepth 65536

noncomputable section

namespace Cert.Reference2Ideal.Ffn

open Cert.Reference2Ideal Cert.Reference2Ideal.Gen Cert.Reference2Ideal.Read Cert.Softmax
open Idealize.ShloMosaic Idealize.ShloMosaic.TcCoe Idealize.ShloMosaic.ValueIdx

variable (x0 : (⟨S16384x1024, .f32⟩ : BufTy).Contents (Elt Ideal)) (x1 x2 : (⟨S16384x512, .bf16⟩ : BufTy).Contents (Elt Ideal))
  (x3 : (⟨S1024x1024, .f32⟩ : BufTy).Contents (Elt Ideal)) (x4 : (⟨S1024, .f32⟩ : BufTy).Contents (Elt Ideal))
  (x5 : (⟨S1024x5632, .f32⟩ : BufTy).Contents (Elt Ideal)) (x6 : (⟨S3x5632, .f32⟩ : BufTy).Contents (Elt Ideal))
  (x7 : (⟨S5632, .f32⟩ : BufTy).Contents (Elt Ideal)) (x8 : (⟨S2816x1024, .f32⟩ : BufTy).Contents (Elt Ideal))
  (x9 : (⟨S1024, .f32⟩ : BufTy).Contents (Elt Ideal))

theorem one_f32 : Ideal.ofBits .f32 0x3F800000#32 = 1 := by
  simp [Ideal.ofBits, Ideal.ieee]
  rw [← EReal.coe_mul]; norm_num

/-- An index of rank two or one by its coordinates. -/
theorem idx2 {n k : ℕ} (i : (⟨2, ![n, k]⟩ : Shape).Idx) (a : Fin n) (b : Fin k) (h0 : (i 0).val = a.val) (h1 : (i 1).val = b.val) : i = ix2 a b :=
  funext fun x => Fin.ext (match x with | ⟨0, _⟩ => h0 | ⟨1, _⟩ => h1)
theorem idx1 {n : ℕ} (i : (⟨1, ![n]⟩ : Shape).Idx) (a : Fin n) (h0 : (i 0).val = a.val) : i = ix1 a :=
  funext fun x => Fin.ext (match x with | ⟨0, _⟩ => h0)

/-- A row of the input with the mixers' outputs projected and added. -/
theorem mixed_apply (r : Fin 16384) (c : Fin 1024) :
    (val_main_v3 (F := Ideal) x0 x1 x2 x3 (ix2 r c) : EReal)
      = ((x0 (ix2 r c) : EReal) + ∑ k : Fin 512, (x1 (ix2 r k) : EReal) * x3 (ix2 (⟨k.val, by omega⟩ : Fin 1024) c))
        + ∑ k : Fin 512, (x2 (ix2 r k) : EReal) * x3 (ix2 (⟨512 + k.val, by omega⟩ : Fin 1024) c) := by
  rw [val_main_v3_apply, val_main_v2_apply]
  refine Eq.trans ?_ (add_assoc _ _ _).symm
  refine congrArg (fun y : EReal => (x0 (ix2 r c) : EReal) + y) ?_
  refine (Fin.sum_univ_add (a := 512) (b := 512) _).trans (congrArg₂ (fun x y : EReal => x + y) (Finset.sum_congr rfl fun k _ => ?_) (Finset.sum_congr rfl fun k _ => ?_))
  · refine congrArg₂ (fun x y : EReal => x * y) ?_ (congrArg x3 (idx2 _ _ _ rfl rfl))
    rw [val_main_v1_apply]
    unfold val_main_v0
    exact concatenate_pair_apply_left (t := S16384x1024) (s₁ := S16384x512) (s₂ := S16384x512) 1 x1 x2 _ _ rfl (ix2 r k)
      (fun b => match b with | ⟨0, _⟩ => rfl | ⟨1, _⟩ => rfl)
  · refine congrArg₂ (fun x y : EReal => x * y) ?_ (congrArg x3 (idx2 _ _ _ rfl rfl))
    rw [val_main_v1_apply]
    unfold val_main_v0
    exact concatenate_pair_apply_right (t := S16384x1024) (s₁ := S16384x512) (s₂ := S16384x512) 1 x1 x2 _ _ rfl rfl (ix2 r k)
      (fun b hb => match b, hb with | ⟨0, _⟩, _ => rfl | ⟨1, _⟩, hb => absurd rfl hb) (Nat.add_comm _ _)

theorem normed_apply (r : Fin 16384) (c : Fin 1024) :
    (val_main_v16 (F := Ideal) x0 x1 x2 x3 x4 (ix2 r c) : EReal)
      = rms (fun k => val_main_v3 (F := Ideal) x0 x1 x2 x3 (ix2 r k)) (x4 (ix1 c)) c := by
  rw [val_main_v16_apply, val_main_v13_apply, val_main_v15_apply, val_main_v14_apply, val_main_v12_apply, val_main_v11_apply, val_main_v10_apply,
    val_main_v8_apply, val_main_v9_apply, val_main_v7_apply, val_main_v6_apply, val_main_v5_apply]
  refine congrArg₂ (fun x y : EReal => x * y) ?_ (congrArg x4 (idx1 _ _ rfl))
  refine congrArg (fun x : EReal => (val_main_v3 (F := Ideal) x0 x1 x2 x3 (ix2 r c) : EReal) * Ideal.rsqrt (Ideal.div x _ + _)) ?_
  refine (congrArg (fun x : EReal => x + _) Ideal.ofBits_zero_f32).trans ((zero_add _).trans (Finset.sum_congr rfl fun k _ => ?_))
  rw [val_main_v4_apply]
  refine congrArg (fun i => (val_main_v3 (F := Ideal) x0 x1 x2 x3 i : EReal) * val_main_v3 (F := Ideal) x0 x1 x2 x3 i) (idx2 _ _ _ rfl rfl)

theorem up_apply (r : Fin 16384) (c : Fin 5632) :
    (val_main_v17 (F := Ideal) x0 x1 x2 x3 x4 x5 (ix2 r c) : EReal)
      = ∑ k : Fin 1024, (val_main_v16 (F := Ideal) x0 x1 x2 x3 x4 (ix2 r k) : EReal) * x5 (ix2 k c) := by
  rw [val_main_v17_apply]
  exact Finset.sum_congr rfl fun k _ => congrArg₂ (fun x y : EReal => x * y) (congrArg _ (idx2 _ _ _ rfl rfl)) (congrArg x5 (idx2 _ _ _ rfl rfl))

/-- The padded rows: a row of zeros before the first and one after the last. -/
theorem pad_inside (r : Fin 16384) (c : Fin 5632) :
    (val_main_v18 (F := Ideal) x0 x1 x2 x3 x4 x5 (ix2 (⟨r.val + 1, by omega⟩ : Fin 16386) c) : EReal) = val_main_v17 (F := Ideal) x0 x1 x2 x3 x4 x5 (ix2 r c) := by
  unfold val_main_v18
  generalize val_main_v17 (F := Ideal) x0 x1 x2 x3 x4 x5 = y
  exact pad_apply_of_inside _ _ _ y _ _ _ _ (ix2 r c) (fun a => match a with
    | ⟨0, _⟩ => by show r.val + 1 = 1 + r.val * (0 + 1); omega
    | ⟨1, _⟩ => by show c.val = 0 + c.val * (0 + 1); omega)

theorem pad_outside (p : Fin 16386) (hp : p.val = 0 ∨ p.val = 16385) (c : Fin 5632) :
    (val_main_v18 (F := Ideal) x0 x1 x2 x3 x4 x5 (ix2 p c) : EReal) = 0 := by
  unfold val_main_v18
  generalize val_main_v17 (F := Ideal) x0 x1 x2 x3 x4 x5 = y
  refine (pad_apply_of_not_inside _ _ _ y _ _ _ (ix2 p c) (0 : Fin 2) (fun h => ?_)).trans ?_
  · obtain ⟨h1, -, h2⟩ := h
    have h1 : 1 ≤ p.val := h1
    have h2 : (p.val - 1) / (0 + 1) < 16384 := h2
    omega
  · rw [val_main_call0_v0_apply, val_main_c_apply]
    show (((0#32 : BitVec 32).toInt : ℝ) : EReal) = 0
    simp

/-- The convolution of three neighbouring rows. -/
theorem conv_apply (r : Fin 16384) (c : Fin 5632) :
    (val_main_v41 (F := Ideal) x0 x1 x2 x3 x4 x5 x6 x7 (ix2 r c) : EReal)
      = (((val_main_v18 (F := Ideal) x0 x1 x2 x3 x4 x5 (ix2 (⟨r.val, by omega⟩ : Fin 16386) c) : EReal) * x6 (ix2 (0 : Fin 3) c)
          + (val_main_v18 (F := Ideal) x0 x1 x2 x3 x4 x5 (ix2 (⟨r.val + 1, by omega⟩ : Fin 16386) c) : EReal) * x6 (ix2 (1 : Fin 3) c))
          + (val_main_v18 (F := Ideal) x0 x1 x2 x3 x4 x5 (ix2 (⟨r.val + 2, by omega⟩ : Fin 16386) c) : EReal) * x6 (ix2 (2 : Fin 3) c))
        + x7 (ix1 c) := by
  have hc := c.isLt
  rw [val_main_v41_apply, val_main_v38_apply, val_main_v31_apply, val_main_v24_apply, val_main_v30_apply, val_main_v37_apply,
    val_main_v19_apply, val_main_v25_apply, val_main_v32_apply, val_main_v23_apply, val_main_v22_apply, val_main_v21_apply, val_main_v20_apply,
    val_main_v29_apply, val_main_v28_apply, val_main_v27_apply, val_main_v26_apply, val_main_v36_apply, val_main_v35_apply, val_main_v34_apply,
    val_main_v33_apply, val_main_v40_apply, val_main_v39_apply]
  refine congrArg₂ (fun x y : EReal => x + y) (congrArg₂ (fun x y : EReal => x + y) (congrArg₂ (fun x y : EReal => x + y) ?_ ?_) ?_) (congrArg x7 (idx1 _ _ rfl))
  · exact congrArg₂ (fun x y : EReal => x * y) (congrArg _ (idx2 _ _ _ rfl rfl)) (congrArg x6 (idx2 _ _ _ rfl (Nat.mod_eq_of_lt hc)))
  · exact congrArg₂ (fun x y : EReal => x * y) (congrArg _ (idx2 _ _ _ (Nat.add_comm _ _) rfl)) (congrArg x6 (idx2 _ _ _ rfl (Nat.mod_eq_of_lt hc)))
  · exact congrArg₂ (fun x y : EReal => x * y) (congrArg _ (idx2 _ _ _ (Nat.add_comm _ _) rfl)) (congrArg x6 (idx2 _ _ _ rfl (Nat.mod_eq_of_lt hc)))

/-- A number times the reciprocal is the quotient, where the divisor is not zero. -/
theorem mul_div_one (g y : EReal) (hy : y ≠ 0) : g * Ideal.div 1 y = Ideal.div g y := by
  unfold Ideal.div
  rw [if_neg hy, if_neg hy, one_mul]

theorem one_add_exp_ne (x : EReal) : 1 + Ideal.exp x ≠ 0 := by
  have h : (0 : EReal) ≤ Ideal.exp x := by
    induction x with
    | bot => exact le_rfl
    | top => exact le_top
    | coe r => exact EReal.coe_nonneg.mpr (Real.exp_pos r).le
  exact ne_of_gt (lt_of_lt_of_le zero_lt_one (le_add_of_nonneg_right h))

/-- The gated columns. -/
theorem act_apply (r : Fin 16384) (f : Fin 2816) :
    (val_main_v45 (F := Ideal) x0 x1 x2 x3 x4 x5 x6 x7 (ix2 r f) : EReal)
      = silu (val_main_v41 (F := Ideal) x0 x1 x2 x3 x4 x5 x6 x7 (ix2 r (⟨2816 + f.val, by omega⟩ : Fin 5632)))
        * val_main_v41 (F := Ideal) x0 x1 x2 x3 x4 x5 x6 x7 (ix2 r (⟨f.val, by omega⟩ : Fin 5632)) := by
  have hg : (val_main_v43 (F := Ideal) x0 x1 x2 x3 x4 x5 x6 x7 (ix2 r f) : EReal)
      = val_main_v41 (F := Ideal) x0 x1 x2 x3 x4 x5 x6 x7 (ix2 r (⟨2816 + f.val, by omega⟩ : Fin 5632)) := by
    rw [val_main_v43_apply]
    exact congrArg _ (idx2 _ _ _ rfl rfl)
  have ha : (val_main_v42 (F := Ideal) x0 x1 x2 x3 x4 x5 x6 x7 (ix2 r f) : EReal)
      = val_main_v41 (F := Ideal) x0 x1 x2 x3 x4 x5 x6 x7 (ix2 r (⟨f.val, by omega⟩ : Fin 5632)) := by
    rw [val_main_v42_apply]
    exact congrArg _ (idx2 _ _ _ rfl rfl)
  rw [val_main_v45_apply, val_main_v44_apply]
  refine congrArg₂ (fun x y : EReal => x * y) ?_ ha
  rw [val_main_call1_v5_apply, val_main_call1_v4_apply, val_main_call1_v3_apply, val_main_call1_v2_apply, val_main_call1_v1_apply,
    val_main_call1_v0_apply, ← hg]
  generalize (val_main_v43 (F := Ideal) x0 x1 x2 x3 x4 x5 x6 x7 (ix2 r f) : EReal) = g
  show g * Ideal.div (Ideal.ofBits .f32 0x3F800000#32) (Ideal.ofBits .f32 0x3F800000#32 + Ideal.exp (-g)) = silu g
  rw [one_f32, mul_div_one _ _ (one_add_exp_ne _), silu, zero_sub]

theorem down_apply (r : Fin 16384) (c : Fin 1024) :
    (val_main_v46 (F := Ideal) x0 x1 x2 x3 x4 x5 x6 x7 x8 (ix2 r c) : EReal)
      = ∑ f : Fin 2816, (val_main_v45 (F := Ideal) x0 x1 x2 x3 x4 x5 x6 x7 (ix2 r f) : EReal) * x8 (ix2 f c) := by
  rw [val_main_v46_apply]
  exact Finset.sum_congr rfl fun k _ => congrArg₂ (fun x y : EReal => x * y) (congrArg _ (idx2 _ _ _ rfl rfl)) (congrArg x8 (idx2 _ _ _ rfl rfl))

/-- The result. -/
theorem result_apply (r : Fin 16384) (c : Fin 1024) :
    (val_main_v60 (F := Ideal) x0 x1 x2 x3 x4 x5 x6 x7 x8 x9 (ix2 r c) : EReal)
      = rms (fun k => (val_main_v3 (F := Ideal) x0 x1 x2 x3 (ix2 r k) : EReal) + val_main_v46 (F := Ideal) x0 x1 x2 x3 x4 x5 x6 x7 x8 (ix2 r k)) (x9 (ix1 c)) c := by
  rw [val_main_v60_apply, val_main_v57_apply, val_main_v59_apply, val_main_v58_apply, val_main_v56_apply, val_main_v55_apply, val_main_v54_apply,
    val_main_v52_apply, val_main_v53_apply, val_main_v51_apply, val_main_v50_apply, val_main_v49_apply]
  refine congrArg₂ (fun x y : EReal => x * y) ?_ (congrArg x9 (idx1 _ _ rfl))
  rw [val_main_v47_apply]
  refine congrArg (fun x : EReal => ((val_main_v3 (F := Ideal) x0 x1 x2 x3 (ix2 r c) : EReal) + val_main_v46 (F := Ideal) x0 x1 x2 x3 x4 x5 x6 x7 x8 (ix2 r c))
    * Ideal.rsqrt (Ideal.div x _ + _)) ?_
  refine (congrArg (fun x : EReal => x + _) Ideal.ofBits_zero_f32).trans ((zero_add _).trans (Finset.sum_congr rfl fun k _ => ?_))
  rw [val_main_v48_apply, val_main_v47_apply]
  refine congrArg (fun i => ((val_main_v3 (F := Ideal) x0 x1 x2 x3 i : EReal) + val_main_v46 (F := Ideal) x0 x1 x2 x3 x4 x5 x6 x7 x8 i)
    * ((val_main_v3 (F := Ideal) x0 x1 x2 x3 i : EReal) + val_main_v46 (F := Ideal) x0 x1 x2 x3 x4 x5 x6 x7 x8 i)) (idx2 _ _ _ rfl rfl)

/-- The arguments as one sequence. -/
def seqOf : Cert.Ffn.Seq 16384 where
  x r c := x0 (ix2 r c)
  m r k := x1 (ix2 r k)
  a r k := x2 (ix2 r k)
  wo k c := x3 (ix2 k c)
  n2 c := x4 (ix1 c)
  wup k c := x5 (ix2 k c)
  cw k c := x6 (ix2 k c)
  cb c := x7 (ix1 c)
  wdn k c := x8 (ix2 k c)
  fw c := x9 (ix1 c)

/-- The result is the block's of the sequence. -/
theorem result_seq (r : Fin 16384) (c : Fin 1024) :
    (val_main_v60 (F := Ideal) x0 x1 x2 x3 x4 x5 x6 x7 x8 x9 (ix2 r c) : EReal) = (seqOf x0 x1 x2 x3 x4 x5 x6 x7 x8 x9).out r c :=
  Cert.Ffn.Seq.Reads.out_eq (S := seqOf x0 x1 x2 x3 x4 x5 x6 x7 x8 x9)
    (mixed := fun r c => val_main_v3 (F := Ideal) x0 x1 x2 x3 (ix2 r c))
    (normed := fun r c => val_main_v16 (F := Ideal) x0 x1 x2 x3 x4 (ix2 r c))
    (up := fun r c => val_main_v17 (F := Ideal) x0 x1 x2 x3 x4 x5 (ix2 r c))
    (pad := fun p c => val_main_v18 (F := Ideal) x0 x1 x2 x3 x4 x5 (ix2 p c))
    (conv := fun r c => val_main_v41 (F := Ideal) x0 x1 x2 x3 x4 x5 x6 x7 (ix2 r c))
    (act := fun r f => val_main_v45 (F := Ideal) x0 x1 x2 x3 x4 x5 x6 x7 (ix2 r f))
    (down := fun r c => val_main_v46 (F := Ideal) x0 x1 x2 x3 x4 x5 x6 x7 x8 (ix2 r c))
    (out := fun r c => val_main_v60 (F := Ideal) x0 x1 x2 x3 x4 x5 x6 x7 x8 x9 (ix2 r c))
    { mixed_at := mixed_apply x0 x1 x2 x3
      normed_at := normed_apply x0 x1 x2 x3 x4
      up_at := up_apply x0 x1 x2 x3 x4 x5
      pad_in := pad_inside x0 x1 x2 x3 x4 x5
      pad_out := pad_outside x0 x1 x2 x3 x4 x5
      conv_at := conv_apply x0 x1 x2 x3 x4 x5 x6 x7
      act_at := act_apply x0 x1 x2 x3 x4 x5 x6 x7
      down_at := down_apply x0 x1 x2 x3 x4 x5 x6 x7 x8
      out_at := result_apply x0 x1 x2 x3 x4 x5 x6 x7 x8 x9 } r c

end Cert.Reference2Ideal.Ffn

end
-- ==== Proof.FfnBlockValue.lean ====
/-
  What the feed-forward kernel's tile reads over the extended reals: each step of the body at a row and a column, and
  the accumulator as a sum over the hidden columns of the chunks gone through.
-/
module

public import proofs.«01_k».proof.Proof.FfnBody
public import proofs.«01_k».proof.Proof.FfnRefValue
public import Idealize.ShloMosaic.Lib.ValueIdx
public import Idealize.ShloMosaic.Lib.MatmulPlain
public import Idealize.ShloMosaic.Lib.Pipeline.Value

@[expose] public section

set_option maxRecDepth 65536

noncomputable section

namespace Cert.Kernel2Ideal.Ffn

open Idealize.ShloMosaic Idealize.ShloMosaic.TcCoe Idealize.ShloMosaic.ValueIdx
open Cert.Softmax Cert.Reference2Ideal.Ffn
open Facts₀ Facts

/-! ## Layout -/

/-- Rows joined with a halo above and below read an array's row `v`, if each piece does where its rows lie. -/
theorem joined_apply {W : ℕ} {α : Type} (p n : (⟨2, ![16, W]⟩ : Shape).Idx → α) (m : (⟨2, ![512, W]⟩ : Shape).Idx → α)
    (h : Shape.Concatenates [⟨2, ![16, W]⟩, ⟨2, ![512, W]⟩, ⟨2, ![16, W]⟩] (⟨2, ![544, W]⟩ : Shape) 0) (r : Fin 544) (c : Fin W) (v : α)
    (hp : ∀ a : Fin 16, a.val = r.val → p (ix2 a c) = v) (hm : ∀ a : Fin 512, a.val + 16 = r.val → m (ix2 a c) = v)
    (hn : ∀ a : Fin 16, a.val + 528 = r.val → n (ix2 a c) = v) :
    concatenate (⟨2, ![544, W]⟩ : Shape) 0 [⟨⟨2, ![16, W]⟩, p⟩, ⟨⟨2, ![512, W]⟩, m⟩, ⟨⟨2, ![16, W]⟩, n⟩] h (ix2 r c) = v := by
  have hr := r.isLt
  let xs : List ((s : Shape) × (s.Idx → α)) := [⟨⟨2, ![16, W]⟩, p⟩, ⟨⟨2, ![512, W]⟩, m⟩, ⟨⟨2, ![16, W]⟩, n⟩]
  by_cases h1 : r.val < 16
  · exact (concatenate_apply_piece (t := ⟨2, ![544, W]⟩) 0 xs h (ix2 r c) 0 (by show 0 < 3; decide) ⟨2, ![16, W]⟩ p rfl rfl 0 rfl (ix2 ⟨r.val, h1⟩ c)
      (fun b hb => match b, hb with | ⟨0, _⟩, hb => absurd rfl hb | ⟨1, _⟩, _ => rfl) (Nat.zero_add _)).trans (hp _ rfl)
  · by_cases h2 : r.val < 528
    · exact (concatenate_apply_piece (t := ⟨2, ![544, W]⟩) 0 xs h (ix2 r c) 1 (by show 1 < 3; decide) ⟨2, ![512, W]⟩ m rfl rfl 16 rfl (ix2 ⟨r.val - 16, by omega⟩ c)
        (fun b hb => match b, hb with | ⟨0, _⟩, hb => absurd rfl hb | ⟨1, _⟩, _ => rfl)
        (by show 16 + (r.val - 16) = r.val; omega)).trans (hm _ (by show r.val - 16 + 16 = r.val; omega))
    · exact (concatenate_apply_piece (t := ⟨2, ![544, W]⟩) 0 xs h (ix2 r c) 2 (by show 2 < 3; decide) ⟨2, ![16, W]⟩ n rfl rfl 528 rfl (ix2 ⟨r.val - 528, by omega⟩ c)
        (fun b hb => match b, hb with | ⟨0, _⟩, hb => absurd rfl hb | ⟨1, _⟩, _ => rfl)
        (by show 528 + (r.val - 528) = r.val; omega)).trans (hn _ (by show r.val - 528 + 528 = r.val; omega))

/-- A normalisation of rows as the kernel spells it. -/
theorem rms_rows {n : ℕ} (x : FVec Ideal (⟨2, ![n, 1024]⟩ : Shape) .f32) (w : Vec Ideal S1x1024 .f32)
    (hred : (⟨2, ![n, 1024]⟩ : Shape).Reduces [1] ⟨1, ![n]⟩) (hs : (⟨1, ![n]⟩ : Shape).ShapeCasts ⟨2, ![n, 1]⟩)
    (hb : (⟨2, ![n, 1]⟩ : Shape).Broadcasts ⟨2, ![n, 1024]⟩) (hw : S1x1024.ShapeCasts S1x1024) (hbw : S1x1024.Broadcasts ⟨2, ![n, 1024]⟩)
    (r : Fin n) (c : Fin 1024) :
    (mulf (mulf x (broadcastTo (⟨2, ![n, 1024]⟩ : Shape) (rsqrt (addf (divf (shapeCast (⟨2, ![n, 1]⟩ : Shape)
      (multiReduction .add [1] (⟨1, ![n]⟩ : Shape) (mulf x x) 0x00000000#32 hred (.inl rfl) rfl) hs)
      (broadcast (⟨2, ![n, 1]⟩ : Shape) (Scalar.ofBits .f32 0x44800000#32))) (broadcast (⟨2, ![n, 1]⟩ : Shape) (Scalar.ofBits .f32 0x358637BD#32)))) hb))
      (broadcastTo (⟨2, ![n, 1024]⟩ : Shape) (shapeCast S1x1024 w hw) hbw) (ix2 r c) : EReal)
      = rms (fun k => x (ix2 r k)) (w (ix2 (0 : Fin 1) c)) c := by
  rw [mulf_apply, mulf_apply, broadcastTo_1b_ab_apply, shapeCast_self]
  refine congrArg (fun y : EReal => (x (ix2 r c) : EReal) * y * _) ?_
  have hn := r.isLt
  refine (broadcastTo_apply _ hb (ix2 r c) (ix2 r (0 : Fin 1)) (fun a => match a with
    | ⟨0, _⟩ => by show r.val = if n = 1 then 0 else r.val; split <;> omega
    | ⟨1, _⟩ => rfl)).trans ?_
  refine congrArg (fun y : EReal => Ideal.rsqrt (Ideal.div y _ + _)) ?_
  refine (shapeCast_apply _ hs (ix2 r (0 : Fin 1)) (ix1 r) (by
    rw [Shape.rowMajor_val_one, Shape.rowMajor_val_two]
    show r.val = r.val * 1 + 0
    omega)).trans ?_
  refine (Ideal.multiReduction_add_single _ _ hred _ _ _).trans (Finset.sum_congr rfl fun k _ => ?_)
  exact congrArg (fun i => (x i : EReal) * x i) (idx2 _ r k rfl rfl)

/-! ## Steps -/

variable [Facts]

theorem normed_at (x : FVec Ideal S544x1024 .f32) (w : Vec Ideal S1x1024 .f32) (r : Fin 544) (c : Fin 1024) :
    (normed x w (ix2 r c) : EReal) = rms (fun k => x (ix2 r k)) (w (ix2 (0 : Fin 1) c)) c :=
  rms_rows x w reduces_S544x1024_S544 shapeCasts_S544_S544x1 broadcasts_S544x1_S544x1024 shapeCasts_S1x1024_S1x1024 broadcasts_S1x1024_S544x1024 r c

theorem out_at (x1 acc : Vec Ideal S512x1024 .f32) (w : Vec Ideal S1x1024 .f32) (r : Fin 512) (c : Fin 1024) :
    (outOf x1 acc w (ix2 r c) : EReal) = rms (fun k => (x1 (ix2 r k) : EReal) + acc (ix2 r k)) (w (ix2 (0 : Fin 1) c)) c :=
  rms_rows (addf x1 acc) w reduces_S512x1024_S512 shapeCasts_S512_S512x1 broadcasts_S512x1_S512x1024 shapeCasts_S1x1024_S1x1024 broadcasts_S1x1024_S512x1024 r c

theorem inner_at (x : FVec Ideal S544x1024 .f32) (r : Fin 512) (c : Fin 1024) :
    inner x (ix2 r c) = x (ix2 (⟨r.val + 16, by omega⟩ : Fin 544) c) := by
  unfold inner
  rw [shapeCast_self]
  exact extractStridedSlice_apply _ x _ (ix2 r c) _ (fun a => match a with
    | ⟨0, _⟩ => by show r.val + 16 = 16 + r.val; omega
    | ⟨1, _⟩ => by show c.val = 0 + c.val; omega)

theorem proj_at (l : FVec Ideal S544x512 .bf16) (w : FVec Ideal S512x1024 .bf16) (r : Fin 544) (c : Fin 1024) :
    (matmul dot_S544x512_S512x1024_S544x1024_1_0_0_1_n_n none l (shapeCast S512x1024 w shapeCasts_S512x1024_S512x1024)
      (constant S544x1024 .f32 0x00000000#32) (ix2 r c) : EReal) = ∑ k : Fin 512, (l (ix2 r k) : EReal) * w (ix2 k c) := by
  rw [shapeCast_self]
  refine (Ideal.matmul_plain_apply (M := 544) (K := 512) (N := 1024) none l w _ r c).trans ?_
  rw [constant_apply, Ideal.ofBits_zero_f32]
  exact zero_add _

theorem upHalf_at (l : Vec Ideal S544x1024 .bf16) (w : Vec Ideal S1024x256 .bf16) (r : Fin 544) (c : Fin 256) :
    (upHalf l w (ix2 r c) : EReal) = ∑ k : Fin 1024, (l (ix2 r k) : EReal) * w (ix2 k c) := by
  unfold upHalf
  rw [shapeCast_self, shapeCast_self]
  refine (Ideal.matmul_plain_apply (M := 544) (K := 1024) (N := 256) none l w _ r c).trans ?_
  rw [constant_apply, Ideal.ofBits_zero_f32]
  exact zero_add _

theorem act_at (v : FVec Ideal S512x512 .f32) (r : Fin 512) (f : Fin 256) :
    (actOf v (ix2 r f) : EReal) = silu (v (ix2 r (⟨256 + f.val, by omega⟩ : Fin 512))) * v (ix2 r (⟨f.val, by omega⟩ : Fin 512)) := by
  have ha : extractStridedSlice S512x256 ![0, 0] v slices_S512x512_o0_0_S512x256 (ix2 r f) = v (ix2 r (⟨f.val, by omega⟩ : Fin 512)) :=
    extractStridedSlice_apply _ v _ (ix2 r f) _ (fun a => match a with
      | ⟨0, _⟩ => by show r.val = 0 + r.val; omega
      | ⟨1, _⟩ => by show f.val = 0 + f.val; omega)
  have hg : extractStridedSlice S512x256 ![0, 256] v slices_S512x512_o0_256_S512x256 (ix2 r f) = v (ix2 r (⟨256 + f.val, by omega⟩ : Fin 512)) :=
    extractStridedSlice_apply _ v _ (ix2 r f) _ (fun a => match a with
      | ⟨0, _⟩ => by show r.val = 0 + r.val; omega
      | ⟨1, _⟩ => rfl)
  unfold actOf silu
  rw [mulf_apply]
  refine congrArg₂ (fun x y : EReal => x * y) ?_ ha
  rw [← hg]
  show Ideal.div _ (Ideal.ofBits .f32 0x3F800000#32 + Ideal.exp (Ideal.ofBits .f32 0x00000000#32 - _)) = _
  rw [one_f32, Ideal.ofBits_zero_f32]

theorem acc_at (acc : Vec Ideal S512x1024 .f32) (a : FVec Ideal S512x256 .f32) (w : Vec Ideal S256x1024 .bf16) (r : Fin 512) (c : Fin 1024) :
    (accOf acc a w (ix2 r c) : EReal) = (acc (ix2 r c) : EReal) + ∑ f : Fin 256, (a (ix2 r f) : EReal) * w (ix2 f c) := by
  unfold accOf
  rw [shapeCast_self, addf_apply, shapeCast_self]
  refine congrArg (fun y : EReal => (acc (ix2 r c) : EReal) + y) ?_
  refine (Ideal.matmul_plain_apply (M := 512) (K := 256) (N := 1024) none _ w _ r c).trans ?_
  rw [constant_apply, Ideal.ofBits_zero_f32]
  exact zero_add _

theorem conv_at (w : FVec Ideal S3x512 .f32) (b : FVec Ideal S1x512 .f32) (x0 x1 x2 : Vec Ideal S512x512 .f32) (r j : Fin 512) :
    (convOf w b (tap0 w) x0 x1 x2 (ix2 r j) : EReal)
      = (((x0 (ix2 r j) : EReal) * w (ix2 (0 : Fin 3) j) + (x1 (ix2 r j) : EReal) * w (ix2 (1 : Fin 3) j))
          + (x2 (ix2 r j) : EReal) * w (ix2 (2 : Fin 3) j)) + b (ix2 (0 : Fin 1) j) := by
  have hs : ∀ (o : ℕ) (ho : o < 3) (h : S3x512.Slices ![o, 0] S1x512), extractStridedSlice S1x512 ![o, 0] w h (ix2 (0 : Fin 1) j) = w (ix2 (⟨o, ho⟩ : Fin 3) j) :=
    fun o ho h => extractStridedSlice_apply _ w h (ix2 (0 : Fin 1) j) _ (fun a => match a with
      | ⟨0, _⟩ => rfl
      | ⟨1, _⟩ => by show j.val = 0 + j.val; omega)
  unfold convOf tap0
  rw [addf_apply, addf_apply, addf_apply, mulf_apply, mulf_apply, mulf_apply, broadcastTo_1b_ab_apply, broadcastTo_1b_ab_apply,
    broadcastTo_1b_ab_apply, broadcastTo_1b_ab_apply, hs 0 (by decide), hs 1 (by decide), hs 2 (by decide)]
  rfl

/-! ## A chunk -/

section Chunk
variable (X : Inp Ideal)

/-- The hidden column of a chunk's column: the first half's columns, then the gate's. -/
def hcol (n : ℕ) (j : Fin 512) : Fin 5632 :=
  ⟨if j.val < 256 then 256 * (n % 11) + j.val else 2816 + 256 * (n % 11) + (j.val - 256), by
    have := j.isLt; have := Nat.mod_lt n (show 0 < 11 by decide); split <;> omega⟩

theorem colsAt_left {α : Type} {R : ℕ} (x : (⟨2, ![R, 5632]⟩ : Shape).Idx → α) (n : ℕ) (a : Fin R) (j : Fin 512) (hj : j.val < 256) :
    colsAt x 0 (by decide) n (ix2 a (⟨j.val, hj⟩ : Fin 256)) = x (ix2 a (hcol n j)) :=
  congrArg x (funext fun k => Fin.ext (match k with
    | ⟨0, _⟩ => by show 0 + 1 * a.val = a.val; omega
    | ⟨1, _⟩ => by show 0 + 256 * (n % 11) + 1 * j.val = if j.val < 256 then 256 * (n % 11) + j.val else 2816 + 256 * (n % 11) + (j.val - 256); rw [if_pos hj]; omega))

theorem colsAt_right {α : Type} {R : ℕ} (x : (⟨2, ![R, 5632]⟩ : Shape).Idx → α) (n : ℕ) (a : Fin R) (j : Fin 512) (hj : ¬j.val < 256) :
    colsAt x 2816 (by decide) n (ix2 a (⟨j.val - 256, by omega⟩ : Fin 256)) = x (ix2 a (hcol n j)) :=
  congrArg x (funext fun k => Fin.ext (match k with
    | ⟨0, _⟩ => by show 0 + 1 * a.val = a.val; omega
    | ⟨1, _⟩ => by show 2816 + 256 * (n % 11) + 1 * (j.val - 256) = if j.val < 256 then 256 * (n % 11) + j.val else 2816 + 256 * (n % 11) + (j.val - 256); rw [if_neg hj]; omega))

theorem upBuf_at (l : Vec Ideal S544x1024 .bf16) (n : ℕ) (r : Fin 544) (j : Fin 512) :
    (upBuf X l n (ix2 r j) : EReal) = ∑ k : Fin 1024, (l (ix2 r k) : EReal) * X.wup (ix2 k (hcol n j)) := by
  unfold upBuf beside
  by_cases hj : j.val < 256
  · refine (dif_pos (t := fun h : j.val < 256 => (upHalf l (colsAt X.wup 0 (by decide) n) (ix2 r ⟨j.val, h⟩) : EReal)) hj).trans ((upHalf_at _ _ _ _).trans ?_)
    exact Finset.sum_congr rfl fun k _ => congrArg (fun y : EReal => (l (ix2 r k) : EReal) * y) (colsAt_left X.wup n k j hj)
  · refine (dif_neg (e := fun _ : ¬j.val < 256 => (upHalf l (colsAt X.wup 2816 (by decide) n) (ix2 r ⟨j.val - 256, by omega⟩) : EReal)) hj).trans ((upHalf_at _ _ _ _).trans ?_)
    exact Finset.sum_congr rfl fun k _ => congrArg (fun y : EReal => (l (ix2 r k) : EReal) * y) (colsAt_right X.wup n k j hj)

/-- Two halves side by side along the columns. -/
theorem pair_at {α : Type} {R : ℕ} (x : (⟨2, ![R, 5632]⟩ : Shape).Idx → α) (n : ℕ)
    (h : Shape.Concatenates [(⟨2, ![R, 256]⟩ : Shape), ⟨2, ![R, 256]⟩] (⟨2, ![R, 512]⟩ : Shape) 1) (a : Fin R) (j : Fin 512) :
    concatenate (⟨2, ![R, 512]⟩ : Shape) 1 [⟨⟨2, ![R, 256]⟩, colsAt x 0 (by decide) n⟩, ⟨⟨2, ![R, 256]⟩, colsAt x 2816 (by decide) n⟩] h (ix2 a j)
      = x (ix2 a (hcol n j)) := by
  by_cases hj : j.val < 256
  · exact (concatenate_pair_apply_left (t := ⟨2, ![R, 512]⟩) (s₁ := ⟨2, ![R, 256]⟩) (s₂ := ⟨2, ![R, 256]⟩) 1 _ _ h (ix2 a j) rfl (ix2 a ⟨j.val, hj⟩)
      (fun b => match b with | ⟨0, _⟩ => rfl | ⟨1, _⟩ => rfl)).trans (colsAt_left x n a j hj)
  · exact (concatenate_pair_apply_right (t := ⟨2, ![R, 512]⟩) (s₁ := ⟨2, ![R, 256]⟩) (s₂ := ⟨2, ![R, 256]⟩) 1 _ _ h (ix2 a j) rfl rfl (ix2 a ⟨j.val - 256, by omega⟩)
      (fun b hb => match b, hb with | ⟨0, _⟩, _ => rfl | ⟨1, _⟩, hb => absurd rfl hb)
      (by show j.val - 256 + 256 = j.val; omega)).trans (colsAt_right x n a j hj)

theorem taps_at (n : ℕ) (a : Fin 3) (j : Fin 512) : tapsAt X n (ix2 a j) = X.cw (ix2 a (hcol n j)) :=
  pair_at X.cw n concatenates_S3x256_S3x256_S3x512_d1 a j

theorem bias_at (n : ℕ) (j : Fin 512) : biasAt X n (ix2 (0 : Fin 1) j) = X.cb (ix2 (0 : Fin 1) (hcol n j)) := by
  unfold biasAt biasOf
  rw [shapeCast_self, shapeCast_self]
  exact pair_at X.cb n concatenates_S1x256_S1x256_S1x512_d1 0 j

theorem shift_at (o : ℕ) (ho) (u : Vec Ideal S544x512 .f32) (r j : Fin 512) (hr : o + r.val < 544) :
    shiftOf o ho u (ix2 r j) = u (ix2 (⟨o + r.val, hr⟩ : Fin 544) j) :=
  congrArg u (funext fun k => Fin.ext (match k with
    | ⟨0, _⟩ => by show o + 1 * r.val = o + r.val; omega
    | ⟨1, _⟩ => by show 0 + 1 * j.val = j.val; omega))

theorem convAt_at (u : Vec Ideal S544x512 .f32) (n : ℕ) (r j : Fin 512) :
    (convAt X u n (ix2 r j) : EReal)
      = (((u (ix2 (⟨15 + r.val, by omega⟩ : Fin 544) j) : EReal) * X.cw (ix2 (0 : Fin 3) (hcol n j))
          + (u (ix2 (⟨16 + r.val, by omega⟩ : Fin 544) j) : EReal) * X.cw (ix2 (1 : Fin 3) (hcol n j)))
          + (u (ix2 (⟨17 + r.val, by omega⟩ : Fin 544) j) : EReal) * X.cw (ix2 (2 : Fin 3) (hcol n j))) + X.cb (ix2 (0 : Fin 1) (hcol n j)) := by
  unfold convAt
  rw [conv_at, taps_at, taps_at, taps_at, bias_at, shift_at 15 _ u r j (by omega), shift_at 16 _ u r j (by omega), shift_at 17 _ u r j (by omega)]

/-- The accumulator: the chunks' products, added. -/
theorem accAt_at (l : Vec Ideal S544x1024 .bf16) (N : ℕ) (r : Fin 512) (c : Fin 1024) :
    (accAt X l N (ix2 r c) : EReal) = ∑ n ∈ Finset.range N, ∑ f : Fin 256,
      (actOf (convAt X (upBuf X l n) n) (ix2 r f) : EReal) * X.wdn (ix2 (⟨256 * (n % 11) + f.val, by
        have := Nat.mod_lt n (show 0 < 11 by decide); omega⟩ : Fin 2816) c) := by
  induction N with
  | zero =>
    show (zeroAcc (F := Ideal) (ix2 r c) : EReal) = 0
    unfold zeroAcc
    rw [shapeCast_self]
    exact Ideal.ofBits_zero_f32
  | succ N ih =>
    rw [Finset.sum_range_succ, ← ih]
    refine (acc_at _ _ _ r c).trans (congrArg (fun y : EReal => (accAt X l N (ix2 r c) : EReal) + y) (Finset.sum_congr rfl fun f _ => ?_))
    refine congrArg (fun y : EReal => _ * y) (congrArg X.wdn (funext fun k => Fin.ext (match k with
      | ⟨0, _⟩ => ?_
      | ⟨1, _⟩ => ?_)))
    · show 256 * (N % 11) + 1 * f.val = 256 * (N % 11) + f.val; omega
    · show 0 + 1 * c.val = c.val; omega

/-! ## The rows with halos -/

theorem bf16_zero : Ideal.ofBits .bf16 0x0000#16 = 0 := by
  simp [Ideal.ofBits, Ideal.ieee]

variable (w : BitVec 32 × BitVec 32)

theorem cmpi_eq_pos {a b : BitVec 32} (h : a = b) : Scalar.cmpi .eq a b = 1 := by subst h; simp [Scalar.cmpi, IntOp.cmpi]
theorem cmpi_eq_neg {a b : BitVec 32} (h : a ≠ b) : Scalar.cmpi .eq a b ≠ 1 := by
  show BitVec.ofBool (a == b) ≠ 1
  rw [beq_eq_false_iff_ne.mpr h]; decide

/-- A halo outside the sequence reads zero. -/
theorem lhs_zero (r : Fin 544) (k : Fin 1024) (h : r.val < 16 ∧ w.1 = 0#32 ∨ 528 ≤ r.val ∧ w.1 = w.2) :
    (lhsOf X w (ix2 r k) : EReal) = 0 := by
  unfold lhsOf stacked
  rcases h with ⟨h, ht⟩ | ⟨h, ht⟩
  · refine (dif_pos (t := fun h : r.val < 16 => (lhsTop w (normed (mixedOf X) X.n2) (ix2 ⟨r.val, h⟩ k) : EReal)) h).trans ?_
    unfold lhsTop
    rw [shapeCast_self, Scalar.select, if_pos (cmpi_eq_pos ht)]
    exact bf16_zero
  · refine (dif_neg (e := fun h : ¬r.val < 16 => ((if h' : r.val < 528 then lhsMid (normed (mixedOf X) X.n2) (ix2 ⟨r.val - 16, by omega⟩ k)
      else lhsBot w (normed (mixedOf X) X.n2) (ix2 ⟨r.val - 528, by omega⟩ k)) : EReal)) (by omega)).trans ?_
    refine (dif_neg (by omega)).trans ?_
    unfold lhsBot
    rw [shapeCast_self, Scalar.select, if_pos (cmpi_eq_pos ht)]
    exact bf16_zero

/-- A row inside the sequence reads the normalised row. -/
theorem lhs_inside (r : Fin 544) (k : Fin 1024) (h0 : r.val < 16 → w.1 ≠ 0#32) (h1 : 528 ≤ r.val → w.1 ≠ w.2) :
    lhsOf X w (ix2 r k) = normed (mixedOf X) X.n2 (ix2 r k) := by
  have hr := r.isLt
  unfold lhsOf
  generalize normed (mixedOf X) X.n2 = x
  have hs : ∀ (R o : ℕ) (h : S544x1024.Slices ![o, 0] (⟨2, ![R, 1024]⟩ : Shape)) (a : Fin R) (ha : o + a.val = r.val),
      extractStridedSlice (⟨2, ![R, 1024]⟩ : Shape) ![o, 0] x h (ix2 a k) = x (ix2 r k) := fun R o h a ha =>
    extractStridedSlice_apply _ x h (ix2 a k) (ix2 r k) (fun b => match b with
      | ⟨0, _⟩ => ha.symm
      | ⟨1, _⟩ => by show k.val = 0 + k.val; omega)
  unfold stacked
  by_cases h : r.val < 16
  · refine (dif_pos (t := fun h : r.val < 16 => lhsTop w x (ix2 ⟨r.val, h⟩ k)) h).trans ?_
    unfold lhsTop
    rw [shapeCast_self, Scalar.select, if_neg (cmpi_eq_neg (h0 h))]
    exact hs 16 0 _ _ (Nat.zero_add _)
  · refine (dif_neg (e := fun h : ¬r.val < 16 => (if h' : r.val < 528 then lhsMid x (ix2 ⟨r.val - 16, by omega⟩ k)
      else lhsBot w x (ix2 ⟨r.val - 528, by omega⟩ k))) h).trans ?_
    by_cases h' : r.val < 528
    · refine (dif_pos h').trans ?_
      unfold lhsMid
      rw [shapeCast_self]
      exact hs 512 16 _ _ (by show 16 + (r.val - 16) = r.val; omega)
    · refine (dif_neg h').trans ?_
      unfold lhsBot
      rw [shapeCast_self, Scalar.select, if_neg (cmpi_eq_neg (h1 (by omega)))]
      exact hs 16 528 _ _ (by show 528 + (r.val - 528) = r.val; omega)

end Chunk

end Cert.Kernel2Ideal.Ffn

end
-- ==== Proof.FfnTileValue.lean ====
/-
  A tile of the feed-forward kernel over the extended reals: when its blocks read the rows of a sequence and the halos
  around them, the rows it writes are the block's of that sequence.
-/
module

public import proofs.«01_k».proof.Proof.FfnBlockValue

@[expose] public section

set_option maxRecDepth 65536

noncomputable section

namespace Cert.Kernel2Ideal.Ffn

open Cert.Kernel2Ideal Cert.Kernel2Ideal.Gen Cert.Softmax Cert.Ffn
open Idealize.ShloMosaic Idealize.ShloMosaic.TcCoe Idealize.ShloMosaic.ValueIdx

/-- What a tile's blocks read: tile `n` of a sequence `S`, the halos wherever they lie in the sequence, the weights; the
    words `w` say whether the tile is the sequence's first and whether its last. -/
structure TileOf {T : ℕ} (S : Seq T) (n : ℕ) (X : Inp Ideal) (w : BitVec 32 × BitVec 32) : Prop where
  inside : 512 * n + 512 ≤ T
  first : w.1 = 0#32 ↔ n = 0
  last : w.1 = w.2 ↔ 512 * n + 512 = T
  xp : ∀ (a : Fin 16) (k : Fin 1024) (R : Fin T), 512 * n + a.val = R.val + 16 → (X.xp (ix2 a k) : EReal) = S.x R k
  xm : ∀ (a : Fin 512) (k : Fin 1024) (R : Fin T), 512 * n + a.val = R.val → (X.xm (ix2 a k) : EReal) = S.x R k
  xn : ∀ (a : Fin 16) (k : Fin 1024) (R : Fin T), 512 * n + 512 + a.val = R.val → (X.xn (ix2 a k) : EReal) = S.x R k
  mp : ∀ (a : Fin 16) (k : Fin 512) (R : Fin T), 512 * n + a.val = R.val + 16 → (X.mp (ix2 a k) : EReal) = S.m R k
  mm : ∀ (a : Fin 512) (k : Fin 512) (R : Fin T), 512 * n + a.val = R.val → (X.mm (ix2 a k) : EReal) = S.m R k
  mn : ∀ (a : Fin 16) (k : Fin 512) (R : Fin T), 512 * n + 512 + a.val = R.val → (X.mn (ix2 a k) : EReal) = S.m R k
  ap : ∀ (a : Fin 16) (k : Fin 512) (R : Fin T), 512 * n + a.val = R.val + 16 → (X.ap (ix2 a k) : EReal) = S.a R k
  am : ∀ (a : Fin 512) (k : Fin 512) (R : Fin T), 512 * n + a.val = R.val → (X.am (ix2 a k) : EReal) = S.a R k
  an : ∀ (a : Fin 16) (k : Fin 512) (R : Fin T), 512 * n + 512 + a.val = R.val → (X.an (ix2 a k) : EReal) = S.a R k
  wom : ∀ (k : Fin 512) (j : Fin 1024), (X.wom (ix2 k j) : EReal) = S.wo ⟨k.val, by omega⟩ j
  woa : ∀ (k : Fin 512) (j : Fin 1024), (X.woa (ix2 k j) : EReal) = S.wo ⟨512 + k.val, by omega⟩ j
  n2 : ∀ j : Fin 1024, (X.n2 (ix2 (0 : Fin 1) j) : EReal) = S.n2 j
  wup : ∀ (k : Fin 1024) (j : Fin 5632), (X.wup (ix2 k j) : EReal) = S.wup k j
  cw : ∀ (k : Fin 3) (j : Fin 5632), (X.cw (ix2 k j) : EReal) = S.cw k j
  cb : ∀ j : Fin 5632, (X.cb (ix2 (0 : Fin 1) j) : EReal) = S.cb j
  wdn : ∀ (k : Fin 2816) (j : Fin 1024), (X.wdn (ix2 k j) : EReal) = S.wdn k j
  fw : ∀ j : Fin 1024, (X.fw (ix2 (0 : Fin 1) j) : EReal) = S.fw j

/-- The hidden column of a chunk's column. -/
def hid (q : ℕ) (f : Fin 256) : Fin 2816 := ⟨256 * (q % 11) + f.val, by have := Nat.mod_lt q (show 0 < 11 by decide); omega⟩

/-- A sum over the hidden columns, chunk after chunk. -/
theorem sum_hidden (f : Fin 2816 → EReal) : ∑ k, f k = ∑ n ∈ Finset.range 11, ∑ r : Fin 256, f (hid n r) := by
  have h := sum_blocks 256 11 (fun k => if hk : k < 2816 then f ⟨k, hk⟩ else 0)
  rw [← Fin.sum_univ_eq_sum_range (n := 11 * 256)] at h
  refine Eq.trans (Finset.sum_congr rfl fun k _ => ?_) (h.trans (Finset.sum_congr rfl fun i hi => Finset.sum_congr rfl fun r _ => ?_))
  · exact (dif_pos (t := fun hk : k.val < 2816 => f ⟨k.val, hk⟩) (e := fun _ => 0) k.isLt).symm
  · have hi' := Finset.mem_range.mp hi
    rw [dif_pos (by omega : 256 * i + r.val < 2816)]
    refine congrArg f (Fin.ext ?_)
    show 256 * i + r.val = 256 * (i % 11) + r.val
    rw [Nat.mod_eq_of_lt hi']

variable {T : ℕ} {S : Seq T} {n : ℕ} {X : Inp Ideal} {w : BitVec 32 × BitVec 32} (h : TileOf S n X w)

include h

/-- A tile's row, halos counted, is the sequence's wherever it lies in the sequence. -/
theorem mixed_value (r : Fin 544) (R : Fin T) (hR : 512 * n + r.val = R.val + 16) (k : Fin 1024) :
    (mixedOf X (ix2 r k) : EReal) = S.mixed R k := by
  unfold mixedOf mixed Seq.mixed
  rw [addf_apply, addf_apply]
  refine congrArg₂ (fun x y : EReal => x + y) (congrArg₂ (fun x y : EReal => x + y) ?_ ?_) ?_
  · exact joined_apply (W := 1024) _ _ _ _ r k _ (fun a ha => h.xp a k R (by omega)) (fun a ha => h.xm a k R (by omega))
      (fun a ha => h.xn a k R (by omega))
  · refine (proj_at _ _ r k).trans (Finset.sum_congr rfl fun l _ => congrArg₂ (fun x y : EReal => x * y) ?_ (h.wom l k))
    exact joined_apply (W := 512) _ _ _ _ r l _ (fun a ha => h.mp a l R (by omega)) (fun a ha => h.mm a l R (by omega))
      (fun a ha => h.mn a l R (by omega))
  · refine (proj_at _ _ r k).trans (Finset.sum_congr rfl fun l _ => congrArg₂ (fun x y : EReal => x * y) ?_ (h.woa l k))
    exact joined_apply (W := 512) _ _ _ _ r l _ (fun a ha => h.ap a l R (by omega)) (fun a ha => h.am a l R (by omega))
      (fun a ha => h.an a l R (by omega))

theorem normed_value (r : Fin 544) (R : Fin T) (hR : 512 * n + r.val = R.val + 16) (k : Fin 1024) :
    (normed (mixedOf X) X.n2 (ix2 r k) : EReal) = S.normed R k := by
  refine (normed_at _ _ r k).trans ?_
  rw [h.n2]
  exact congrArg (fun f => rms f _ k) (funext fun l => mixed_value h r R hR l)

/-- The up-projection of a tile's rows, the last of the halo above to the first of the halo below, is the sequence's
    padded one. -/
theorem up_value (q : ℕ) (j : Fin 514) (i : Fin 512) (p : ℕ) (hp : p = 512 * n + j.val) :
    (upBuf X (lhsOf X w) q (ix2 (⟨15 + j.val, by omega⟩ : Fin 544) i) : EReal) = S.pad p (hcol q i) := by
  have hj := j.isLt
  have hT := h.inside
  rw [upBuf_at]
  by_cases hpo : p = 0 ∨ p = T + 1
  · refine Eq.trans ?_ (S.pad_outside p hpo _).symm
    refine Finset.sum_eq_zero fun k _ => ?_
    rw [lhs_zero, zero_mul]
    rcases hpo with hpo | hpo
    · exact .inl ⟨by show 15 + j.val < 16; omega, h.first.mpr (by omega)⟩
    · exact .inr ⟨by show 528 ≤ 15 + j.val; omega, h.last.mpr (by omega)⟩
  · obtain ⟨R, hR⟩ : ∃ R : Fin T, p = R.val + 1 := ⟨⟨p - 1, by omega⟩, by show p = p - 1 + 1; omega⟩
    have hRt := R.isLt
    rw [hR]
    refine Eq.trans ?_ (S.pad_inside R _).symm
    refine Finset.sum_congr rfl fun k _ => congrArg₂ (fun x y : EReal => x * y) ?_ (h.wup k _)
    rw [lhs_inside _ _ _ k (fun h0 h1 => ?_) (fun h0 h1 => ?_)]
    · exact normed_value h _ R (by show 512 * n + (15 + j.val) = R.val + 16; omega) k
    · have h0 : 15 + j.val < 16 := h0
      have := h.first.mp h1
      omega
    · have h0 : 528 ≤ 15 + j.val := h0
      have := h.last.mp h1
      omega

theorem conv_value (q : ℕ) (r i : Fin 512) (R : Fin T) (hR : R.val = 512 * n + r.val) :
    (convAt X (upBuf X (lhsOf X w) q) q (ix2 r i) : EReal) = S.conv R (hcol q i) := by
  have hu : ∀ (o : ℕ) (ho : o < 3) (hr : 15 + o + r.val < 544),
      (upBuf X (lhsOf X w) q (ix2 (⟨15 + o + r.val, hr⟩ : Fin 544) i) : EReal) = S.pad (R.val + o) (hcol q i) := fun o ho hr =>
    (congrArg (fun a : Fin 544 => (upBuf X (lhsOf X w) q (ix2 a i) : EReal)) (Fin.ext (by show 15 + o + r.val = 15 + (o + r.val); omega))).trans
    (up_value h q ⟨o + r.val, by omega⟩ i _ (by show R.val + o = 512 * n + (o + r.val); omega))
  refine (convAt_at _ _ q r i).trans ?_
  unfold Seq.conv
  rw [h.cw, h.cw, h.cw, h.cb]
  refine congrArg₂ (fun x y : EReal => x + y) (congrArg₂ (fun x y : EReal => x + y) (congrArg₂ (fun x y : EReal => x + y) ?_ ?_) ?_) rfl
  · exact congrArg (fun x : EReal => x * _) (hu 0 (by decide) (by omega))
  · exact congrArg (fun x : EReal => x * _) (hu 1 (by decide) (by omega))
  · exact congrArg (fun x : EReal => x * _) (hu 2 (by decide) (by omega))

theorem act_value (q : ℕ) (r : Fin 512) (f : Fin 256) (R : Fin T) (hR : R.val = 512 * n + r.val) :
    (actOf (convAt X (upBuf X (lhsOf X w) q) q) (ix2 r f) : EReal) = S.act R (hid q f) := by
  refine (act_at _ r f).trans ?_
  rw [conv_value h q r _ R hR, conv_value h q r _ R hR]
  refine congrArg₂ (fun a b : Fin 5632 => silu (S.conv R a) * S.conv R b) (Fin.ext ?_) (Fin.ext ?_)
  · show (if 256 + f.val < 256 then 256 * (q % 11) + (256 + f.val) else 2816 + 256 * (q % 11) + (256 + f.val - 256)) = 2816 + (256 * (q % 11) + f.val)
    rw [if_neg (by omega)]; omega
  · show (if f.val < 256 then 256 * (q % 11) + f.val else 2816 + 256 * (q % 11) + (f.val - 256)) = 256 * (q % 11) + f.val
    rw [if_pos (by omega)]

/-- What the tile writes at a row and a column is the block's result there. -/
theorem tile_value (r : Fin 512) (k : Fin 1024) (R : Fin T) (hR : R.val = 512 * n + r.val) : (outBlk X w (ix2 r k) : EReal) = S.out R k := by
  unfold outBlk
  refine (out_at _ _ _ r k).trans ?_
  rw [h.fw]
  refine congrArg (fun f => rms f _ k) (funext fun l => congrArg₂ (fun x y : EReal => x + y) ?_ ?_)
  · rw [inner_at]
    exact mixed_value h _ R (by show 512 * n + (r.val + 16) = R.val + 16; omega) l
  · refine (accAt_at _ _ 11 r l).trans (Eq.trans ?_ (sum_hidden (fun f => S.act R f * S.wdn f l)).symm)
    exact Finset.sum_congr rfl fun q _ => Finset.sum_congr rfl fun f _ =>
      congrArg₂ (fun x y : EReal => x * y) (act_value h q r f R hR) (h.wdn (hid q f) l)

end Cert.Kernel2Ideal.Ffn

end
-- ==== Proof.FfnArrayValue.lean ====
/-
  The feed-forward kernel's result array over the extended reals: what the blocks of the arguments read, and the
  reference's result at every element the launch writes.
-/
module

public import proofs.«01_k».proof.Proof.FfnFrame
public import proofs.«01_k».proof.Proof.FfnTileValue
public import Idealize.ShloMosaic.Lib.Pipeline.ValueKit.Geometry

@[expose] public section

set_option maxRecDepth 65536

noncomputable section

namespace Cert.Kernel2Ideal.Ffn

open Cert.Kernel2Ideal Cert.Kernel2Ideal.Gen Cert.Softmax Cert.Reference2Ideal.Ffn
open Cert.Reference2Ideal.Read (val_main_v60)
open Idealize.ShloMosaic Idealize.ShloMosaic.TcCoe Idealize.ShloMosaic.ValueIdx Idealize.ShloMosaic.Tactic

variable (m : (ℓ : Loc nD τ sig) → Buf (Elt Ideal) ℓ) (c : Dev nD) (t : Fin cfg0.N)

/-! ## The arguments as launched -/

abbrev a0 : (⟨S16384x1024, .f32⟩ : BufTy).Contents (Elt Ideal) := m ((c : Thread nD τ).loc main_arg0)
abbrev a1 : (⟨S16384x512, .bf16⟩ : BufTy).Contents (Elt Ideal) := m ((c : Thread nD τ).loc main_arg1)
abbrev a2 : (⟨S16384x512, .bf16⟩ : BufTy).Contents (Elt Ideal) := m ((c : Thread nD τ).loc main_arg2)
abbrev a3 : (⟨S1024x1024, .f32⟩ : BufTy).Contents (Elt Ideal) := m ((c : Thread nD τ).loc main_arg3)
abbrev a4 : (⟨S1024, .f32⟩ : BufTy).Contents (Elt Ideal) := m ((c : Thread nD τ).loc main_arg4)
abbrev a5 : (⟨S1024x5632, .f32⟩ : BufTy).Contents (Elt Ideal) := m ((c : Thread nD τ).loc main_arg5)
abbrev a6 : (⟨S3x5632, .f32⟩ : BufTy).Contents (Elt Ideal) := m ((c : Thread nD τ).loc main_arg6)
abbrev a7 : (⟨S5632, .f32⟩ : BufTy).Contents (Elt Ideal) := m ((c : Thread nD τ).loc main_arg7)
abbrev a8 : (⟨S2816x1024, .f32⟩ : BufTy).Contents (Elt Ideal) := m ((c : Thread nD τ).loc main_arg8)
abbrev a9 : (⟨S1024, .f32⟩ : BufTy).Contents (Elt Ideal) := m ((c : Thread nD τ).loc main_arg9)

theorem V_wom : V m c main_v1 = truncf (F := Ideal) .bf16 (extractStridedSlice S512x1024 ![0, 0] (a3 m c) slices_S1024x1024_S512x1024_0_0) bitsLt_bf16_f32 := by
  after_results <;> rfl
theorem V_woa : V m c main_v3 = truncf (F := Ideal) .bf16 (extractStridedSlice S512x1024 ![512, 0] (a3 m c) slices_S1024x1024_S512x1024_512_0) bitsLt_bf16_f32 := by
  after_results <;> rfl
theorem V_n2 : V m c main_v4 = shapeCast S1x1024 (a4 m c) shapeCasts_S1024_S1x1024 := by after_results <;> rfl
theorem V_wup : V m c main_v5 = truncf (F := Ideal) .bf16 (a5 m c) bitsLt_bf16_f32 := by after_results <;> rfl
theorem V_cb : V m c main_v6 = shapeCast S1x5632 (a7 m c) shapeCasts_S5632_S1x5632 := by after_results <;> rfl
theorem V_wdn : V m c main_v7 = truncf (F := Ideal) .bf16 (a8 m c) bitsLt_bf16_f32 := by after_results <;> rfl
theorem V_fw : V m c main_v8 = shapeCast S1x1024 (a9 m c) shapeCasts_S1024_S1x1024 := by after_results <;> rfl

/-! ## The blocks

A point's blocks are its 512 rows, the 16 rows before them and the 16 rows after. -/

theorem index0 : ∀ t : Fin cfg0.N, win0_0.index t (0 : Fin 2) = 32 * t.val - 1 ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = min (32 * t.val + 32) 1023 ∧ win0_2.index t (1 : Fin 2) = 0 := (by decide +kernel : ∀ t : Fin grid0.N, _)
theorem index3 : ∀ t : Fin cfg0.N, win0_3.index t (0 : Fin 2) = 32 * t.val - 1 ∧ win0_3.index t (1 : Fin 2) = 0 := (by decide +kernel : ∀ t : Fin grid0.N, _)
theorem index4 : ∀ t : Fin cfg0.N, win0_4.index t (0 : Fin 2) = t.val ∧ win0_4.index t (1 : Fin 2) = 0 := (by decide +kernel : ∀ t : Fin grid0.N, _)
theorem index5 : ∀ t : Fin cfg0.N, win0_5.index t (0 : Fin 2) = min (32 * t.val + 32) 1023 ∧ win0_5.index t (1 : Fin 2) = 0 := (by decide +kernel : ∀ t : Fin grid0.N, _)
theorem index6 : ∀ t : Fin cfg0.N, win0_6.index t (0 : Fin 2) = 32 * t.val - 1 ∧ win0_6.index t (1 : Fin 2) = 0 := (by decide +kernel : ∀ t : Fin grid0.N, _)
theorem index7 : ∀ t : Fin cfg0.N, win0_7.index t (0 : Fin 2) = t.val ∧ win0_7.index t (1 : Fin 2) = 0 := (by decide +kernel : ∀ t : Fin grid0.N, _)
theorem index8 : ∀ t : Fin cfg0.N, win0_8.index t (0 : Fin 2) = min (32 * t.val + 32) 1023 ∧ win0_8.index t (1 : Fin 2) = 0 := (by decide +kernel : ∀ t : Fin grid0.N, _)
theorem index9 : ∀ t : Fin cfg0.N, win0_9.index t (0 : Fin 2) = 0 ∧ win0_9.index t (1 : Fin 2) = 0 := (by decide +kernel : ∀ t : Fin grid0.N, _)
theorem index10 : ∀ t : Fin cfg0.N, win0_10.index t (0 : Fin 2) = 0 ∧ win0_10.index t (1 : Fin 2) = 0 := (by decide +kernel : ∀ t : Fin grid0.N, _)
theorem index11 : ∀ t : Fin cfg0.N, win0_11.index t (0 : Fin 2) = 0 ∧ win0_11.index t (1 : Fin 2) = 0 := (by decide +kernel : ∀ t : Fin grid0.N, _)
theorem index12 : ∀ t : Fin cfg0.N, win0_12.index t (0 : Fin 2) = 0 ∧ win0_12.index t (1 : Fin 2) = 0 := (by decide +kernel : ∀ t : Fin grid0.N, _)
theorem index13 : ∀ t : Fin cfg0.N, win0_13.index t (0 : Fin 2) = 0 ∧ win0_13.index t (1 : Fin 2) = 0 := (by decide +kernel : ∀ t : Fin grid0.N, _)
theorem index14 : ∀ t : Fin cfg0.N, win0_14.index t (0 : Fin 2) = 0 ∧ win0_14.index t (1 : Fin 2) = 0 := (by decide +kernel : ∀ t : Fin grid0.N, _)
theorem index15 : ∀ t : Fin cfg0.N, win0_15.index t (0 : Fin 2) = 0 ∧ win0_15.index t (1 : Fin 2) = 0 := (by decide +kernel : ∀ t : Fin grid0.N, _)
theorem index16 : ∀ t : Fin cfg0.N, win0_16.index t (0 : Fin 2) = 0 ∧ win0_16.index t (1 : Fin 2) = 0 := (by decide +kernel : ∀ t : Fin grid0.N, _)
theorem index17 : ∀ t : Fin cfg0.N, win0_17.index t (0 : Fin 2) = t.val ∧ win0_17.index t (1 : Fin 2) = 0 := (by decide +kernel : ∀ t : Fin grid0.N, _)
theorem first_iff : ∀ t : Fin cfg0.N, (placeOf (grid0.coords t)).1 = 0#32 ↔ t.val = 0 := (by decide +kernel : ∀ t : Fin grid0.N, _)
theorem last_iff : ∀ t : Fin cfg0.N, (placeOf (grid0.coords t)).1 = (placeOf (grid0.coords t)).2 ↔ 512 * t.val + 512 = 16384 :=
  (by decide +kernel : ∀ t : Fin grid0.N, _)

theorem point_lt : t.val < 32 := t.isLt

theorem xp_at (a : Fin 16) (k : Fin 1024) (R : Fin 16384) (hR : 512 * t.val + a.val = R.val + 16) : (inp m c t).xp (ix2 a k) = a0 m c (ix2 R k) := by
  obtain ⟨e0, e1⟩ := index0 t
  have ht := point_lt t
  have hR' := R.isLt
  show V m c main_arg0 (((cfg0.win 0).blk t).view.emb (ix2 a k)) = _
  rw [V_main_arg0]
  exact congrArg (a0 m c) (idx2 _ _ _ (by show win0_0.index t (0 : Fin 2) * 16 + 1 * a.val = R.val; omega)
    (by show win0_0.index t (1 : Fin 2) * 1024 + 1 * k.val = k.val; omega))

theorem xm_at (a : Fin 512) (k : Fin 1024) (R : Fin 16384) (hR : 512 * t.val + a.val = R.val) : (inp m c t).xm (ix2 a k) = a0 m c (ix2 R k) := by
  obtain ⟨e0, e1⟩ := index1 t
  have ht := point_lt t
  have hR' := R.isLt
  show V m c main_arg0 (((cfg0.win 1).blk t).view.emb (ix2 a k)) = _
  rw [V_main_arg0]
  exact congrArg (a0 m c) (idx2 _ _ _ (by show win0_1.index t (0 : Fin 2) * 512 + 1 * a.val = R.val; omega)
    (by show win0_1.index t (1 : Fin 2) * 1024 + 1 * k.val = k.val; omega))

theorem xn_at (a : Fin 16) (k : Fin 1024) (R : Fin 16384) (hR : 512 * t.val + 512 + a.val = R.val) : (inp m c t).xn (ix2 a k) = a0 m c (ix2 R k) := by
  obtain ⟨e0, e1⟩ := index2 t
  have ht := point_lt t
  have hR' := R.isLt
  show V m c main_arg0 (((cfg0.win 2).blk t).view.emb (ix2 a k)) = _
  rw [V_main_arg0]
  exact congrArg (a0 m c) (idx2 _ _ _ (by show win0_2.index t (0 : Fin 2) * 16 + 1 * a.val = R.val; omega)
    (by show win0_2.index t (1 : Fin 2) * 1024 + 1 * k.val = k.val; omega))

theorem mp_at (a : Fin 16) (k : Fin 512) (R : Fin 16384) (hR : 512 * t.val + a.val = R.val + 16) : (inp m c t).mp (ix2 a k) = a1 m c (ix2 R k) := by
  obtain ⟨e0, e1⟩ := index3 t
  have ht := point_lt t
  have hR' := R.isLt
  show V m c main_arg1 (((cfg0.win 3).blk t).view.emb (ix2 a k)) = _
  rw [V_main_arg1]
  exact congrArg (a1 m c) (idx2 _ _ _ (by show win0_3.index t (0 : Fin 2) * 16 + 1 * a.val = R.val; omega)
    (by show win0_3.index t (1 : Fin 2) * 512 + 1 * k.val = k.val; omega))

theorem mm_at (a : Fin 512) (k : Fin 512) (R : Fin 16384) (hR : 512 * t.val + a.val = R.val) : (inp m c t).mm (ix2 a k) = a1 m c (ix2 R k) := by
  obtain ⟨e0, e1⟩ := index4 t
  have ht := point_lt t
  have hR' := R.isLt
  show V m c main_arg1 (((cfg0.win 4).blk t).view.emb (ix2 a k)) = _
  rw [V_main_arg1]
  exact congrArg (a1 m c) (idx2 _ _ _ (by show win0_4.index t (0 : Fin 2) * 512 + 1 * a.val = R.val; omega)
    (by show win0_4.index t (1 : Fin 2) * 512 + 1 * k.val = k.val; omega))

theorem mn_at (a : Fin 16) (k : Fin 512) (R : Fin 16384) (hR : 512 * t.val + 512 + a.val = R.val) : (inp m c t).mn (ix2 a k) = a1 m c (ix2 R k) := by
  obtain ⟨e0, e1⟩ := index5 t
  have ht := point_lt t
  have hR' := R.isLt
  show V m c main_arg1 (((cfg0.win 5).blk t).view.emb (ix2 a k)) = _
  rw [V_main_arg1]
  exact congrArg (a1 m c) (idx2 _ _ _ (by show win0_5.index t (0 : Fin 2) * 16 + 1 * a.val = R.val; omega)
    (by show win0_5.index t (1 : Fin 2) * 512 + 1 * k.val = k.val; omega))

theorem ap_at (a : Fin 16) (k : Fin 512) (R : Fin 16384) (hR : 512 * t.val + a.val = R.val + 16) : (inp m c t).ap (ix2 a k) = a2 m c (ix2 R k) := by
  obtain ⟨e0, e1⟩ := index6 t
  have ht := point_lt t
  have hR' := R.isLt
  show V m c main_arg2 (((cfg0.win 6).blk t).view.emb (ix2 a k)) = _
  rw [V_main_arg2]
  exact congrArg (a2 m c) (idx2 _ _ _ (by show win0_6.index t (0 : Fin 2) * 16 + 1 * a.val = R.val; omega)
    (by show win0_6.index t (1 : Fin 2) * 512 + 1 * k.val = k.val; omega))

theorem am_at (a : Fin 512) (k : Fin 512) (R : Fin 16384) (hR : 512 * t.val + a.val = R.val) : (inp m c t).am (ix2 a k) = a2 m c (ix2 R k) := by
  obtain ⟨e0, e1⟩ := index7 t
  have ht := point_lt t
  have hR' := R.isLt
  show V m c main_arg2 (((cfg0.win 7).blk t).view.emb (ix2 a k)) = _
  rw [V_main_arg2]
  exact congrArg (a2 m c) (idx2 _ _ _ (by show win0_7.index t (0 : Fin 2) * 512 + 1 * a.val = R.val; omega)
    (by show win0_7.index t (1 : Fin 2) * 512 + 1 * k.val = k.val; omega))

theorem an_at (a : Fin 16) (k : Fin 512) (R : Fin 16384) (hR : 512 * t.val + 512 + a.val = R.val) : (inp m c t).an (ix2 a k) = a2 m c (ix2 R k) := by
  obtain ⟨e0, e1⟩ := index8 t
  have ht := point_lt t
  have hR' := R.isLt
  show V m c main_arg2 (((cfg0.win 8).blk t).view.emb (ix2 a k)) = _
  rw [V_main_arg2]
  exact congrArg (a2 m c) (idx2 _ _ _ (by show win0_8.index t (0 : Fin 2) * 16 + 1 * a.val = R.val; omega)
    (by show win0_8.index t (1 : Fin 2) * 512 + 1 * k.val = k.val; omega))

theorem wom_emb (a : Fin 512) (k : Fin 1024) : ((cfg0.win 9).blk t).view.emb (ix2 a k) = ix2 a k := by
  obtain ⟨e0, e1⟩ := index9 t
  exact idx2 _ _ _ (by show win0_9.index t (0 : Fin 2) * 512 + 1 * a.val = a.val; omega) (by show win0_9.index t (1 : Fin 2) * 1024 + 1 * k.val = k.val; omega)
theorem wom_at (k : Fin 512) (j : Fin 1024) : ((inp m c t).wom (ix2 k j) : EReal) = a3 m c (ix2 (⟨k.val, by omega⟩ : Fin 1024) j) := by
  show (V m c main_v1 (((cfg0.win 9).blk t).view.emb (ix2 k j)) : EReal) = _
  rw [wom_emb, V_wom]
  exact extractStridedSlice_apply _ (a3 m c) slices_S1024x1024_S512x1024_0_0 (ix2 k j) _ (fun b => match b with
    | ⟨0, _⟩ => by show k.val = 0 + k.val; omega
    | ⟨1, _⟩ => by show j.val = 0 + j.val; omega)

theorem woa_emb (a : Fin 512) (k : Fin 1024) : ((cfg0.win 10).blk t).view.emb (ix2 a k) = ix2 a k := by
  obtain ⟨e0, e1⟩ := index10 t
  exact idx2 _ _ _ (by show win0_10.index t (0 : Fin 2) * 512 + 1 * a.val = a.val; omega) (by show win0_10.index t (1 : Fin 2) * 1024 + 1 * k.val = k.val; omega)
theorem woa_at (k : Fin 512) (j : Fin 1024) : ((inp m c t).woa (ix2 k j) : EReal) = a3 m c (ix2 (⟨512 + k.val, by omega⟩ : Fin 1024) j) := by
  show (V m c main_v3 (((cfg0.win 10).blk t).view.emb (ix2 k j)) : EReal) = _
  rw [woa_emb, V_woa]
  exact extractStridedSlice_apply _ (a3 m c) slices_S1024x1024_S512x1024_512_0 (ix2 k j) _ (fun b => match b with
    | ⟨0, _⟩ => by show 512 + k.val = 512 + k.val; omega
    | ⟨1, _⟩ => by show j.val = 0 + j.val; omega)

theorem n2_emb (a : Fin 1) (k : Fin 1024) : ((cfg0.win 11).blk t).view.emb (ix2 a k) = ix2 a k := by
  obtain ⟨e0, e1⟩ := index11 t
  exact idx2 _ _ _ (by show win0_11.index t (0 : Fin 2) * 1 + 1 * a.val = a.val; omega) (by show win0_11.index t (1 : Fin 2) * 1024 + 1 * k.val = k.val; omega)
theorem n2_at (j : Fin 1024) : (inp m c t).n2 (ix2 (0 : Fin 1) j) = a4 m c (ix1 j) := by
  show V m c main_v4 (((cfg0.win 11).blk t).view.emb (ix2 (0 : Fin 1) j)) = _
  rw [n2_emb, V_n2]
  exact shapeCast_a_1a_apply _ _ _ _

theorem cb_emb (a : Fin 1) (k : Fin 5632) : ((cfg0.win 14).blk t).view.emb (ix2 a k) = ix2 a k := by
  obtain ⟨e0, e1⟩ := index14 t
  exact idx2 _ _ _ (by show win0_14.index t (0 : Fin 2) * 1 + 1 * a.val = a.val; omega) (by show win0_14.index t (1 : Fin 2) * 5632 + 1 * k.val = k.val; omega)
theorem cb_at (j : Fin 5632) : (inp m c t).cb (ix2 (0 : Fin 1) j) = a7 m c (ix1 j) := by
  show V m c main_v6 (((cfg0.win 14).blk t).view.emb (ix2 (0 : Fin 1) j)) = _
  rw [cb_emb, V_cb]
  exact shapeCast_a_1a_apply _ _ _ _

theorem fw_emb (a : Fin 1) (k : Fin 1024) : ((cfg0.win 16).blk t).view.emb (ix2 a k) = ix2 a k := by
  obtain ⟨e0, e1⟩ := index16 t
  exact idx2 _ _ _ (by show win0_16.index t (0 : Fin 2) * 1 + 1 * a.val = a.val; omega) (by show win0_16.index t (1 : Fin 2) * 1024 + 1 * k.val = k.val; omega)
theorem fw_at (j : Fin 1024) : (inp m c t).fw (ix2 (0 : Fin 1) j) = a9 m c (ix1 j) := by
  show V m c main_v8 (((cfg0.win 16).blk t).view.emb (ix2 (0 : Fin 1) j)) = _
  rw [fw_emb, V_fw]
  exact shapeCast_a_1a_apply _ _ _ _

theorem wup_emb (a : Fin 1024) (k : Fin 5632) : ((cfg0.win 12).blk t).view.emb (ix2 a k) = ix2 a k := by
  obtain ⟨e0, e1⟩ := index12 t
  exact idx2 _ _ _ (by show win0_12.index t (0 : Fin 2) * 1024 + 1 * a.val = a.val; omega) (by show win0_12.index t (1 : Fin 2) * 5632 + 1 * k.val = k.val; omega)
theorem wup_at (k : Fin 1024) (j : Fin 5632) : ((inp m c t).wup (ix2 k j) : EReal) = a5 m c (ix2 k j) := by
  show (V m c main_v5 (((cfg0.win 12).blk t).view.emb (ix2 k j)) : EReal) = _
  rw [wup_emb, V_wup]
  rfl

theorem wdn_emb (a : Fin 2816) (k : Fin 1024) : ((cfg0.win 15).blk t).view.emb (ix2 a k) = ix2 a k := by
  obtain ⟨e0, e1⟩ := index15 t
  exact idx2 _ _ _ (by show win0_15.index t (0 : Fin 2) * 2816 + 1 * a.val = a.val; omega) (by show win0_15.index t (1 : Fin 2) * 1024 + 1 * k.val = k.val; omega)
theorem wdn_at (k : Fin 2816) (j : Fin 1024) : ((inp m c t).wdn (ix2 k j) : EReal) = a8 m c (ix2 k j) := by
  show (V m c main_v7 (((cfg0.win 15).blk t).view.emb (ix2 k j)) : EReal) = _
  rw [wdn_emb, V_wdn]
  rfl

theorem cw_emb (a : Fin 3) (k : Fin 5632) : ((cfg0.win 13).blk t).view.emb (ix2 a k) = ix2 a k := by
  obtain ⟨e0, e1⟩ := index13 t
  exact idx2 _ _ _ (by show win0_13.index t (0 : Fin 2) * 3 + 1 * a.val = a.val; omega) (by show win0_13.index t (1 : Fin 2) * 5632 + 1 * k.val = k.val; omega)
theorem cw_at (k : Fin 3) (j : Fin 5632) : (inp m c t).cw (ix2 k j) = a6 m c (ix2 k j) := by
  show V m c main_arg6 (((cfg0.win 13).blk t).view.emb (ix2 k j)) = _
  rw [cw_emb, V_main_arg6]

/-! ## The value -/

/-- The reference's result at the arguments as launched. -/
abbrev rOut := val_main_v60 (F := Ideal) (a0 m c) (a1 m c) (a2 m c) (a3 m c) (a4 m c) (a5 m c) (a6 m c) (a7 m c) (a8 m c) (a9 m c)

/-- A point is the tile of its number. -/
theorem tile : TileOf (seqOf (a0 m c) (a1 m c) (a2 m c) (a3 m c) (a4 m c) (a5 m c) (a6 m c) (a7 m c) (a8 m c) (a9 m c)) t.val (inp m c t) (placeOf (grid0.coords t)) where
  inside := by have := point_lt t; omega
  first := first_iff t
  last := last_iff t
  xp := xp_at m c t
  xm := xm_at m c t
  xn := xn_at m c t
  mp := mp_at m c t
  mm := mm_at m c t
  mn := mn_at m c t
  ap := ap_at m c t
  am := am_at m c t
  an := an_at m c t
  wom := wom_at m c t
  woa := woa_at m c t
  n2 := n2_at m c t
  wup := wup_at m c t
  cw := cw_at m c t
  cb := cb_at m c t
  wdn := wdn_at m c t
  fw := fw_at m c t

/-- What the kernel writes at a row and a column is what the reference reads there. -/
theorem block_value (r : Fin 512) (k : Fin 1024) (R : Fin 16384) (hR : R.val = 512 * t.val + r.val) :
    (outBlk (inp m c t) (placeOf (grid0.coords t)) (ix2 r k) : EReal) = rOut m c (ix2 R k) :=
  (tile_value (tile m c t) r k R hR).trans (result_seq _ _ _ _ _ _ _ _ _ _ R k).symm

/-- The array the launch leaves. -/
theorem array_value : (dats m 0 c).arrAt 17 cfg0.N = rOut m c := by
  refine (dats m 0 c).arrAt_eq_of_covers 17 _ (by decide +kernel) fun t _ y => ?_
  obtain ⟨e0, e1⟩ := index17 t
  have ht := point_lt t
  have hy0 : (y 0).val < 512 := (y 0).isLt
  have hd : y = ix2 (y 0) (y 1) := idx2 _ _ _ rfl rfl
  refine Eq.trans (show _ = outBlk (inp m c t) (placeOf (grid0.coords t)) y from ?_) ((congrArg (outBlk (inp m c t) (placeOf (grid0.coords t))) hd).trans
    ((block_value m c t (y 0) (y 1) ⟨512 * t.val + (y 0).val, by omega⟩ rfl).trans (congrArg _ ?_)))
  · show (dats m 0 c).after 17 t _ = _
    rw [after0_17]
  · exact (idx2 _ _ _ (by show win0_17.index t (0 : Fin 2) * 512 + 1 * (y 0).val = 512 * t.val + (y 0).val; omega)
      (by show win0_17.index t (1 : Fin 2) * 1024 + 1 * (y 1).val = (y 1).val; omega)).symm

end Cert.Kernel2Ideal.Ffn

end
-- ==== Proof.FfnTransfer.lean ====
module

public import proofs.«01_k».proof.Defs
public import proofs.«01_k».proof.Proof.Gen.Kernel2
public import proofs.«01_k».proof.Proof.Gen.Kernel2Ideal.Launch
public import Idealize.ShloMosaic.Lib.Pipeline.Regions

@[expose] public section

set_option maxRecDepth 65536

noncomputable section

/-! # The two prints of the feed-forward kernel

`Kernel2Ideal` is `Kernel2` printed again with nothing rewritten, so the two programs are the same: what is shown of
`Kernel2Ideal` over any floats holds of `Kernel2`. -/

namespace Cert.Proof.Ffn

open Idealize.ShloMosaic

variable [h : Cert.Kernel2.Facts] [h' : Cert.Kernel2Ideal.Facts]

/-- The host programs are the same. -/
theorem main_same : @Cert.Kernel2.main Bits _ h = @Cert.Kernel2Ideal.main Bits _ h' := by chain_rfl

/-- The tables of kernels are the same. -/
theorem bodies_same : @Cert.Kernel2.defs₀ Bits _ h = @Cert.Kernel2Ideal.defs₀ Bits _ h' := by chain_rfl

/-- The tables of everything the host programs call are the same. -/
theorem defs_same : @Cert.Kernel2.defs Bits _ h = @Cert.Kernel2Ideal.defs Bits _ h' :=
  congrArg (Pipeline.defs Cert.Kernel2Ideal.pcfgs) bodies_same

end Cert.Proof.Ffn

end
-- ==== Proof.SampleFrame.lean ====
/-
  The feed-forward kernel's launch at the sample batch: its body is the one program `body`, with four tiles in a
  sequence; every run of it ends, the output array's blocks at `outBlk` of the inputs' blocks, the arguments and every
  semaphore as they were.
-/
module

public import proofs.«01_k».proof.Proof.FfnBody
public import proofs.«01_k».proof.Proof.Gen.Kernel4Ideal.Frame
public import Idealize.ShloMosaic.Lib.Claim

@[expose] public section

set_option maxRecDepth 65536

noncomputable section

namespace Cert.Kernel4Ideal.Ffn

open Cert.Kernel4Ideal Cert.Kernel4Ideal.Gen
open Cert.Kernel2Ideal.Ffn (Inp Refs A P Ins anyScratch run_body outBlk body head headOf mixed Mix gateTail tap0 upFirst loop lastHead lastTail finish tileIn)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- A point's tile in the sequence, and the last of the sequence's four tiles. -/
def placeOf (i : grid0.Coords) : BitVec 32 × BitVec 32 := (tileIn 4#32 (BitVec.ofNat 32 (i 0).val), 3#32)

/-- The rows put together from their parts, each cast to its own shape. -/
def mixedCast : Mix F := fun xp xm xn mp mm mn ap am an wom woa =>
  mixed (shapeCast S16x1024 xp shapeCasts_S16x1024_S16x1024) (shapeCast S512x1024 xm shapeCasts_S512x1024_S512x1024)
    (shapeCast S16x1024 xn shapeCasts_S16x1024_S16x1024) (shapeCast S16x512 mp shapeCasts_S16x512_S16x512)
    (shapeCast S512x512 mm shapeCasts_S512x512_S512x512) (shapeCast S16x512 mn shapeCasts_S16x512_S16x512)
    (shapeCast S16x512 ap shapeCasts_S16x512_S16x512) (shapeCast S512x512 am shapeCasts_S512x512_S512x512)
    (shapeCast S16x512 an shapeCasts_S16x512_S16x512) wom woa

theorem mixedCast_eq : (mixedCast : Mix F) = mixed := by
  funext xp xm xn mp mm mn ap am an wom woa
  simp only [mixedCast, shapeCast_self]

/-- The last chunk's gate, cut after its first bias. -/
def lastTaps (R : Refs sig) : P sig Λ₀ F (Σ' (_ : FVec F S3x512 .f32), FVec F S1x256 .f32) := do
  let wa : Vec F S3x256 .f32 ← Prog.lift (.load R.cw (Rect.unit (s := S3x5632) ![0, 2560] S3x256.size inb_S3x5632_S3x256_0_2560).toLoadRect (View.loadsAt_vmem h_S3x256))
  let wg : Vec F S3x256 .f32 ← Prog.lift (.load R.cw (Rect.unit (s := S3x5632) ![0, 5376] S3x256.size inb_S3x5632_S3x256_0_5376).toLoadRect (View.loadsAt_vmem h_S3x256))
  let ba : Vec F S1x256 .f32 ← Prog.lift (.load R.cb (Rect.unit (s := S1x5632) ![0, 2560] S1x256.size inb_S1x5632_S1x256_0_2560).toLoadRect (View.loadsAt_vmem h_S1x256))
  pure ⟨concatenate S3x512 1 [⟨S3x256, wa⟩, ⟨S3x256, wg⟩] concatenates_S3x256_S3x256_S3x512_d1, shapeCast S1x256 ba shapeCasts_S1x256_S1x256⟩
def lastRest (R : Refs sig) (p : Σ' (_ : FVec F S3x512 .f32), FVec F S1x256 .f32) : P sig Λ₀ F PUnit := do
  let bg : Vec F S1x256 .f32 ← Prog.lift (.load R.cb (Rect.unit (s := S1x5632) ![0, 5376] S1x256.size inb_S1x5632_S1x256_0_5376).toLoadRect (View.loadsAt_vmem h_S1x256))
  let x0 : Vec F S512x512 .f32 ← Prog.lift (.load R.uC (Rect.unit (s := S544x512) ![15, 0] S512x512.size inb_S544x512_S512x512_15_0).toLoadRect (View.loadsAt_vmem h_S512x512))
  gateTail R ![2560, 0] inb_S2816x1024_S256x1024_2560_0
    ⟨p.1, concatenate S1x512 1 [⟨S1x256, p.2⟩, ⟨S1x256, shapeCast S1x256 bg shapeCasts_S1x256_S1x256⟩] concatenates_S1x256_S1x256_S1x512_d1, x0, tap0 p.1⟩

theorem last_eq (R : Refs sig) : (lastTaps (F := F) R >>= lastRest R) = (lastHead R >>= lastTail R) := by rfl

section
variable (i : grid0.Coords)
  (a1 : Memref sig .tc .vmem S16x1024 .f32) (h1 : a1.IsWhole) (a2 : Memref sig .tc .vmem S512x1024 .f32) (h2 : a2.IsWhole)
  (a3 : Memref sig .tc .vmem S16x1024 .f32) (h3 : a3.IsWhole) (a4 : Memref sig .tc .vmem S16x512 .bf16) (h4 : a4.IsWhole)
  (a5 : Memref sig .tc .vmem S512x512 .bf16) (h5 : a5.IsWhole) (a6 : Memref sig .tc .vmem S16x512 .bf16) (h6 : a6.IsWhole)
  (a7 : Memref sig .tc .vmem S16x512 .bf16) (h7 : a7.IsWhole) (a8 : Memref sig .tc .vmem S512x512 .bf16) (h8 : a8.IsWhole)
  (a9 : Memref sig .tc .vmem S16x512 .bf16) (h9 : a9.IsWhole) (a10 : Memref sig .tc .vmem S512x1024 .bf16) (h10 : a10.IsWhole)
  (a11 : Memref sig .tc .vmem S512x1024 .bf16) (h11 : a11.IsWhole) (a12 : Memref sig .tc .vmem S1x1024 .f32) (h12 : a12.IsWhole)
  (a13 : Memref sig .tc .vmem S1024x5632 .bf16) (h13 : a13.IsWhole) (a14 : Memref sig .tc .vmem S3x5632 .f32) (h14 : a14.IsWhole)
  (a15 : Memref sig .tc .vmem S1x5632 .f32) (h15 : a15.IsWhole) (a16 : Memref sig .tc .vmem S2816x1024 .bf16) (h16 : a16.IsWhole)
  (a17 : Memref sig .tc .vmem S1x1024 .f32) (h17 : a17.IsWhole) (a18 : Memref sig .tc .vmem S512x1024 .f32) (h18 : a18.IsWhole)
  (a19 : Memref sig .tc .vmem S544x1024 .bf16) (h19 : a19.IsWhole) (a20 : Memref sig .tc .vmem S512x1024 .f32) (h20 : a20.IsWhole)
  (a21 : Memref sig .tc .vmem S544x512 .f32) (h21 : a21.IsWhole) (a22 : Memref sig .tc .vmem S544x512 .f32) (h22 : a22.IsWhole)
  (a23 : Memref sig .tc .vmem S512x1024 .f32) (h23 : a23.IsWhole)

/-- The printed body, cut where it is cut. -/
theorem body_cut :
    cc0_ffn (F := F) i a1 h1 a2 h2 a3 h3 a4 h4 a5 h5 a6 h6 a7 h7 a8 h8 a9 h9 a10 h10 a11 h11 a12 h12 a13 h13 a14 h14 a15 h15 a16 h16
        a17 h17 a18 h18 a19 h19 a20 h20 a21 h21 a22 h22 a23 h23
      = (let R : Refs sig := ⟨a1, a2, a3, a4, a5, a6, a7, a8, a9, a10, a11, a12, a13, a14, a15, a16, a17, a18, a19, a20, a21, a22, a23, h19⟩
        headOf mixedCast R (placeOf i) >>= fun _ => upFirst R >>= fun _ => ((loop R >>= fun _ => lastTaps R) >>= fun p => lastRest R p >>= fun _ => finish R)) := by
  chain_rfl

/-- The printed body is the program above. -/
theorem body_eq :
    cc0_ffn (F := F) i a1 h1 a2 h2 a3 h3 a4 h4 a5 h5 a6 h6 a7 h7 a8 h8 a9 h9 a10 h10 a11 h11 a12 h12 a13 h13 a14 h14 a15 h15 a16 h16
        a17 h17 a18 h18 a19 h19 a20 h20 a21 h21 a22 h22 a23 h23
      = body ⟨a1, a2, a3, a4, a5, a6, a7, a8, a9, a10, a11, a12, a13, a14, a15, a16, a17, a18, a19, a20, a21, a22, a23, h19⟩ (placeOf i) := by
  rw [body_cut]
  unfold body
  rw [← last_eq]
  simp only [head, mixedCast_eq, bind_assoc]

end

variable (m : (ℓ : Loc nD τ sig) → Buf (Elt F) ℓ) (ρ : Dev nD → PrngReg)

/-- The inputs' blocks at a point. -/
def inp (c : Dev nD) (t : Fin cfg0.N) : Inp F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩

/-- The buffers the body is called with at a point. -/
abbrev refs (t : Fin cfg0.N) : Refs sig :=
  ⟨st0_0 t, st0_1 t, st0_2 t, st0_3 t, st0_4 t, st0_5 t, st0_6 t, st0_7 t, st0_8 t, st0_9 t, st0_10 t, st0_11 t, st0_12 t, st0_13 t, st0_14 t, st0_15 t, st0_16 t, st0_17 t, Memref.whole cc0_scratch0, Memref.whole cc0_scratch1,
    Memref.whole cc0_scratch2, Memref.whole cc0_scratch3, Memref.whole cc0_scratch4, Memref.isWhole_whole _⟩

theorem scratch_eq (c : Dev nD) (t : Fin cfg0.N) :
    (Pipeline.scopedRest (Ix := Unit) (Name := ℕ) (U := UR sig nD τ) (Lvl := ℕ) (Val := Elt F) spec0 c : A sig F) = anyScratch c (refs t) := by
  rw [scopedRest0_eq]
  unfold anyScratch refs
  simp only [owns_whole]
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outBlk (inp m c t) (placeOf (grid0.coords t))
    | ⟨n + 18, h⟩ => absurd h (Nat.not_lt.mpr (Nat.le_add_left 18 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = outBlk (inp m c t) (placeOf (grid0.coords t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

def bodyPre (c : Dev nD) (t : Fin cfg0.N) : A sig F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

def bodyPost (c : Dev nD) (t : Fin cfg0.N) : A sig F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, body_eq,
    show (dats m 0 c).Φ t.castSucc = Pipeline.ΦA spec0 c from rfl]
  unfold Pipeline.ΦA
  rw [scratch_eq c t]
  iintro ⟨⟨S, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (run_body (D := defs₀) (c := c) (R := refs t) (X := inp m c t) (placeOf (grid0.coords t)) _) $$ [S H0 H1 H2 H3 H4 H5 H6 H7 H8 H9 H10 H11 H12 H13 H14 H15 H16 H17]
  · unfold Ins inp
    iframe
  unfold Ins inp
  iintro ⟨S, H17, H0, H1, H2, H3, H4, H5, H6, H7, H8, H9, H10, H11, H12, H13, H14, H15, H16⟩
  iframe

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end as the proof data say, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged, every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel4Ideal.Ffn

end
-- ==== Proof.SampleRefValue.lean ====
/-
  What the feed-forward reference's result reads over the extended reals at the sample batch: each of the sixteen
  sequences' rows is the block's of that sequence.
-/
module

public import proofs.«01_k».proof.Proof.FfnRefValue
public import proofs.«01_k».proof.Proof.Gen.Reference4Ideal.Read

@[expose] public section

set_option maxRecDepth 65536

noncomputable section

namespace Cert.Reference4Ideal.Ffn

open Cert.Reference4Ideal Cert.Reference4Ideal.Gen Cert.Reference4Ideal.Read Cert.Softmax
open Cert.Reference2Ideal.Ffn (one_f32 idx2 idx1 mul_div_one one_add_exp_ne)
open Idealize.ShloMosaic Idealize.ShloMosaic.TcCoe Idealize.ShloMosaic.ValueIdx

variable (x0 : (⟨S16x2048x1024, .f32⟩ : BufTy).Contents (Elt Ideal)) (x1 x2 : (⟨S16x2048x512, .bf16⟩ : BufTy).Contents (Elt Ideal))
  (x3 : (⟨S1024x1024, .f32⟩ : BufTy).Contents (Elt Ideal)) (x4 : (⟨S1024, .f32⟩ : BufTy).Contents (Elt Ideal))
  (x5 : (⟨S1024x5632, .f32⟩ : BufTy).Contents (Elt Ideal)) (x6 : (⟨S3x5632, .f32⟩ : BufTy).Contents (Elt Ideal))
  (x7 : (⟨S5632, .f32⟩ : BufTy).Contents (Elt Ideal)) (x8 : (⟨S2816x1024, .f32⟩ : BufTy).Contents (Elt Ideal))
  (x9 : (⟨S1024, .f32⟩ : BufTy).Contents (Elt Ideal)) (b : Fin 16)

/-- An index of rank three by its coordinates. -/
theorem idx3 {n k l : ℕ} (i : (⟨3, ![n, k, l]⟩ : Shape).Idx) (a : Fin n) (b : Fin k) (c : Fin l) (h0 : (i 0).val = a.val) (h1 : (i 1).val = b.val)
    (h2 : (i 2).val = c.val) : i = ix3 a b c :=
  funext fun x => Fin.ext (match x with | ⟨0, _⟩ => h0 | ⟨1, _⟩ => h1 | ⟨2, _⟩ => h2)

/-- A row of the input with the mixers' outputs projected and added. -/
theorem mixed_apply (r : Fin 2048) (c : Fin 1024) :
    (val_main_v3 (F := Ideal) x0 x1 x2 x3 (ix3 b r c) : EReal)
      = ((x0 (ix3 b r c) : EReal) + ∑ k : Fin 512, (x1 (ix3 b r k) : EReal) * x3 (ix2 (⟨k.val, by omega⟩ : Fin 1024) c))
        + ∑ k : Fin 512, (x2 (ix3 b r k) : EReal) * x3 (ix2 (⟨512 + k.val, by omega⟩ : Fin 1024) c) := by
  rw [val_main_v3_apply, val_main_v2_apply]
  refine Eq.trans ?_ (add_assoc _ _ _).symm
  refine congrArg (fun y : EReal => (x0 (ix3 b r c) : EReal) + y) ?_
  refine (Fin.sum_univ_add (a := 512) (b := 512) _).trans (congrArg₂ (fun x y : EReal => x + y) (Finset.sum_congr rfl fun k _ => ?_) (Finset.sum_congr rfl fun k _ => ?_))
  · refine congrArg₂ (fun x y : EReal => x * y) ?_ (congrArg x3 (idx2 _ _ _ rfl rfl))
    rw [val_main_v1_apply]
    unfold val_main_v0
    exact concatenate_pair_apply_left (t := S16x2048x1024) (s₁ := S16x2048x512) (s₂ := S16x2048x512) 2 x1 x2 _ _ rfl (ix3 b r k)
      (fun a => match a with | ⟨0, _⟩ => rfl | ⟨1, _⟩ => rfl | ⟨2, _⟩ => rfl)
  · refine congrArg₂ (fun x y : EReal => x * y) ?_ (congrArg x3 (idx2 _ _ _ rfl rfl))
    rw [val_main_v1_apply]
    unfold val_main_v0
    exact concatenate_pair_apply_right (t := S16x2048x1024) (s₁ := S16x2048x512) (s₂ := S16x2048x512) 2 x1 x2 _ _ rfl rfl (ix3 b r k)
      (fun a ha => match a, ha with | ⟨0, _⟩, _ => rfl | ⟨1, _⟩, _ => rfl | ⟨2, _⟩, ha => absurd rfl ha) (Nat.add_comm _ _)

theorem normed_apply (r : Fin 2048) (c : Fin 1024) :
    (val_main_v17 (F := Ideal) x0 x1 x2 x3 x4 (ix3 b r c) : EReal)
      = rms (fun k => val_main_v3 (F := Ideal) x0 x1 x2 x3 (ix3 b r k)) (x4 (ix1 c)) c := by
  rw [val_main_v17_apply, val_main_v13_apply, val_main_v16_apply, val_main_v15_apply, val_main_v14_apply, val_main_v12_apply, val_main_v11_apply, val_main_v10_apply,
    val_main_v8_apply, val_main_v9_apply, val_main_v7_apply, val_main_v6_apply, val_main_v5_apply]
  refine congrArg₂ (fun x y : EReal => x * y) ?_ (congrArg x4 (idx1 _ _ rfl))
  refine congrArg (fun x : EReal => (val_main_v3 (F := Ideal) x0 x1 x2 x3 (ix3 b r c) : EReal) * Ideal.rsqrt (Ideal.div x _ + _)) ?_
  refine (congrArg (fun x : EReal => x + _) Ideal.ofBits_zero_f32).trans ((zero_add _).trans (Finset.sum_congr rfl fun k _ => ?_))
  rw [val_main_v4_apply]
  refine congrArg (fun i => (val_main_v3 (F := Ideal) x0 x1 x2 x3 i : EReal) * val_main_v3 (F := Ideal) x0 x1 x2 x3 i) (idx3 _ _ _ _ rfl rfl rfl)

theorem up_apply (r : Fin 2048) (c : Fin 5632) :
    (val_main_v18 (F := Ideal) x0 x1 x2 x3 x4 x5 (ix3 b r c) : EReal)
      = ∑ k : Fin 1024, (val_main_v17 (F := Ideal) x0 x1 x2 x3 x4 (ix3 b r k) : EReal) * x5 (ix2 k c) := by
  rw [val_main_v18_apply]
  exact Finset.sum_congr rfl fun k _ => congrArg₂ (fun x y : EReal => x * y) (congrArg _ (idx3 _ _ _ _ rfl rfl rfl)) (congrArg x5 (idx2 _ _ _ rfl rfl))

/-- The padded rows: a row of zeros before the first and one after the last. -/
theorem pad_inside (r : Fin 2048) (c : Fin 5632) :
    (val_main_v19 (F := Ideal) x0 x1 x2 x3 x4 x5 (ix3 b (⟨r.val + 1, by omega⟩ : Fin 2050) c) : EReal) = val_main_v18 (F := Ideal) x0 x1 x2 x3 x4 x5 (ix3 b r c) := by
  unfold val_main_v19
  generalize val_main_v18 (F := Ideal) x0 x1 x2 x3 x4 x5 = y
  exact pad_apply_of_inside _ _ _ y _ _ _ _ (ix3 b r c) (fun a => match a with
    | ⟨0, _⟩ => by show b.val = 0 + b.val * (0 + 1); omega
    | ⟨1, _⟩ => by show r.val + 1 = 1 + r.val * (0 + 1); omega
    | ⟨2, _⟩ => by show c.val = 0 + c.val * (0 + 1); omega)

theorem pad_outside (p : Fin 2050) (hp : p.val = 0 ∨ p.val = 2049) (c : Fin 5632) :
    (val_main_v19 (F := Ideal) x0 x1 x2 x3 x4 x5 (ix3 b p c) : EReal) = 0 := by
  unfold val_main_v19
  generalize val_main_v18 (F := Ideal) x0 x1 x2 x3 x4 x5 = y
  refine (pad_apply_of_not_inside _ _ _ y _ _ _ (ix3 b p c) (1 : Fin 3) (fun h => ?_)).trans ?_
  · obtain ⟨h1, -, h2⟩ := h
    have h1 : 1 ≤ p.val := h1
    have h2 : (p.val - 1) / (0 + 1) < 2048 := h2
    omega
  · rw [val_main_call0_v0_apply, val_main_c_apply]
    show (((0#32 : BitVec 32).toInt : ℝ) : EReal) = 0
    simp

/-- The convolution of three neighbouring rows. -/
theorem conv_apply (r : Fin 2048) (c : Fin 5632) :
    (val_main_v46 (F := Ideal) x0 x1 x2 x3 x4 x5 x6 x7 (ix3 b r c) : EReal)
      = (((val_main_v19 (F := Ideal) x0 x1 x2 x3 x4 x5 (ix3 b (⟨r.val, by omega⟩ : Fin 2050) c) : EReal) * x6 (ix2 (0 : Fin 3) c)
          + (val_main_v19 (F := Ideal) x0 x1 x2 x3 x4 x5 (ix3 b (⟨r.val + 1, by omega⟩ : Fin 2050) c) : EReal) * x6 (ix2 (1 : Fin 3) c))
          + (val_main_v19 (F := Ideal) x0 x1 x2 x3 x4 x5 (ix3 b (⟨r.val + 2, by omega⟩ : Fin 2050) c) : EReal) * x6 (ix2 (2 : Fin 3) c))
        + x7 (ix1 c) := by
  have hc := c.isLt
  rw [val_main_v46_apply, val_main_v42_apply, val_main_v34_apply, val_main_v26_apply, val_main_v33_apply, val_main_v41_apply,
    val_main_v20_apply, val_main_v27_apply, val_main_v35_apply, val_main_v25_apply, val_main_v24_apply, val_main_v23_apply, val_main_v22_apply, val_main_v21_apply,
    val_main_v32_apply, val_main_v31_apply, val_main_v30_apply, val_main_v29_apply, val_main_v28_apply, val_main_v40_apply, val_main_v39_apply, val_main_v38_apply, val_main_v37_apply,
    val_main_v36_apply, val_main_v45_apply, val_main_v44_apply, val_main_v43_apply]
  refine congrArg₂ (fun x y : EReal => x + y) (congrArg₂ (fun x y : EReal => x + y) (congrArg₂ (fun x y : EReal => x + y) ?_ ?_) ?_) (congrArg x7 (idx1 _ _ rfl))
  · exact congrArg₂ (fun x y : EReal => x * y) (congrArg _ (idx3 _ _ _ _ rfl rfl rfl)) (congrArg x6 (idx2 _ _ _ rfl (Nat.mod_eq_of_lt hc)))
  · exact congrArg₂ (fun x y : EReal => x * y) (congrArg _ (idx3 _ _ _ _ rfl (Nat.add_comm _ _) rfl)) (congrArg x6 (idx2 _ _ _ rfl (Nat.mod_eq_of_lt hc)))
  · exact congrArg₂ (fun x y : EReal => x * y) (congrArg _ (idx3 _ _ _ _ rfl (Nat.add_comm _ _) rfl)) (congrArg x6 (idx2 _ _ _ rfl (Nat.mod_eq_of_lt hc)))

/-- The gated columns. -/
theorem act_apply (r : Fin 2048) (f : Fin 2816) :
    (val_main_v50 (F := Ideal) x0 x1 x2 x3 x4 x5 x6 x7 (ix3 b r f) : EReal)
      = silu (val_main_v46 (F := Ideal) x0 x1 x2 x3 x4 x5 x6 x7 (ix3 b r (⟨2816 + f.val, by omega⟩ : Fin 5632)))
        * val_main_v46 (F := Ideal) x0 x1 x2 x3 x4 x5 x6 x7 (ix3 b r (⟨f.val, by omega⟩ : Fin 5632)) := by
  have hg : (val_main_v48 (F := Ideal) x0 x1 x2 x3 x4 x5 x6 x7 (ix3 b r f) : EReal)
      = val_main_v46 (F := Ideal) x0 x1 x2 x3 x4 x5 x6 x7 (ix3 b r (⟨2816 + f.val, by omega⟩ : Fin 5632)) := by
    rw [val_main_v48_apply]
    exact congrArg _ (idx3 _ _ _ _ rfl rfl rfl)
  have ha : (val_main_v47 (F := Ideal) x0 x1 x2 x3 x4 x5 x6 x7 (ix3 b r f) : EReal)
      = val_main_v46 (F := Ideal) x0 x1 x2 x3 x4 x5 x6 x7 (ix3 b r (⟨f.val, by omega⟩ : Fin 5632)) := by
    rw [val_main_v47_apply]
    exact congrArg _ (idx3 _ _ _ _ rfl rfl rfl)
  rw [val_main_v50_apply, val_main_v49_apply]
  refine congrArg₂ (fun x y : EReal => x * y) ?_ ha
  rw [val_main_call1_v5_apply, val_main_call1_v4_apply, val_main_call1_v3_apply, val_main_call1_v2_apply, val_main_call1_v1_apply,
    val_main_call1_v0_apply, ← hg]
  generalize (val_main_v48 (F := Ideal) x0 x1 x2 x3 x4 x5 x6 x7 (ix3 b r f) : EReal) = g
  show g * Ideal.div (Ideal.ofBits .f32 0x3F800000#32) (Ideal.ofBits .f32 0x3F800000#32 + Ideal.exp (-g)) = silu g
  rw [one_f32, mul_div_one _ _ (one_add_exp_ne _), silu, zero_sub]

theorem down_apply (r : Fin 2048) (c : Fin 1024) :
    (val_main_v51 (F := Ideal) x0 x1 x2 x3 x4 x5 x6 x7 x8 (ix3 b r c) : EReal)
      = ∑ f : Fin 2816, (val_main_v50 (F := Ideal) x0 x1 x2 x3 x4 x5 x6 x7 (ix3 b r f) : EReal) * x8 (ix2 f c) := by
  rw [val_main_v51_apply]
  exact Finset.sum_congr rfl fun k _ => congrArg₂ (fun x y : EReal => x * y) (congrArg _ (idx3 _ _ _ _ rfl rfl rfl)) (congrArg x8 (idx2 _ _ _ rfl rfl))

/-- The result. -/
theorem result_apply (r : Fin 2048) (c : Fin 1024) :
    (val_main_v66 (F := Ideal) x0 x1 x2 x3 x4 x5 x6 x7 x8 x9 (ix3 b r c) : EReal)
      = rms (fun k => (val_main_v3 (F := Ideal) x0 x1 x2 x3 (ix3 b r k) : EReal) + val_main_v51 (F := Ideal) x0 x1 x2 x3 x4 x5 x6 x7 x8 (ix3 b r k)) (x9 (ix1 c)) c := by
  rw [val_main_v66_apply, val_main_v62_apply, val_main_v65_apply, val_main_v64_apply, val_main_v63_apply, val_main_v61_apply, val_main_v60_apply, val_main_v59_apply,
    val_main_v57_apply, val_main_v58_apply, val_main_v56_apply, val_main_v55_apply, val_main_v54_apply]
  refine congrArg₂ (fun x y : EReal => x * y) ?_ (congrArg x9 (idx1 _ _ rfl))
  rw [val_main_v52_apply]
  refine congrArg (fun x : EReal => ((val_main_v3 (F := Ideal) x0 x1 x2 x3 (ix3 b r c) : EReal) + val_main_v51 (F := Ideal) x0 x1 x2 x3 x4 x5 x6 x7 x8 (ix3 b r c))
    * Ideal.rsqrt (Ideal.div x _ + _)) ?_
  refine (congrArg (fun x : EReal => x + _) Ideal.ofBits_zero_f32).trans ((zero_add _).trans (Finset.sum_congr rfl fun k _ => ?_))
  rw [val_main_v53_apply, val_main_v52_apply]
  refine congrArg (fun i => ((val_main_v3 (F := Ideal) x0 x1 x2 x3 i : EReal) + val_main_v51 (F := Ideal) x0 x1 x2 x3 x4 x5 x6 x7 x8 i)
    * ((val_main_v3 (F := Ideal) x0 x1 x2 x3 i : EReal) + val_main_v51 (F := Ideal) x0 x1 x2 x3 x4 x5 x6 x7 x8 i)) (idx3 _ _ _ _ rfl rfl rfl)

/-- A sequence of the batch. -/
def seqOf : Cert.Ffn.Seq 2048 where
  x r c := x0 (ix3 b r c)
  m r k := x1 (ix3 b r k)
  a r k := x2 (ix3 b r k)
  wo k c := x3 (ix2 k c)
  n2 c := x4 (ix1 c)
  wup k c := x5 (ix2 k c)
  cw k c := x6 (ix2 k c)
  cb c := x7 (ix1 c)
  wdn k c := x8 (ix2 k c)
  fw c := x9 (ix1 c)

/-- The result's rows of a sequence are the block's of it. -/
theorem result_seq (r : Fin 2048) (c : Fin 1024) :
    (val_main_v66 (F := Ideal) x0 x1 x2 x3 x4 x5 x6 x7 x8 x9 (ix3 b r c) : EReal) = (seqOf x0 x1 x2 x3 x4 x5 x6 x7 x8 x9 b).out r c :=
  Cert.Ffn.Seq.Reads.out_eq (S := seqOf x0 x1 x2 x3 x4 x5 x6 x7 x8 x9 b)
    (mixed := fun r c => val_main_v3 (F := Ideal) x0 x1 x2 x3 (ix3 b r c))
    (normed := fun r c => val_main_v17 (F := Ideal) x0 x1 x2 x3 x4 (ix3 b r c))
    (up := fun r c => val_main_v18 (F := Ideal) x0 x1 x2 x3 x4 x5 (ix3 b r c))
    (pad := fun p c => val_main_v19 (F := Ideal) x0 x1 x2 x3 x4 x5 (ix3 b p c))
    (conv := fun r c => val_main_v46 (F := Ideal) x0 x1 x2 x3 x4 x5 x6 x7 (ix3 b r c))
    (act := fun r f => val_main_v50 (F := Ideal) x0 x1 x2 x3 x4 x5 x6 x7 (ix3 b r f))
    (down := fun r c => val_main_v51 (F := Ideal) x0 x1 x2 x3 x4 x5 x6 x7 x8 (ix3 b r c))
    (out := fun r c => val_main_v66 (F := Ideal) x0 x1 x2 x3 x4 x5 x6 x7 x8 x9 (ix3 b r c))
    { mixed_at := mixed_apply x0 x1 x2 x3 b
      normed_at := normed_apply x0 x1 x2 x3 x4 b
      up_at := up_apply x0 x1 x2 x3 x4 x5 b
      pad_in := pad_inside x0 x1 x2 x3 x4 x5 b
      pad_out := pad_outside x0 x1 x2 x3 x4 x5 b
      conv_at := conv_apply x0 x1 x2 x3 x4 x5 x6 x7 b
      act_at := act_apply x0 x1 x2 x3 x4 x5 x6 x7 b
      down_at := down_apply x0 x1 x2 x3 x4 x5 x6 x7 x8 b
      out_at := result_apply x0 x1 x2 x3 x4 x5 x6 x7 x8 x9 b } r c

/-- The result's rows are the sequences', one sequence after another. -/
theorem rows_seq (r : Fin 2048) (c : Fin 1024) (R : Fin 32768) (hR : R.val = 2048 * b.val + r.val) :
    (val_main_v67 (F := Ideal) x0 x1 x2 x3 x4 x5 x6 x7 x8 x9 (ix2 R c) : EReal) = (seqOf x0 x1 x2 x3 x4 x5 x6 x7 x8 x9 b).out r c := by
  have hr := r.isLt
  have hc := c.isLt
  rw [val_main_v67_apply, ← result_seq]
  exact congrArg _ (idx3 _ _ _ _ (by show (R.val * 1024 + c.val) / 2097152 = b.val; omega)
    (by show (R.val * 1024 + c.val) / 1024 % 2048 = r.val; omega) (by show (R.val * 1024 + c.val) % 1024 = c.val; omega))

end Cert.Reference4Ideal.Ffn

end
-- ==== Proof.SampleArrayValue.lean ====
/-
  The sample batch's result array over the extended reals: what the blocks of the arguments read, and the reference's
  result at every element the launch writes. Point t is tile t mod 4 of sequence t / 4.
-/
module

public import proofs.«01_k».proof.Proof.SampleFrame
public import proofs.«01_k».proof.Proof.SampleRefValue
public import proofs.«01_k».proof.Proof.FfnTileValue
public import Idealize.ShloMosaic.Lib.Pipeline.ValueKit.Geometry

@[expose] public section

set_option maxRecDepth 65536

noncomputable section

namespace Cert.Kernel4Ideal.Ffn

open Cert.Kernel4Ideal Cert.Kernel4Ideal.Gen Cert.Softmax
open Cert.Kernel2Ideal.Ffn (TileOf tile_value outBlk)
open Cert.Reference2Ideal.Ffn (idx2)
open Cert.Reference4Ideal.Ffn (idx3 seqOf rows_seq)
open Cert.Reference4Ideal.Read (val_main_v67)
open Idealize.ShloMosaic Idealize.ShloMosaic.TcCoe Idealize.ShloMosaic.ValueIdx Idealize.ShloMosaic.Tactic

variable (m : (ℓ : Loc nD τ sig) → Buf (Elt Ideal) ℓ) (c : Dev nD) (t : Fin cfg0.N)

/-! ## The arguments as launched -/

abbrev a0 : (⟨S16x2048x1024, .f32⟩ : BufTy).Contents (Elt Ideal) := m ((c : Thread nD τ).loc main_arg0)
abbrev a1 : (⟨S16x2048x512, .bf16⟩ : BufTy).Contents (Elt Ideal) := m ((c : Thread nD τ).loc main_arg1)
abbrev a2 : (⟨S16x2048x512, .bf16⟩ : BufTy).Contents (Elt Ideal) := m ((c : Thread nD τ).loc main_arg2)
abbrev a3 : (⟨S1024x1024, .f32⟩ : BufTy).Contents (Elt Ideal) := m ((c : Thread nD τ).loc main_arg3)
abbrev a4 : (⟨S1024, .f32⟩ : BufTy).Contents (Elt Ideal) := m ((c : Thread nD τ).loc main_arg4)
abbrev a5 : (⟨S1024x5632, .f32⟩ : BufTy).Contents (Elt Ideal) := m ((c : Thread nD τ).loc main_arg5)
abbrev a6 : (⟨S3x5632, .f32⟩ : BufTy).Contents (Elt Ideal) := m ((c : Thread nD τ).loc main_arg6)
abbrev a7 : (⟨S5632, .f32⟩ : BufTy).Contents (Elt Ideal) := m ((c : Thread nD τ).loc main_arg7)
abbrev a8 : (⟨S2816x1024, .f32⟩ : BufTy).Contents (Elt Ideal) := m ((c : Thread nD τ).loc main_arg8)
abbrev a9 : (⟨S1024, .f32⟩ : BufTy).Contents (Elt Ideal) := m ((c : Thread nD τ).loc main_arg9)

theorem V_wom : V m c main_v4 = truncf (F := Ideal) .bf16 (extractStridedSlice S512x1024 ![0, 0] (a3 m c) slices_S1024x1024_S512x1024_0_0) bitsLt_bf16_f32 := by
  after_results <;> rfl
theorem V_woa : V m c main_v6 = truncf (F := Ideal) .bf16 (extractStridedSlice S512x1024 ![512, 0] (a3 m c) slices_S1024x1024_S512x1024_512_0) bitsLt_bf16_f32 := by
  after_results <;> rfl
theorem V_n2 : V m c main_v7 = shapeCast S1x1024 (a4 m c) shapeCasts_S1024_S1x1024 := by after_results <;> rfl
theorem V_wup : V m c main_v8 = truncf (F := Ideal) .bf16 (a5 m c) bitsLt_bf16_f32 := by after_results <;> rfl
theorem V_cb : V m c main_v9 = shapeCast S1x5632 (a7 m c) shapeCasts_S5632_S1x5632 := by after_results <;> rfl
theorem V_wdn : V m c main_v10 = truncf (F := Ideal) .bf16 (a8 m c) bitsLt_bf16_f32 := by after_results <;> rfl
theorem V_fw : V m c main_v11 = shapeCast S1x1024 (a9 m c) shapeCasts_S1024_S1x1024 := by after_results <;> rfl

theorem V_rows0 : V m c main_v0 = shapeCast S32768x1024 (a0 m c) shapeCasts_S16x2048x1024_S32768x1024 := by after_results <;> rfl
theorem V_rows1 : V m c main_v1 = shapeCast S32768x512 (a1 m c) shapeCasts_S16x2048x512_S32768x512 := by after_results <;> rfl
theorem V_rows2 : V m c main_v2 = shapeCast S32768x512 (a2 m c) shapeCasts_S16x2048x512_S32768x512 := by after_results <;> rfl

/-- A row of the sequences laid one after another is its sequence's. -/
theorem rows_apply {N : ℕ} {α : Type} (x : (⟨3, ![16, 2048, N]⟩ : Shape).Idx → α) (h : (⟨3, ![16, 2048, N]⟩ : Shape).ShapeCasts ⟨2, ![32768, N]⟩)
    (i : (⟨2, ![32768, N]⟩ : Shape).Idx) (b : Fin 16) (r : Fin 2048) (k : Fin N) (h0 : (i 0).val = 2048 * b.val + r.val) (h1 : (i 1).val = k.val) :
    shapeCast ⟨2, ![32768, N]⟩ x h i = x (ix3 b r k) :=
  shapeCast_apply x h i (ix3 b r k) (by
    rw [Shape.rowMajor_val_three, Shape.rowMajor_val_two]
    show (b.val * 2048 + r.val) * N + k.val = (i 0).val * N + (i 1).val
    rw [h0, h1, Nat.mul_comm b.val])

/-! ## The blocks

A point's blocks are its 512 rows, the 16 rows before them and the 16 rows after. -/

theorem index0 : ∀ t : Fin cfg0.N, win0_0.index t (0 : Fin 2) = 32 * t.val - 1 ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = min (32 * t.val + 32) 2047 ∧ win0_2.index t (1 : Fin 2) = 0 := (by decide +kernel : ∀ t : Fin grid0.N, _)
theorem index3 : ∀ t : Fin cfg0.N, win0_3.index t (0 : Fin 2) = 32 * t.val - 1 ∧ win0_3.index t (1 : Fin 2) = 0 := (by decide +kernel : ∀ t : Fin grid0.N, _)
theorem index4 : ∀ t : Fin cfg0.N, win0_4.index t (0 : Fin 2) = t.val ∧ win0_4.index t (1 : Fin 2) = 0 := (by decide +kernel : ∀ t : Fin grid0.N, _)
theorem index5 : ∀ t : Fin cfg0.N, win0_5.index t (0 : Fin 2) = min (32 * t.val + 32) 2047 ∧ win0_5.index t (1 : Fin 2) = 0 := (by decide +kernel : ∀ t : Fin grid0.N, _)
theorem index6 : ∀ t : Fin cfg0.N, win0_6.index t (0 : Fin 2) = 32 * t.val - 1 ∧ win0_6.index t (1 : Fin 2) = 0 := (by decide +kernel : ∀ t : Fin grid0.N, _)
theorem index7 : ∀ t : Fin cfg0.N, win0_7.index t (0 : Fin 2) = t.val ∧ win0_7.index t (1 : Fin 2) = 0 := (by decide +kernel : ∀ t : Fin grid0.N, _)
theorem index8 : ∀ t : Fin cfg0.N, win0_8.index t (0 : Fin 2) = min (32 * t.val + 32) 2047 ∧ win0_8.index t (1 : Fin 2) = 0 := (by decide +kernel : ∀ t : Fin grid0.N, _)
theorem index9 : ∀ t : Fin cfg0.N, win0_9.index t (0 : Fin 2) = 0 ∧ win0_9.index t (1 : Fin 2) = 0 := (by decide +kernel : ∀ t : Fin grid0.N, _)
theorem index10 : ∀ t : Fin cfg0.N, win0_10.index t (0 : Fin 2) = 0 ∧ win0_10.index t (1 : Fin 2) = 0 := (by decide +kernel : ∀ t : Fin grid0.N, _)
theorem index11 : ∀ t : Fin cfg0.N, win0_11.index t (0 : Fin 2) = 0 ∧ win0_11.index t (1 : Fin 2) = 0 := (by decide +kernel : ∀ t : Fin grid0.N, _)
theorem index12 : ∀ t : Fin cfg0.N, win0_12.index t (0 : Fin 2) = 0 ∧ win0_12.index t (1 : Fin 2) = 0 := (by decide +kernel : ∀ t : Fin grid0.N, _)
theorem index13 : ∀ t : Fin cfg0.N, win0_13.index t (0 : Fin 2) = 0 ∧ win0_13.index t (1 : Fin 2) = 0 := (by decide +kernel : ∀ t : Fin grid0.N, _)
theorem index14 : ∀ t : Fin cfg0.N, win0_14.index t (0 : Fin 2) = 0 ∧ win0_14.index t (1 : Fin 2) = 0 := (by decide +kernel : ∀ t : Fin grid0.N, _)
theorem index15 : ∀ t : Fin cfg0.N, win0_15.index t (0 : Fin 2) = 0 ∧ win0_15.index t (1 : Fin 2) = 0 := (by decide +kernel : ∀ t : Fin grid0.N, _)
theorem index16 : ∀ t : Fin cfg0.N, win0_16.index t (0 : Fin 2) = 0 ∧ win0_16.index t (1 : Fin 2) = 0 := (by decide +kernel : ∀ t : Fin grid0.N, _)
theorem index17 : ∀ t : Fin cfg0.N, win0_17.index t (0 : Fin 2) = t.val ∧ win0_17.index t (1 : Fin 2) = 0 := (by decide +kernel : ∀ t : Fin grid0.N, _)
theorem first_iff : ∀ t : Fin cfg0.N, (placeOf (grid0.coords t)).1 = 0#32 ↔ t.val % 4 = 0 := (by decide +kernel : ∀ t : Fin grid0.N, _)
theorem last_iff : ∀ t : Fin cfg0.N, (placeOf (grid0.coords t)).1 = (placeOf (grid0.coords t)).2 ↔ 512 * (t.val % 4) + 512 = 2048 :=
  (by decide +kernel : ∀ t : Fin grid0.N, _)

theorem point_lt : t.val < 64 := t.isLt

/-- The sequence of a point. -/
def seqNo : Fin 16 := ⟨t.val / 4, by have := point_lt t; omega⟩

theorem xp_at (a : Fin 16) (k : Fin 1024) (R : Fin 2048) (hR : 512 * (t.val % 4) + a.val = R.val + 16) : (inp m c t).xp (ix2 a k) = a0 m c (ix3 (seqNo t) R k) := by
  obtain ⟨e0, e1⟩ := index0 t
  have ht := point_lt t
  have hR' := R.isLt
  show V m c main_v0 (((cfg0.win 0).blk t).view.emb (ix2 a k)) = _
  rw [V_rows0]
  exact rows_apply _ _ _ _ _ _ (by show win0_0.index t (0 : Fin 2) * 16 + 1 * a.val = 2048 * (t.val / 4) + R.val; omega)
    (by show win0_0.index t (1 : Fin 2) * 1024 + 1 * k.val = k.val; omega)

theorem xm_at (a : Fin 512) (k : Fin 1024) (R : Fin 2048) (hR : 512 * (t.val % 4) + a.val = R.val) : (inp m c t).xm (ix2 a k) = a0 m c (ix3 (seqNo t) R k) := by
  obtain ⟨e0, e1⟩ := index1 t
  have ht := point_lt t
  have hR' := R.isLt
  show V m c main_v0 (((cfg0.win 1).blk t).view.emb (ix2 a k)) = _
  rw [V_rows0]
  exact rows_apply _ _ _ _ _ _ (by show win0_1.index t (0 : Fin 2) * 512 + 1 * a.val = 2048 * (t.val / 4) + R.val; omega)
    (by show win0_1.index t (1 : Fin 2) * 1024 + 1 * k.val = k.val; omega)

theorem xn_at (a : Fin 16) (k : Fin 1024) (R : Fin 2048) (hR : 512 * (t.val % 4) + 512 + a.val = R.val) : (inp m c t).xn (ix2 a k) = a0 m c (ix3 (seqNo t) R k) := by
  obtain ⟨e0, e1⟩ := index2 t
  have ht := point_lt t
  have hR' := R.isLt
  show V m c main_v0 (((cfg0.win 2).blk t).view.emb (ix2 a k)) = _
  rw [V_rows0]
  exact rows_apply _ _ _ _ _ _ (by show win0_2.index t (0 : Fin 2) * 16 + 1 * a.val = 2048 * (t.val / 4) + R.val; omega)
    (by show win0_2.index t (1 : Fin 2) * 1024 + 1 * k.val = k.val; omega)

theorem mp_at (a : Fin 16) (k : Fin 512) (R : Fin 2048) (hR : 512 * (t.val % 4) + a.val = R.val + 16) : (inp m c t).mp (ix2 a k) = a1 m c (ix3 (seqNo t) R k) := by
  obtain ⟨e0, e1⟩ := index3 t
  have ht := point_lt t
  have hR' := R.isLt
  show V m c main_v1 (((cfg0.win 3).blk t).view.emb (ix2 a k)) = _
  rw [V_rows1]
  exact rows_apply _ _ _ _ _ _ (by show win0_3.index t (0 : Fin 2) * 16 + 1 * a.val = 2048 * (t.val / 4) + R.val; omega)
    (by show win0_3.index t (1 : Fin 2) * 512 + 1 * k.val = k.val; omega)

theorem mm_at (a : Fin 512) (k : Fin 512) (R : Fin 2048) (hR : 512 * (t.val % 4) + a.val = R.val) : (inp m c t).mm (ix2 a k) = a1 m c (ix3 (seqNo t) R k) := by
  obtain ⟨e0, e1⟩ := index4 t
  have ht := point_lt t
  have hR' := R.isLt
  show V m c main_v1 (((cfg0.win 4).blk t).view.emb (ix2 a k)) = _
  rw [V_rows1]
  exact rows_apply _ _ _ _ _ _ (by show win0_4.index t (0 : Fin 2) * 512 + 1 * a.val = 2048 * (t.val / 4) + R.val; omega)
    (by show win0_4.index t (1 : Fin 2) * 512 + 1 * k.val = k.val; omega)

theorem mn_at (a : Fin 16) (k : Fin 512) (R : Fin 2048) (hR : 512 * (t.val % 4) + 512 + a.val = R.val) : (inp m c t).mn (ix2 a k) = a1 m c (ix3 (seqNo t) R k) := by
  obtain ⟨e0, e1⟩ := index5 t
  have ht := point_lt t
  have hR' := R.isLt
  show V m c main_v1 (((cfg0.win 5).blk t).view.emb (ix2 a k)) = _
  rw [V_rows1]
  exact rows_apply _ _ _ _ _ _ (by show win0_5.index t (0 : Fin 2) * 16 + 1 * a.val = 2048 * (t.val / 4) + R.val; omega)
    (by show win0_5.index t (1 : Fin 2) * 512 + 1 * k.val = k.val; omega)

theorem ap_at (a : Fin 16) (k : Fin 512) (R : Fin 2048) (hR : 512 * (t.val % 4) + a.val = R.val + 16) : (inp m c t).ap (ix2 a k) = a2 m c (ix3 (seqNo t) R k) := by
  obtain ⟨e0, e1⟩ := index6 t
  have ht := point_lt t
  have hR' := R.isLt
  show V m c main_v2 (((cfg0.win 6).blk t).view.emb (ix2 a k)) = _
  rw [V_rows2]
  exact rows_apply _ _ _ _ _ _ (by show win0_6.index t (0 : Fin 2) * 16 + 1 * a.val = 2048 * (t.val / 4) + R.val; omega)
    (by show win0_6.index t (1 : Fin 2) * 512 + 1 * k.val = k.val; omega)

theorem am_at (a : Fin 512) (k : Fin 512) (R : Fin 2048) (hR : 512 * (t.val % 4) + a.val = R.val) : (inp m c t).am (ix2 a k) = a2 m c (ix3 (seqNo t) R k) := by
  obtain ⟨e0, e1⟩ := index7 t
  have ht := point_lt t
  have hR' := R.isLt
  show V m c main_v2 (((cfg0.win 7).blk t).view.emb (ix2 a k)) = _
  rw [V_rows2]
  exact rows_apply _ _ _ _ _ _ (by show win0_7.index t (0 : Fin 2) * 512 + 1 * a.val = 2048 * (t.val / 4) + R.val; omega)
    (by show win0_7.index t (1 : Fin 2) * 512 + 1 * k.val = k.val; omega)

theorem an_at (a : Fin 16) (k : Fin 512) (R : Fin 2048) (hR : 512 * (t.val % 4) + 512 + a.val = R.val) : (inp m c t).an (ix2 a k) = a2 m c (ix3 (seqNo t) R k) := by
  obtain ⟨e0, e1⟩ := index8 t
  have ht := point_lt t
  have hR' := R.isLt
  show V m c main_v2 (((cfg0.win 8).blk t).view.emb (ix2 a k)) = _
  rw [V_rows2]
  exact rows_apply _ _ _ _ _ _ (by show win0_8.index t (0 : Fin 2) * 16 + 1 * a.val = 2048 * (t.val / 4) + R.val; omega)
    (by show win0_8.index t (1 : Fin 2) * 512 + 1 * k.val = k.val; omega)

theorem wom_emb (a : Fin 512) (k : Fin 1024) : ((cfg0.win 9).blk t).view.emb (ix2 a k) = ix2 a k := by
  obtain ⟨e0, e1⟩ := index9 t
  exact idx2 _ _ _ (by show win0_9.index t (0 : Fin 2) * 512 + 1 * a.val = a.val; omega) (by show win0_9.index t (1 : Fin 2) * 1024 + 1 * k.val = k.val; omega)
theorem wom_at (k : Fin 512) (j : Fin 1024) : ((inp m c t).wom (ix2 k j) : EReal) = a3 m c (ix2 (⟨k.val, by omega⟩ : Fin 1024) j) := by
  show (V m c main_v4 (((cfg0.win 9).blk t).view.emb (ix2 k j)) : EReal) = _
  rw [wom_emb, V_wom]
  exact extractStridedSlice_apply _ (a3 m c) slices_S1024x1024_S512x1024_0_0 (ix2 k j) _ (fun b => match b with
    | ⟨0, _⟩ => by show k.val = 0 + k.val; omega
    | ⟨1, _⟩ => by show j.val = 0 + j.val; omega)

theorem woa_emb (a : Fin 512) (k : Fin 1024) : ((cfg0.win 10).blk t).view.emb (ix2 a k) = ix2 a k := by
  obtain ⟨e0, e1⟩ := index10 t
  exact idx2 _ _ _ (by show win0_10.index t (0 : Fin 2) * 512 + 1 * a.val = a.val; omega) (by show win0_10.index t (1 : Fin 2) * 1024 + 1 * k.val = k.val; omega)
theorem woa_at (k : Fin 512) (j : Fin 1024) : ((inp m c t).woa (ix2 k j) : EReal) = a3 m c (ix2 (⟨512 + k.val, by omega⟩ : Fin 1024) j) := by
  show (V m c main_v6 (((cfg0.win 10).blk t).view.emb (ix2 k j)) : EReal) = _
  rw [woa_emb, V_woa]
  exact extractStridedSlice_apply _ (a3 m c) slices_S1024x1024_S512x1024_512_0 (ix2 k j) _ (fun b => match b with
    | ⟨0, _⟩ => by show 512 + k.val = 512 + k.val; omega
    | ⟨1, _⟩ => by show j.val = 0 + j.val; omega)

theorem n2_emb (a : Fin 1) (k : Fin 1024) : ((cfg0.win 11).blk t).view.emb (ix2 a k) = ix2 a k := by
  obtain ⟨e0, e1⟩ := index11 t
  exact idx2 _ _ _ (by show win0_11.index t (0 : Fin 2) * 1 + 1 * a.val = a.val; omega) (by show win0_11.index t (1 : Fin 2) * 1024 + 1 * k.val = k.val; omega)
theorem n2_at (j : Fin 1024) : (inp m c t).n2 (ix2 (0 : Fin 1) j) = a4 m c (ix1 j) := by
  show V m c main_v7 (((cfg0.win 11).blk t).view.emb (ix2 (0 : Fin 1) j)) = _
  rw [n2_emb, V_n2]
  exact shapeCast_a_1a_apply _ _ _ _

theorem cb_emb (a : Fin 1) (k : Fin 5632) : ((cfg0.win 14).blk t).view.emb (ix2 a k) = ix2 a k := by
  obtain ⟨e0, e1⟩ := index14 t
  exact idx2 _ _ _ (by show win0_14.index t (0 : Fin 2) * 1 + 1 * a.val = a.val; omega) (by show win0_14.index t (1 : Fin 2) * 5632 + 1 * k.val = k.val; omega)
theorem cb_at (j : Fin 5632) : (inp m c t).cb (ix2 (0 : Fin 1) j) = a7 m c (ix1 j) := by
  show V m c main_v9 (((cfg0.win 14).blk t).view.emb (ix2 (0 : Fin 1) j)) = _
  rw [cb_emb, V_cb]
  exact shapeCast_a_1a_apply _ _ _ _

theorem fw_emb (a : Fin 1) (k : Fin 1024) : ((cfg0.win 16).blk t).view.emb (ix2 a k) = ix2 a k := by
  obtain ⟨e0, e1⟩ := index16 t
  exact idx2 _ _ _ (by show win0_16.index t (0 : Fin 2) * 1 + 1 * a.val = a.val; omega) (by show win0_16.index t (1 : Fin 2) * 1024 + 1 * k.val = k.val; omega)
theorem fw_at (j : Fin 1024) : (inp m c t).fw (ix2 (0 : Fin 1) j) = a9 m c (ix1 j) := by
  show V m c main_v11 (((cfg0.win 16).blk t).view.emb (ix2 (0 : Fin 1) j)) = _
  rw [fw_emb, V_fw]
  exact shapeCast_a_1a_apply _ _ _ _

theorem wup_emb (a : Fin 1024) (k : Fin 5632) : ((cfg0.win 12).blk t).view.emb (ix2 a k) = ix2 a k := by
  obtain ⟨e0, e1⟩ := index12 t
  exact idx2 _ _ _ (by show win0_12.index t (0 : Fin 2) * 1024 + 1 * a.val = a.val; omega) (by show win0_12.index t (1 : Fin 2) * 5632 + 1 * k.val = k.val; omega)
theorem wup_at (k : Fin 1024) (j : Fin 5632) : ((inp m c t).wup (ix2 k j) : EReal) = a5 m c (ix2 k j) := by
  show (V m c main_v8 (((cfg0.win 12).blk t).view.emb (ix2 k j)) : EReal) = _
  rw [wup_emb, V_wup]
  rfl

theorem wdn_emb (a : Fin 2816) (k : Fin 1024) : ((cfg0.win 15).blk t).view.emb (ix2 a k) = ix2 a k := by
  obtain ⟨e0, e1⟩ := index15 t
  exact idx2 _ _ _ (by show win0_15.index t (0 : Fin 2) * 2816 + 1 * a.val = a.val; omega) (by show win0_15.index t (1 : Fin 2) * 1024 + 1 * k.val = k.val; omega)
theorem wdn_at (k : Fin 2816) (j : Fin 1024) : ((inp m c t).wdn (ix2 k j) : EReal) = a8 m c (ix2 k j) := by
  show (V m c main_v10 (((cfg0.win 15).blk t).view.emb (ix2 k j)) : EReal) = _
  rw [wdn_emb, V_wdn]
  rfl

theorem cw_emb (a : Fin 3) (k : Fin 5632) : ((cfg0.win 13).blk t).view.emb (ix2 a k) = ix2 a k := by
  obtain ⟨e0, e1⟩ := index13 t
  exact idx2 _ _ _ (by show win0_13.index t (0 : Fin 2) * 3 + 1 * a.val = a.val; omega) (by show win0_13.index t (1 : Fin 2) * 5632 + 1 * k.val = k.val; omega)
theorem cw_at (k : Fin 3) (j : Fin 5632) : (inp m c t).cw (ix2 k j) = a6 m c (ix2 k j) := by
  show V m c main_arg6 (((cfg0.win 13).blk t).view.emb (ix2 k j)) = _
  rw [cw_emb, V_main_arg6]

/-! ## The value -/

/-- The reference's result at the arguments as launched. -/
abbrev rOut := val_main_v67 (F := Ideal) (a0 m c) (a1 m c) (a2 m c) (a3 m c) (a4 m c) (a5 m c) (a6 m c) (a7 m c) (a8 m c) (a9 m c)

/-- A point is a tile of its sequence. -/
theorem tile : TileOf (seqOf (a0 m c) (a1 m c) (a2 m c) (a3 m c) (a4 m c) (a5 m c) (a6 m c) (a7 m c) (a8 m c) (a9 m c) (seqNo t)) (t.val % 4) (inp m c t) (placeOf (grid0.coords t)) where
  inside := by omega
  first := first_iff t
  last := last_iff t
  xp := xp_at m c t
  xm := xm_at m c t
  xn := xn_at m c t
  mp := mp_at m c t
  mm := mm_at m c t
  mn := mn_at m c t
  ap := ap_at m c t
  am := am_at m c t
  an := an_at m c t
  wom := wom_at m c t
  woa := woa_at m c t
  n2 := n2_at m c t
  wup := wup_at m c t
  cw := cw_at m c t
  cb := cb_at m c t
  wdn := wdn_at m c t
  fw := fw_at m c t

/-- What the kernel writes at a row and a column is what the reference reads there. -/
theorem block_value (r : Fin 512) (k : Fin 1024) (R : Fin 32768) (hR : R.val = 512 * t.val + r.val) :
    (outBlk (inp m c t) (placeOf (grid0.coords t)) (ix2 r k) : EReal) = rOut m c (ix2 R k) := by
  have hr := r.isLt
  have ht := point_lt t
  have hd : 512 * (t.val % 4) + r.val < 2048 := by omega
  exact (tile_value (tile m c t) r k ⟨512 * (t.val % 4) + r.val, hd⟩ rfl).trans
    (rows_seq _ _ _ _ _ _ _ _ _ _ (seqNo t) ⟨512 * (t.val % 4) + r.val, hd⟩ k R
      (by show R.val = 2048 * (t.val / 4) + (512 * (t.val % 4) + r.val); omega)).symm

/-- The array the launch leaves. -/
theorem array_value : (dats m 0 c).arrAt 17 cfg0.N = rOut m c := by
  refine (dats m 0 c).arrAt_eq_of_covers 17 _ (by decide +kernel) fun t _ y => ?_
  obtain ⟨e0, e1⟩ := index17 t
  have ht := point_lt t
  have hy0 : (y 0).val < 512 := (y 0).isLt
  have hd : y = ix2 (y 0) (y 1) := idx2 _ _ _ rfl rfl
  refine Eq.trans (show _ = outBlk (inp m c t) (placeOf (grid0.coords t)) y from ?_) ((congrArg (outBlk (inp m c t) (placeOf (grid0.coords t))) hd).trans
    ((block_value m c t (y 0) (y 1) ⟨512 * t.val + (y 0).val, by omega⟩ rfl).trans (congrArg _ ?_)))
  · show (dats m 0 c).after 17 t _ = _
    rw [after0_17]
  · exact (idx2 _ _ _ (by show win0_17.index t (0 : Fin 2) * 512 + 1 * (y 0).val = 512 * t.val + (y 0).val; omega)
      (by show win0_17.index t (1 : Fin 2) * 1024 + 1 * (y 1).val = (y 1).val; omega)).symm

end Cert.Kernel4Ideal.Ffn

end
-- ==== Proof.SampleTransfer.lean ====
module

public import proofs.«01_k».proof.Defs
public import proofs.«01_k».proof.Proof.Gen.Kernel4
public import proofs.«01_k».proof.Proof.Gen.Kernel4Ideal.Launch
public import Idealize.ShloMosaic.Lib.Pipeline.Regions

@[expose] public section

set_option maxRecDepth 65536

noncomputable section

/-! # The two prints of the feed-forward kernel at the sample batch

`Kernel4Ideal` is `Kernel4` printed again with nothing rewritten, so the two programs are the same: what is shown of
`Kernel4Ideal` over any floats holds of `Kernel4`. -/

namespace Cert.Proof.Sample

open Idealize.ShloMosaic

variable [h : Cert.Kernel4.Facts] [h' : Cert.Kernel4Ideal.Facts]

/-- The host programs are the same. -/
theorem main_same : @Cert.Kernel4.main Bits _ h = @Cert.Kernel4Ideal.main Bits _ h' := by chain_rfl

/-- The tables of kernels are the same. -/
theorem bodies_same : @Cert.Kernel4.defs₀ Bits _ h = @Cert.Kernel4Ideal.defs₀ Bits _ h' := by chain_rfl

/-- The tables of everything the host programs call are the same. -/
theorem defs_same : @Cert.Kernel4.defs Bits _ h = @Cert.Kernel4Ideal.defs Bits _ h' :=
  congrArg (Pipeline.defs Cert.Kernel4Ideal.pcfgs) bodies_same

end Cert.Proof.Sample

end
-- ==== Proof.ProjRefValue.lean ====
/-
  What the projection reference's results read over the extended reals: the normalised rows projected, and of the
  queries' and keys' heads the normalisation and the rotation by row and column.
-/
module

public import proofs.«01_k».proof.Proof.FfnRefValue
public import proofs.«01_k».proof.Proof.Gen.Reference3Ideal.Read

@[expose] public section

set_option maxRecDepth 65536

noncomputable section

namespace Cert.Proj

open Idealize.ShloMosaic Idealize.ShloMosaic.TcCoe Idealize.ShloMosaic.ValueIdx

/-- A head divided by the root of its mean square, an element of it weighted. -/
def headNorm (x : Fin 64 → EReal) (w : EReal) (d : Fin 64) : EReal :=
  x d * Ideal.rsqrt (Ideal.div (∑ k, x k * x k) (Ideal.ofBits .f32 0x42800000#32) + Ideal.ofBits .f32 0x358637BD#32) * w

/-- The partner of a head's element under the rotation: of each pair of quarters, the second negated, then the first. -/
def turned (z : Fin 64 → EReal) (d : Fin 64) : EReal :=
  if _ : d.val % 32 < 16 then -z ⟨d.val + 16, by omega⟩ else z ⟨d.val - 16, by omega⟩

/-- The angle of a head's element at a position: the row's frequencies in the first half, the column's in the second. -/
def angle (row : Fin 256 → Fin 16 → EReal) (col : Fin 64 → Fin 16 → EReal) (r : Fin 16384) (d : Fin 64) : EReal :=
  if d.val < 32 then row ⟨r.val / 64, by omega⟩ ⟨d.val % 16, by omega⟩ else col ⟨r.val % 64, by omega⟩ ⟨d.val % 16, by omega⟩

/-- A head's element rotated. -/
def rotated (z : Fin 64 → EReal) (a : EReal) (d : Fin 64) : EReal :=
  z d * FloatOps.hostUnary (F := Ideal) (φ := .f32) .cos a + turned z d * FloatOps.hostUnary (F := Ideal) (φ := .f32) .sin a

theorem idx3 {n k l : ℕ} (i : (⟨3, ![n, k, l]⟩ : Shape).Idx) (a : Fin n) (b : Fin k) (c : Fin l)
    (h0 : (i 0).val = a.val) (h1 : (i 1).val = b.val) (h2 : (i 2).val = c.val) : i = ix3 a b c :=
  funext fun x => Fin.ext (match x with | ⟨0, _⟩ => h0 | ⟨1, _⟩ => h1 | ⟨2, _⟩ => h2)
theorem idx4 {n k l o : ℕ} (i : (⟨4, ![n, k, l, o]⟩ : Shape).Idx) (a : Fin n) (b : Fin k) (c : Fin l) (d : Fin o)
    (h0 : (i 0).val = a.val) (h1 : (i 1).val = b.val) (h2 : (i 2).val = c.val) (h3 : (i 3).val = d.val) : i = ix4 a b c d :=
  funext fun x => Fin.ext (match x with | ⟨0, _⟩ => h0 | ⟨1, _⟩ => h1 | ⟨2, _⟩ => h2 | ⟨3, _⟩ => h3)

section Quarters
variable {α : Type} {n k : ℕ} (v : α) (d : Fin 64)

/-- Four pieces of 16 columns side by side read `v` at a column, if the piece of the column does. -/
theorem quarters2 (x0 x1 x2 x3 : (⟨2, ![n, 16]⟩ : Shape).Idx → α)
    (h : Shape.Concatenates [(⟨2, ![n, 16]⟩ : Shape), (⟨2, ![n, 16]⟩ : Shape), (⟨2, ![n, 16]⟩ : Shape), (⟨2, ![n, 16]⟩ : Shape)] (⟨2, ![n, 64]⟩ : Shape) 1) (r : Fin n)
    (h0 : ∀ a : Fin 16, a.val + 0 = d.val → x0 (ix2 r a) = v) (h1 : ∀ a : Fin 16, a.val + 16 = d.val → x1 (ix2 r a) = v)
    (h2 : ∀ a : Fin 16, a.val + 32 = d.val → x2 (ix2 r a) = v) (h3 : ∀ a : Fin 16, a.val + 48 = d.val → x3 (ix2 r a) = v) :
    concatenate (⟨2, ![n, 64]⟩ : Shape) 1 [⟨(⟨2, ![n, 16]⟩ : Shape), x0⟩, ⟨(⟨2, ![n, 16]⟩ : Shape), x1⟩, ⟨(⟨2, ![n, 16]⟩ : Shape), x2⟩, ⟨(⟨2, ![n, 16]⟩ : Shape), x3⟩] h (ix2 r d) = v := by
  have hd := d.isLt
  let xs : List ((s : Shape) × (s.Idx → α)) := [⟨(⟨2, ![n, 16]⟩ : Shape), x0⟩, ⟨(⟨2, ![n, 16]⟩ : Shape), x1⟩, ⟨(⟨2, ![n, 16]⟩ : Shape), x2⟩, ⟨(⟨2, ![n, 16]⟩ : Shape), x3⟩]
  have hq : d.val / 16 = 0 ∨ d.val / 16 = 1 ∨ d.val / 16 = 2 ∨ d.val / 16 = 3 := by omega
  rcases hq with hq | hq | hq | hq
  · exact (concatenate_apply_piece (t := (⟨2, ![n, 64]⟩ : Shape)) 1 xs h (ix2 r d) 0 (by show 0 < 4; decide) (⟨2, ![n, 16]⟩ : Shape) x0 rfl rfl 0 rfl (ix2 r ⟨d.val - 0, by omega⟩)
      (fun b hb => match b, hb with | ⟨0, _⟩, _ => rfl | ⟨1, _⟩, hb => absurd rfl hb) (by show 0 + (d.val - 0) = d.val; omega)).trans (h0 _ (by show d.val - 0 + 0 = d.val; omega))
  · exact (concatenate_apply_piece (t := (⟨2, ![n, 64]⟩ : Shape)) 1 xs h (ix2 r d) 1 (by show 1 < 4; decide) (⟨2, ![n, 16]⟩ : Shape) x1 rfl rfl 16 rfl (ix2 r ⟨d.val - 16, by omega⟩)
      (fun b hb => match b, hb with | ⟨0, _⟩, _ => rfl | ⟨1, _⟩, hb => absurd rfl hb) (by show 16 + (d.val - 16) = d.val; omega)).trans (h1 _ (by show d.val - 16 + 16 = d.val; omega))
  · exact (concatenate_apply_piece (t := (⟨2, ![n, 64]⟩ : Shape)) 1 xs h (ix2 r d) 2 (by show 2 < 4; decide) (⟨2, ![n, 16]⟩ : Shape) x2 rfl rfl 32 rfl (ix2 r ⟨d.val - 32, by omega⟩)
      (fun b hb => match b, hb with | ⟨0, _⟩, _ => rfl | ⟨1, _⟩, hb => absurd rfl hb) (by show 32 + (d.val - 32) = d.val; omega)).trans (h2 _ (by show d.val - 32 + 32 = d.val; omega))
  · exact (concatenate_apply_piece (t := (⟨2, ![n, 64]⟩ : Shape)) 1 xs h (ix2 r d) 3 (by show 3 < 4; decide) (⟨2, ![n, 16]⟩ : Shape) x3 rfl rfl 48 rfl (ix2 r ⟨d.val - 48, by omega⟩)
      (fun b hb => match b, hb with | ⟨0, _⟩, _ => rfl | ⟨1, _⟩, hb => absurd rfl hb) (by show 48 + (d.val - 48) = d.val; omega)).trans (h3 _ (by show d.val - 48 + 48 = d.val; omega))

theorem quarters3 (x0 x1 x2 x3 : (⟨3, ![n, k, 16]⟩ : Shape).Idx → α)
    (h : Shape.Concatenates [(⟨3, ![n, k, 16]⟩ : Shape), (⟨3, ![n, k, 16]⟩ : Shape), (⟨3, ![n, k, 16]⟩ : Shape), (⟨3, ![n, k, 16]⟩ : Shape)] (⟨3, ![n, k, 64]⟩ : Shape) 2) (r : Fin n) (s : Fin k)
    (h0 : ∀ a : Fin 16, a.val + 0 = d.val → x0 (ix3 r s a) = v) (h1 : ∀ a : Fin 16, a.val + 16 = d.val → x1 (ix3 r s a) = v)
    (h2 : ∀ a : Fin 16, a.val + 32 = d.val → x2 (ix3 r s a) = v) (h3 : ∀ a : Fin 16, a.val + 48 = d.val → x3 (ix3 r s a) = v) :
    concatenate (⟨3, ![n, k, 64]⟩ : Shape) 2 [⟨(⟨3, ![n, k, 16]⟩ : Shape), x0⟩, ⟨(⟨3, ![n, k, 16]⟩ : Shape), x1⟩, ⟨(⟨3, ![n, k, 16]⟩ : Shape), x2⟩, ⟨(⟨3, ![n, k, 16]⟩ : Shape), x3⟩] h (ix3 r s d) = v := by
  have hd := d.isLt
  let xs : List ((s : Shape) × (s.Idx → α)) := [⟨(⟨3, ![n, k, 16]⟩ : Shape), x0⟩, ⟨(⟨3, ![n, k, 16]⟩ : Shape), x1⟩, ⟨(⟨3, ![n, k, 16]⟩ : Shape), x2⟩, ⟨(⟨3, ![n, k, 16]⟩ : Shape), x3⟩]
  have hq : d.val / 16 = 0 ∨ d.val / 16 = 1 ∨ d.val / 16 = 2 ∨ d.val / 16 = 3 := by omega
  rcases hq with hq | hq | hq | hq
  · exact (concatenate_apply_piece (t := (⟨3, ![n, k, 64]⟩ : Shape)) 2 xs h (ix3 r s d) 0 (by show 0 < 4; decide) (⟨3, ![n, k, 16]⟩ : Shape) x0 rfl rfl 0 rfl (ix3 r s ⟨d.val - 0, by omega⟩)
      (fun b hb => match b, hb with | ⟨0, _⟩, _ => rfl | ⟨1, _⟩, _ => rfl | ⟨2, _⟩, hb => absurd rfl hb) (by show 0 + (d.val - 0) = d.val; omega)).trans (h0 _ (by show d.val - 0 + 0 = d.val; omega))
  · exact (concatenate_apply_piece (t := (⟨3, ![n, k, 64]⟩ : Shape)) 2 xs h (ix3 r s d) 1 (by show 1 < 4; decide) (⟨3, ![n, k, 16]⟩ : Shape) x1 rfl rfl 16 rfl (ix3 r s ⟨d.val - 16, by omega⟩)
      (fun b hb => match b, hb with | ⟨0, _⟩, _ => rfl | ⟨1, _⟩, _ => rfl | ⟨2, _⟩, hb => absurd rfl hb) (by show 16 + (d.val - 16) = d.val; omega)).trans (h1 _ (by show d.val - 16 + 16 = d.val; omega))
  · exact (concatenate_apply_piece (t := (⟨3, ![n, k, 64]⟩ : Shape)) 2 xs h (ix3 r s d) 2 (by show 2 < 4; decide) (⟨3, ![n, k, 16]⟩ : Shape) x2 rfl rfl 32 rfl (ix3 r s ⟨d.val - 32, by omega⟩)
      (fun b hb => match b, hb with | ⟨0, _⟩, _ => rfl | ⟨1, _⟩, _ => rfl | ⟨2, _⟩, hb => absurd rfl hb) (by show 32 + (d.val - 32) = d.val; omega)).trans (h2 _ (by show d.val - 32 + 32 = d.val; omega))
  · exact (concatenate_apply_piece (t := (⟨3, ![n, k, 64]⟩ : Shape)) 2 xs h (ix3 r s d) 3 (by show 3 < 4; decide) (⟨3, ![n, k, 16]⟩ : Shape) x3 rfl rfl 48 rfl (ix3 r s ⟨d.val - 48, by omega⟩)
      (fun b hb => match b, hb with | ⟨0, _⟩, _ => rfl | ⟨1, _⟩, _ => rfl | ⟨2, _⟩, hb => absurd rfl hb) (by show 48 + (d.val - 48) = d.val; omega)).trans (h3 _ (by show d.val - 48 + 48 = d.val; omega))

end Quarters

end Cert.Proj

namespace Cert.Reference3Ideal.Proj

open Cert.Reference3Ideal Cert.Reference3Ideal.Gen Cert.Reference3Ideal.Read Cert.Softmax Cert.Proj
open Cert.Reference2Ideal.Ffn (idx2 idx1)
open Idealize.ShloMosaic Idealize.ShloMosaic.TcCoe Idealize.ShloMosaic.ValueIdx

variable (x0 : (⟨S16384x1024, .f32⟩ : BufTy).Contents (Elt Ideal)) (x1 : (⟨S1024, .f32⟩ : BufTy).Contents (Elt Ideal))
  (x2 : (⟨S1024x2848, .f32⟩ : BufTy).Contents (Elt Ideal)) (x4 x5 : (⟨S64, .f32⟩ : BufTy).Contents (Elt Ideal))

/-- A normalised row's product with a column of the weights. -/
def prod (r : Fin 16384) (j : Fin 2848) : EReal :=
  ∑ k : Fin 1024, rms (fun l => x0 (ix2 r l)) (x1 (ix1 k)) k * (x2 (ix2 k j) : EReal)

theorem normed_apply (r : Fin 16384) (c : Fin 1024) :
    (val_main_v12 (F := Ideal) x0 x1 (ix2 r c) : EReal) = rms (fun k => x0 (ix2 r k)) (x1 (ix1 c)) c := by
  rw [val_main_v12_apply, val_main_v9_apply, val_main_v11_apply, val_main_v10_apply, val_main_v8_apply, val_main_v7_apply, val_main_v6_apply,
    val_main_v4_apply, val_main_v5_apply, val_main_v3_apply, val_main_v2_apply, val_main_v1_apply]
  refine congrArg₂ (fun x y : EReal => x * y) ?_ (congrArg x1 (idx1 _ _ rfl))
  refine congrArg (fun x : EReal => (x0 (ix2 r c) : EReal) * Ideal.rsqrt (Ideal.div x _ + _)) ?_
  refine (congrArg (fun x : EReal => x + _) Ideal.ofBits_zero_f32).trans ((zero_add _).trans (Finset.sum_congr rfl fun k _ => ?_))
  rw [val_main_v0_apply]
  exact congrArg (fun i => (x0 i : EReal) * x0 i) (idx2 _ _ _ rfl rfl)

theorem prod_apply (i : S16384x2848.Idx) (r : Fin 16384) (j : Fin 2848) (h0 : (i 0).val = r.val) (h1 : (i 1).val = j.val) :
    (val_main_v13 (F := Ideal) x0 x1 x2 i : EReal) = prod x0 x1 x2 r j := by
  rw [val_main_v13_apply]
  exact Finset.sum_congr rfl fun k _ => congrArg₂ (fun x y : EReal => x * y) ((congrArg _ (idx2 _ r k h0 rfl)).trans (normed_apply x0 x1 r k))
    (congrArg x2 (idx2 _ k j rfl h1))

/-! ## The plain products -/

/-- The row of a position in a block. -/
abbrev row (b : Fin 32) (i : Fin 512) : Fin 16384 := ⟨512 * b.val + i.val, by omega⟩

theorem mq_apply (h : Fin 8) (b : Fin 32) (d : Fin 64) (i : Fin 512) :
    (val_main_v83 (F := Ideal) x0 x1 x2 (ix4 h b d i) : EReal) = prod x0 x1 x2 (row b i) ⟨64 * h.val + d.val, by omega⟩ := by
  rw [val_main_v83_apply]
  refine Eq.trans (show _ = (val_main_v82 (F := Ideal) x0 x1 x2 (ix4 h b d i) : EReal) from rfl) ?_
  rw [val_main_v82_apply, val_main_v81_apply, val_main_v14_apply]
  have := h.isLt; have := d.isLt; have := b.isLt; have := i.isLt
  refine prod_apply _ _ _ _ _ _ ?_ ?_
  · show (((b.val * 512 + i.val) * 8 + h.val) * 64 + d.val) / 512 = 512 * b.val + i.val; omega
  · show (((b.val * 512 + i.val) * 8 + h.val) * 64 + d.val) % 512 = 64 * h.val + d.val; omega

theorem mk_apply (b : Fin 32) (i j : Fin 512) :
    (val_main_v87 (F := Ideal) x0 x1 x2 (ix3 b i j) : EReal)
      = prod x0 x1 x2 (row b i) ⟨512 + j.val, by omega⟩ * Ideal.ofBits .f32 0x3E000000#32 := by
  rw [val_main_v87_apply]
  refine Eq.trans (show _ = (val_main_v86 (F := Ideal) x0 x1 x2 (ix3 b i j) : EReal) from rfl) ?_
  rw [val_main_v86_apply, val_main_v85_apply, val_main_v84_apply, val_main_v15_apply]
  have := j.isLt; have := b.isLt; have := i.isLt
  refine congrArg (fun x : EReal => x * _) (prod_apply _ _ _ _ _ _ ?_ ?_)
  · show ((b.val * 512 + i.val) * 512 + j.val) / 512 = 512 * b.val + i.val; omega
  · show 512 + ((b.val * 512 + i.val) * 512 + j.val) % 512 = 512 + j.val; omega

theorem mv_apply (h : Fin 8) (b : Fin 32) (d : Fin 64) (i : Fin 512) :
    (val_main_v90 (F := Ideal) x0 x1 x2 (ix4 h b d i) : EReal) = prod x0 x1 x2 (row b i) ⟨1024 + (64 * h.val + d.val), by omega⟩ := by
  rw [val_main_v90_apply]
  refine Eq.trans (show _ = (val_main_v89 (F := Ideal) x0 x1 x2 (ix4 h b d i) : EReal) from rfl) ?_
  rw [val_main_v89_apply, val_main_v88_apply, val_main_v16_apply]
  have := h.isLt; have := d.isLt; have := b.isLt; have := i.isLt
  refine prod_apply _ _ _ _ _ _ ?_ ?_
  · show (((b.val * 512 + i.val) * 8 + h.val) * 64 + d.val) / 512 = 512 * b.val + i.val; omega
  · show 1024 + (((b.val * 512 + i.val) * 8 + h.val) * 64 + d.val) % 512 = 1024 + (64 * h.val + d.val); omega

theorem mo_apply (h : Fin 8) (b : Fin 32) (d : Fin 64) (i : Fin 512) :
    (val_main_v93 (F := Ideal) x0 x1 x2 (ix4 h b d i) : EReal) = prod x0 x1 x2 (row b i) ⟨1536 + (64 * h.val + d.val), by omega⟩ := by
  rw [val_main_v93_apply]
  refine Eq.trans (show _ = (val_main_v92 (F := Ideal) x0 x1 x2 (ix4 h b d i) : EReal) from rfl) ?_
  rw [val_main_v92_apply, val_main_v91_apply, val_main_v17_apply]
  have := h.isLt; have := d.isLt; have := b.isLt; have := i.isLt
  refine prod_apply _ _ _ _ _ _ ?_ ?_
  · show (((b.val * 512 + i.val) * 8 + h.val) * 64 + d.val) / 512 = 512 * b.val + i.val; omega
  · show 1536 + (((b.val * 512 + i.val) * 8 + h.val) * 64 + d.val) % 512 = 1536 + (64 * h.val + d.val); omega

theorem vt_apply (h : Fin 2) (b : Fin 32) (d : Fin 64) (i : Fin 512) :
    (val_main_v103 (F := Ideal) x0 x1 x2 (ix4 h b d i) : EReal) = prod x0 x1 x2 (row b i) ⟨2720 + (64 * h.val + d.val), by omega⟩ := by
  rw [val_main_v103_apply]
  refine Eq.trans (show _ = (val_main_v102 (F := Ideal) x0 x1 x2 (ix4 h b d i) : EReal) from rfl) ?_
  rw [val_main_v102_apply, val_main_v101_apply, val_main_v100_apply]
  have := h.isLt; have := d.isLt; have := b.isLt; have := i.isLt
  refine prod_apply _ _ _ _ _ _ ?_ ?_
  · show (((b.val * 512 + i.val) * 2 + h.val) * 64 + d.val) / 128 = 512 * b.val + i.val; omega
  · show 2720 + (((b.val * 512 + i.val) * 2 + h.val) * 64 + d.val) % 128 = 2720 + (64 * h.val + d.val); omega

/-! ## The heads -/

/-- The weights of a head's normalisation: of the eight query heads the first, of the two key heads the second. -/
def wgt (h : Fin 10) (d : Fin 64) : EReal := if h.val < 8 then x4 (ix1 d) else x5 (ix1 d)

theorem wgt_apply (h : Fin 10) (d : Fin 64) : (val_main_v20 (F := Ideal) x4 x5 (ix2 h d) : EReal) = wgt x4 x5 h d := by
  unfold val_main_v20 wgt
  by_cases hh : h.val < 8
  · rw [if_pos hh]
    refine (concatenate_pair_apply_left (t := S10x64) (s₁ := S8x64) (s₂ := S2x64) 0 _ _ _ (ix2 h d) rfl (ix2 (⟨h.val, hh⟩ : Fin 8) d)
      (fun b => match b with | ⟨0, _⟩ => rfl | ⟨1, _⟩ => rfl)).trans ?_
    rw [val_main_v18_apply]
    exact congrArg x4 (idx1 _ _ rfl)
  · rw [if_neg hh]
    refine (concatenate_pair_apply_right (t := S10x64) (s₁ := S8x64) (s₂ := S2x64) 0 _ _ _ (ix2 h d) rfl rfl (ix2 (⟨h.val - 8, by omega⟩ : Fin 2) d)
      (fun b hb => match b, hb with | ⟨0, _⟩, hb => absurd rfl hb | ⟨1, _⟩, _ => rfl) (by show h.val - 8 + 8 = h.val; omega)).trans ?_
    rw [val_main_v19_apply]
    exact congrArg x5 (idx1 _ _ rfl)

/-- A head of a row: the queries' heads, then the keys'. -/
def head (r : Fin 16384) (h : Fin 10) (d : Fin 64) : EReal := prod x0 x1 x2 r ⟨2080 + (64 * h.val + d.val), by omega⟩

theorem head_apply (i : S16384x10x64.Idx) (r : Fin 16384) (h : Fin 10) (d : Fin 64) (hi : i = ix3 r h d) :
    (val_main_v22 (F := Ideal) x0 x1 x2 i : EReal) = head x0 x1 x2 r h d := by
  rw [hi, val_main_v22_apply, val_main_v21_apply]
  have := r.isLt; have := h.isLt; have := d.isLt
  refine prod_apply _ _ _ _ _ _ ?_ ?_
  · show ((r.val * 10 + h.val) * 64 + d.val) / 640 = r.val; omega
  · show 2080 + ((r.val * 10 + h.val) * 64 + d.val) % 640 = 2080 + (64 * h.val + d.val); omega

/-- A normalised head. -/
def normedHead (r : Fin 16384) (h : Fin 10) (d : Fin 64) : EReal := headNorm (head x0 x1 x2 r h) (wgt x4 x5 h d) d

theorem normedHead_apply (i : S16384x10x64.Idx) (r : Fin 16384) (h : Fin 10) (d : Fin 64) (hi : i = ix3 r h d) :
    (val_main_v35 (F := Ideal) x0 x1 x2 x4 x5 i : EReal) = normedHead x0 x1 x2 x4 x5 r h d := by
  rw [hi, val_main_v35_apply, val_main_v32_apply, val_main_v34_apply, val_main_v33_apply, val_main_v31_apply, val_main_v30_apply, val_main_v29_apply,
    val_main_v27_apply, val_main_v28_apply, val_main_v26_apply, val_main_v25_apply, val_main_v24_apply, head_apply x0 x1 x2 _ r h d rfl]
  refine congrArg₂ (fun x y : EReal => x * y) ?_ ((congrArg _ (idx2 _ h d rfl rfl)).trans (wgt_apply x4 x5 h d))
  refine congrArg (fun x : EReal => head x0 x1 x2 r h d * Ideal.rsqrt (Ideal.div x _ + _)) ?_
  refine (congrArg (fun x : EReal => x + _) Ideal.ofBits_zero_f32).trans ((zero_add _).trans (Finset.sum_congr rfl fun k _ => ?_))
  rw [val_main_v23_apply, head_apply x0 x1 x2 _ r h k (idx3 _ _ _ _ rfl rfl rfl)]
  rfl

theorem turned_apply (r : Fin 16384) (h : Fin 10) (d : Fin 64) :
    (val_main_v67 (F := Ideal) x0 x1 x2 x4 x5 (ix3 r h d) : EReal) = turned (normedHead x0 x1 x2 x4 x5 r h) d := by
  unfold val_main_v67 turned
  refine quarters3 _ d _ _ _ _ _ r h (fun a ha => ?_) (fun a ha => ?_) (fun a ha => ?_) (fun a ha => ?_)
  · rw [dif_pos (by omega), val_main_v65_apply, val_main_v62_apply]
    exact congrArg (fun x : EReal => -x) (normedHead_apply _ _ _ _ _ _ r h _ (idx3 _ _ _ _ rfl rfl (by show 16 + a.val = d.val + 16; omega)))
  · rw [dif_neg (by omega), val_main_v61_apply]
    exact normedHead_apply _ _ _ _ _ _ r h _ (idx3 _ _ _ _ rfl rfl (by show a.val = d.val - 16; omega))
  · rw [dif_pos (by omega), val_main_v66_apply, val_main_v64_apply]
    exact congrArg (fun x : EReal => -x) (normedHead_apply _ _ _ _ _ _ r h _ (idx3 _ _ _ _ rfl rfl (by show 48 + a.val = d.val + 16; omega)))
  · rw [dif_neg (by omega), val_main_v63_apply]
    exact normedHead_apply _ _ _ _ _ _ r h _ (idx3 _ _ _ _ rfl rfl (by show 32 + a.val = d.val - 16; omega))

/-- The angles of a row of the grid and of a column. -/
abbrev rowAngle (a : Fin 256) (f : Fin 16) : EReal := val_main_v47 (F := Ideal) (ix2 a f)
abbrev colAngle (a : Fin 64) (f : Fin 16) : EReal := val_main_v53 (F := Ideal) (ix2 a f)

theorem angle_apply (r : Fin 16384) (d : Fin 64) : (val_main_v60 (F := Ideal) (ix2 r d) : EReal) = angle rowAngle colAngle r d := by
  have hrow : ∀ a : Fin 16, d.val < 32 → a.val = d.val % 16 → (val_main_v56 (F := Ideal) (ix2 r a) : EReal) = angle rowAngle colAngle r d := fun a hd ha => by
    unfold angle
    rw [if_pos hd, val_main_v56_apply, val_main_v55_apply, val_main_v54_apply]
    have := r.isLt
    exact congrArg _ (idx2 _ _ _ (by show (r.val * 16 + a.val) / 1024 = r.val / 64; omega) (by show (r.val * 16 + a.val) % 16 = d.val % 16; omega))
  have hcol : ∀ a : Fin 16, ¬d.val < 32 → a.val = d.val % 16 → (val_main_v59 (F := Ideal) (ix2 r a) : EReal) = angle rowAngle colAngle r d := fun a hd ha => by
    unfold angle
    rw [if_neg hd, val_main_v59_apply, val_main_v58_apply, val_main_v57_apply]
    have := r.isLt
    exact congrArg _ (idx2 _ _ _ (by show (r.val * 16 + a.val) / 16 % 64 = r.val % 64; omega) (by show (r.val * 16 + a.val) % 16 = d.val % 16; omega))
  unfold val_main_v60
  exact quarters2 _ d _ _ _ _ _ r (fun a ha => hrow a (by omega) (by omega)) (fun a ha => hrow a (by omega) (by omega))
    (fun a ha => hcol a (by omega) (by omega)) (fun a ha => hcol a (by omega) (by omega))

/-- A rotated head. -/
def turnedHead (r : Fin 16384) (h : Fin 10) (d : Fin 64) : EReal :=
  rotated (normedHead x0 x1 x2 x4 x5 r h) (angle rowAngle colAngle r d) d

theorem turnedHead_apply (i : S16384x10x64.Idx) (r : Fin 16384) (h : Fin 10) (d : Fin 64) (hi : i = ix3 r h d) :
    (val_main_v76 (F := Ideal) x0 x1 x2 x4 x5 i : EReal) = turnedHead x0 x1 x2 x4 x5 r h d := by
  rw [hi, val_main_v76_apply, val_main_v71_apply, val_main_v75_apply, val_main_v70_apply, val_main_v69_apply, val_main_v68_apply, val_main_v74_apply,
    val_main_v73_apply, val_main_v72_apply, normedHead_apply _ _ _ _ _ _ r h d rfl, turned_apply]
  have e : (val_main_v60 (F := Ideal) (idx_main_v69 (idx_main_v70 (ix3 r h d))) : EReal) = angle rowAngle colAngle r d :=
    (congrArg _ (idx2 _ r d rfl rfl)).trans (angle_apply r d)
  rw [e]
  rfl

theorem q_apply (h : Fin 8) (b : Fin 32) (d : Fin 64) (i : Fin 512) :
    (val_main_v96 (F := Ideal) x0 x1 x2 x4 x5 (ix4 h b d i) : EReal)
      = turnedHead x0 x1 x2 x4 x5 (row b i) ⟨h.val, by omega⟩ d * Ideal.ofBits .f32 0x3E38AA3B#32 := by
  rw [val_main_v96_apply]
  refine Eq.trans (show _ = (val_main_v95 (F := Ideal) x0 x1 x2 x4 x5 (ix4 h b d i) : EReal) from rfl) ?_
  rw [val_main_v95_apply, val_main_v94_apply, val_main_v79_apply, val_main_v78_apply, val_main_v77_apply]
  have := h.isLt; have := d.isLt; have := b.isLt; have := i.isLt
  refine congrArg (fun x : EReal => x * _) (turnedHead_apply _ _ _ _ _ _ _ _ _ (idx3 _ _ _ _ ?_ ?_ ?_))
  · show (((b.val * 512 + i.val) * 8 + h.val) * 64 + d.val) / 512 = 512 * b.val + i.val; omega
  · show (((b.val * 512 + i.val) * 8 + h.val) * 64 + d.val) / 64 % 8 = h.val; omega
  · show (((b.val * 512 + i.val) * 8 + h.val) * 64 + d.val) % 64 = d.val; omega

theorem k_apply (h : Fin 2) (b : Fin 32) (i : Fin 512) (d : Fin 64) :
    (val_main_v99 (F := Ideal) x0 x1 x2 x4 x5 (ix4 h b i d) : EReal)
      = turnedHead x0 x1 x2 x4 x5 (row b i) ⟨8 + h.val, by omega⟩ d := by
  rw [val_main_v99_apply]
  refine Eq.trans (show _ = (val_main_v98 (F := Ideal) x0 x1 x2 x4 x5 (ix4 h b i d) : EReal) from rfl) ?_
  rw [val_main_v98_apply, val_main_v97_apply, val_main_v80_apply]
  have := h.isLt; have := d.isLt; have := b.isLt; have := i.isLt
  refine turnedHead_apply _ _ _ _ _ _ _ _ _ (idx3 _ _ _ _ ?_ ?_ ?_)
  · show (((b.val * 512 + i.val) * 2 + h.val) * 64 + d.val) / 128 = 512 * b.val + i.val; omega
  · show 8 + (((b.val * 512 + i.val) * 2 + h.val) * 64 + d.val) / 64 % 2 = 8 + h.val; omega
  · show (((b.val * 512 + i.val) * 2 + h.val) * 64 + d.val) % 64 = d.val; omega

end Cert.Reference3Ideal.Proj

end
-- ==== Proof.ProjBlockValue.lean ====
/-
  What the projection kernel's blocks read over the extended reals: the normalised rows, their products with the
  weights, and of a pair of heads the normalisation and the rotation.
-/
module

public import proofs.«01_k».proof.Proof.ProjRefValue
public import proofs.«01_k».proof.Proof.FfnBlockValue
public import proofs.«01_k».proof.Proof.Gen.Kernel3Ideal.Value

@[expose] public section

set_option maxRecDepth 65536

noncomputable section

namespace Cert.Kernel3Ideal.Proj

open Cert.Kernel3Ideal Cert.Kernel3Ideal.Gen Cert.Softmax Cert.Proj
open Cert.Reference2Ideal.Ffn (idx1 idx2)
open Idealize.ShloMosaic Idealize.ShloMosaic.TcCoe Idealize.ShloMosaic.ValueIdx

/-! ## Rows and products -/

theorem normed_at (x : Vec Ideal S512x1024 .f32) (w : Vec Ideal S1x1024 .f32) (r : Fin 512) (c : Fin 1024) :
    (k0_pay2 x w (ix2 r c) : EReal) = rms (fun k => x (ix2 r k)) (w (ix2 (0 : Fin 1) c)) c :=
  Cert.Kernel2Ideal.Ffn.rms_rows (n := 512) x w reduces_S512x1024_S512 shapeCasts_S512_S512x1 broadcasts_S512x1_S512x1024
    shapeCasts_S1x1024_S1x1024 broadcasts_S1x1024_S512x1024 r c

theorem wide_at (l : FVec Ideal S512x1024 .bf16) (w : FVec Ideal S1024x2048 .bf16) (r : Fin 512) (j : Fin 2048) :
    (k0_pay60 l w (ix2 r j) : EReal) = ∑ k : Fin 1024, (l (ix2 r k) : EReal) * w (ix2 k j) := by
  unfold k0_pay60
  rw [shapeCast_self]
  refine (Ideal.matmul_plain_apply (M := 512) (K := 1024) (N := 2048) none l w _ r j).trans ?_
  rw [constant_apply, Ideal.ofBits_zero_f32]
  exact zero_add _

theorem narrow_at (l : FVec Ideal S512x1024 .bf16) (w : FVec Ideal S1024x768 .bf16) (r : Fin 512) (j : Fin 768) :
    (k0_pay30 l w (ix2 r j) : EReal) = ∑ k : Fin 1024, (l (ix2 r k) : EReal) * w (ix2 k j) := by
  unfold k0_pay30
  rw [shapeCast_self]
  refine (Ideal.matmul_plain_apply (M := 512) (K := 1024) (N := 768) none l w _ r j).trans ?_
  rw [constant_apply, Ideal.ofBits_zero_f32]
  exact zero_add _

/-! ## A pair of heads -/

/-- The normalised pair of heads: the squares are summed head by head by a product with a matrix of ones and zeros,
    once for the squares rounded to the narrow format and once for what the rounding left. -/
def normedPair (x : FVec Ideal S512x128 .f32) (ones : FVec Ideal S128x128 .bf16) (w : FVec Ideal S1x128 .f32) : FVec Ideal S512x128 .f32 :=
  mulf (mulf x (rsqrt (addf (mulf (addf
      (matmul dot_S512x128_S128x128_S512x128_1_0_0_1_n_n none (truncf .bf16 (mulf x x) bitsLt_bf16_f32) ones (constant S512x128 .f32 0x00000000#32))
      (matmul dot_S512x128_S128x128_S512x128_1_0_0_1_n_n none
        (truncf .bf16 (subf (mulf x x) (extf .f32 (truncf .bf16 (mulf x x) bitsLt_bf16_f32) bitsLt_bf16_f32)) bitsLt_bf16_f32) ones (constant S512x128 .f32 0x00000000#32)))
    (broadcast S512x128 (Scalar.ofBits .f32 0x3C800000#32))) (broadcast S512x128 (Scalar.ofBits .f32 0x358637BD#32)))))
    (broadcastTo S512x128 (shapeCast S1x128 w shapeCasts_S1x128_S1x128) broadcasts_S1x128_S512x128)

/-- The pair rotated by three tables: its own elements, those sixteen lanes after and those sixteen before. -/
def turnedPair (z cos sa sb : FVec Ideal S512x128 .f32) : FVec Ideal S512x128 .f32 :=
  addf (addf (mulf z cos) (mulf (dynamicRotate 1 112#32 none z rotates_S512x128_d1) sa)) (mulf (dynamicRotate 1 16#32 none z rotates_S512x128_d1) sb)

/-- An element of the normalised pair, of its row's elements. -/
def pairAt (x : Fin 128 → EReal) (o : Fin 128 → Fin 128 → EReal) (w : EReal) (c : Fin 128) : EReal :=
  x c * Ideal.rsqrt (((∑ l, x l * x l * o l c) + ∑ l, (x l * x l - x l * x l) * o l c) * Ideal.ofBits .f32 0x3C800000#32
    + Ideal.ofBits .f32 0x358637BD#32) * w

theorem ones_at (l : FVec Ideal S512x128 .bf16) (o : FVec Ideal S128x128 .bf16) (r : Fin 512) (c : Fin 128) :
    (matmul dot_S512x128_S128x128_S512x128_1_0_0_1_n_n none l o (constant S512x128 .f32 0x00000000#32) (ix2 r c) : EReal)
      = ∑ k : Fin 128, (l (ix2 r k) : EReal) * o (ix2 k c) := by
  refine (Ideal.matmul_plain_apply (M := 512) (K := 128) (N := 128) none l o _ r c).trans ?_
  rw [constant_apply, Ideal.ofBits_zero_f32]
  exact zero_add _

theorem normedPair_at (x : FVec Ideal S512x128 .f32) (o : FVec Ideal S128x128 .bf16) (w : FVec Ideal S1x128 .f32) (r : Fin 512) (c : Fin 128) :
    (normedPair x o w (ix2 r c) : EReal) = pairAt (fun l => x (ix2 r l)) (fun l c => o (ix2 l c)) (w (ix2 (0 : Fin 1) c)) c := by
  unfold normedPair pairAt
  rw [mulf_apply, mulf_apply, broadcastTo_1b_ab_apply, shapeCast_self]
  refine congrArg (fun y : EReal => (x (ix2 r c) : EReal) * Ideal.rsqrt (y * _ + _) * _) ?_
  exact congrArg₂ (fun x y : EReal => x + y) (ones_at _ o r c) (ones_at _ o r c)

/-- A lane sixteen after and sixteen before, the lanes in a ring. -/
abbrev after (c : Fin 128) : Fin 128 := ⟨(c.val + 16) % 128, by omega⟩
abbrev before (c : Fin 128) : Fin 128 := ⟨(c.val + 112) % 128, by omega⟩

theorem turnedPair_at (z cos sa sb : FVec Ideal S512x128 .f32) (r : Fin 512) (c : Fin 128) :
    (turnedPair z cos sa sb (ix2 r c) : EReal)
      = ((z (ix2 r c) : EReal) * cos (ix2 r c) + (z (ix2 r (after c)) : EReal) * sa (ix2 r c)) + (z (ix2 r (before c)) : EReal) * sb (ix2 r c) := by
  have hc := c.isLt
  unfold turnedPair
  rw [addf_apply, addf_apply, mulf_apply, mulf_apply, mulf_apply,
    dynamicRotate_apply (1 : Fin 2) 112#32 z rotates_S512x128_d1 (ix2 r c) (ix2 r (after c)) (fun b => match b with
      | ⟨0, _⟩ => rfl
      | ⟨1, _⟩ => by show (c.val + 16) % 128 = (c.val + 128 - 112) % 128; omega),
    dynamicRotate_apply (1 : Fin 2) 16#32 z rotates_S512x128_d1 (ix2 r c) (ix2 r (before c)) (fun b => match b with
      | ⟨0, _⟩ => rfl
      | ⟨1, _⟩ => by show (c.val + 112) % 128 = (c.val + 128 - 16) % 128; omega)]

/-! ## The pair's elements, head by head -/

/-- The lane of a head's element. -/
abbrev lane (g : Fin 2) (d : Fin 64) : Fin 128 := ⟨64 * g.val + d.val, by omega⟩

theorem sum_ones (f : Fin 128 → EReal) (o : Fin 128 → Fin 128 → EReal) (ho : ∀ l c, o l c = if l.val / 64 = c.val / 64 then 1 else 0) (g : Fin 2) (d : Fin 64) :
    ∑ l, f l * o l (lane g d) = ∑ e, f (lane g e) := by
  have hd := d.isLt
  have h1 : ∀ l : Fin 128, l.val / 64 = g.val → f l * o l (lane g d) = f l := fun l hl => by
    rw [ho, if_pos (by show l.val / 64 = (64 * g.val + d.val) / 64; omega), mul_one]
  have h0 : ∀ l : Fin 128, l.val / 64 ≠ g.val → f l * o l (lane g d) = 0 := fun l hl => by
    rw [ho, if_neg (by show ¬l.val / 64 = (64 * g.val + d.val) / 64; omega), mul_zero]
  refine (Fin.sum_univ_add (a := 64) (b := 64) _).trans ?_
  have hg : g.val = 0 ∨ g.val = 1 := by omega
  rcases hg with hg | hg
  · rw [Finset.sum_eq_zero (s := Finset.univ) (f := fun i : Fin 64 => f (Fin.natAdd 64 i) * o (Fin.natAdd 64 i) (lane g d))
      (fun e _ => h0 _ (by show (64 + e.val) / 64 ≠ g.val; omega)), add_zero]
    exact Finset.sum_congr rfl fun e _ => (h1 _ (by show e.val / 64 = g.val; omega)).trans
      (congrArg f (Fin.ext (by show e.val = 64 * g.val + e.val; omega)))
  · rw [Finset.sum_eq_zero (s := Finset.univ) (f := fun i : Fin 64 => f (Fin.castAdd 64 i) * o (Fin.castAdd 64 i) (lane g d))
      (fun e _ => h0 _ (by show e.val / 64 ≠ g.val; omega)), zero_add]
    exact Finset.sum_congr rfl fun e _ => (h1 _ (by show (64 + e.val) / 64 = g.val; omega)).trans
      (congrArg f (Fin.ext (by show 64 + e.val = 64 * g.val + e.val; omega)))

theorem inv64 : Ideal.ofBits .f32 0x3C800000#32 = ((1 / 64 : ℝ) : EReal) := by
  simp [Ideal.ofBits, Ideal.ieee]
  rw [← EReal.coe_mul]; norm_num
theorem sixtyFour : Ideal.ofBits .f32 0x42800000#32 = ((64 : ℝ) : EReal) := by
  simp [Ideal.ofBits, Ideal.ieee]
  rw [← EReal.coe_mul]; norm_num

/-- A product with a sixty-fourth is the quotient by 64. -/
theorem mul_inv64 (s : EReal) : s * Ideal.ofBits .f32 0x3C800000#32 = Ideal.div s (Ideal.ofBits .f32 0x42800000#32) := by
  rw [inv64, sixtyFour]
  unfold Ideal.div
  rw [if_neg (by simp), ← EReal.coe_inv]
  norm_num

/-- Of a row without infinities the pair's elements are the heads' normalised ones. -/
theorem pairAt_eq (x : Fin 128 → EReal) (o : Fin 128 → Fin 128 → EReal) (ho : ∀ l c, o l c = if l.val / 64 = c.val / 64 then 1 else 0)
    (hx : ∀ l, ∃ v : ℝ, x l = v) (w : EReal) (g : Fin 2) (d : Fin 64) :
    pairAt x o w (lane g d) = headNorm (fun e => x (lane g e)) w d := by
  have hz : ∀ l, x l * x l - x l * x l = 0 := fun l => by
    obtain ⟨v, hv⟩ := hx l
    rw [hv, ← EReal.coe_mul, ← EReal.coe_sub, sub_self, EReal.coe_zero]
  unfold pairAt headNorm
  rw [sum_ones (fun l => x l * x l) o ho g d, Finset.sum_eq_zero (s := Finset.univ)
    (f := fun l : Fin 128 => (x l * x l - x l * x l) * o l (lane g d)) (fun l _ => by rw [hz, zero_mul]), add_zero, mul_inv64]

/-- The tables' product with the pair is the head rotated. -/
theorem turned_eq (z : Fin 128 → EReal) (y : Fin 64 → EReal) (g : Fin 2) (d : Fin 64) (hz : ∀ e, z (lane g e) = y e) (a cos sa sb : EReal)
    (hc : cos = FloatOps.hostUnary (F := Ideal) (φ := .f32) .cos a)
    (ha : sa = if d.val % 32 < 16 then -(FloatOps.hostUnary (F := Ideal) (φ := .f32) .sin a : EReal) else 0)
    (hb : sb = if d.val % 32 < 16 then 0 else (FloatOps.hostUnary (F := Ideal) (φ := .f32) .sin a : EReal)) :
    (z (lane g d) * cos + z (after (lane g d)) * sa) + z (before (lane g d)) * sb = rotated y a d := by
  have hg := g.isLt
  have hd := d.isLt
  unfold rotated turned
  rw [hz, hc, ha, hb]
  by_cases h : d.val % 32 < 16
  · rw [if_pos h, if_pos h, dif_pos h, mul_zero, add_zero, ← hz ⟨d.val + 16, by omega⟩,
      show after (lane g d) = lane g ⟨d.val + 16, by omega⟩ from Fin.ext (by show (64 * g.val + d.val + 16) % 128 = 64 * g.val + (d.val + 16); omega),
      mul_neg, neg_mul]
  · rw [if_neg h, if_neg h, dif_neg h, mul_zero, add_zero, ← hz ⟨d.val - 16, by omega⟩,
      show before (lane g d) = lane g ⟨d.val - 16, by omega⟩ from Fin.ext (by show (64 * g.val + d.val + 112) % 128 = 64 * g.val + (d.val - 16); omega)]

/-! ## The tables -/

/-- A table's row part, each of its eight rows over 64 positions. -/
theorem rows_at (p : FVec Ideal S1x3x8x128 .f32) (o : ℕ) (ho : o < 3) (h : S3x8x128.Slices ![o, 0, 0] S1x8x128) (r : Fin 512) (c : Fin 128) :
    (shapeCast S512x128 (broadcastTo S8x64x128 (shapeCast S8x1x128 (shapeCast S8x1x128 (shapeCast S8x128 (extractStridedSlice S1x8x128 ![o, 0, 0]
      (shapeCast S3x8x128 p shapeCasts_S1x3x8x128_S3x8x128) h) shapeCasts_S1x8x128_S8x128) shapeCasts_S8x128_S8x1x128) shapeCasts_S8x1x128_S8x1x128)
      broadcasts_S8x1x128_S8x64x128) shapeCasts_S8x64x128_S512x128 (ix2 r c))
      = p (ix4 (0 : Fin 1) (⟨o, ho⟩ : Fin 3) (⟨r.val / 64, by omega⟩ : Fin 8) c) := by
  have hr := r.isLt
  have hc := c.isLt
  refine (shapeCast_apply _ _ (ix2 r c) (ix3 (⟨r.val / 64, by omega⟩ : Fin 8) (⟨r.val % 64, by omega⟩ : Fin 64) c) (by
    rw [Shape.rowMajor_val_two, Shape.rowMajor_val_three]
    show (r.val / 64 * 64 + r.val % 64) * 128 + c.val = r.val * 128 + c.val; omega)).trans ?_
  refine (broadcastTo_apply _ _ (ix3 (⟨r.val / 64, by omega⟩ : Fin 8) (⟨r.val % 64, by omega⟩ : Fin 64) c)
    (ix3 (⟨r.val / 64, by omega⟩ : Fin 8) (0 : Fin 1) c) (fun a => match a with | ⟨0, _⟩ => rfl | ⟨1, _⟩ => rfl | ⟨2, _⟩ => rfl)).trans ?_
  rw [shapeCast_self]
  refine (shapeCast_apply _ _ (ix3 (⟨r.val / 64, by omega⟩ : Fin 8) (0 : Fin 1) c) (ix2 (⟨r.val / 64, by omega⟩ : Fin 8) c) (by
    rw [Shape.rowMajor_val_two, Shape.rowMajor_val_three]
    show r.val / 64 * 128 + c.val = (r.val / 64 * 1 + 0) * 128 + c.val; omega)).trans ?_
  refine (shapeCast_apply _ _ (ix2 (⟨r.val / 64, by omega⟩ : Fin 8) c) (ix3 (0 : Fin 1) (⟨r.val / 64, by omega⟩ : Fin 8) c) (by
    rw [Shape.rowMajor_val_two, Shape.rowMajor_val_three]
    show (0 * 8 + r.val / 64) * 128 + c.val = r.val / 64 * 128 + c.val; omega)).trans ?_
  refine (extractStridedSlice_apply _ _ _ (ix3 (0 : Fin 1) (⟨r.val / 64, by omega⟩ : Fin 8) c) (ix3 (⟨o, ho⟩ : Fin 3) (⟨r.val / 64, by omega⟩ : Fin 8) c)
    (fun a => match a with
      | ⟨0, _⟩ => rfl
      | ⟨1, _⟩ => by show r.val / 64 = 0 + r.val / 64; omega
      | ⟨2, _⟩ => by show c.val = 0 + c.val; omega)).trans ?_
  exact shapeCast_apply _ _ _ _ (by
    rw [Shape.rowMajor_val_four, Shape.rowMajor_val_three]
    show ((0 * 3 + o) * 8 + r.val / 64) * 128 + c.val = (o * 8 + r.val / 64) * 128 + c.val; omega)

theorem cols_at (p : FVec Ideal S1x512x128 .f32) (r : Fin 512) (c : Fin 128) :
    shapeCast S512x128 p shapeCasts_S1x512x128_S512x128 (ix2 r c) = p (ix3 (0 : Fin 1) r c) :=
  shapeCast_apply _ _ _ _ (by
    rw [Shape.rowMajor_val_two, Shape.rowMajor_val_three]
    show (0 * 512 + r.val) * 128 + c.val = r.val * 128 + c.val; omega)

/-- A table's element: its row part's and its column part's. -/
abbrev tableAt (p : FVec Ideal S1x3x8x128 .f32) (o : Fin 3) (q : FVec Ideal S1x512x128 .f32) (r : Fin 512) (c : Fin 128) : EReal :=
  (p (ix4 (0 : Fin 1) o (⟨r.val / 64, by omega⟩ : Fin 8) c) : EReal) + q (ix3 (0 : Fin 1) r c)

theorem cos_at (p : FVec Ideal S1x3x8x128 .f32) (q : FVec Ideal S1x512x128 .f32) (r : Fin 512) (c : Fin 128) :
    ((k0_pay32 (F := Ideal) p q : FVec Ideal S512x128 .f32) (ix2 r c) : EReal) = tableAt p 0 q r c :=
  congrArg₂ (fun x y : EReal => x + y) (rows_at p 0 (by decide) slices_S3x8x128_o0_0_0_S1x8x128 r c) (cols_at q r c)
theorem sa_at (p : FVec Ideal S1x3x8x128 .f32) (q : FVec Ideal S1x512x128 .f32) (r : Fin 512) (c : Fin 128) :
    ((k0_pay34 (F := Ideal) (k0_pay33 p) q : FVec Ideal S512x128 .f32) (ix2 r c) : EReal) = tableAt p 1 q r c :=
  congrArg₂ (fun x y : EReal => x + y) (rows_at p 1 (by decide) slices_S3x8x128_o1_0_0_S1x8x128 r c) (cols_at q r c)
theorem sb_at (p : FVec Ideal S1x3x8x128 .f32) (q : FVec Ideal S1x512x128 .f32) (r : Fin 512) (c : Fin 128) :
    ((k0_pay35 (F := Ideal) (k0_pay31 p) q : FVec Ideal S512x128 .f32) (ix2 r c) : EReal) = tableAt p 2 q r c :=
  congrArg₂ (fun x y : EReal => x + y) (rows_at p 2 (by decide) slices_S3x8x128_o2_0_0_S1x8x128 r c) (cols_at q r c)

/-! ## The queries' block -/

section Queries
variable (pa : FVec Ideal S512x768 .f32) (cos sa sb : FVec Ideal S512x128 .f32) (ones : FVec Ideal S128x128 .bf16) (w : FVec Ideal S1x128 .f32)

/-- A pair of heads of the attention's columns. -/
def heads (p : Fin 6) : FVec Ideal S512x128 .f32 := fun i => pa (ix2 (i 0) (⟨128 * p.val + (i 1).val, by have h : (i 1).val < 128 := (i 1).isLt; omega⟩ : Fin 768))

theorem heads_eq (p : Fin 6) (h : S512x768.Slices ![0, 128 * p.val] S512x128) : extractStridedSlice S512x128 ![0, 128 * p.val] pa h = heads pa p :=
  funext fun i => extractStridedSlice_apply _ pa h i _ (fun a => match a with
    | ⟨0, _⟩ => by show (i 0).val = 0 + (i 0).val; omega
    | ⟨1, _⟩ => rfl)

/-- A pair of heads normalised and rotated. -/
abbrev outPair (x : FVec Ideal S512x128 .f32) : FVec Ideal S512x128 .f32 := turnedPair (normedPair x ones w) cos sa sb

/-- The queries of a block, head by head and scaled. -/
def queries : Vec Ideal S8x1x64x512 .bf16 := fun y =>
  (outPair cos sa sb ones w (heads pa ⟨(y 0).val / 2, by have h : (y 0).val < 8 := (y 0).isLt; omega⟩)
    (ix2 (y 3) (lane ⟨(y 0).val % 2, by omega⟩ (y 2))) : EReal) * Ideal.ofBits .f32 0x3E38AA3B#32

theorem queries_piece (p : Fin 6) (g : Fin 2) (h : S512x768.Slices ![0, 128 * p.val] S512x128) (hs : S128x512.Slices ![64 * g.val, 0] S64x512)
    (x : S1x1x64x512.Idx) (y : S8x1x64x512.Idx) (h0 : (y 0).val = 2 * p.val + g.val) (h2 : (y 2).val = (x 2).val) (h3 : (y 3).val = (x 3).val) :
    shapeCast S1x1x64x512 (extractStridedSlice S64x512 ![64 * g.val, 0] (truncf (F := Ideal) .bf16 (transpose S128x512 [1, 0]
      (mulf (outPair cos sa sb ones w (extractStridedSlice S512x128 ![0, 128 * p.val] pa h)) (broadcast S512x128 (Scalar.ofBits .f32 0x3E38AA3B#32)))
      transposes_S512x128_p1_0_S128x512) bitsLt_bf16_f32) hs) shapeCasts_S64x512_S1x1x64x512 x = queries pa cos sa sb ones w y := by
  have hx0 : (x 0).val < 1 := (x 0).isLt
  have hx1 : (x 1).val < 1 := (x 1).isLt
  have hx2 : (x 2).val < 64 := (x 2).isLt
  have hx3 : (x 3).val < 512 := (x 3).isLt
  rw [heads_eq]
  refine (shapeCast_apply _ _ x (ix2 (x 2) (x 3)) (by
    rw [Shape.rowMajor_val_two, Shape.rowMajor_val_four]
    show (x 2).val * 512 + (x 3).val = (((x 0).val * 1 + (x 1).val) * 64 + (x 2).val) * 512 + (x 3).val; omega)).trans ?_
  refine (extractStridedSlice_apply _ _ _ (ix2 (x 2) (x 3)) (ix2 (lane g (x 2)) (x 3)) (fun a => match a with
    | ⟨0, _⟩ => rfl
    | ⟨1, _⟩ => by show (x 3).val = 0 + (x 3).val; omega)).trans ?_
  show transpose S128x512 [1, 0] (mulf (outPair cos sa sb ones w (heads pa p)) (broadcast S512x128 (Scalar.ofBits .f32 0x3E38AA3B#32)))
    transposes_S512x128_p1_0_S128x512 (ix2 (lane g (x 2)) (x 3)) = _
  refine (transpose_apply _ _ transposes_S512x128_p1_0_S128x512 (ix2 (lane g (x 2)) (x 3)) (ix2 (x 3) (lane g (x 2))) (fun a => match a with
    | ⟨0, _⟩ => rfl | ⟨1, _⟩ => rfl)).trans ?_
  unfold queries
  refine congrArg (fun u : EReal => u * _) ?_
  have hp : (⟨(y 0).val / 2, by omega⟩ : Fin 6) = p := Fin.ext (by show (y 0).val / 2 = p.val; omega)
  have hg : (⟨(y 0).val % 2, by omega⟩ : Fin 2) = g := Fin.ext (by show (y 0).val % 2 = g.val; omega)
  rw [hp, hg]
  exact congrArg _ (idx2 _ _ _ h3.symm (by show 64 * g.val + (x 2).val = 64 * g.val + (y 2).val; omega))

end Queries

/-! ## The blocks the body leaves -/

section Blocks
variable (x0 : Vec Ideal S512x1024 .f32) (x1 : Vec Ideal S1x1024 .f32) (x2 : Vec Ideal S1024x2048 .bf16) (x3 : Vec Ideal S1024x128 .bf16)
  (x4 : Vec Ideal S1024x768 .bf16) (x5 : Vec Ideal S1x128 .f32) (x6 x7 : Vec Ideal S1x128 .f32) (x8 : Vec Ideal S1x3x8x128 .f32) (x9 : Vec Ideal S3x512x128 .f32)
  (x10 : Vec Ideal S128x128 .bf16) (x11 : Vec Ideal S512x512 .bf16)

/-- The attention's columns and the tables of a block, of the blocks read. -/
abbrev attOf : FVec Ideal S512x768 .f32 := k0_pay30 (k0_pay2 (View.ld x0 r0_0) (View.ld x1 r0_1)) (View.ld x4 r0_7)
abbrev wideOf : FVec Ideal S512x2048 .f32 := k0_pay60 (k0_pay2 (View.ld x0 r0_0) (View.ld x1 r0_1)) (View.ld x2 r0_25)
abbrev cosOf : FVec Ideal S512x128 .f32 := k0_pay32 (View.ld x8 r0_8) (View.ld x9 r0_9)
abbrev saOf : FVec Ideal S512x128 .f32 := k0_pay34 (k0_pay33 (View.ld x8 r0_8)) (View.ld x9 r0_10)
abbrev sbOf : FVec Ideal S512x128 .f32 := k0_pay35 (k0_pay31 (View.ld x8 r0_8)) (View.ld x9 r0_11)
abbrev onesOf : FVec Ideal S128x128 .bf16 := k0_pay36 (View.ld x10 r0_12)

theorem block20 (y : S8x1x64x512.Idx) :
    out0_20 x0 x1 x2 x3 x4 x5 x6 x7 x8 x9 x10 x11 y = queries (attOf x0 x1 x4) (cosOf x8 x9) (saOf x8 x9) (sbOf x8 x9) (onesOf x10) (View.ld x6 r0_3) y := by
  unfold out0_20
  refine View.canon_apply_of_pieces (queries (attOf x0 x1 x4) (cosOf x8 x9) (saOf x8 x9) (sbOf x8 x9) (onesOf x10) (View.ld x6 r0_3)) _ ?_ y
    (cover0_20 _ _ _ _ _ _ _ _ y)
  have h0 : ∀ x : S1x1x64x512.Idx, (x 0).val = 0 := fun x => by have h : (x 0).val < 1 := (x 0).isLt; omega
  intro pc hpc
  rcases List.mem_cons.mp hpc with rfl | hpc
  · exact fun x => queries_piece _ _ _ _ _ _ 3 1 slices_S512x768_o0_384_S512x128 slices_S128x512_o64_0_S64x512 x _
      (by show 7 + 1 * (x 0).val = _; rw [h0 x]; rfl) (by show 0 + 1 * (x 2).val = _; omega) (by show 0 + 1 * (x 3).val = _; omega)
  rcases List.mem_cons.mp hpc with rfl | hpc
  · exact fun x => queries_piece _ _ _ _ _ _ 3 0 slices_S512x768_o0_384_S512x128 slices_S128x512_o0_0_S64x512 x _
      (by show 6 + 1 * (x 0).val = _; rw [h0 x]; rfl) (by show 0 + 1 * (x 2).val = _; omega) (by show 0 + 1 * (x 3).val = _; omega)
  rcases List.mem_cons.mp hpc with rfl | hpc
  · exact fun x => queries_piece _ _ _ _ _ _ 2 1 slices_S512x768_o0_256_S512x128 slices_S128x512_o64_0_S64x512 x _
      (by show 5 + 1 * (x 0).val = _; rw [h0 x]; rfl) (by show 0 + 1 * (x 2).val = _; omega) (by show 0 + 1 * (x 3).val = _; omega)
  rcases List.mem_cons.mp hpc with rfl | hpc
  · exact fun x => queries_piece _ _ _ _ _ _ 2 0 slices_S512x768_o0_256_S512x128 slices_S128x512_o0_0_S64x512 x _
      (by show 4 + 1 * (x 0).val = _; rw [h0 x]; rfl) (by show 0 + 1 * (x 2).val = _; omega) (by show 0 + 1 * (x 3).val = _; omega)
  rcases List.mem_cons.mp hpc with rfl | hpc
  · exact fun x => queries_piece _ _ _ _ _ _ 1 1 slices_S512x768_o0_128_S512x128 slices_S128x512_o64_0_S64x512 x _
      (by show 3 + 1 * (x 0).val = _; rw [h0 x]; rfl) (by show 0 + 1 * (x 2).val = _; omega) (by show 0 + 1 * (x 3).val = _; omega)
  rcases List.mem_cons.mp hpc with rfl | hpc
  · exact fun x => queries_piece _ _ _ _ _ _ 1 0 slices_S512x768_o0_128_S512x128 slices_S128x512_o0_0_S64x512 x _
      (by show 2 + 1 * (x 0).val = _; rw [h0 x]; rfl) (by show 0 + 1 * (x 2).val = _; omega) (by show 0 + 1 * (x 3).val = _; omega)
  rcases List.mem_cons.mp hpc with rfl | hpc
  · exact fun x => queries_piece _ _ _ _ _ _ 0 1 slices_S512x768_o0_0_S512x128 slices_S128x512_o64_0_S64x512 x _
      (by show 1 + 1 * (x 0).val = _; rw [h0 x]; rfl) (by show 0 + 1 * (x 2).val = _; omega) (by show 0 + 1 * (x 3).val = _; omega)
  rcases List.mem_cons.mp hpc with rfl | hpc
  · exact fun x => queries_piece _ _ _ _ _ _ 0 0 slices_S512x768_o0_0_S512x128 slices_S128x512_o0_0_S64x512 x _
      (by show 0 + 1 * (x 0).val = _; rw [h0 x]; rfl) (by show 0 + 1 * (x 2).val = _; omega) (by show 0 + 1 * (x 3).val = _; omega)
  nomatch hpc

theorem block21 (y : S2x1x512x64.Idx) :
    (out0_21 x0 x1 x2 x3 x4 x5 x6 x7 x8 x9 x10 x11 y : EReal) = outPair (cosOf x8 x9) (saOf x8 x9) (sbOf x8 x9) (onesOf x10) (View.ld x7 r0_3) (heads (attOf x0 x1 x4) 4)
      (ix2 (y 2) (lane (y 0) (y 3))) := by
  refine (Value.canon21_eq (View.ld x0 r0_0) (View.ld x1 r0_1) (View.ld x4 r0_7) (View.ld x8 r0_8) (View.ld x9 r0_9) (View.ld x9 r0_10) (View.ld x9 r0_11)
    (View.ld x10 r0_12) (View.ld x7 r0_3) y).trans ?_
  show (outPair (cosOf x8 x9) (saOf x8 x9) (sbOf x8 x9) (onesOf x10) (View.ld x7 r0_3)
    (extractStridedSlice S512x128 ![0, 128 * (4 : Fin 6).val] (attOf x0 x1 x4) slices_S512x768_o0_512_S512x128) (Value.ix21_0 y) : EReal) = _
  rw [heads_eq]
  exact congrArg _ (idx2 _ _ _ rfl (by show (y 0).val * 64 + (y 3).val = 64 * (y 0).val + (y 3).val; omega))

theorem block12 (y : S8x1x64x512.Idx) : (out0_12 x0 x1 x2 x3 x4 x5 x6 x7 x8 x9 x10 x11 y : EReal) = wideOf x0 x1 x2 (Value.ix12_0 y) :=
  (Value.canon12_eq (View.ld x0 r0_0) (View.ld x1 r0_1) (View.ld x2 r0_25) y).trans rfl
theorem block13 (y : S1x512x512.Idx) : (out0_13 x0 x1 x2 x3 x4 x5 x6 x7 x8 x9 x10 x11 y : EReal) = (wideOf x0 x1 x2 (Value.ix13_0 y) : EReal) * Ideal.ofBits .f32 0x3E000000#32 :=
  (Value.canon13_eq (View.ld x0 r0_0) (View.ld x1 r0_1) (View.ld x2 r0_25) y).trans rfl
theorem block14 (y : S8x1x64x512.Idx) : (out0_14 x0 x1 x2 x3 x4 x5 x6 x7 x8 x9 x10 x11 y : EReal) = wideOf x0 x1 x2 (Value.ix14_0 y) :=
  (Value.canon14_eq (View.ld x0 r0_0) (View.ld x1 r0_1) (View.ld x2 r0_25) y).trans rfl
theorem block15 (y : S8x1x64x512.Idx) : (out0_15 x0 x1 x2 x3 x4 x5 x6 x7 x8 x9 x10 x11 y : EReal) = wideOf x0 x1 x2 (Value.ix15_0 y) :=
  (Value.canon15_eq (View.ld x0 r0_0) (View.ld x1 r0_1) (View.ld x2 r0_25) y).trans rfl
theorem block22 (y : S2x1x64x512.Idx) : (out0_22 x0 x1 x2 x3 x4 x5 x6 x7 x8 x9 x10 x11 y : EReal) = attOf x0 x1 x4 (Value.ix22_0 y) :=
  (Value.canon22_eq (View.ld x0 r0_0) (View.ld x1 r0_1) (View.ld x4 r0_7) y).trans rfl

end Blocks

end Cert.Kernel3Ideal.Proj

end
-- ==== Proof.ProjTables.lean ====
/-
  The tables the projection kernel is launched with over the extended reals: the rotation's, of the positions' rows and of
  their columns, the matrix of ones and zeros that sums head by head, and the heads' weights side by side.
-/
module

public import proofs.«01_k».proof.Proof.ProjBlockValue
public import Idealize.ShloMosaic.Lib.ValueIdxRank6

@[expose] public section

set_option maxRecDepth 65536

noncomputable section

namespace Cert.Kernel3Ideal.Proj

open Cert.Kernel3Ideal Cert.Kernel3Ideal.Gen Cert.Softmax Cert.Proj
open Cert.Reference2Ideal.Ffn (idx1 idx2)
open Cert.Reference3Ideal.Proj (rowAngle colAngle)
open Idealize.ShloMosaic Idealize.ShloMosaic.TcCoe Idealize.ShloMosaic.ValueIdx

/-! ## Pieces side by side -/

/-- Three pieces side by side read `v` at a column, if the piece of the column does. -/
theorem thirds {α : Type} {n w0 w1 w2 : ℕ} (hw : w0 + w1 + w2 = 64) (v : α) (d : Fin 64)
    (x0 : (⟨2, ![n, w0]⟩ : Shape).Idx → α) (x1 : (⟨2, ![n, w1]⟩ : Shape).Idx → α) (x2 : (⟨2, ![n, w2]⟩ : Shape).Idx → α)
    (h : Shape.Concatenates [(⟨2, ![n, w0]⟩ : Shape), (⟨2, ![n, w1]⟩ : Shape), (⟨2, ![n, w2]⟩ : Shape)] (⟨2, ![n, 64]⟩ : Shape) 1) (r : Fin n)
    (h0 : ∀ a : Fin w0, a.val = d.val → x0 (ix2 r a) = v) (h1 : ∀ a : Fin w1, a.val + w0 = d.val → x1 (ix2 r a) = v)
    (h2 : ∀ a : Fin w2, a.val + (w0 + w1) = d.val → x2 (ix2 r a) = v) :
    concatenate (⟨2, ![n, 64]⟩ : Shape) 1 [⟨(⟨2, ![n, w0]⟩ : Shape), x0⟩, ⟨(⟨2, ![n, w1]⟩ : Shape), x1⟩, ⟨(⟨2, ![n, w2]⟩ : Shape), x2⟩] h (ix2 r d) = v := by
  have hd := d.isLt
  let xs : List ((s : Shape) × (s.Idx → α)) := [⟨(⟨2, ![n, w0]⟩ : Shape), x0⟩, ⟨(⟨2, ![n, w1]⟩ : Shape), x1⟩, ⟨(⟨2, ![n, w2]⟩ : Shape), x2⟩]
  by_cases hq : d.val < w0
  · exact (concatenate_apply_piece (t := (⟨2, ![n, 64]⟩ : Shape)) 1 xs h (ix2 r d) 0 (by show 0 < 3; decide) (⟨2, ![n, w0]⟩ : Shape) x0 rfl rfl 0 rfl (ix2 r ⟨d.val, hq⟩)
      (fun b hb => match b, hb with | ⟨0, _⟩, _ => rfl | ⟨1, _⟩, hb => absurd rfl hb) (by show 0 + d.val = d.val; omega)).trans (h0 _ rfl)
  by_cases hq' : d.val < w0 + w1
  · exact (concatenate_apply_piece (t := (⟨2, ![n, 64]⟩ : Shape)) 1 xs h (ix2 r d) 1 (by show 1 < 3; decide) (⟨2, ![n, w1]⟩ : Shape) x1 rfl rfl w0 rfl (ix2 r ⟨d.val - w0, by omega⟩)
      (fun b hb => match b, hb with | ⟨0, _⟩, _ => rfl | ⟨1, _⟩, hb => absurd rfl hb) (by show w0 + (d.val - w0) = d.val; omega)).trans (h1 _ (by show d.val - w0 + w0 = d.val; omega))
  · exact (concatenate_apply_piece (t := (⟨2, ![n, 64]⟩ : Shape)) 1 xs h (ix2 r d) 2 (by show 2 < 3; decide) (⟨2, ![n, w2]⟩ : Shape) x2 rfl rfl (w0 + w1) rfl
      (ix2 r ⟨d.val - (w0 + w1), by omega⟩)
      (fun b hb => match b, hb with | ⟨0, _⟩, _ => rfl | ⟨1, _⟩, hb => absurd rfl hb) (by show w0 + w1 + (d.val - (w0 + w1)) = d.val; omega)).trans
      (h2 _ (by show d.val - (w0 + w1) + (w0 + w1) = d.val; omega))

/-- A piece beside itself. -/
theorem doubled {α : Type} {n : ℕ} (x : (⟨2, ![n, 64]⟩ : Shape).Idx → α)
    (h : Shape.Concatenates [(⟨2, ![n, 64]⟩ : Shape), (⟨2, ![n, 64]⟩ : Shape)] (⟨2, ![n, 128]⟩ : Shape) 1) (r : Fin n) (g : Fin 2) (d : Fin 64) :
    concatenate (⟨2, ![n, 128]⟩ : Shape) 1 [⟨(⟨2, ![n, 64]⟩ : Shape), x⟩, ⟨(⟨2, ![n, 64]⟩ : Shape), x⟩] h (ix2 r (lane g d)) = x (ix2 r d) := by
  have hg : g.val = 0 ∨ g.val = 1 := by omega
  rcases hg with hg | hg
  · exact concatenate_pair_apply_left (t := (⟨2, ![n, 128]⟩ : Shape)) (s₁ := (⟨2, ![n, 64]⟩ : Shape)) (s₂ := (⟨2, ![n, 64]⟩ : Shape)) 1 x x h (ix2 r (lane g d)) rfl (ix2 r d)
      (fun b => match b with | ⟨0, _⟩ => rfl | ⟨1, _⟩ => by show d.val = 64 * g.val + d.val; omega)
  · exact concatenate_pair_apply_right (t := (⟨2, ![n, 128]⟩ : Shape)) (s₁ := (⟨2, ![n, 64]⟩ : Shape)) (s₂ := (⟨2, ![n, 64]⟩ : Shape)) 1 x x h (ix2 r (lane g d)) rfl rfl (ix2 r d)
      (fun b hb => match b, hb with | ⟨0, _⟩, _ => rfl | ⟨1, _⟩, hb => absurd rfl hb) (by show d.val + 64 = 64 * g.val + d.val; omega)

/-- Three planes one upon another. -/
theorem stacked {α : Type} {n : ℕ} (x : Fin 3 → (⟨3, ![1, n, 128]⟩ : Shape).Idx → α)
    (h : Shape.Concatenates [(⟨3, ![1, n, 128]⟩ : Shape), (⟨3, ![1, n, 128]⟩ : Shape), (⟨3, ![1, n, 128]⟩ : Shape)] (⟨3, ![3, n, 128]⟩ : Shape) 0) (o : Fin 3) (r : Fin n) (c : Fin 128) :
    concatenate (⟨3, ![3, n, 128]⟩ : Shape) 0 [⟨(⟨3, ![1, n, 128]⟩ : Shape), x 0⟩, ⟨(⟨3, ![1, n, 128]⟩ : Shape), x 1⟩, ⟨(⟨3, ![1, n, 128]⟩ : Shape), x 2⟩] h (ix3 o r c)
      = x o (ix3 (0 : Fin 1) r c) := by
  let xs : List ((s : Shape) × (s.Idx → α)) := [⟨(⟨3, ![1, n, 128]⟩ : Shape), x 0⟩, ⟨(⟨3, ![1, n, 128]⟩ : Shape), x 1⟩, ⟨(⟨3, ![1, n, 128]⟩ : Shape), x 2⟩]
  have ho : o = 0 ∨ o = 1 ∨ o = 2 := by omega
  rcases ho with rfl | rfl | rfl
  · exact concatenate_apply_piece (t := (⟨3, ![3, n, 128]⟩ : Shape)) 0 xs h (ix3 (0 : Fin 3) r c) 0 (by show 0 < 3; decide) (⟨3, ![1, n, 128]⟩ : Shape) (x 0) rfl rfl 0 rfl
      (ix3 (0 : Fin 1) r c) (fun b hb => match b, hb with | ⟨0, _⟩, hb => absurd rfl hb | ⟨1, _⟩, _ => rfl | ⟨2, _⟩, _ => rfl) rfl
  · exact concatenate_apply_piece (t := (⟨3, ![3, n, 128]⟩ : Shape)) 0 xs h (ix3 (1 : Fin 3) r c) 1 (by show 1 < 3; decide) (⟨3, ![1, n, 128]⟩ : Shape) (x 1) rfl rfl 1 rfl
      (ix3 (0 : Fin 1) r c) (fun b hb => match b, hb with | ⟨0, _⟩, hb => absurd rfl hb | ⟨1, _⟩, _ => rfl | ⟨2, _⟩, _ => rfl) rfl
  · exact concatenate_apply_piece (t := (⟨3, ![3, n, 128]⟩ : Shape)) 0 xs h (ix3 (2 : Fin 3) r c) 2 (by show 2 < 3; decide) (⟨3, ![1, n, 128]⟩ : Shape) (x 2) rfl rfl 2 rfl
      (ix3 (0 : Fin 1) r c) (fun b hb => match b, hb with | ⟨0, _⟩, hb => absurd rfl hb | ⟨1, _⟩, _ => rfl | ⟨2, _⟩, _ => rfl) rfl

/-! ## The rotation's tables -/

abbrev zeros : FVec Ideal S1x32 .f32 := broadcastInDim S1x32 ![] bcast_S_S1x32 (constant (F := Ideal) S_ .f32 0x00000000#32)

/-- A table of the grid's rows, two heads wide: of a head's first half, the first quarter and the second; the rest zero. -/
def rowTable (a b : FVec Ideal S256x16 .f32) : FVec Ideal S256x128 .f32 :=
  concatenate S256x128 1 [⟨S256x64, concatenate S256x64 1 [⟨S256x16, a⟩, ⟨S256x16, b⟩, ⟨S256x32, broadcastInDim S256x32 ![0, 1] bcast_S1x32_S256x32_0_1 zeros⟩]
      concatenates_S256x16_S256x16_S256x32_S256x64_d1⟩,
    ⟨S256x64, concatenate S256x64 1 [⟨S256x16, a⟩, ⟨S256x16, b⟩, ⟨S256x32, broadcastInDim S256x32 ![0, 1] bcast_S1x32_S256x32_0_1 zeros⟩]
      concatenates_S256x16_S256x16_S256x32_S256x64_d1⟩] concatenates_S256x64_S256x64_S256x128_d1

/-- A table of the grid's columns: of a head's second half, the third quarter and the fourth; the rest zero. -/
def colTable (a b : FVec Ideal S64x16 .f32) : FVec Ideal S64x128 .f32 :=
  concatenate S64x128 1 [⟨S64x64, concatenate S64x64 1 [⟨S64x32, broadcastInDim S64x32 ![0, 1] bcast_S1x32_S64x32_0_1 zeros⟩, ⟨S64x16, a⟩, ⟨S64x16, b⟩]
      concatenates_S64x32_S64x16_S64x16_S64x64_d1⟩,
    ⟨S64x64, concatenate S64x64 1 [⟨S64x32, broadcastInDim S64x32 ![0, 1] bcast_S1x32_S64x32_0_1 zeros⟩, ⟨S64x16, a⟩, ⟨S64x16, b⟩]
      concatenates_S64x32_S64x16_S64x16_S64x64_d1⟩] concatenates_S64x64_S64x64_S64x128_d1

theorem rowTable_at (a b : FVec Ideal S256x16 .f32) (r : Fin 256) (g : Fin 2) (d : Fin 64) :
    (rowTable a b (ix2 r (lane g d)) : EReal)
      = if d.val < 32 then (if d.val % 32 < 16 then (a (ix2 r (⟨d.val % 16, by omega⟩ : Fin 16)) : EReal) else b (ix2 r (⟨d.val % 16, by omega⟩ : Fin 16))) else 0 := by
  have hd := d.isLt
  refine (doubled (n := 256) _ concatenates_S256x64_S256x64_S256x128_d1 r g d).trans ?_
  refine thirds (n := 256) rfl _ d a b _ concatenates_S256x16_S256x16_S256x32_S256x64_d1 r (fun x hx => ?_) (fun x hx => ?_) (fun x hx => ?_)
  · have hx' := x.isLt
    rw [if_pos (by omega), if_pos (by omega)]
    exact congrArg a (idx2 _ _ _ rfl (by show x.val = d.val % 16; omega))
  · have hx' := x.isLt
    rw [if_pos (by omega), if_neg (by omega)]
    exact congrArg b (idx2 _ _ _ rfl (by show x.val = d.val % 16; omega))
  · rw [if_neg (by omega)]
    exact Ideal.ofBits_zero_f32

theorem colTable_at (a b : FVec Ideal S64x16 .f32) (r : Fin 64) (g : Fin 2) (d : Fin 64) :
    (colTable a b (ix2 r (lane g d)) : EReal)
      = if d.val < 32 then 0 else (if d.val % 32 < 16 then (a (ix2 r (⟨d.val % 16, by omega⟩ : Fin 16)) : EReal) else b (ix2 r (⟨d.val % 16, by omega⟩ : Fin 16))) := by
  have hd := d.isLt
  refine (doubled (n := 64) _ concatenates_S64x64_S64x64_S64x128_d1 r g d).trans ?_
  refine thirds (n := 64) rfl _ d _ a b concatenates_S64x32_S64x16_S64x16_S64x64_d1 r (fun x hx => ?_) (fun x hx => ?_) (fun x hx => ?_)
  · have hx' := x.isLt
    rw [if_pos (by omega)]
    exact Ideal.ofBits_zero_f32
  · have hx' := x.isLt
    rw [if_neg (by omega), if_pos (by omega)]
    exact congrArg a (idx2 _ _ _ rfl (by show x.val = d.val % 16; omega))
  · have hx' := x.isLt
    rw [if_neg (by omega), if_neg (by omega)]
    exact congrArg b (idx2 _ _ _ rfl (by show x.val = d.val % 16; omega))

/-- The angles of the grid's rows and of its columns. -/
abbrev rowAng : FVec Ideal S256x16 .f32 := Cert.Reference3Ideal.Read.val_main_v47 (F := Ideal)
abbrev colAng : FVec Ideal S64x16 .f32 := Cert.Reference3Ideal.Read.val_main_v53 (F := Ideal)
abbrev rowZero : FVec Ideal S256x16 .f32 := mulf (broadcastInDim S256x16 ![] bcast_S_S256x16 (constant (F := Ideal) S_ .f32 0x00000000#32)) (Host.sin rowAng)
abbrev colZero : FVec Ideal S64x16 .f32 := mulf (broadcastInDim S64x16 ![] bcast_S_S64x16 (constant (F := Ideal) S_ .f32 0x00000000#32)) (Host.sin colAng)

/-- The three tables' parts: the cosines, the sines negated of the quarters' first, the sines of their second. -/
def rowParts : Fin 3 → FVec Ideal S256x128 .f32 :=
  ![rowTable (Host.cos rowAng) (Host.cos rowAng), rowTable (Host.negf (Host.sin rowAng)) rowZero, rowTable rowZero (Host.sin rowAng)]
def colParts : Fin 3 → FVec Ideal S64x128 .f32 :=
  ![colTable (Host.cos colAng) (Host.cos colAng), colTable (Host.negf (Host.sin colAng)) colZero, colTable colZero (Host.sin colAng)]

/-- The row parts as launched, in blocks of eight rows of the grid. -/
def rowArray : FVec Ideal S32x3x8x128 .f32 :=
  transpose S32x3x8x128 [1, 0, 2, 3] (shapeCast S3x32x8x128 (concatenate S3x256x128 0
    [⟨S1x256x128, broadcastInDim S1x256x128 ![1, 2] bcast_S256x128_S1x256x128_1_2 (rowParts 0)⟩,
      ⟨S1x256x128, broadcastInDim S1x256x128 ![1, 2] bcast_S256x128_S1x256x128_1_2 (rowParts 1)⟩,
      ⟨S1x256x128, broadcastInDim S1x256x128 ![1, 2] bcast_S256x128_S1x256x128_1_2 (rowParts 2)⟩]
    concatenates_S1x256x128_S1x256x128_S1x256x128_S3x256x128_d0) shapeCasts_S3x256x128_S3x32x8x128) transposes_S3x32x8x128_S32x3x8x128_1_0_2_3

/-- The column parts as launched, repeated for a block's eight rows of the grid. -/
def colArray : FVec Ideal S3x512x128 .f32 :=
  shapeCast S3x512x128 (broadcastInDim S1x3x8x64x1x128 ![0, 1, 2, 3, 4, 5] bcast_S1x3x1x64x1x128_S1x3x8x64x1x128_0_1_2_3_4_5
    (shapeCast S1x3x1x64x1x128 (concatenate S3x64x128 0
      [⟨S1x64x128, broadcastInDim S1x64x128 ![1, 2] bcast_S64x128_S1x64x128_1_2 (colParts 0)⟩,
        ⟨S1x64x128, broadcastInDim S1x64x128 ![1, 2] bcast_S64x128_S1x64x128_1_2 (colParts 1)⟩,
        ⟨S1x64x128, broadcastInDim S1x64x128 ![1, 2] bcast_S64x128_S1x64x128_1_2 (colParts 2)⟩]
      concatenates_S1x64x128_S1x64x128_S1x64x128_S3x64x128_d0) shapeCasts_S3x64x128_S1x3x1x64x1x128)) shapeCasts_S1x3x8x64x1x128_S3x512x128

theorem rowArray_at (b : Fin 32) (o : Fin 3) (k : Fin 8) (c : Fin 128) :
    rowArray (ix4 b o k c) = rowParts o (ix2 (⟨8 * b.val + k.val, by omega⟩ : Fin 256) c) := by
  unfold rowArray
  refine (transpose_apply [1, 0, 2, 3] _ transposes_S3x32x8x128_S32x3x8x128_1_0_2_3 (ix4 b o k c) (ix4 o b k c) (fun a => match a with
    | ⟨0, _⟩ => rfl | ⟨1, _⟩ => rfl | ⟨2, _⟩ => rfl | ⟨3, _⟩ => rfl)).trans ?_
  refine (shapeCast_apply _ _ (ix4 o b k c) (ix3 o (⟨8 * b.val + k.val, by omega⟩ : Fin 256) c) (by
    rw [Shape.rowMajor_val_four, Shape.rowMajor_val_three]
    show (o.val * 256 + (8 * b.val + k.val)) * 128 + c.val = ((o.val * 32 + b.val) * 8 + k.val) * 128 + c.val; omega)).trans ?_
  refine (stacked (n := 256) (fun o => broadcastInDim S1x256x128 ![1, 2] bcast_S256x128_S1x256x128_1_2 (rowParts o)) _ o _ c).trans ?_
  exact broadcastInDim_apply _ _ _ _ _ (fun a => match a with | ⟨0, _⟩ => rfl | ⟨1, _⟩ => rfl)

theorem colArray_at (o : Fin 3) (r : Fin 512) (c : Fin 128) :
    colArray (ix3 o r c) = colParts o (ix2 (⟨r.val % 64, by omega⟩ : Fin 64) c) := by
  have hr := r.isLt
  unfold colArray
  refine (shapeCast_apply _ _ (ix3 o r c) (ix6 (0 : Fin 1) o (⟨r.val / 64, by omega⟩ : Fin 8) (⟨r.val % 64, by omega⟩ : Fin 64) (0 : Fin 1) c) (by
    rw [Shape.rowMajor_val_six, Shape.rowMajor_val_three]
    show ((((0 * 3 + o.val) * 8 + r.val / 64) * 64 + r.val % 64) * 1 + 0) * 128 + c.val = (o.val * 512 + r.val) * 128 + c.val; omega)).trans ?_
  refine (broadcastInDim_apply _ _ _ _ (ix6 (0 : Fin 1) o (0 : Fin 1) (⟨r.val % 64, by omega⟩ : Fin 64) (0 : Fin 1) c) (fun a => match a with
    | ⟨0, _⟩ => rfl | ⟨1, _⟩ => rfl | ⟨2, _⟩ => rfl | ⟨3, _⟩ => rfl | ⟨4, _⟩ => rfl | ⟨5, _⟩ => rfl)).trans ?_
  refine (shapeCast_apply _ _ _ (ix3 o (⟨r.val % 64, by omega⟩ : Fin 64) c) (by
    rw [Shape.rowMajor_val_six, Shape.rowMajor_val_three]
    show (o.val * 64 + r.val % 64) * 128 + c.val = ((((0 * 3 + o.val) * 1 + 0) * 64 + r.val % 64) * 1 + 0) * 128 + c.val; omega)).trans ?_
  refine (stacked (n := 64) (fun o => broadcastInDim S1x64x128 ![1, 2] bcast_S64x128_S1x64x128_1_2 (colParts o)) _ o _ c).trans ?_
  exact broadcastInDim_apply _ _ _ _ _ (fun a => match a with | ⟨0, _⟩ => rfl | ⟨1, _⟩ => rfl)

/-- A row part's and a column part's elements together. -/
theorem parts_add (a b : FVec Ideal S256x16 .f32) (a' b' : FVec Ideal S64x16 .f32) (f f' : EReal → EReal) (P : Fin 16384) (g : Fin 2) (d : Fin 64)
    (ha : ∀ i, (a i : EReal) = f (rowAng i)) (hb : ∀ i, (b i : EReal) = f' (rowAng i)) (ha' : ∀ i, (a' i : EReal) = f (colAng i)) (hb' : ∀ i, (b' i : EReal) = f' (colAng i)) :
    ((rowTable a b (ix2 (⟨P.val / 64, by omega⟩ : Fin 256) (lane g d)) : EReal) + colTable a' b' (ix2 (⟨P.val % 64, by omega⟩ : Fin 64) (lane g d)))
      = if d.val % 32 < 16 then f (angle rowAngle colAngle P d) else f' (angle rowAngle colAngle P d) := by
  rw [rowTable_at, colTable_at, ha, hb, ha', hb']
  unfold angle
  by_cases h : d.val < 32
  · rw [if_pos h, if_pos h, if_pos h, add_zero]
  · rw [if_neg h, if_neg h, if_neg h, zero_add]

theorem rowZero_at (i : S256x16.Idx) : (rowZero i : EReal) = 0 := by
  show Ideal.ofBits .f32 0x00000000#32 * _ = (0 : EReal)
  rw [Ideal.ofBits_zero_f32, zero_mul]
theorem colZero_at (i : S64x16.Idx) : (colZero i : EReal) = 0 := by
  show Ideal.ofBits .f32 0x00000000#32 * _ = (0 : EReal)
  rw [Ideal.ofBits_zero_f32, zero_mul]

section Position
variable (P : Fin 16384) (g : Fin 2) (d : Fin 64)

/-- A table's element at a position of the sequence. -/
abbrev partsAt (o : Fin 3) : EReal :=
  (rowParts o (ix2 (⟨P.val / 64, by omega⟩ : Fin 256) (lane g d)) : EReal) + colParts o (ix2 (⟨P.val % 64, by omega⟩ : Fin 64) (lane g d))

theorem parts_cos : partsAt P g d 0 = FloatOps.hostUnary (F := Ideal) (φ := .f32) .cos (angle rowAngle colAngle P d) :=
  (parts_add (Host.cos rowAng) (Host.cos rowAng) (Host.cos colAng) (Host.cos colAng) (FloatOps.hostUnary (F := Ideal) (φ := .f32) .cos)
    (FloatOps.hostUnary (F := Ideal) (φ := .f32) .cos) P g d (fun _ => rfl) (fun _ => rfl) (fun _ => rfl) (fun _ => rfl)).trans (ite_self _)
theorem parts_sa : partsAt P g d 1
    = if d.val % 32 < 16 then -(FloatOps.hostUnary (F := Ideal) (φ := .f32) .sin (angle rowAngle colAngle P d) : EReal) else 0 :=
  parts_add (Host.negf (Host.sin rowAng)) rowZero (Host.negf (Host.sin colAng)) colZero (fun x => -(FloatOps.hostUnary (F := Ideal) (φ := .f32) .sin x : EReal))
    (fun _ => 0) P g d (fun _ => rfl) rowZero_at (fun _ => rfl) colZero_at
theorem parts_sb : partsAt P g d 2
    = if d.val % 32 < 16 then 0 else (FloatOps.hostUnary (F := Ideal) (φ := .f32) .sin (angle rowAngle colAngle P d) : EReal) :=
  parts_add rowZero (Host.sin rowAng) colZero (Host.sin colAng) (fun _ => 0) (fun x => (FloatOps.hostUnary (F := Ideal) (φ := .f32) .sin x : EReal))
    P g d rowZero_at (fun _ => rfl) colZero_at (fun _ => rfl)

end Position

/-! ## The ones and the heads' weights -/

abbrev blockOf : IVec S128 32 := shapeCast S128 (broadcastInDim S2x64 ![0, 1] bcast_S2x1_S2x64_0_1 (broadcastInDim S2x1 ![0] bcast_S2_S2x1_0 (iotaInDim S2 32 0))) shapeCasts_S2x64_S128

/-- One where two lanes are of the same head, zero elsewhere. -/
def onesArray : FVec Ideal S128x128 .bf16 :=
  truncf .bf16 (uitofp (F := Ideal) .f32 (cmpi .eq (broadcastInDim S128x128 ![0, 1] bcast_S128x1_S128x128_0_1 (broadcastInDim S128x1 ![0] bcast_S128_S128x1_0 blockOf))
    (broadcastInDim S128x128 ![0, 1] bcast_S1x128_S128x128_0_1 (broadcastInDim S1x128 ![1] bcast_S128_S1x128_1 blockOf)))) bitsLt_bf16_f32

theorem blockOf_at (l : Fin 128) : blockOf (ix1 l) = BitVec.ofNat 32 (l.val / 64) := by
  have hl := l.isLt
  refine (shapeCast_apply _ _ (ix1 l) (ix2 (⟨l.val / 64, by omega⟩ : Fin 2) (⟨l.val % 64, by omega⟩ : Fin 64)) (by
    rw [Shape.rowMajor_val_two, Shape.rowMajor_val_one]
    show l.val / 64 * 64 + l.val % 64 = l.val; omega)).trans ?_
  refine (broadcastInDim_apply _ _ _ _ (ix2 (⟨l.val / 64, by omega⟩ : Fin 2) (0 : Fin 1)) (fun a => match a with | ⟨0, _⟩ => rfl | ⟨1, _⟩ => rfl)).trans ?_
  exact (broadcastInDim_apply _ _ _ _ (ix1 (⟨l.val / 64, by omega⟩ : Fin 2)) (fun a => match a with | ⟨0, _⟩ => rfl)).trans rfl

theorem onesArray_at (l c : Fin 128) : (onesArray (ix2 l c) : EReal) = if l.val / 64 = c.val / 64 then 1 else 0 := by
  have hl := l.isLt
  have hc := c.isLt
  have el : broadcastInDim S128x128 ![0, 1] bcast_S128x1_S128x128_0_1 (broadcastInDim S128x1 ![0] bcast_S128_S128x1_0 blockOf) (ix2 l c) = BitVec.ofNat 32 (l.val / 64) :=
    (broadcastInDim_apply _ _ _ _ (ix2 l (0 : Fin 1)) (fun a => match a with | ⟨0, _⟩ => rfl | ⟨1, _⟩ => rfl)).trans
      ((broadcastInDim_apply _ _ _ _ (ix1 l) (fun a => match a with | ⟨0, _⟩ => rfl)).trans (blockOf_at l))
  have ec : broadcastInDim S128x128 ![0, 1] bcast_S1x128_S128x128_0_1 (broadcastInDim S1x128 ![1] bcast_S128_S1x128_1 blockOf) (ix2 l c) = BitVec.ofNat 32 (c.val / 64) :=
    (broadcastInDim_apply _ _ _ _ (ix2 (0 : Fin 1) c) (fun a => match a with | ⟨0, _⟩ => rfl | ⟨1, _⟩ => rfl)).trans
      ((broadcastInDim_apply _ _ _ _ (ix1 c) (fun a => match a with | ⟨0, _⟩ => rfl)).trans (blockOf_at c))
  show (((IntOp.cmpi .eq (broadcastInDim S128x128 ![0, 1] bcast_S128x1_S128x128_0_1 (broadcastInDim S128x1 ![0] bcast_S128_S128x1_0 blockOf) (ix2 l c))
    (broadcastInDim S128x128 ![0, 1] bcast_S1x128_S128x128_0_1 (broadcastInDim S1x128 ![1] bcast_S128_S1x128_1 blockOf) (ix2 l c))).toNat : ℝ) : EReal) = _
  rw [el, ec]
  have hl2 : l.val / 64 = 0 ∨ l.val / 64 = 1 := by omega
  have hc2 : c.val / 64 = 0 ∨ c.val / 64 = 1 := by omega
  rcases hl2 with e | e <;> rcases hc2 with e' | e' <;> rw [e, e'] <;> simp [IntOp.cmpi]

/-- A head's weights, twice. -/
abbrev twice (w : FVec Ideal S64 .f32) : FVec Ideal S1x128 .f32 :=
  shapeCast S1x128 (shapeCast S128 (broadcastInDim S2x64 ![0, 1] bcast_S1x64_S2x64_0_1 (shapeCast S1x64 w shapeCasts_S64_S1x64)) shapeCasts_S2x64_S128) shapeCasts_S128_S1x128

theorem twice_at (w : FVec Ideal S64 .f32) (g : Fin 2) (d : Fin 64) : twice w (ix2 (0 : Fin 1) (lane g d)) = w (ix1 d) := by
  refine (shapeCast_a_1a_apply _ _ _ _).trans ?_
  refine (shapeCast_apply _ _ (ix1 (lane g d)) (ix2 g d) (by
    rw [Shape.rowMajor_val_two, Shape.rowMajor_val_one]
    show g.val * 64 + d.val = 64 * g.val + d.val; omega)).trans ?_
  refine (broadcastInDim_apply _ _ _ _ (ix2 (0 : Fin 1) d) (fun a => match a with | ⟨0, _⟩ => rfl | ⟨1, _⟩ => rfl)).trans ?_
  exact shapeCast_a_1a_apply _ _ _ _

end Cert.Kernel3Ideal.Proj

end
-- ==== Proof.ProjArrayValue.lean ====
/-
  The projection kernel's result arrays over the extended reals: what the blocks of the arguments read, and the
  reference's results at every element the launch writes.
-/
module

public import proofs.«01_k».proof.Proof.ProjTables
public import Idealize.ShloMosaic.Lib.Pipeline.ValueKit.Geometry

@[expose] public section

set_option maxRecDepth 65536

noncomputable section

namespace Cert.Kernel3Ideal.Proj

open Cert.Kernel3Ideal Cert.Kernel3Ideal.Gen Cert.Softmax Cert.Proj Cert.Reference3Ideal.Proj
open Cert.Reference2Ideal.Ffn (idx1 idx2)
open Idealize.ShloMosaic Idealize.ShloMosaic.TcCoe Idealize.ShloMosaic.ValueIdx Idealize.ShloMosaic.Tactic

variable (m : (ℓ : Loc nD τ sig) → Buf (Elt Ideal) ℓ) (c : Dev nD) (t : Fin cfg0.N)

/-! ## The arguments as launched -/

abbrev a0 : (⟨S16384x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S1024x2848, .f32⟩ : BufTy).Contents (Elt Ideal) := m ((c : Thread nD τ).loc main_arg2)
abbrev a4 : (⟨S64, .f32⟩ : BufTy).Contents (Elt Ideal) := m ((c : Thread nD τ).loc main_arg4)
abbrev a5 : (⟨S64, .f32⟩ : BufTy).Contents (Elt Ideal) := m ((c : Thread nD τ).loc main_arg5)

theorem V_wm : V m c main_v1 = truncf (F := Ideal) .bf16 (extractStridedSlice S1024x2048 ![0, 0] (a2 m c) slices_S1024x2848_S1024x2048_0_0) bitsLt_bf16_f32 := by
  after_results <;> rfl
theorem V_wa : V m c main_v6 = truncf (F := Ideal) .bf16 (extractStridedSlice S1024x768 ![0, 2080] (a2 m c) slices_S1024x2848_S1024x768_0_2080) bitsLt_bf16_f32 := by
  after_results <;> rfl
theorem V_n1 : V m c main_v96 = shapeCast S1x1024 (a1 m c) shapeCasts_S1024_S1x1024 := by after_results <;> rfl
theorem V_qw : V m c main_v100 = twice (a4 m c) := rfl
theorem V_kw : V m c main_v104 = twice (a5 m c) := rfl
set_option maxHeartbeats 8000000 in
theorem V_rows : V m c main_v41 = rowArray := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl
set_option maxHeartbeats 8000000 in
theorem V_cols : V m c main_v68 = colArray := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl
set_option maxHeartbeats 8000000 in
theorem V_ones : V m c main_v79 = onesArray := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

/-! ## The blocks -/

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)
theorem index7 : ∀ t : Fin cfg0.N, win0_7.index t (0 : Fin 2) = 0 ∧ win0_7.index t (1 : Fin 2) = 0 := (by decide +kernel : ∀ t : Fin grid0.N, _)
theorem index8 : ∀ t : Fin cfg0.N, win0_8.index t (0 : Fin 4) = t.val ∧ win0_8.index t (1 : Fin 4) = 0 ∧ win0_8.index t (2 : Fin 4) = 0 ∧ win0_8.index t (3 : Fin 4) = 0 :=
  (by decide +kernel : ∀ t : Fin grid0.N, _)
theorem index9 : ∀ t : Fin cfg0.N, win0_9.index t (0 : Fin 3) = 0 ∧ win0_9.index t (1 : Fin 3) = 0 ∧ win0_9.index t (2 : Fin 3) = 0 := (by decide +kernel : ∀ t : Fin grid0.N, _)
theorem index10 : ∀ t : Fin cfg0.N, win0_10.index t (0 : Fin 2) = 0 ∧ win0_10.index t (1 : Fin 2) = 0 := (by decide +kernel : ∀ t : Fin grid0.N, _)

/-- The grid's point as a block of the sequence. -/
abbrev blockAt : Fin 32 := ⟨t.val, t.isLt⟩

theorem x_at (a : Fin 512) (k : Fin 1024) : View.ld (iblk m c 0 t) r0_0 (ix2 a k) = a0 m c (ix2 (row (blockAt t) a) k) := by
  obtain ⟨e0, e1⟩ := index0 t
  show V m c main_arg0 (((cfg0.win 0).blk t).view.emb (r0_0.idx (ix2 a k))) = _
  rw [V_main_arg0]
  exact congrArg (a0 m c) (idx2 _ _ _ (by show win0_0.index t (0 : Fin 2) * 512 + 1 * (0 + 1 * a.val) = 512 * t.val + a.val; omega)
    (by show win0_0.index t (1 : Fin 2) * 1024 + 1 * (0 + 1 * k.val) = k.val; omega))

theorem n1_at (k : Fin 1024) : View.ld (iblk m c 1 t) r0_1 (ix2 (0 : Fin 1) k) = a1 m c (ix1 k) := by
  obtain ⟨e0, e1⟩ := index1 t
  show V m c main_v96 (((cfg0.win 1).blk t).view.emb (r0_1.idx (ix2 (0 : Fin 1) k))) = _
  rw [V_n1, idx2 (((cfg0.win 1).blk t).view.emb (r0_1.idx (ix2 (0 : Fin 1) k))) (0 : Fin 1) k
    (by show win0_1.index t (0 : Fin 2) * 1 + 1 * (0 + 1 * 0) = 0; omega) (by show win0_1.index t (1 : Fin 2) * 1024 + 1 * (0 + 1 * k.val) = k.val; omega)]
  exact shapeCast_a_1a_apply _ _ _ _

theorem wm_at (k : Fin 1024) (j : Fin 2048) : (View.ld (iblk m c 2 t) r0_25 (ix2 k j) : EReal) = a2 m c (ix2 k (⟨j.val, by omega⟩ : Fin 2848)) := by
  obtain ⟨e0, e1⟩ := index2 t
  show (V m c main_v1 (((cfg0.win 2).blk t).view.emb (r0_25.idx (ix2 k j))) : EReal) = _
  rw [V_wm, idx2 (((cfg0.win 2).blk t).view.emb (r0_25.idx (ix2 k j))) k j
    (by show win0_2.index t (0 : Fin 2) * 1024 + 1 * (0 + 1 * k.val) = k.val; omega) (by show win0_2.index t (1 : Fin 2) * 2048 + 1 * (0 + 1 * j.val) = j.val; omega)]
  exact extractStridedSlice_apply _ (a2 m c) slices_S1024x2848_S1024x2048_0_0 (ix2 k j) _ (fun b => match b with
    | ⟨0, _⟩ => by show k.val = 0 + k.val; omega
    | ⟨1, _⟩ => by show j.val = 0 + j.val; omega)

theorem wa_at (k : Fin 1024) (j : Fin 768) : (View.ld (iblk m c 4 t) r0_7 (ix2 k j) : EReal) = a2 m c (ix2 k (⟨2080 + j.val, by omega⟩ : Fin 2848)) := by
  obtain ⟨e0, e1⟩ := index4 t
  show (V m c main_v6 (((cfg0.win 4).blk t).view.emb (r0_7.idx (ix2 k j))) : EReal) = _
  rw [V_wa, idx2 (((cfg0.win 4).blk t).view.emb (r0_7.idx (ix2 k j))) k j
    (by show win0_4.index t (0 : Fin 2) * 1024 + 1 * (0 + 1 * k.val) = k.val; omega) (by show win0_4.index t (1 : Fin 2) * 768 + 1 * (0 + 1 * j.val) = j.val; omega)]
  exact extractStridedSlice_apply _ (a2 m c) slices_S1024x2848_S1024x768_0_2080 (ix2 k j) _ (fun b => match b with
    | ⟨0, _⟩ => by show k.val = 0 + k.val; omega
    | ⟨1, _⟩ => rfl)

theorem qw_at (g : Fin 2) (d : Fin 64) : View.ld (iblk m c 6 t) r0_3 (ix2 (0 : Fin 1) (lane g d)) = a4 m c (ix1 d) := by
  obtain ⟨e0, e1⟩ := index6 t
  show V m c main_v100 (((cfg0.win 6).blk t).view.emb (r0_3.idx (ix2 (0 : Fin 1) (lane g d)))) = _
  rw [V_qw, idx2 (((cfg0.win 6).blk t).view.emb (r0_3.idx (ix2 (0 : Fin 1) (lane g d)))) (0 : Fin 1) (lane g d)
    (by show win0_6.index t (0 : Fin 2) * 1 + 1 * (0 + 1 * 0) = 0; omega)
    (by show win0_6.index t (1 : Fin 2) * 128 + 1 * (0 + 1 * (64 * g.val + d.val)) = 64 * g.val + d.val; omega)]
  exact twice_at _ g d

theorem kw_at (g : Fin 2) (d : Fin 64) : View.ld (iblk m c 7 t) r0_3 (ix2 (0 : Fin 1) (lane g d)) = a5 m c (ix1 d) := by
  obtain ⟨e0, e1⟩ := index7 t
  show V m c main_v104 (((cfg0.win 7).blk t).view.emb (r0_3.idx (ix2 (0 : Fin 1) (lane g d)))) = _
  rw [V_kw, idx2 (((cfg0.win 7).blk t).view.emb (r0_3.idx (ix2 (0 : Fin 1) (lane g d)))) (0 : Fin 1) (lane g d)
    (by show win0_7.index t (0 : Fin 2) * 1 + 1 * (0 + 1 * 0) = 0; omega)
    (by show win0_7.index t (1 : Fin 2) * 128 + 1 * (0 + 1 * (64 * g.val + d.val)) = 64 * g.val + d.val; omega)]
  exact twice_at _ g d

theorem rows_read (o : Fin 3) (k : Fin 8) (l : Fin 128) :
    View.ld (iblk m c 8 t) r0_8 (ix4 (0 : Fin 1) o k l) = rowParts o (ix2 (⟨8 * t.val + k.val, by have := (blockAt t).isLt; show 8 * (blockAt t).val + k.val < 256; omega⟩ : Fin 256) l) := by
  obtain ⟨e0, e1, e2, e3⟩ := index8 t
  show V m c main_v41 (((cfg0.win 8).blk t).view.emb (r0_8.idx (ix4 (0 : Fin 1) o k l))) = _
  rw [V_rows, idx4 (((cfg0.win 8).blk t).view.emb (r0_8.idx (ix4 (0 : Fin 1) o k l))) (blockAt t) o k l
    (by show win0_8.index t (0 : Fin 4) * 1 + 1 * (0 + 1 * 0) = t.val; omega) (by show win0_8.index t (1 : Fin 4) * 3 + 1 * (0 + 1 * o.val) = o.val; omega)
    (by show win0_8.index t (2 : Fin 4) * 8 + 1 * (0 + 1 * k.val) = k.val; omega) (by show win0_8.index t (3 : Fin 4) * 128 + 1 * (0 + 1 * l.val) = l.val; omega)]
  exact rowArray_at (blockAt t) o k l

theorem cols_emb (o : Fin 3) (r : Fin 512) (l : Fin 128) : ((cfg0.win 9).blk t).view.emb (ix3 o r l) = ix3 o r l := by
  obtain ⟨e0, e1, e2⟩ := index9 t
  exact idx3 _ _ _ _ (by show win0_9.index t (0 : Fin 3) * 3 + 1 * o.val = o.val; omega) (by show win0_9.index t (1 : Fin 3) * 512 + 1 * r.val = r.val; omega)
    (by show win0_9.index t (2 : Fin 3) * 128 + 1 * l.val = l.val; omega)

/-- A plane of the columns' tables. -/
theorem cols_read (o : Fin 3) (q : FVec Ideal S1x512x128 .f32) (r : Fin 512) (l : Fin 128)
    (hq : q (ix3 (0 : Fin 1) r l) = iblk m c 9 t (ix3 o r l)) : q (ix3 (0 : Fin 1) r l) = colParts o (ix2 (⟨r.val % 64, by omega⟩ : Fin 64) l) := by
  rw [hq]
  show V m c main_v68 (((cfg0.win 9).blk t).view.emb (ix3 o r l)) = _
  rw [V_cols, cols_emb]
  exact colArray_at o r l

theorem ones_read (l l' : Fin 128) : (onesOf (iblk m c 10 t) (ix2 l l') : EReal) = if l.val / 64 = l'.val / 64 then 1 else 0 := by
  obtain ⟨e0, e1⟩ := index10 t
  refine Eq.trans (show _ = (shapeCast S128x128 (View.ld (iblk m c 10 t) r0_12) shapeCasts_S128x128_S128x128 (ix2 l l') : EReal) from rfl) ?_
  refine (congrFun (shapeCast_self _ _) _).trans ?_
  show (V m c main_v79 (((cfg0.win 10).blk t).view.emb (r0_12.idx (ix2 l l'))) : EReal) = _
  rw [V_ones, idx2 (((cfg0.win 10).blk t).view.emb (r0_12.idx (ix2 l l'))) l l'
    (by show win0_10.index t (0 : Fin 2) * 128 + 1 * (0 + 1 * l.val) = l.val; omega) (by show win0_10.index t (1 : Fin 2) * 128 + 1 * (0 + 1 * l'.val) = l'.val; omega)]
  exact onesArray_at l l'

/-! ## The products -/

abbrev pr (r : Fin 16384) (j : Fin 2848) : EReal := prod (a0 m c) (a1 m c) (a2 m c) r j

theorem rows_value (a : Fin 512) (k : Fin 1024) :
    (k0_pay2 (View.ld (iblk m c 0 t) r0_0) (View.ld (iblk m c 1 t) r0_1) (ix2 a k) : EReal)
      = rms (fun l => a0 m c (ix2 (row (blockAt t) a) l)) (a1 m c (ix1 k)) k := by
  refine (normed_at _ _ a k).trans ?_
  rw [n1_at]
  exact congrArg (fun f => rms f _ k) (funext fun l => x_at m c t a l)

theorem wide_value (a : Fin 512) (j : Fin 2048) :
    (wideOf (iblk m c 0 t) (iblk m c 1 t) (iblk m c 2 t) (ix2 a j) : EReal) = pr m c (row (blockAt t) a) ⟨j.val, by omega⟩ := by
  refine (wide_at _ _ a j).trans (Finset.sum_congr rfl fun k _ => congrArg₂ (fun x y : EReal => x * y) (rows_value m c t a k) (wm_at m c t k j))

theorem att_value (a : Fin 512) (j : Fin 768) :
    (attOf (iblk m c 0 t) (iblk m c 1 t) (iblk m c 4 t) (ix2 a j) : EReal) = pr m c (row (blockAt t) a) ⟨2080 + j.val, by omega⟩ := by
  refine (narrow_at _ _ a j).trans (Finset.sum_congr rfl fun k _ => congrArg₂ (fun x y : EReal => x * y) (rows_value m c t a k) (wa_at m c t k j))

/-! ## The rotated heads -/

section Heads
variable (a : Fin 512) (g : Fin 2) (d : Fin 64)

theorem table_value (o : Fin 3) (q : FVec Ideal S1x512x128 .f32) (hq : q (ix3 (0 : Fin 1) a (lane g d)) = iblk m c 9 t (ix3 o a (lane g d))) :
    tableAt (View.ld (iblk m c 8 t) r0_8) o q a (lane g d) = partsAt (row (blockAt t) a) g d o := by
  have ha := a.isLt
  refine congrArg₂ (fun x y : EReal => x + y) ((rows_read m c t o _ _).trans (congrArg (rowParts o) (idx2 _ _ _ ?_ rfl)))
    ((cols_read m c t o q a _ hq).trans (congrArg (colParts o) (idx2 _ _ _ ?_ rfl)))
  · show 8 * t.val + a.val / 64 = (512 * t.val + a.val) / 64; omega
  · show a.val % 64 = (512 * t.val + a.val) % 64; omega

theorem cos_value : (cosOf (iblk m c 8 t) (iblk m c 9 t) (ix2 a (lane g d)) : EReal) = partsAt (row (blockAt t) a) g d 0 :=
  (cos_at _ _ a _).trans (table_value m c t a g d 0 _ (congrArg (iblk m c 9 t) (idx3 _ _ _ _ rfl
    (by show 0 + 1 * a.val = a.val; omega) (by show 0 + 1 * (64 * g.val + d.val) = 64 * g.val + d.val; omega))))
theorem sa_value : (saOf (iblk m c 8 t) (iblk m c 9 t) (ix2 a (lane g d)) : EReal) = partsAt (row (blockAt t) a) g d 1 :=
  (sa_at _ _ a _).trans (table_value m c t a g d 1 _ (congrArg (iblk m c 9 t) (idx3 _ _ _ _ rfl
    (by show 0 + 1 * a.val = a.val; omega) (by show 0 + 1 * (64 * g.val + d.val) = 64 * g.val + d.val; omega))))
theorem sb_value : (sbOf (iblk m c 8 t) (iblk m c 9 t) (ix2 a (lane g d)) : EReal) = partsAt (row (blockAt t) a) g d 2 :=
  (sb_at _ _ a _).trans (table_value m c t a g d 2 _ (congrArg (iblk m c 9 t) (idx3 _ _ _ _ rfl
    (by show 0 + 1 * a.val = a.val; omega) (by show 0 + 1 * (64 * g.val + d.val) = 64 * g.val + d.val; omega))))

/-- A pair of heads, normalised and rotated, of what its rows, its tables and its weights hold. -/
theorem outPair_at (cos sa sb x : FVec Ideal S512x128 .f32) (o : FVec Ideal S128x128 .bf16) (w : FVec Ideal S1x128 .f32)
    (y u : Fin 64 → EReal) (P : Fin 16384)
    (ho : ∀ l l' : Fin 128, (o (ix2 l l') : EReal) = if l.val / 64 = l'.val / 64 then 1 else 0)
    (hx : ∀ l : Fin 128, ∃ v : ℝ, (x (ix2 a l) : EReal) = v) (hy : ∀ e, (x (ix2 a (lane g e)) : EReal) = y e)
    (hw : ∀ e, (w (ix2 (0 : Fin 1) (lane g e)) : EReal) = u e)
    (hc : (cos (ix2 a (lane g d)) : EReal) = partsAt P g d 0) (ha : (sa (ix2 a (lane g d)) : EReal) = partsAt P g d 1)
    (hb : (sb (ix2 a (lane g d)) : EReal) = partsAt P g d 2) :
    (outPair cos sa sb o w x (ix2 a (lane g d)) : EReal) = rotated (fun e => headNorm y (u e) e) (angle rowAngle colAngle P d) d :=
  (turnedPair_at (normedPair x o w) cos sa sb a (lane g d)).trans
    (turned_eq (fun l => normedPair x o w (ix2 a l)) (fun e => headNorm y (u e) e) g d
      (fun e => (normedPair_at x o w a (lane g e)).trans
        ((pairAt_eq (fun l => x (ix2 a l)) (fun l c => o (ix2 l c)) ho hx _ g e).trans
          (congrArg₂ (fun f v => headNorm f v e) (funext hy) (hw e))))
      _ _ _ _ (hc.trans (parts_cos P g d)) (ha.trans (parts_sa P g d)) (hb.trans (parts_sb P g d)))

/-- A pair of heads of a block, normalised and rotated, is the reference's. -/
theorem pair_value (hp : ∀ r j, ∃ v : ℝ, pr m c r j = v) (p : Fin 6) (w : FVec Ideal S1x128 .f32) (h : Fin 10) (hh : h.val = 2 * p.val + g.val)
    (hw : ∀ e, (w (ix2 (0 : Fin 1) (lane g e)) : EReal) = wgt (a4 m c) (a5 m c) h e) :
    (outPair (cosOf (iblk m c 8 t) (iblk m c 9 t)) (saOf (iblk m c 8 t) (iblk m c 9 t)) (sbOf (iblk m c 8 t) (iblk m c 9 t)) (onesOf (iblk m c 10 t)) w
        (heads (attOf (iblk m c 0 t) (iblk m c 1 t) (iblk m c 4 t)) p) (ix2 a (lane g d)) : EReal)
      = turnedHead (a0 m c) (a1 m c) (a2 m c) (a4 m c) (a5 m c) (row (blockAt t) a) h d := by
  have hh10 := h.isLt
  have hread : ∀ l : Fin 128, (heads (attOf (iblk m c 0 t) (iblk m c 1 t) (iblk m c 4 t)) p (ix2 a l) : EReal)
      = pr m c (row (blockAt t) a) ⟨2080 + (128 * p.val + l.val), by omega⟩ := fun l => att_value m c t a _
  exact outPair_at a g d _ _ _ _ _ w (head (a0 m c) (a1 m c) (a2 m c) (row (blockAt t) a) h) (wgt (a4 m c) (a5 m c) h) (row (blockAt t) a)
    (ones_read m c t) (fun l => by rw [hread]; exact hp _ _)
    (fun e => (hread _).trans (congrArg (pr m c _) (Fin.ext (by
      show 2080 + (128 * p.val + (64 * g.val + e.val)) = 2080 + (64 * h.val + e.val); omega))))
    hw (cos_value m c t a g d) (sa_value m c t a g d) (sb_value m c t a g d)

end Heads

/-! ## The products of finite arguments are finite -/

theorem inv1024 : Ideal.ofBits .f32 0x44800000#32 = ((1024 : ℝ) : EReal) := by
  simp [Ideal.ofBits, Ideal.ieee]
  rw [← EReal.coe_mul]; norm_num

theorem eps_pos : ∃ e : ℝ, 0 < e ∧ Ideal.ofBits .f32 0x358637BD#32 = (e : EReal) := by
  refine ⟨8796093 * 2 ^ (-43 : ℤ), by positivity, ?_⟩
  simp [Ideal.ofBits, Ideal.ieee]

theorem real_mul {x y : EReal} (hx : ∃ v : ℝ, x = v) (hy : ∃ v : ℝ, y = v) : ∃ v : ℝ, x * y = v := by
  obtain ⟨v, rfl⟩ := hx
  obtain ⟨u, rfl⟩ := hy
  exact ⟨v * u, (EReal.coe_mul v u).symm⟩

theorem real_sum {n : ℕ} (f : Fin n → EReal) (hf : ∀ i, ∃ v : ℝ, f i = v) : ∃ v : ℝ, ∑ i, f i = v := by
  choose g hg using hf
  exact ⟨∑ i, g i, by rw [coe_sum]; exact Finset.sum_congr rfl fun i _ => hg i⟩

theorem square_nonneg (x : EReal) : 0 ≤ x * x := by
  induction x using EReal.rec with
  | bot => simp
  | top => simp
  | coe y => rw [← EReal.coe_mul]; exact EReal.coe_nonneg.mpr (mul_self_nonneg y)

theorem square_top (x : EReal) (h : ¬ ∃ v : ℝ, x = v) : x * x = ⊤ := by
  induction x using EReal.rec with
  | bot => simp
  | top => simp
  | coe y => exact absurd ⟨y, rfl⟩ h

/-- A normalised row's elements are real, whatever the row: with an infinity in it, the mean square's inverse root is 0. -/
theorem real_rms (x : Fin 1024 → EReal) (w : EReal) (hw : ∃ v : ℝ, w = v) (k : Fin 1024) : ∃ v : ℝ, rms x w k = v := by
  obtain ⟨e, he, hE⟩ := eps_pos
  unfold rms
  by_cases hx : ∀ l, ∃ v : ℝ, x l = v
  · choose f hf using hx
    have hs : ∑ l, x l * x l = ((∑ l, f l * f l : ℝ) : EReal) := by
      rw [coe_sum]
      exact Finset.sum_congr rfl fun l _ => by rw [hf l, EReal.coe_mul]
    have hn : 0 ≤ ∑ l, f l * f l := Finset.sum_nonneg fun l _ => mul_self_nonneg _
    have hpos : 0 < (∑ l, f l * f l) * (1024 : ℝ)⁻¹ + e := by positivity
    refine real_mul (real_mul ⟨_, hf k⟩ ?_) hw
    rw [hs, inv1024, hE]
    unfold Ideal.div
    rw [if_neg (by simp), ← EReal.coe_inv, ← EReal.coe_mul, ← EReal.coe_add, Ideal.rsqrt_coe, if_neg (not_lt.mpr hpos.le), if_neg hpos.ne']
    exact ⟨_, rfl⟩
  · obtain ⟨l, hl⟩ := not_forall.mp hx
    have hs : ∑ l, x l * x l = ⊤ := top_le_iff.mp ((square_top _ hl).symm.le.trans
      (Finset.single_le_sum (f := fun l => x l * x l) (fun l _ => square_nonneg _) (Finset.mem_univ l)))
    rw [hs, inv1024, hE]
    unfold Ideal.div
    rw [if_neg (by simp), ← EReal.coe_inv, EReal.top_mul_coe_of_pos (by norm_num), EReal.top_add_coe]
    exact ⟨0, by show x k * 0 * w = _; rw [mul_zero, zero_mul, EReal.coe_zero]⟩

theorem real_prod (h1 : ∀ i, ∃ v : ℝ, (a1 m c i : EReal) = v) (h2 : ∀ i, ∃ v : ℝ, (a2 m c i : EReal) = v)
    (r : Fin 16384) (j : Fin 2848) : ∃ v : ℝ, pr m c r j = v :=
  real_sum _ fun k => real_mul (real_rms _ _ (h1 _) k) (h2 _)

/-! ## The result arrays -/

theorem index12 : ∀ t : Fin cfg0.N, win0_12.index t (0 : Fin 4) = 0 ∧ win0_12.index t (1 : Fin 4) = t.val ∧ win0_12.index t (2 : Fin 4) = 0 ∧ win0_12.index t (3 : Fin 4) = 0 :=
  (by decide +kernel : ∀ t : Fin grid0.N, _)
theorem index13 : ∀ t : Fin cfg0.N, win0_13.index t (0 : Fin 3) = t.val ∧ win0_13.index t (1 : Fin 3) = 0 ∧ win0_13.index t (2 : Fin 3) = 0 :=
  (by decide +kernel : ∀ t : Fin grid0.N, _)
theorem index14 : ∀ t : Fin cfg0.N, win0_14.index t (0 : Fin 4) = 0 ∧ win0_14.index t (1 : Fin 4) = t.val ∧ win0_14.index t (2 : Fin 4) = 0 ∧ win0_14.index t (3 : Fin 4) = 0 :=
  (by decide +kernel : ∀ t : Fin grid0.N, _)
theorem index15 : ∀ t : Fin cfg0.N, win0_15.index t (0 : Fin 4) = 0 ∧ win0_15.index t (1 : Fin 4) = t.val ∧ win0_15.index t (2 : Fin 4) = 0 ∧ win0_15.index t (3 : Fin 4) = 0 :=
  (by decide +kernel : ∀ t : Fin grid0.N, _)
theorem index20 : ∀ t : Fin cfg0.N, win0_20.index t (0 : Fin 4) = 0 ∧ win0_20.index t (1 : Fin 4) = t.val ∧ win0_20.index t (2 : Fin 4) = 0 ∧ win0_20.index t (3 : Fin 4) = 0 :=
  (by decide +kernel : ∀ t : Fin grid0.N, _)
theorem index21 : ∀ t : Fin cfg0.N, win0_21.index t (0 : Fin 4) = 0 ∧ win0_21.index t (1 : Fin 4) = t.val ∧ win0_21.index t (2 : Fin 4) = 0 ∧ win0_21.index t (3 : Fin 4) = 0 :=
  (by decide +kernel : ∀ t : Fin grid0.N, _)
theorem index22 : ∀ t : Fin cfg0.N, win0_22.index t (0 : Fin 4) = 0 ∧ win0_22.index t (1 : Fin 4) = t.val ∧ win0_22.index t (2 : Fin 4) = 0 ∧ win0_22.index t (3 : Fin 4) = 0 :=
  (by decide +kernel : ∀ t : Fin grid0.N, _)

theorem mq_array : (dats m 0 c).arrAt 12 cfg0.N = Cert.Reference3Ideal.Read.val_main_v83 (F := Ideal) (a0 m c) (a1 m c) (a2 m c) := by
  refine (dats m 0 c).arrAt_eq_of_covers 12 _ (by decide +kernel) fun t _ y => ?_
  obtain ⟨e0, e1, e2, e3⟩ := index12 t
  have h0 : (y 0).val < 8 := (y 0).isLt
  have h1 : (y 1).val < 1 := (y 1).isLt
  have h2 : (y 2).val < 64 := (y 2).isLt
  have h3 : (y 3).val < 512 := (y 3).isLt
  have he : ((cfg0.win 12).blk t).view.emb y = ix4 (y 0) (blockAt t) (y 2) (y 3) :=
    idx4 _ _ _ _ _ (by show win0_12.index t (0 : Fin 4) * 8 + 1 * (y 0).val = (y 0).val; omega) (by show win0_12.index t (1 : Fin 4) * 1 + 1 * (y 1).val = t.val; omega)
      (by show win0_12.index t (2 : Fin 4) * 64 + 1 * (y 2).val = (y 2).val; omega) (by show win0_12.index t (3 : Fin 4) * 512 + 1 * (y 3).val = (y 3).val; omega)
  refine Eq.trans (show (dats m 0 c).after 12 t y = _ from congrFun (after0_12 m c t) y) ?_
  rw [he]
  refine (block12 _ _ _ _ _ _ _ _ _ _ _ _ y).trans (Eq.trans ?_ (mq_apply (a0 m c) (a1 m c) (a2 m c) (y 0) (blockAt t) (y 2) (y 3)).symm)
  refine Eq.trans (congrArg _ (idx2 _ (y 3) ⟨(64 * (y 0).val + (y 2).val), by omega⟩ rfl ?_)) ((wide_value m c t (y 3) _).trans (congrArg (pr m c _) (Fin.ext ?_)))
  · show (y 0).val * 64 + (y 2).val = (64 * (y 0).val + (y 2).val); omega
  · first | rfl | (show 2080 + (640 + (64 * (y 0).val + (y 2).val)) = 2720 + (64 * (y 0).val + (y 2).val); omega)

theorem mk_array : (dats m 0 c).arrAt 13 cfg0.N = Cert.Reference3Ideal.Read.val_main_v87 (F := Ideal) (a0 m c) (a1 m c) (a2 m c) := by
  refine (dats m 0 c).arrAt_eq_of_covers 13 _ (by decide +kernel) fun t _ y => ?_
  obtain ⟨e0, e1, e2⟩ := index13 t
  have h0 : (y 0).val < 1 := (y 0).isLt
  have h1 : (y 1).val < 512 := (y 1).isLt
  have h2 : (y 2).val < 512 := (y 2).isLt
  have he : ((cfg0.win 13).blk t).view.emb y = ix3 (blockAt t) (y 1) (y 2) :=
    idx3 _ _ _ _ (by show win0_13.index t (0 : Fin 3) * 1 + 1 * (y 0).val = t.val; omega) (by show win0_13.index t (1 : Fin 3) * 512 + 1 * (y 1).val = (y 1).val; omega)
      (by show win0_13.index t (2 : Fin 3) * 512 + 1 * (y 2).val = (y 2).val; omega)
  refine Eq.trans (show (dats m 0 c).after 13 t y = _ from congrFun (after0_13 m c t) y) ?_
  rw [he]
  refine (block13 _ _ _ _ _ _ _ _ _ _ _ _ y).trans (Eq.trans ?_ (mk_apply (a0 m c) (a1 m c) (a2 m c) (blockAt t) (y 1) (y 2)).symm)
  refine congrArg (fun x : EReal => x * _) ((congrArg _ (idx2 _ (y 1) ⟨512 + (y 2).val, by omega⟩ rfl ?_)).trans (wide_value m c t (y 1) _))
  show (y 2).val + 512 = 512 + (y 2).val; omega

theorem mv_array : (dats m 0 c).arrAt 14 cfg0.N = Cert.Reference3Ideal.Read.val_main_v90 (F := Ideal) (a0 m c) (a1 m c) (a2 m c) := by
  refine (dats m 0 c).arrAt_eq_of_covers 14 _ (by decide +kernel) fun t _ y => ?_
  obtain ⟨e0, e1, e2, e3⟩ := index14 t
  have h0 : (y 0).val < 8 := (y 0).isLt
  have h1 : (y 1).val < 1 := (y 1).isLt
  have h2 : (y 2).val < 64 := (y 2).isLt
  have h3 : (y 3).val < 512 := (y 3).isLt
  have he : ((cfg0.win 14).blk t).view.emb y = ix4 (y 0) (blockAt t) (y 2) (y 3) :=
    idx4 _ _ _ _ _ (by show win0_14.index t (0 : Fin 4) * 8 + 1 * (y 0).val = (y 0).val; omega) (by show win0_14.index t (1 : Fin 4) * 1 + 1 * (y 1).val = t.val; omega)
      (by show win0_14.index t (2 : Fin 4) * 64 + 1 * (y 2).val = (y 2).val; omega) (by show win0_14.index t (3 : Fin 4) * 512 + 1 * (y 3).val = (y 3).val; omega)
  refine Eq.trans (show (dats m 0 c).after 14 t y = _ from congrFun (after0_14 m c t) y) ?_
  rw [he]
  refine (block14 _ _ _ _ _ _ _ _ _ _ _ _ y).trans (Eq.trans ?_ (mv_apply (a0 m c) (a1 m c) (a2 m c) (y 0) (blockAt t) (y 2) (y 3)).symm)
  refine Eq.trans (congrArg _ (idx2 _ (y 3) ⟨1024 + (64 * (y 0).val + (y 2).val), by omega⟩ rfl ?_)) ((wide_value m c t (y 3) _).trans (congrArg (pr m c _) (Fin.ext ?_)))
  · show (y 0).val * 64 + (y 2).val + 1024 = 1024 + (64 * (y 0).val + (y 2).val); omega
  · first | rfl | (show 2080 + (640 + (64 * (y 0).val + (y 2).val)) = 2720 + (64 * (y 0).val + (y 2).val); omega)

theorem mo_array : (dats m 0 c).arrAt 15 cfg0.N = Cert.Reference3Ideal.Read.val_main_v93 (F := Ideal) (a0 m c) (a1 m c) (a2 m c) := by
  refine (dats m 0 c).arrAt_eq_of_covers 15 _ (by decide +kernel) fun t _ y => ?_
  obtain ⟨e0, e1, e2, e3⟩ := index15 t
  have h0 : (y 0).val < 8 := (y 0).isLt
  have h1 : (y 1).val < 1 := (y 1).isLt
  have h2 : (y 2).val < 64 := (y 2).isLt
  have h3 : (y 3).val < 512 := (y 3).isLt
  have he : ((cfg0.win 15).blk t).view.emb y = ix4 (y 0) (blockAt t) (y 2) (y 3) :=
    idx4 _ _ _ _ _ (by show win0_15.index t (0 : Fin 4) * 8 + 1 * (y 0).val = (y 0).val; omega) (by show win0_15.index t (1 : Fin 4) * 1 + 1 * (y 1).val = t.val; omega)
      (by show win0_15.index t (2 : Fin 4) * 64 + 1 * (y 2).val = (y 2).val; omega) (by show win0_15.index t (3 : Fin 4) * 512 + 1 * (y 3).val = (y 3).val; omega)
  refine Eq.trans (show (dats m 0 c).after 15 t y = _ from congrFun (after0_15 m c t) y) ?_
  rw [he]
  refine (block15 _ _ _ _ _ _ _ _ _ _ _ _ y).trans (Eq.trans ?_ (mo_apply (a0 m c) (a1 m c) (a2 m c) (y 0) (blockAt t) (y 2) (y 3)).symm)
  refine Eq.trans (congrArg _ (idx2 _ (y 3) ⟨1536 + (64 * (y 0).val + (y 2).val), by omega⟩ rfl ?_)) ((wide_value m c t (y 3) _).trans (congrArg (pr m c _) (Fin.ext ?_)))
  · show (y 0).val * 64 + (y 2).val + 1536 = 1536 + (64 * (y 0).val + (y 2).val); omega
  · first | rfl | (show 2080 + (640 + (64 * (y 0).val + (y 2).val)) = 2720 + (64 * (y 0).val + (y 2).val); omega)

theorem vt_array : (dats m 0 c).arrAt 22 cfg0.N = Cert.Reference3Ideal.Read.val_main_v103 (F := Ideal) (a0 m c) (a1 m c) (a2 m c) := by
  refine (dats m 0 c).arrAt_eq_of_covers 22 _ (by decide +kernel) fun t _ y => ?_
  obtain ⟨e0, e1, e2, e3⟩ := index22 t
  have h0 : (y 0).val < 2 := (y 0).isLt
  have h1 : (y 1).val < 1 := (y 1).isLt
  have h2 : (y 2).val < 64 := (y 2).isLt
  have h3 : (y 3).val < 512 := (y 3).isLt
  have he : ((cfg0.win 22).blk t).view.emb y = ix4 (y 0) (blockAt t) (y 2) (y 3) :=
    idx4 _ _ _ _ _ (by show win0_22.index t (0 : Fin 4) * 2 + 1 * (y 0).val = (y 0).val; omega) (by show win0_22.index t (1 : Fin 4) * 1 + 1 * (y 1).val = t.val; omega)
      (by show win0_22.index t (2 : Fin 4) * 64 + 1 * (y 2).val = (y 2).val; omega) (by show win0_22.index t (3 : Fin 4) * 512 + 1 * (y 3).val = (y 3).val; omega)
  refine Eq.trans (show (dats m 0 c).after 22 t y = _ from congrFun (after0_22 m c t) y) ?_
  rw [he]
  refine (block22 _ _ _ _ _ _ _ _ _ _ _ _ y).trans (Eq.trans ?_ (vt_apply (a0 m c) (a1 m c) (a2 m c) (y 0) (blockAt t) (y 2) (y 3)).symm)
  refine Eq.trans (congrArg _ (idx2 _ (y 3) ⟨640 + (64 * (y 0).val + (y 2).val), by omega⟩ rfl ?_)) ((att_value m c t (y 3) _).trans (congrArg (pr m c _) (Fin.ext ?_)))
  · show (y 0).val * 64 + (y 2).val + 640 = 640 + (64 * (y 0).val + (y 2).val); omega
  · first | rfl | (show 2080 + (640 + (64 * (y 0).val + (y 2).val)) = 2720 + (64 * (y 0).val + (y 2).val); omega)

theorem q_array (hp : ∀ r j, ∃ v : ℝ, pr m c r j = v) : (dats m 0 c).arrAt 20 cfg0.N = Cert.Reference3Ideal.Read.val_main_v96 (F := Ideal) (a0 m c) (a1 m c) (a2 m c) (a4 m c) (a5 m c) := by
  refine (dats m 0 c).arrAt_eq_of_covers 20 _ (by decide +kernel) fun t _ y => ?_
  obtain ⟨e0, e1, e2, e3⟩ := index20 t
  have h0 : (y 0).val < 8 := (y 0).isLt
  have h1 : (y 1).val < 1 := (y 1).isLt
  have h2 : (y 2).val < 64 := (y 2).isLt
  have h3 : (y 3).val < 512 := (y 3).isLt
  have he : ((cfg0.win 20).blk t).view.emb y = ix4 (y 0) (blockAt t) (y 2) (y 3) :=
    idx4 _ _ _ _ _ (by show win0_20.index t (0 : Fin 4) * 8 + 1 * (y 0).val = (y 0).val; omega) (by show win0_20.index t (1 : Fin 4) * 1 + 1 * (y 1).val = t.val; omega)
      (by show win0_20.index t (2 : Fin 4) * 64 + 1 * (y 2).val = (y 2).val; omega) (by show win0_20.index t (3 : Fin 4) * 512 + 1 * (y 3).val = (y 3).val; omega)
  refine Eq.trans (show (dats m 0 c).after 20 t y = _ from congrFun (after0_20 m c t) y) ?_
  rw [he]
  refine (congrFun (funext (block20 _ _ _ _ _ _ _ _ _ _ _ _)) y).trans (Eq.trans ?_ (q_apply (a0 m c) (a1 m c) (a2 m c) (a4 m c) (a5 m c) (y 0) (blockAt t) (y 2) (y 3)).symm)
  refine congrArg (fun x : EReal => x * Ideal.ofBits .f32 0x3E38AA3B#32) (pair_value m c t (y 3) ⟨(y 0).val % 2, by omega⟩ (y 2) hp ⟨(y 0).val / 2, by omega⟩ _
    ⟨(y 0).val, by omega⟩ (by show (y 0).val = 2 * ((y 0).val / 2) + (y 0).val % 2; omega) fun e => ?_)
  unfold wgt
  rw [if_pos h0]
  exact qw_at m c t _ e

theorem k_array (hp : ∀ r j, ∃ v : ℝ, pr m c r j = v) : (dats m 0 c).arrAt 21 cfg0.N = Cert.Reference3Ideal.Read.val_main_v99 (F := Ideal) (a0 m c) (a1 m c) (a2 m c) (a4 m c) (a5 m c) := by
  refine (dats m 0 c).arrAt_eq_of_covers 21 _ (by decide +kernel) fun t _ y => ?_
  obtain ⟨e0, e1, e2, e3⟩ := index21 t
  have h0 : (y 0).val < 2 := (y 0).isLt
  have h1 : (y 1).val < 1 := (y 1).isLt
  have h2 : (y 2).val < 512 := (y 2).isLt
  have h3 : (y 3).val < 64 := (y 3).isLt
  have he : ((cfg0.win 21).blk t).view.emb y = ix4 (y 0) (blockAt t) (y 2) (y 3) :=
    idx4 _ _ _ _ _ (by show win0_21.index t (0 : Fin 4) * 2 + 1 * (y 0).val = (y 0).val; omega) (by show win0_21.index t (1 : Fin 4) * 1 + 1 * (y 1).val = t.val; omega)
      (by show win0_21.index t (2 : Fin 4) * 512 + 1 * (y 2).val = (y 2).val; omega) (by show win0_21.index t (3 : Fin 4) * 64 + 1 * (y 3).val = (y 3).val; omega)
  refine Eq.trans (show (dats m 0 c).after 21 t y = _ from congrFun (after0_21 m c t) y) ?_
  rw [he]
  refine (block21 _ _ _ _ _ _ _ _ _ _ _ _ y).trans (Eq.trans ?_ (k_apply (a0 m c) (a1 m c) (a2 m c) (a4 m c) (a5 m c) (y 0) (blockAt t) (y 2) (y 3)).symm)
  refine pair_value m c t (y 2) (y 0) (y 3) hp 4 _ ⟨8 + (y 0).val, by omega⟩ (by show 8 + (y 0).val = 2 * 4 + (y 0).val; omega) fun e => ?_
  unfold wgt
  rw [if_neg (by show ¬ 8 + (y 0).val < 8; omega)]
  exact kw_at m c t _ e

end Cert.Kernel3Ideal.Proj

end
-- ==== Proof.ProjTransfer.lean ====
module

public import proofs.«01_k».proof.Defs
public import proofs.«01_k».proof.Proof.Gen.Kernel3
public import proofs.«01_k».proof.Proof.Gen.Kernel3Ideal.Launch
public import Idealize.ShloMosaic.Lib.Pipeline.Regions

@[expose] public section

set_option maxRecDepth 65536

noncomputable section

/-! # The two prints of the projection kernel

`Kernel3Ideal` is `Kernel3` printed again with nothing rewritten, so the two programs are the same: what is shown of
`Kernel3Ideal` over any floats holds of `Kernel3`. -/

namespace Cert.Proof.Proj

open Idealize.ShloMosaic

variable [h : Cert.Kernel3.Facts] [h' : Cert.Kernel3Ideal.Facts]

/-- The host programs are the same. -/
theorem main_same : @Cert.Kernel3.main Bits _ h = @Cert.Kernel3Ideal.main Bits _ h' := by chain_rfl

/-- The tables of kernels are the same. -/
theorem bodies_same : @Cert.Kernel3.defs₀ Bits _ h = @Cert.Kernel3Ideal.defs₀ Bits _ h' := by chain_rfl

/-- The tables of everything the host programs call are the same. -/
theorem defs_same : @Cert.Kernel3.defs Bits _ h = @Cert.Kernel3Ideal.defs Bits _ h' :=
  congrArg (Pipeline.defs Cert.Kernel3Ideal.pcfgs) bodies_same

end Cert.Proof.Proj

end
-- ==== Proof.lean ====
module

public import proofs.«01_k».proof.Defs
public import proofs.«01_k».proof.Proof.ArrayValue
public import proofs.«01_k».proof.Proof.Transfer
public import proofs.«01_k».proof.Proof.Gen.Kernel
public import proofs.«01_k».proof.Proof.Gen.ReferenceIdeal.Run
public import proofs.«01_k».proof.Proof.Gen.ReferenceIdeal.Read
public import proofs.«01_k».proof.Proof.FfnArrayValue
public import proofs.«01_k».proof.Proof.FfnTransfer
public import proofs.«01_k».proof.Proof.SampleArrayValue
public import proofs.«01_k».proof.Proof.SampleTransfer
public import proofs.«01_k».proof.Proof.Gen.Kernel4
public import proofs.«01_k».proof.Proof.Gen.Reference4Ideal.Run
public import proofs.«01_k».proof.Proof.Gen.Reference4Ideal.Read
public import proofs.«01_k».proof.Proof.ProjArrayValue
public import proofs.«01_k».proof.Proof.ProjTransfer
public import proofs.«01_k».proof.Proof.Gen.Kernel2
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read

@[expose] public section

noncomputable section

namespace Cert.Proof

open Idealize.ShloMosaic Idealize.SL.Sem

/-- The kernel on bit patterns: its idealization's frame, with the named constant read as its pattern. -/
theorem frame_Kernel : Cert.quiescent_Kernel := fun m g _ => by
  rw [defs_same, main_same]
  exact @Cert.KernelIdeal.Attn.frame_main Bits _ namedBits m g

theorem frame_KernelIdeal : Cert.quiescent_KernelIdeal := fun m g _ => Cert.KernelIdeal.Attn.frame_main m g

theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The one constant that has a name: the queries' scale. -/
theorem preserves : Cert.preserves_Kernel_KernelIdeal :=
  IdealRules.named_const.statement Cert.KernelIdeal.κ "qscale" .f32 0x3E38AA3B#32 (((8 * (Real.log 2))⁻¹ : ℝ) : EReal) rfl

/-- The precondition's broadcasts of a scalar. -/
theorem preFacts : Cert.Pre_finite.Facts := ⟨by decide, by decide⟩

attribute [local instance] preFacts

/-- An element whose absolute value is below infinity is a real number. -/
theorem real_of_lt {x : EReal} (h : Ideal.cmp .olt (max x (-x)) ⊤ = 1#1) : ∃ y : ℝ, x = y := by
  have h' : max x (-x) < ⊤ := by
    by_contra hc
    simp [Ideal.cmp, hc] at h
  induction x using EReal.rec with
  | bot => simp at h'
  | top => simp at h'
  | coe y => exact ⟨y, rfl⟩

theorem inf : Ideal.ofBits .f32 0x7F800000#32 = ⊤ := by simp [Ideal.ofBits, Ideal.ieee]

theorem finite_q {q k v} (h : (Cert.Pre_finite.fn (F := Ideal) q k v).1 = fun _ => 1#1) (i) : ∃ y : ℝ, (q i : EReal) = y :=
  real_of_lt (by rw [← inf]; exact congrFun h i)

theorem finite_k {q k v} (h : (Cert.Pre_finite.fn (F := Ideal) q k v).2 = fun _ => 1#1) (i) : ∃ y : ℝ, (k i : EReal) = y :=
  real_of_lt (by rw [← inf]; exact congrFun h i)

/-- At real queries and keys the two programs leave the same array. -/
theorem algebraic : Cert.algebraic_KernelIdeal_ReferenceIdeal_pre_finite := fun m g m' g' hpre hargs => by
  refine ⟨fun c => Cert.ReferenceIdeal.Read.val_main_v21 (F := Ideal) (m ((c.tc : Thread _ _).loc Cert.KernelIdeal.main_arg0))
    (m ((c.tc : Thread _ _).loc Cert.KernelIdeal.main_arg1)) (m ((c.tc : Thread _ _).loc Cert.KernelIdeal.main_arg2)), ?_, ?_⟩
  · refine (θ_run Cert.KernelIdeal.defs _ _).mono (fun r h c => ?_)
      (θ_run_and (Cert.KernelIdeal.Attn.run_main m g) (Cert.KernelIdeal.Attn.frame_main m g))
    exact ⟨((h.1.1 c).1 3).trans (Cert.KernelIdeal.Attn.array_value m c (finite_q (hpre c).1) (finite_k (hpre c).2)), h.2.1 c⟩
  · refine (θ_run Cert.ReferenceIdeal.defs _ _).mono (fun r h c => ⟨?_, (h c).2⟩) (Cert.ReferenceIdeal.Value.run (F := Ideal) m' g')
    refine (h c).1.trans ((Cert.ReferenceIdeal.Read.val_main_v21_eq ..).trans ?_)
    rw [(hargs c).1, (hargs c).2.1, (hargs c).2.2]

/-- The feed-forward kernel on bit patterns: its idealization's frame, the two programs having one text. -/
theorem frame_Kernel2 : Cert.quiescent_Kernel2 := fun m g _ => by
  rw [Ffn.defs_same, Ffn.main_same]
  exact @Cert.Kernel2Ideal.Ffn.frame_main Bits _ m g

theorem frame_Kernel2Ideal : Cert.quiescent_Kernel2Ideal := fun m g _ => Cert.Kernel2Ideal.Ffn.frame_main m g

theorem frame_Reference2Ideal : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- At any arguments the two feed-forward programs leave the same array. -/
theorem algebraic2 : Cert.algebraic_Kernel2Ideal_Reference2Ideal := fun m g m' g' _ hargs => by
  refine ⟨fun c => Cert.Kernel2Ideal.Ffn.rOut m c, ?_, ?_⟩
  · refine (θ_run Cert.Kernel2Ideal.defs _ _).mono (fun r h c => ?_)
      (θ_run_and (Cert.Kernel2Ideal.Ffn.run_main m g) (Cert.Kernel2Ideal.Ffn.frame_main m g))
    exact ⟨((h.1.1 c).1 17).trans (Cert.Kernel2Ideal.Ffn.array_value m c), h.2.1 c⟩
  · refine (θ_run Cert.Reference2Ideal.defs _ _).mono (fun r h c => ⟨?_, (h c).2⟩) (Cert.Reference2Ideal.Value.run (F := Ideal) m' g')
    refine (h c).1.trans ((Cert.Reference2Ideal.Read.val_main_v60_eq ..).trans ?_)
    obtain ⟨h0, h1, h2, h3, h4, h5, h6, h7, h8, h9⟩ := hargs c
    rw [h0, h1, h2, h3, h4, h5, h6, h7, h8, h9]

/-- The feed-forward kernel at the sample batch, on bit patterns: its idealization's frame. -/
theorem frame_Kernel4 : Cert.quiescent_Kernel4 := fun m g _ => by
  rw [Sample.defs_same, Sample.main_same]
  exact @Cert.Kernel4Ideal.Ffn.frame_main Bits _ m g

theorem frame_Kernel4Ideal : Cert.quiescent_Kernel4Ideal := fun m g _ => Cert.Kernel4Ideal.Ffn.frame_main m g

theorem frame_Reference4Ideal : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- At any arguments the two feed-forward programs leave the same array at the sample batch. -/
theorem algebraic4 : Cert.algebraic_Kernel4Ideal_Reference4Ideal := fun m g m' g' _ hargs => by
  refine ⟨fun c => Cert.Kernel4Ideal.Ffn.rOut m c, ?_, ?_⟩
  · refine (θ_run Cert.Kernel4Ideal.defs _ _).mono (fun r h c => ?_)
      (θ_run_and (Cert.Kernel4Ideal.Ffn.run_main m g) (Cert.Kernel4Ideal.Ffn.frame_main m g))
    exact ⟨((h.1.1 c).1 17).trans (Cert.Kernel4Ideal.Ffn.array_value m c), h.2.1 c⟩
  · refine (θ_run Cert.Reference4Ideal.defs _ _).mono (fun r h c => ⟨?_, (h c).2⟩) (Cert.Reference4Ideal.Value.run (F := Ideal) m' g')
    refine (h c).1.trans ((Cert.Reference4Ideal.Read.val_main_v67_eq ..).trans ?_)
    obtain ⟨h0, h1, h2, h3, h4, h5, h6, h7, h8, h9⟩ := hargs c
    rw [h0, h1, h2, h3, h4, h5, h6, h7, h8, h9]

/-- The projection kernel on bit patterns: its idealization's frame, the two programs having one text. -/
theorem frame_Kernel3 : Cert.quiescent_Kernel3 := fun m g _ => by
  rw [Proj.defs_same, Proj.main_same]
  exact @Cert.Kernel3Ideal.Gen.frame Bits _ m g

theorem frame_Kernel3Ideal : Cert.quiescent_Kernel3Ideal := fun m g _ => Cert.Kernel3Ideal.Gen.frame m g

theorem frame_Reference3Ideal : Cert.quiescent_Reference3Ideal := fun m g _ =>
  (θ_run Cert.Reference3Ideal.defs _ _).mono
    (fun r h => ⟨fun c => (h c).2.2.2.2.2.2.2, sem_eq_zero_of_no_sems (by decide) r.2⟩)
    (Cert.Reference3Ideal.Value.run (F := Ideal) m g)

/-- The precondition's broadcasts of a scalar. -/
theorem preFacts3 : Cert.Pre_finite3.Facts := ⟨by decide, by decide⟩

attribute [local instance] preFacts3

theorem finite_norm {x n w b q k} (h : (Cert.Pre_finite3.fn (F := Ideal) x n w b q k).1 = fun _ => 1#1) (i) : ∃ y : ℝ, (n i : EReal) = y :=
  real_of_lt (by rw [← inf]; exact congrFun h i)

theorem finite_proj {x n w b q k} (h : (Cert.Pre_finite3.fn (F := Ideal) x n w b q k).2 = fun _ => 1#1) (i) : ∃ y : ℝ, (w i : EReal) = y :=
  real_of_lt (by rw [← inf]; exact congrFun h i)

/-- At real weights of the norm and of the projection the two projection programs leave the same arrays. -/
theorem algebraic3 : Cert.algebraic_Kernel3Ideal_Reference3Ideal_pre_finite3 := fun m g m' g' hpre hargs => by
  refine ⟨fun c => Cert.Reference3Ideal.Read.val_main_v83 (F := Ideal) (m ((c.tc : Thread _ _).loc Cert.Kernel3Ideal.main_arg0)) (m ((c.tc : Thread _ _).loc Cert.Kernel3Ideal.main_arg1)) (m ((c.tc : Thread _ _).loc Cert.Kernel3Ideal.main_arg2)),
    fun c => Cert.Reference3Ideal.Read.val_main_v87 (F := Ideal) (m ((c.tc : Thread _ _).loc Cert.Kernel3Ideal.main_arg0)) (m ((c.tc : Thread _ _).loc Cert.Kernel3Ideal.main_arg1)) (m ((c.tc : Thread _ _).loc Cert.Kernel3Ideal.main_arg2)),
    fun c => Cert.Reference3Ideal.Read.val_main_v90 (F := Ideal) (m ((c.tc : Thread _ _).loc Cert.Kernel3Ideal.main_arg0)) (m ((c.tc : Thread _ _).loc Cert.Kernel3Ideal.main_arg1)) (m ((c.tc : Thread _ _).loc Cert.Kernel3Ideal.main_arg2)),
    fun c => Cert.Reference3Ideal.Read.val_main_v93 (F := Ideal) (m ((c.tc : Thread _ _).loc Cert.Kernel3Ideal.main_arg0)) (m ((c.tc : Thread _ _).loc Cert.Kernel3Ideal.main_arg1)) (m ((c.tc : Thread _ _).loc Cert.Kernel3Ideal.main_arg2)),
    fun c => Cert.Reference3Ideal.Read.val_main_v96 (F := Ideal) (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg4)) (m ((c.tc : Thread _ _).loc Cert.Kernel3Ideal.main_arg5)),
    fun c => Cert.Reference3Ideal.Read.val_main_v99 (F := Ideal) (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg4)) (m ((c.tc : Thread _ _).loc Cert.Kernel3Ideal.main_arg5)),
    fun c => Cert.Reference3Ideal.Read.val_main_v103 (F := Ideal) (m ((c.tc : Thread _ _).loc Cert.Kernel3Ideal.main_arg0)) (m ((c.tc : Thread _ _).loc Cert.Kernel3Ideal.main_arg1)) (m ((c.tc : Thread _ _).loc Cert.Kernel3Ideal.main_arg2)), ?_, ?_⟩
  · refine (θ_run Cert.Kernel3Ideal.defs _ _).mono (fun r h c => ?_) (Cert.Kernel3Ideal.Value.run_blocks m g)
    have hp := Cert.Kernel3Ideal.Proj.real_prod m c (finite_norm (hpre c).1) (finite_proj (hpre c).2)
    obtain ⟨h0, h1, h2, h3, -, -, -, -, h4, h5, h6, hk⟩ := h c
    exact ⟨h0.trans (Cert.Kernel3Ideal.Proj.mq_array m c), h1.trans (Cert.Kernel3Ideal.Proj.mk_array m c),
      h2.trans (Cert.Kernel3Ideal.Proj.mv_array m c), h3.trans (Cert.Kernel3Ideal.Proj.mo_array m c),
      h4.trans (Cert.Kernel3Ideal.Proj.q_array m c hp), h5.trans (Cert.Kernel3Ideal.Proj.k_array m c hp),
      h6.trans (Cert.Kernel3Ideal.Proj.vt_array m c), hk⟩
  · refine (θ_run Cert.Reference3Ideal.defs _ _).mono (fun r h c => ?_) (Cert.Reference3Ideal.Value.run (F := Ideal) m' g')
    obtain ⟨h0, h1, h2, h3, h4, h5, h6, hk⟩ := h c
    obtain ⟨e0, e1, e2, -, e4, e5⟩ := hargs c
    beta_reduce
    rw [← e0, ← e1, ← e2, ← e4, ← e5]
    exact ⟨h0.trans (Cert.Reference3Ideal.Read.val_main_v83_eq ..), h1.trans (Cert.Reference3Ideal.Read.val_main_v87_eq ..),
      h2.trans (Cert.Reference3Ideal.Read.val_main_v90_eq ..), h3.trans (Cert.Reference3Ideal.Read.val_main_v93_eq ..),
      h4.trans (Cert.Reference3Ideal.Read.val_main_v96_eq ..), h5.trans (Cert.Reference3Ideal.Read.val_main_v99_eq ..),
      h6.trans (Cert.Reference3Ideal.Read.val_main_v103_eq ..), hk⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel4.Gen.facts, Cert.Kernel4Ideal.Gen.facts, Cert.Reference4Ideal.Gen.facts,
    Cert.Kernel3.Gen.facts, Cert.Kernel3Ideal.Gen.facts, Cert.Reference3Ideal.Gen.facts, preFacts, preFacts3,
    frame_Kernel, frame_KernelIdeal, fun m g _ => frame_KernelIdeal m g trivial, frame_ReferenceIdeal,
    fun m g _ => frame_ReferenceIdeal m g trivial, frame_Kernel2, frame_Kernel2Ideal, frame_Reference2Ideal,
    frame_Kernel4, frame_Kernel4Ideal, frame_Reference4Ideal,
    frame_Kernel3, frame_Kernel3Ideal, fun m g _ => frame_Kernel3Ideal m g trivial, frame_Reference3Ideal,
    fun m g _ => frame_Reference3Ideal m g trivial,
    preserves, algebraic, trivial, algebraic2, trivial, algebraic4, trivial, algebraic3⟩

end Cert.Proof

end
